-- ==== Defs.lean ====
def Pre_InDw (m : (ℓ : Loc Cert.InDw.nD Cert.InDw.τ Cert.InDw.sig) → Buf (Elt Bits) ℓ) : Prop :=
  True

def Pre_InDwIdeal (m : (ℓ : Loc Cert.InDwIdeal.nD Cert.InDwIdeal.τ Cert.InDwIdeal.sig) → Buf (Elt Ideal) ℓ) : Prop :=
  True

def Pre_InDwRefIdeal (m : (ℓ : Loc Cert.InDwRefIdeal.nD Cert.InDwRefIdeal.τ Cert.InDwRefIdeal.sig) → Buf (Elt Ideal) ℓ) : Prop :=
  True

def Pre_InDx (m : (ℓ : Loc Cert.InDx.nD Cert.InDx.τ Cert.InDx.sig) → Buf (Elt Bits) ℓ) : Prop :=
  True

def Pre_InDxIdeal (m : (ℓ : Loc Cert.InDxIdeal.nD Cert.InDxIdeal.τ Cert.InDxIdeal.sig) → Buf (Elt Ideal) ℓ) : Prop :=
  True

def Pre_InDxRefIdeal (m : (ℓ : Loc Cert.InDxRefIdeal.nD Cert.InDxRefIdeal.τ Cert.InDxRefIdeal.sig) → Buf (Elt Ideal) ℓ) : Prop :=
  True

def Pre_UpDw (m : (ℓ : Loc Cert.UpDw.nD Cert.UpDw.τ Cert.UpDw.sig) → Buf (Elt Bits) ℓ) : Prop :=
  True

def Pre_UpDwIdeal (m : (ℓ : Loc Cert.UpDwIdeal.nD Cert.UpDwIdeal.τ Cert.UpDwIdeal.sig) → Buf (Elt Ideal) ℓ) : Prop :=
  True

def Pre_UpDwRefIdeal (m : (ℓ : Loc Cert.UpDwRefIdeal.nD Cert.UpDwRefIdeal.τ Cert.UpDwRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_OutDw (m : (ℓ : Loc Cert.OutDw.nD Cert.OutDw.τ Cert.OutDw.sig) → Buf (Elt Bits) ℓ) : Prop :=
  True

def Pre_OutDwIdeal (m : (ℓ : Loc Cert.OutDwIdeal.nD Cert.OutDwIdeal.τ Cert.OutDwIdeal.sig) → Buf (Elt Ideal) ℓ) : Prop :=
  True

def Pre_OutDwRefIdeal (m : (ℓ : Loc Cert.OutDwRefIdeal.nD Cert.OutDwRefIdeal.τ Cert.OutDwRefIdeal.sig) → Buf (Elt Ideal) ℓ) : Prop :=
  True

def Pre_OutDx (m : (ℓ : Loc Cert.OutDx.nD Cert.OutDx.τ Cert.OutDx.sig) → Buf (Elt Bits) ℓ) : Prop :=
  True

def Pre_OutDxIdeal (m : (ℓ : Loc Cert.OutDxIdeal.nD Cert.OutDxIdeal.τ Cert.OutDxIdeal.sig) → Buf (Elt Ideal) ℓ) : Prop :=
  True

def Pre_OutDxRefIdeal (m : (ℓ : Loc Cert.OutDxRefIdeal.nD Cert.OutDxRefIdeal.τ Cert.OutDxRefIdeal.sig) → Buf (Elt Ideal) ℓ) : Prop :=
  True

def Pre_DownDw (m : (ℓ : Loc Cert.DownDw.nD Cert.DownDw.τ Cert.DownDw.sig) → Buf (Elt Bits) ℓ) : Prop :=
  True

def Pre_DownDwIdeal (m : (ℓ : Loc Cert.DownDwIdeal.nD Cert.DownDwIdeal.τ Cert.DownDwIdeal.sig) → Buf (Elt Ideal) ℓ) : Prop :=
  True

def Pre_DownDwRefIdeal (m : (ℓ : Loc Cert.DownDwRefIdeal.nD Cert.DownDwRefIdeal.τ Cert.DownDwRefIdeal.sig) → Buf (Elt Ideal) ℓ) : Prop :=
  True

def Pre_DownDx (m : (ℓ : Loc Cert.DownDx.nD Cert.DownDx.τ Cert.DownDx.sig) → Buf (Elt Bits) ℓ) : Prop :=
  True

def Pre_DownDxIdeal (m : (ℓ : Loc Cert.DownDxIdeal.nD Cert.DownDxIdeal.τ Cert.DownDxIdeal.sig) → Buf (Elt Ideal) ℓ) : Prop :=
  True

def Pre_DownDxRefIdeal (m : (ℓ : Loc Cert.DownDxRefIdeal.nD Cert.DownDxRefIdeal.τ Cert.DownDxRefIdeal.sig) → Buf (Elt Ideal) ℓ) : Prop :=
  True

def Pre_InFwd (m : (ℓ : Loc Cert.InFwd.nD Cert.InFwd.τ Cert.InFwd.sig) → Buf (Elt Bits) ℓ) : Prop :=
  True

def Pre_InFwdIdeal (m : (ℓ : Loc Cert.InFwdIdeal.nD Cert.InFwdIdeal.τ Cert.InFwdIdeal.sig) → Buf (Elt Ideal) ℓ) : Prop :=
  True

def Pre_InFwdRefIdeal (m : (ℓ : Loc Cert.InFwdRefIdeal.nD Cert.InFwdRefIdeal.τ Cert.InFwdRefIdeal.sig) → Buf (Elt Ideal) ℓ) : Prop :=
  True

def Pre_UpFwd (m : (ℓ : Loc Cert.UpFwd.nD Cert.UpFwd.τ Cert.UpFwd.sig) → Buf (Elt Bits) ℓ) : Prop :=
  True

def Pre_UpFwdIdeal (m : (ℓ : Loc Cert.UpFwdIdeal.nD Cert.UpFwdIdeal.τ Cert.UpFwdIdeal.sig) → Buf (Elt Ideal) ℓ) : Prop :=
  True

def Pre_UpFwdRefIdeal (m : (ℓ : Loc Cert.UpFwdRefIdeal.nD Cert.UpFwdRefIdeal.τ Cert.UpFwdRefIdeal.sig) → Buf (Elt Ideal) ℓ) : Prop :=
  True

def Pre_OutFwd (m : (ℓ : Loc Cert.OutFwd.nD Cert.OutFwd.τ Cert.OutFwd.sig) → Buf (Elt Bits) ℓ) : Prop :=
  True

def Pre_OutFwdIdeal (m : (ℓ : Loc Cert.OutFwdIdeal.nD Cert.OutFwdIdeal.τ Cert.OutFwdIdeal.sig) → Buf (Elt Ideal) ℓ) : Prop :=
  True

def Pre_OutFwdRefIdeal (m : (ℓ : Loc Cert.OutFwdRefIdeal.nD Cert.OutFwdRefIdeal.τ Cert.OutFwdRefIdeal.sig) → Buf (Elt Ideal) ℓ) : Prop :=
  True

def Pre_DownFwd (m : (ℓ : Loc Cert.DownFwd.nD Cert.DownFwd.τ Cert.DownFwd.sig) → Buf (Elt Bits) ℓ) : Prop :=
  True

def Pre_DownFwdIdeal (m : (ℓ : Loc Cert.DownFwdIdeal.nD Cert.DownFwdIdeal.τ Cert.DownFwdIdeal.sig) → Buf (Elt Ideal) ℓ) : Prop :=
  True

def Pre_DownFwdRefIdeal (m : (ℓ : Loc Cert.DownFwdRefIdeal.nD Cert.DownFwdRefIdeal.τ Cert.DownFwdRefIdeal.sig) → Buf (Elt Ideal) ℓ) : Prop :=
  True

def Pre_Post (m : (ℓ : Loc Cert.Post.nD Cert.Post.τ Cert.Post.sig) → Buf (Elt Bits) ℓ) : Prop :=
  True

def Pre_PostIdeal (m : (ℓ : Loc Cert.PostIdeal.nD Cert.PostIdeal.τ Cert.PostIdeal.sig) → Buf (Elt Ideal) ℓ) : Prop :=
  True

def Pre_PostRefIdeal (m : (ℓ : Loc Cert.PostRefIdeal.nD Cert.PostRefIdeal.τ Cert.PostRefIdeal.sig) → Buf (Elt Ideal) ℓ) : Prop :=
  True

def Pre_PostB (m : (ℓ : Loc Cert.PostB.nD Cert.PostB.τ Cert.PostB.sig) → Buf (Elt Bits) ℓ) : Prop :=
  True

def Pre_PostBIdeal (m : (ℓ : Loc Cert.PostBIdeal.nD Cert.PostBIdeal.τ Cert.PostBIdeal.sig) → Buf (Elt Ideal) ℓ) : Prop :=
  True

def Pre_PostBRefIdeal (m : (ℓ : Loc Cert.PostBRefIdeal.nD Cert.PostBRefIdeal.τ Cert.PostBRefIdeal.sig) → Buf (Elt Ideal) ℓ) : Prop :=
  True

def Pre_AdaMod (m : (ℓ : Loc Cert.AdaMod.nD Cert.AdaMod.τ Cert.AdaMod.sig) → Buf (Elt Bits) ℓ) : Prop :=
  True

def Pre_AdaModIdeal (m : (ℓ : Loc Cert.AdaModIdeal.nD Cert.AdaModIdeal.τ Cert.AdaModIdeal.sig) → Buf (Elt Ideal) ℓ) : Prop :=
  True

def Pre_AdaModRefIdeal (m : (ℓ : Loc Cert.AdaModRefIdeal.nD Cert.AdaModRefIdeal.τ Cert.AdaModRefIdeal.sig) → Buf (Elt Ideal) ℓ) : Prop :=
  True

def Pre_AdaDw (m : (ℓ : Loc Cert.AdaDw.nD Cert.AdaDw.τ Cert.AdaDw.sig) → Buf (Elt Bits) ℓ) : Prop :=
  True

def Pre_AdaDwIdeal (m : (ℓ : Loc Cert.AdaDwIdeal.nD Cert.AdaDwIdeal.τ Cert.AdaDwIdeal.sig) → Buf (Elt Ideal) ℓ) : Prop :=
  True

def Pre_AdaDwRefIdeal (m : (ℓ : Loc Cert.AdaDwRefIdeal.nD Cert.AdaDwRefIdeal.τ Cert.AdaDwRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnRefIdeal (m : (ℓ : Loc Cert.AttnRefIdeal.nD Cert.AttnRefIdeal.τ Cert.AttnRefIdeal.sig) → Buf (Elt Ideal) ℓ) : Prop :=
  True

def Pre_AdamW (m : (ℓ : Loc Cert.AdamW.nD Cert.AdamW.τ Cert.AdamW.sig) → Buf (Elt Bits) ℓ) : Prop :=
  True

def Pre_AdamWIdeal (m : (ℓ : Loc Cert.AdamWIdeal.nD Cert.AdamWIdeal.τ Cert.AdamWIdeal.sig) → Buf (Elt Ideal) ℓ) : Prop :=
  True

def Pre_AdamWRefIdeal (m : (ℓ : Loc Cert.AdamWRefIdeal.nD Cert.AdamWRefIdeal.τ Cert.AdamWRefIdeal.sig) → Buf (Elt Ideal) ℓ) : Prop :=
  True

def quiescent_InDw [hInDw : Cert.InDw.Facts] : Prop :=
  ∀ (m : (ℓ : Loc Cert.InDw.nD Cert.InDw.τ Cert.InDw.sig) → Buf (Elt Bits) ℓ) (g : Dev Cert.InDw.nD → PrngReg), Pre_InDw m →
    θ_run (Cert.InDw.defs (F := Bits)) (onTc (τ := Cert.InDw.τ) (Cert.InDw.main (F := Bits))) ⟨m, fun _ => 0, g⟩ (fun r => (∀ c : Dev Cert.InDw.nD,
      r.2.mem ((c.tc : Thread Cert.InDw.nD Cert.InDw.τ).loc Cert.InDw.main_arg0) = m ((c.tc : Thread Cert.InDw.nD Cert.InDw.τ).loc Cert.InDw.main_arg0)
      ∧ r.2.mem ((c.tc : Thread Cert.InDw.nD Cert.InDw.τ).loc Cert.InDw.main_arg1) = m ((c.tc : Thread Cert.InDw.nD Cert.InDw.τ).loc Cert.InDw.main_arg1)
      ∧ r.2.mem ((c.tc : Thread Cert.InDw.nD Cert.InDw.τ).loc Cert.InDw.main_arg2) = m ((c.tc : Thread Cert.InDw.nD Cert.InDw.τ).loc Cert.InDw.main_arg2))
      ∧ r.2.sem = fun _ => 0)

def quiescent_InDwIdeal [hInDwIdeal : Cert.InDwIdeal.Facts] : Prop :=
  ∀ (m : (ℓ : Loc Cert.InDwIdeal.nD Cert.InDwIdeal.τ Cert.InDwIdeal.sig) → Buf (Elt Ideal) ℓ) (g : Dev Cert.InDwIdeal.nD → PrngReg), Pre_InDwIdeal m →
    θ_run (Cert.InDwIdeal.defs (F := Ideal)) (onTc (τ := Cert.InDwIdeal.τ) (Cert.InDwIdeal.main (F := Ideal))) ⟨m, fun _ => 0, g⟩ (fun r => (∀ c : Dev Cert.InDwIdeal.nD,
      r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
      ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
      ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ r.2.sem = fun _ => 0)

def quiescent_InDwRefIdeal [hInDwRefIdeal : Cert.InDwRefIdeal.Facts] : Prop :=
  ∀ (m : (ℓ : Loc Cert.InDwRefIdeal.nD Cert.InDwRefIdeal.τ Cert.InDwRefIdeal.sig) → Buf (Elt Ideal) ℓ) (g : Dev Cert.InDwRefIdeal.nD → PrngReg), Pre_InDwRefIdeal m →
    θ_run (Cert.InDwRefIdeal.defs (F := Ideal)) (onTc (τ := Cert.InDwRefIdeal.τ) (Cert.InDwRefIdeal.main (F := Ideal))) ⟨m, fun _ => 0, g⟩ (fun r => (∀ c : Dev Cert.InDwRefIdeal.nD,
      r.2.mem ((c.tc : Thread Cert.InDwRefIdeal.nD Cert.InDwRefIdeal.τ).loc Cert.InDwRefIdeal.main_arg0) = m ((c.tc : Thread Cert.InDwRefIdeal.nD Cert.InDwRefIdeal.τ).loc Cert.InDwRefIdeal.main_arg0)
      ∧ r.2.mem ((c.tc : Thread Cert.InDwRefIdeal.nD Cert.InDwRefIdeal.τ).loc Cert.InDwRefIdeal.main_arg1) = m ((c.tc : Thread Cert.InDwRefIdeal.nD Cert.InDwRefIdeal.τ).loc Cert.InDwRefIdeal.main_arg1)
      ∧ r.2.mem ((c.tc : Thread Cert.InDwRefIdeal.nD Cert.InDwRefIdeal.τ).loc Cert.InDwRefIdeal.main_arg2) = m ((c.tc : Thread Cert.InDwRefIdeal.nD Cert.InDwRefIdeal.τ).loc Cert.InDwRefIdeal.main_arg2))
      ∧ r.2.sem = fun _ => 0)

def quiescent_InDx [hInDx : Cert.InDx.Facts] : Prop :=
  ∀ (m : (ℓ : Loc Cert.InDx.nD Cert.InDx.τ Cert.InDx.sig) → Buf (Elt Bits) ℓ) (g : Dev Cert.InDx.nD → PrngReg), Pre_InDx m →
    θ_run (Cert.InDx.defs (F := Bits)) (onTc (τ := Cert.InDx.τ) (Cert.InDx.main (F := Bits))) ⟨m, fun _ => 0, g⟩ (fun r => (∀ c : Dev Cert.InDx.nD,
      r.2.mem ((c.tc : Thread Cert.InDx.nD Cert.InDx.τ).loc Cert.InDx.main_arg0) = m ((c.tc : Thread Cert.InDx.nD Cert.InDx.τ).loc Cert.InDx.main_arg0)
      ∧ r.2.mem ((c.tc : Thread Cert.InDx.nD Cert.InDx.τ).loc Cert.InDx.main_arg1) = m ((c.tc : Thread Cert.InDx.nD Cert.InDx.τ).loc Cert.InDx.main_arg1)
      ∧ r.2.mem ((c.tc : Thread Cert.InDx.nD Cert.InDx.τ).loc Cert.InDx.main_arg2) = m ((c.tc : Thread Cert.InDx.nD Cert.InDx.τ).loc Cert.InDx.main_arg2)
      ∧ r.2.mem ((c.tc : Thread Cert.InDx.nD Cert.InDx.τ).loc Cert.InDx.main_arg3) = m ((c.tc : Thread Cert.InDx.nD Cert.InDx.τ).loc Cert.InDx.main_arg3)
      ∧ r.2.mem ((c.tc : Thread Cert.InDx.nD Cert.InDx.τ).loc Cert.InDx.main_arg4) = m ((c.tc : Thread Cert.InDx.nD Cert.InDx.τ).loc Cert.InDx.main_arg4))
      ∧ r.2.sem = fun _ => 0)

def quiescent_InDxIdeal [hInDxIdeal : Cert.InDxIdeal.Facts] : Prop :=
  ∀ (m : (ℓ : Loc Cert.InDxIdeal.nD Cert.InDxIdeal.τ Cert.InDxIdeal.sig) → Buf (Elt Ideal) ℓ) (g : Dev Cert.InDxIdeal.nD → PrngReg), Pre_InDxIdeal m →
    θ_run (Cert.InDxIdeal.defs (F := Ideal)) (onTc (τ := Cert.InDxIdeal.τ) (Cert.InDxIdeal.main (F := Ideal))) ⟨m, fun _ => 0, g⟩ (fun r => (∀ c : Dev Cert.InDxIdeal.nD,
      r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
      ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
      ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
      ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
      ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ r.2.sem = fun _ => 0)

def quiescent_InDxRefIdeal [hInDxRefIdeal : Cert.InDxRefIdeal.Facts] : Prop :=
  ∀ (m : (ℓ : Loc Cert.InDxRefIdeal.nD Cert.InDxRefIdeal.τ Cert.InDxRefIdeal.sig) → Buf (Elt Ideal) ℓ) (g : Dev Cert.InDxRefIdeal.nD → PrngReg), Pre_InDxRefIdeal m →
    θ_run (Cert.InDxRefIdeal.defs (F := Ideal)) (onTc (τ := Cert.InDxRefIdeal.τ) (Cert.InDxRefIdeal.main (F := Ideal))) ⟨m, fun _ => 0, g⟩ (fun r => (∀ c : Dev Cert.InDxRefIdeal.nD,
      r.2.mem ((c.tc : Thread Cert.InDxRefIdeal.nD Cert.InDxRefIdeal.τ).loc Cert.InDxRefIdeal.main_arg0) = m ((c.tc : Thread Cert.InDxRefIdeal.nD Cert.InDxRefIdeal.τ).loc Cert.InDxRefIdeal.main_arg0)
      ∧ r.2.mem ((c.tc : Thread Cert.InDxRefIdeal.nD Cert.InDxRefIdeal.τ).loc Cert.InDxRefIdeal.main_arg1) = m ((c.tc : Thread Cert.InDxRefIdeal.nD Cert.InDxRefIdeal.τ).loc Cert.InDxRefIdeal.main_arg1)
      ∧ r.2.mem ((c.tc : Thread Cert.InDxRefIdeal.nD Cert.InDxRefIdeal.τ).loc Cert.InDxRefIdeal.main_arg2) = m ((c.tc : Thread Cert.InDxRefIdeal.nD Cert.InDxRefIdeal.τ).loc Cert.InDxRefIdeal.main_arg2)
      ∧ r.2.mem ((c.tc : Thread Cert.InDxRefIdeal.nD Cert.InDxRefIdeal.τ).loc Cert.InDxRefIdeal.main_arg3) = m ((c.tc : Thread Cert.InDxRefIdeal.nD Cert.InDxRefIdeal.τ).loc Cert.InDxRefIdeal.main_arg3)
      ∧ r.2.mem ((c.tc : Thread Cert.InDxRefIdeal.nD Cert.InDxRefIdeal.τ).loc Cert.InDxRefIdeal.main_arg4) = m ((c.tc : Thread Cert.InDxRefIdeal.nD Cert.InDxRefIdeal.τ).loc Cert.InDxRefIdeal.main_arg4))
      ∧ r.2.sem = fun _ => 0)

def quiescent_UpDw [hUpDw : Cert.UpDw.Facts] : Prop :=
  ∀ (m : (ℓ : Loc Cert.UpDw.nD Cert.UpDw.τ Cert.UpDw.sig) → Buf (Elt Bits) ℓ) (g : Dev Cert.UpDw.nD → PrngReg), Pre_UpDw m →
    θ_run (Cert.UpDw.defs (F := Bits)) (onTc (τ := Cert.UpDw.τ) (Cert.UpDw.main (F := Bits))) ⟨m, fun _ => 0, g⟩ (fun r => (∀ c : Dev Cert.UpDw.nD,
      r.2.mem ((c.tc : Thread Cert.UpDw.nD Cert.UpDw.τ).loc Cert.UpDw.main_arg0) = m ((c.tc : Thread Cert.UpDw.nD Cert.UpDw.τ).loc Cert.UpDw.main_arg0)
      ∧ r.2.mem ((c.tc : Thread Cert.UpDw.nD Cert.UpDw.τ).loc Cert.UpDw.main_arg1) = m ((c.tc : Thread Cert.UpDw.nD Cert.UpDw.τ).loc Cert.UpDw.main_arg1)
      ∧ r.2.mem ((c.tc : Thread Cert.UpDw.nD Cert.UpDw.τ).loc Cert.UpDw.main_arg2) = m ((c.tc : Thread Cert.UpDw.nD Cert.UpDw.τ).loc Cert.UpDw.main_arg2))
      ∧ r.2.sem = fun _ => 0)

def quiescent_UpDwIdeal [hUpDwIdeal : Cert.UpDwIdeal.Facts] : Prop :=
  ∀ (m : (ℓ : Loc Cert.UpDwIdeal.nD Cert.UpDwIdeal.τ Cert.UpDwIdeal.sig) → Buf (Elt Ideal) ℓ) (g : Dev Cert.UpDwIdeal.nD → PrngReg), Pre_UpDwIdeal m →
    θ_run (Cert.UpDwIdeal.defs (F := Ideal)) (onTc (τ := Cert.UpDwIdeal.τ) (Cert.UpDwIdeal.main (F := Ideal))) ⟨m, fun _ => 0, g⟩ (fun r => (∀ c : Dev Cert.UpDwIdeal.nD,
      r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
      ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
      ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ r.2.sem = fun _ => 0)

def quiescent_UpDwRefIdeal [hUpDwRefIdeal : Cert.UpDwRefIdeal.Facts] : Prop :=
  ∀ (m : (ℓ : Loc Cert.UpDwRefIdeal.nD Cert.UpDwRefIdeal.τ Cert.UpDwRefIdeal.sig) → Buf (Elt Ideal) ℓ) (g : Dev Cert.UpDwRefIdeal.nD → PrngReg), Pre_UpDwRefIdeal m →
    θ_run (Cert.UpDwRefIdeal.defs (F := Ideal)) (onTc (τ := Cert.UpDwRefIdeal.τ) (Cert.UpDwRefIdeal.main (F := Ideal))) ⟨m, fun _ => 0, g⟩ (fun r => (∀ c : Dev Cert.UpDwRefIdeal.nD,
      r.2.mem ((c.tc : Thread Cert.UpDwRefIdeal.nD Cert.UpDwRefIdeal.τ).loc Cert.UpDwRefIdeal.main_arg0) = m ((c.tc : Thread Cert.UpDwRefIdeal.nD Cert.UpDwRefIdeal.τ).loc Cert.UpDwRefIdeal.main_arg0)
      ∧ r.2.mem ((c.tc : Thread Cert.UpDwRefIdeal.nD Cert.UpDwRefIdeal.τ).loc Cert.UpDwRefIdeal.main_arg1) = m ((c.tc : Thread Cert.UpDwRefIdeal.nD Cert.UpDwRefIdeal.τ).loc Cert.UpDwRefIdeal.main_arg1)
      ∧ r.2.mem ((c.tc : Thread Cert.UpDwRefIdeal.nD Cert.UpDwRefIdeal.τ).loc Cert.UpDwRefIdeal.main_arg2) = m ((c.tc : Thread Cert.UpDwRefIdeal.nD Cert.UpDwRefIdeal.τ).loc Cert.UpDwRefIdeal.main_arg2))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1)
      ∧ r.2.mem ((c.tc : Thread Cert.UpDx.nD Cert.UpDx.τ).loc Cert.UpDx.main_arg2) = m ((c.tc : Thread Cert.UpDx.nD Cert.UpDx.τ).loc Cert.UpDx.main_arg2)
      ∧ r.2.mem ((c.tc : Thread Cert.UpDx.nD Cert.UpDx.τ).loc Cert.UpDx.main_arg3) = m ((c.tc : Thread Cert.UpDx.nD Cert.UpDx.τ).loc Cert.UpDx.main_arg3)
      ∧ r.2.mem ((c.tc : Thread Cert.UpDx.nD Cert.UpDx.τ).loc Cert.UpDx.main_arg4) = m ((c.tc : Thread Cert.UpDx.nD Cert.UpDx.τ).loc Cert.UpDx.main_arg4))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
      ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
      ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
      ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1)
      ∧ r.2.mem ((c.tc : Thread Cert.UpDxRefIdeal.nD Cert.UpDxRefIdeal.τ).loc Cert.UpDxRefIdeal.main_arg2) = m ((c.tc : Thread Cert.UpDxRefIdeal.nD Cert.UpDxRefIdeal.τ).loc Cert.UpDxRefIdeal.main_arg2)
      ∧ r.2.mem ((c.tc : Thread Cert.UpDxRefIdeal.nD Cert.UpDxRefIdeal.τ).loc Cert.UpDxRefIdeal.main_arg3) = m ((c.tc : Thread Cert.UpDxRefIdeal.nD Cert.UpDxRefIdeal.τ).loc Cert.UpDxRefIdeal.main_arg3)
      ∧ r.2.mem ((c.tc : Thread Cert.UpDxRefIdeal.nD Cert.UpDxRefIdeal.τ).loc Cert.UpDxRefIdeal.main_arg4) = m ((c.tc : Thread Cert.UpDxRefIdeal.nD Cert.UpDxRefIdeal.τ).loc Cert.UpDxRefIdeal.main_arg4))
      ∧ r.2.sem = fun _ => 0)

def quiescent_OutDw [hOutDw : Cert.OutDw.Facts] : Prop :=
  ∀ (m : (ℓ : Loc Cert.OutDw.nD Cert.OutDw.τ Cert.OutDw.sig) → Buf (Elt Bits) ℓ) (g : Dev Cert.OutDw.nD → PrngReg), Pre_OutDw m →
    θ_run (Cert.OutDw.defs (F := Bits)) (onTc (τ := Cert.OutDw.τ) (Cert.OutDw.main (F := Bits))) ⟨m, fun _ => 0, g⟩ (fun r => (∀ c : Dev Cert.OutDw.nD,
      r.2.mem ((c.tc : Thread Cert.OutDw.nD Cert.OutDw.τ).loc Cert.OutDw.main_arg0) = m ((c.tc : Thread Cert.OutDw.nD Cert.OutDw.τ).loc Cert.OutDw.main_arg0)
      ∧ r.2.mem ((c.tc : Thread Cert.OutDw.nD Cert.OutDw.τ).loc Cert.OutDw.main_arg1) = m ((c.tc : Thread Cert.OutDw.nD Cert.OutDw.τ).loc Cert.OutDw.main_arg1))
      ∧ r.2.sem = fun _ => 0)

def quiescent_OutDwIdeal [hOutDwIdeal : Cert.OutDwIdeal.Facts] : Prop :=
  ∀ (m : (ℓ : Loc Cert.OutDwIdeal.nD Cert.OutDwIdeal.τ Cert.OutDwIdeal.sig) → Buf (Elt Ideal) ℓ) (g : Dev Cert.OutDwIdeal.nD → PrngReg), Pre_OutDwIdeal m →
    θ_run (Cert.OutDwIdeal.defs (F := Ideal)) (onTc (τ := Cert.OutDwIdeal.τ) (Cert.OutDwIdeal.main (F := Ideal))) ⟨m, fun _ => 0, g⟩ (fun r => (∀ c : Dev Cert.OutDwIdeal.nD,
      r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
      ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ r.2.sem = fun _ => 0)

def quiescent_OutDwRefIdeal [hOutDwRefIdeal : Cert.OutDwRefIdeal.Facts] : Prop :=
  ∀ (m : (ℓ : Loc Cert.OutDwRefIdeal.nD Cert.OutDwRefIdeal.τ Cert.OutDwRefIdeal.sig) → Buf (Elt Ideal) ℓ) (g : Dev Cert.OutDwRefIdeal.nD → PrngReg), Pre_OutDwRefIdeal m →
    θ_run (Cert.OutDwRefIdeal.defs (F := Ideal)) (onTc (τ := Cert.OutDwRefIdeal.τ) (Cert.OutDwRefIdeal.main (F := Ideal))) ⟨m, fun _ => 0, g⟩ (fun r => (∀ c : Dev Cert.OutDwRefIdeal.nD,
      r.2.mem ((c.tc : Thread Cert.OutDwRefIdeal.nD Cert.OutDwRefIdeal.τ).loc Cert.OutDwRefIdeal.main_arg0) = m ((c.tc : Thread Cert.OutDwRefIdeal.nD Cert.OutDwRefIdeal.τ).loc Cert.OutDwRefIdeal.main_arg0)
      ∧ r.2.mem ((c.tc : Thread Cert.OutDwRefIdeal.nD Cert.OutDwRefIdeal.τ).loc Cert.OutDwRefIdeal.main_arg1) = m ((c.tc : Thread Cert.OutDwRefIdeal.nD Cert.OutDwRefIdeal.τ).loc Cert.OutDwRefIdeal.main_arg1))
      ∧ r.2.sem = fun _ => 0)

def quiescent_OutDx [hOutDx : Cert.OutDx.Facts] : Prop :=
  ∀ (m : (ℓ : Loc Cert.OutDx.nD Cert.OutDx.τ Cert.OutDx.sig) → Buf (Elt Bits) ℓ) (g : Dev Cert.OutDx.nD → PrngReg), Pre_OutDx m →
    θ_run (Cert.OutDx.defs (F := Bits)) (onTc (τ := Cert.OutDx.τ) (Cert.OutDx.main (F := Bits))) ⟨m, fun _ => 0, g⟩ (fun r => (∀ c : Dev Cert.OutDx.nD,
      r.2.mem ((c.tc : Thread Cert.OutDx.nD Cert.OutDx.τ).loc Cert.OutDx.main_arg0) = m ((c.tc : Thread Cert.OutDx.nD Cert.OutDx.τ).loc Cert.OutDx.main_arg0)
      ∧ r.2.mem ((c.tc : Thread Cert.OutDx.nD Cert.OutDx.τ).loc Cert.OutDx.main_arg1) = m ((c.tc : Thread Cert.OutDx.nD Cert.OutDx.τ).loc Cert.OutDx.main_arg1))
      ∧ r.2.sem = fun _ => 0)

def quiescent_OutDxIdeal [hOutDxIdeal : Cert.OutDxIdeal.Facts] : Prop :=
  ∀ (m : (ℓ : Loc Cert.OutDxIdeal.nD Cert.OutDxIdeal.τ Cert.OutDxIdeal.sig) → Buf (Elt Ideal) ℓ) (g : Dev Cert.OutDxIdeal.nD → PrngReg), Pre_OutDxIdeal m →
    θ_run (Cert.OutDxIdeal.defs (F := Ideal)) (onTc (τ := Cert.OutDxIdeal.τ) (Cert.OutDxIdeal.main (F := Ideal))) ⟨m, fun _ => 0, g⟩ (fun r => (∀ c : Dev Cert.OutDxIdeal.nD,
      r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
      ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ r.2.sem = fun _ => 0)

def quiescent_OutDxRefIdeal [hOutDxRefIdeal : Cert.OutDxRefIdeal.Facts] : Prop :=
  ∀ (m : (ℓ : Loc Cert.OutDxRefIdeal.nD Cert.OutDxRefIdeal.τ Cert.OutDxRefIdeal.sig) → Buf (Elt Ideal) ℓ) (g : Dev Cert.OutDxRefIdeal.nD → PrngReg), Pre_OutDxRefIdeal m →
    θ_run (Cert.OutDxRefIdeal.defs (F := Ideal)) (onTc (τ := Cert.OutDxRefIdeal.τ) (Cert.OutDxRefIdeal.main (F := Ideal))) ⟨m, fun _ => 0, g⟩ (fun r => (∀ c : Dev Cert.OutDxRefIdeal.nD,
      r.2.mem ((c.tc : Thread Cert.OutDxRefIdeal.nD Cert.OutDxRefIdeal.τ).loc Cert.OutDxRefIdeal.main_arg0) = m ((c.tc : Thread Cert.OutDxRefIdeal.nD Cert.OutDxRefIdeal.τ).loc Cert.OutDxRefIdeal.main_arg0)
      ∧ r.2.mem ((c.tc : Thread Cert.OutDxRefIdeal.nD Cert.OutDxRefIdeal.τ).loc Cert.OutDxRefIdeal.main_arg1) = m ((c.tc : Thread Cert.OutDxRefIdeal.nD Cert.OutDxRefIdeal.τ).loc Cert.OutDxRefIdeal.main_arg1))
      ∧ r.2.sem = fun _ => 0)

def quiescent_DownDw [hDownDw : Cert.DownDw.Facts] : Prop :=
  ∀ (m : (ℓ : Loc Cert.DownDw.nD Cert.DownDw.τ Cert.DownDw.sig) → Buf (Elt Bits) ℓ) (g : Dev Cert.DownDw.nD → PrngReg), Pre_DownDw m →
    θ_run (Cert.DownDw.defs (F := Bits)) (onTc (τ := Cert.DownDw.τ) (Cert.DownDw.main (F := Bits))) ⟨m, fun _ => 0, g⟩ (fun r => (∀ c : Dev Cert.DownDw.nD,
      r.2.mem ((c.tc : Thread Cert.DownDw.nD Cert.DownDw.τ).loc Cert.DownDw.main_arg0) = m ((c.tc : Thread Cert.DownDw.nD Cert.DownDw.τ).loc Cert.DownDw.main_arg0)
      ∧ r.2.mem ((c.tc : Thread Cert.DownDw.nD Cert.DownDw.τ).loc Cert.DownDw.main_arg1) = m ((c.tc : Thread Cert.DownDw.nD Cert.DownDw.τ).loc Cert.DownDw.main_arg1))
      ∧ r.2.sem = fun _ => 0)

def quiescent_DownDwIdeal [hDownDwIdeal : Cert.DownDwIdeal.Facts] : Prop :=
  ∀ (m : (ℓ : Loc Cert.DownDwIdeal.nD Cert.DownDwIdeal.τ Cert.DownDwIdeal.sig) → Buf (Elt Ideal) ℓ) (g : Dev Cert.DownDwIdeal.nD → PrngReg), Pre_DownDwIdeal m →
    θ_run (Cert.DownDwIdeal.defs (F := Ideal)) (onTc (τ := Cert.DownDwIdeal.τ) (Cert.DownDwIdeal.main (F := Ideal))) ⟨m, fun _ => 0, g⟩ (fun r => (∀ c : Dev Cert.DownDwIdeal.nD,
      r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
      ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ r.2.sem = fun _ => 0)

def quiescent_DownDwRefIdeal [hDownDwRefIdeal : Cert.DownDwRefIdeal.Facts] : Prop :=
  ∀ (m : (ℓ : Loc Cert.DownDwRefIdeal.nD Cert.DownDwRefIdeal.τ Cert.DownDwRefIdeal.sig) → Buf (Elt Ideal) ℓ) (g : Dev Cert.DownDwRefIdeal.nD → PrngReg), Pre_DownDwRefIdeal m →
    θ_run (Cert.DownDwRefIdeal.defs (F := Ideal)) (onTc (τ := Cert.DownDwRefIdeal.τ) (Cert.DownDwRefIdeal.main (F := Ideal))) ⟨m, fun _ => 0, g⟩ (fun r => (∀ c : Dev Cert.DownDwRefIdeal.nD,
      r.2.mem ((c.tc : Thread Cert.DownDwRefIdeal.nD Cert.DownDwRefIdeal.τ).loc Cert.DownDwRefIdeal.main_arg0) = m ((c.tc : Thread Cert.DownDwRefIdeal.nD Cert.DownDwRefIdeal.τ).loc Cert.DownDwRefIdeal.main_arg0)
      ∧ r.2.mem ((c.tc : Thread Cert.DownDwRefIdeal.nD Cert.DownDwRefIdeal.τ).loc Cert.DownDwRefIdeal.main_arg1) = m ((c.tc : Thread Cert.DownDwRefIdeal.nD Cert.DownDwRefIdeal.τ).loc Cert.DownDwRefIdeal.main_arg1))
      ∧ r.2.sem = fun _ => 0)

def quiescent_DownDx [hDownDx : Cert.DownDx.Facts] : Prop :=
  ∀ (m : (ℓ : Loc Cert.DownDx.nD Cert.DownDx.τ Cert.DownDx.sig) → Buf (Elt Bits) ℓ) (g : Dev Cert.DownDx.nD → PrngReg), Pre_DownDx m →
    θ_run (Cert.DownDx.defs (F := Bits)) (onTc (τ := Cert.DownDx.τ) (Cert.DownDx.main (F := Bits))) ⟨m, fun _ => 0, g⟩ (fun r => (∀ c : Dev Cert.DownDx.nD,
      r.2.mem ((c.tc : Thread Cert.DownDx.nD Cert.DownDx.τ).loc Cert.DownDx.main_arg0) = m ((c.tc : Thread Cert.DownDx.nD Cert.DownDx.τ).loc Cert.DownDx.main_arg0)
      ∧ r.2.mem ((c.tc : Thread Cert.DownDx.nD Cert.DownDx.τ).loc Cert.DownDx.main_arg1) = m ((c.tc : Thread Cert.DownDx.nD Cert.DownDx.τ).loc Cert.DownDx.main_arg1))
      ∧ r.2.sem = fun _ => 0)

def quiescent_DownDxIdeal [hDownDxIdeal : Cert.DownDxIdeal.Facts] : Prop :=
  ∀ (m : (ℓ : Loc Cert.DownDxIdeal.nD Cert.DownDxIdeal.τ Cert.DownDxIdeal.sig) → Buf (Elt Ideal) ℓ) (g : Dev Cert.DownDxIdeal.nD → PrngReg), Pre_DownDxIdeal m →
    θ_run (Cert.DownDxIdeal.defs (F := Ideal)) (onTc (τ := Cert.DownDxIdeal.τ) (Cert.DownDxIdeal.main (F := Ideal))) ⟨m, fun _ => 0, g⟩ (fun r => (∀ c : Dev Cert.DownDxIdeal.nD,
      r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
      ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ r.2.sem = fun _ => 0)

def quiescent_DownDxRefIdeal [hDownDxRefIdeal : Cert.DownDxRefIdeal.Facts] : Prop :=
  ∀ (m : (ℓ : Loc Cert.DownDxRefIdeal.nD Cert.DownDxRefIdeal.τ Cert.DownDxRefIdeal.sig) → Buf (Elt Ideal) ℓ) (g : Dev Cert.DownDxRefIdeal.nD → PrngReg), Pre_DownDxRefIdeal m →
    θ_run (Cert.DownDxRefIdeal.defs (F := Ideal)) (onTc (τ := Cert.DownDxRefIdeal.τ) (Cert.DownDxRefIdeal.main (F := Ideal))) ⟨m, fun _ => 0, g⟩ (fun r => (∀ c : Dev Cert.DownDxRefIdeal.nD,
      r.2.mem ((c.tc : Thread Cert.DownDxRefIdeal.nD Cert.DownDxRefIdeal.τ).loc Cert.DownDxRefIdeal.main_arg0) = m ((c.tc : Thread Cert.DownDxRefIdeal.nD Cert.DownDxRefIdeal.τ).loc Cert.DownDxRefIdeal.main_arg0)
      ∧ r.2.mem ((c.tc : Thread Cert.DownDxRefIdeal.nD Cert.DownDxRefIdeal.τ).loc Cert.DownDxRefIdeal.main_arg1) = m ((c.tc : Thread Cert.DownDxRefIdeal.nD Cert.DownDxRefIdeal.τ).loc Cert.DownDxRefIdeal.main_arg1))
      ∧ r.2.sem = fun _ => 0)

def quiescent_InFwd [hInFwd : Cert.InFwd.Facts] : Prop :=
  ∀ (m : (ℓ : Loc Cert.InFwd.nD Cert.InFwd.τ Cert.InFwd.sig) → Buf (Elt Bits) ℓ) (g : Dev Cert.InFwd.nD → PrngReg), Pre_InFwd m →
    θ_run (Cert.InFwd.defs (F := Bits)) (onTc (τ := Cert.InFwd.τ) (Cert.InFwd.main (F := Bits))) ⟨m, fun _ => 0, g⟩ (fun r => (∀ c : Dev Cert.InFwd.nD,
      r.2.mem ((c.tc : Thread Cert.InFwd.nD Cert.InFwd.τ).loc Cert.InFwd.main_arg0) = m ((c.tc : Thread Cert.InFwd.nD Cert.InFwd.τ).loc Cert.InFwd.main_arg0)
      ∧ r.2.mem ((c.tc : Thread Cert.InFwd.nD Cert.InFwd.τ).loc Cert.InFwd.main_arg1) = m ((c.tc : Thread Cert.InFwd.nD Cert.InFwd.τ).loc Cert.InFwd.main_arg1)
      ∧ r.2.mem ((c.tc : Thread Cert.InFwd.nD Cert.InFwd.τ).loc Cert.InFwd.main_arg2) = m ((c.tc : Thread Cert.InFwd.nD Cert.InFwd.τ).loc Cert.InFwd.main_arg2))
      ∧ r.2.sem = fun _ => 0)

def quiescent_InFwdIdeal [hInFwdIdeal : Cert.InFwdIdeal.Facts] : Prop :=
  ∀ (m : (ℓ : Loc Cert.InFwdIdeal.nD Cert.InFwdIdeal.τ Cert.InFwdIdeal.sig) → Buf (Elt Ideal) ℓ) (g : Dev Cert.InFwdIdeal.nD → PrngReg), Pre_InFwdIdeal m →
    θ_run (Cert.InFwdIdeal.defs (F := Ideal)) (onTc (τ := Cert.InFwdIdeal.τ) (Cert.InFwdIdeal.main (F := Ideal))) ⟨m, fun _ => 0, g⟩ (fun r => (∀ c : Dev Cert.InFwdIdeal.nD,
      r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
      ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
      ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ r.2.sem = fun _ => 0)

def quiescent_InFwdRefIdeal [hInFwdRefIdeal : Cert.InFwdRefIdeal.Facts] : Prop :=
  ∀ (m : (ℓ : Loc Cert.InFwdRefIdeal.nD Cert.InFwdRefIdeal.τ Cert.InFwdRefIdeal.sig) → Buf (Elt Ideal) ℓ) (g : Dev Cert.InFwdRefIdeal.nD → PrngReg), Pre_InFwdRefIdeal m →
    θ_run (Cert.InFwdRefIdeal.defs (F := Ideal)) (onTc (τ := Cert.InFwdRefIdeal.τ) (Cert.InFwdRefIdeal.main (F := Ideal))) ⟨m, fun _ => 0, g⟩ (fun r => (∀ c : Dev Cert.InFwdRefIdeal.nD,
      r.2.mem ((c.tc : Thread Cert.InFwdRefIdeal.nD Cert.InFwdRefIdeal.τ).loc Cert.InFwdRefIdeal.main_arg0) = m ((c.tc : Thread Cert.InFwdRefIdeal.nD Cert.InFwdRefIdeal.τ).loc Cert.InFwdRefIdeal.main_arg0)
      ∧ r.2.mem ((c.tc : Thread Cert.InFwdRefIdeal.nD Cert.InFwdRefIdeal.τ).loc Cert.InFwdRefIdeal.main_arg1) = m ((c.tc : Thread Cert.InFwdRefIdeal.nD Cert.InFwdRefIdeal.τ).loc Cert.InFwdRefIdeal.main_arg1)
      ∧ r.2.mem ((c.tc : Thread Cert.InFwdRefIdeal.nD Cert.InFwdRefIdeal.τ).loc Cert.InFwdRefIdeal.main_arg2) = m ((c.tc : Thread Cert.InFwdRefIdeal.nD Cert.InFwdRefIdeal.τ).loc Cert.InFwdRefIdeal.main_arg2))
      ∧ r.2.sem = fun _ => 0)

def quiescent_UpFwd [hUpFwd : Cert.UpFwd.Facts] : Prop :=
  ∀ (m : (ℓ : Loc Cert.UpFwd.nD Cert.UpFwd.τ Cert.UpFwd.sig) → Buf (Elt Bits) ℓ) (g : Dev Cert.UpFwd.nD → PrngReg), Pre_UpFwd m →
    θ_run (Cert.UpFwd.defs (F := Bits)) (onTc (τ := Cert.UpFwd.τ) (Cert.UpFwd.main (F := Bits))) ⟨m, fun _ => 0, g⟩ (fun r => (∀ c : Dev Cert.UpFwd.nD,
      r.2.mem ((c.tc : Thread Cert.UpFwd.nD Cert.UpFwd.τ).loc Cert.UpFwd.main_arg0) = m ((c.tc : Thread Cert.UpFwd.nD Cert.UpFwd.τ).loc Cert.UpFwd.main_arg0)
      ∧ r.2.mem ((c.tc : Thread Cert.UpFwd.nD Cert.UpFwd.τ).loc Cert.UpFwd.main_arg1) = m ((c.tc : Thread Cert.UpFwd.nD Cert.UpFwd.τ).loc Cert.UpFwd.main_arg1)
      ∧ r.2.mem ((c.tc : Thread Cert.UpFwd.nD Cert.UpFwd.τ).loc Cert.UpFwd.main_arg2) = m ((c.tc : Thread Cert.UpFwd.nD Cert.UpFwd.τ).loc Cert.UpFwd.main_arg2))
      ∧ r.2.sem = fun _ => 0)

def quiescent_UpFwdIdeal [hUpFwdIdeal : Cert.UpFwdIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg), Pre_UpFwdIdeal m →
    θ_run (Cert.UpFwdIdeal.defs (F := Ideal)) (onTc (τ := Cert.UpFwdIdeal.τ) (Cert.UpFwdIdeal.main (F := Ideal))) ⟨m, fun _ => 0, g⟩ (fun r => (∀ c : Dev Cert.UpFwdIdeal.nD,
      r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
      ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
      ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ r.2.sem = fun _ => 0)

def quiescent_UpFwdRefIdeal [hUpFwdRefIdeal : Cert.UpFwdRefIdeal.Facts] : Prop :=
  ∀ (m : (ℓ : Loc Cert.UpFwdRefIdeal.nD Cert.UpFwdRefIdeal.τ Cert.UpFwdRefIdeal.sig) → Buf (Elt Ideal) ℓ) (g : Dev Cert.UpFwdRefIdeal.nD → PrngReg), Pre_UpFwdRefIdeal m →
    θ_run (Cert.UpFwdRefIdeal.defs (F := Ideal)) (onTc (τ := Cert.UpFwdRefIdeal.τ) (Cert.UpFwdRefIdeal.main (F := Ideal))) ⟨m, fun _ => 0, g⟩ (fun r => (∀ c : Dev Cert.UpFwdRefIdeal.nD,
      r.2.mem ((c.tc : Thread Cert.UpFwdRefIdeal.nD Cert.UpFwdRefIdeal.τ).loc Cert.UpFwdRefIdeal.main_arg0) = m ((c.tc : Thread Cert.UpFwdRefIdeal.nD Cert.UpFwdRefIdeal.τ).loc Cert.UpFwdRefIdeal.main_arg0)
      ∧ r.2.mem ((c.tc : Thread Cert.UpFwdRefIdeal.nD Cert.UpFwdRefIdeal.τ).loc Cert.UpFwdRefIdeal.main_arg1) = m ((c.tc : Thread Cert.UpFwdRefIdeal.nD Cert.UpFwdRefIdeal.τ).loc Cert.UpFwdRefIdeal.main_arg1)
      ∧ r.2.mem ((c.tc : Thread Cert.UpFwdRefIdeal.nD Cert.UpFwdRefIdeal.τ).loc Cert.UpFwdRefIdeal.main_arg2) = m ((c.tc : Thread Cert.UpFwdRefIdeal.nD Cert.UpFwdRefIdeal.τ).loc Cert.UpFwdRefIdeal.main_arg2))
      ∧ r.2.sem = fun _ => 0)

def quiescent_OutFwd [hOutFwd : Cert.OutFwd.Facts] : Prop :=
  ∀ (m : (ℓ : Loc Cert.OutFwd.nD Cert.OutFwd.τ Cert.OutFwd.sig) → Buf (Elt Bits) ℓ) (g : Dev Cert.OutFwd.nD → PrngReg), Pre_OutFwd m →
    θ_run (Cert.OutFwd.defs (F := Bits)) (onTc (τ := Cert.OutFwd.τ) (Cert.OutFwd.main (F := Bits))) ⟨m, fun _ => 0, g⟩ (fun r => (∀ c : Dev Cert.OutFwd.nD,
      r.2.mem ((c.tc : Thread Cert.OutFwd.nD Cert.OutFwd.τ).loc Cert.OutFwd.main_arg0) = m ((c.tc : Thread Cert.OutFwd.nD Cert.OutFwd.τ).loc Cert.OutFwd.main_arg0)
      ∧ r.2.mem ((c.tc : Thread Cert.OutFwd.nD Cert.OutFwd.τ).loc Cert.OutFwd.main_arg1) = m ((c.tc : Thread Cert.OutFwd.nD Cert.OutFwd.τ).loc Cert.OutFwd.main_arg1)
      ∧ r.2.mem ((c.tc : Thread Cert.OutFwd.nD Cert.OutFwd.τ).loc Cert.OutFwd.main_arg2) = m ((c.tc : Thread Cert.OutFwd.nD Cert.OutFwd.τ).loc Cert.OutFwd.main_arg2)
      ∧ r.2.mem ((c.tc : Thread Cert.OutFwd.nD Cert.OutFwd.τ).loc Cert.OutFwd.main_arg3) = m ((c.tc : Thread Cert.OutFwd.nD Cert.OutFwd.τ).loc Cert.OutFwd.main_arg3)
      ∧ r.2.mem ((c.tc : Thread Cert.OutFwd.nD Cert.OutFwd.τ).loc Cert.OutFwd.main_arg4) = m ((c.tc : Thread Cert.OutFwd.nD Cert.OutFwd.τ).loc Cert.OutFwd.main_arg4)
      ∧ r.2.mem ((c.tc : Thread Cert.OutFwd.nD Cert.OutFwd.τ).loc Cert.OutFwd.main_arg5) = m ((c.tc : Thread Cert.OutFwd.nD Cert.OutFwd.τ).loc Cert.OutFwd.main_arg5))
      ∧ r.2.sem = fun _ => 0)

def quiescent_OutFwdIdeal [hOutFwdIdeal : Cert.OutFwdIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg), Pre_OutFwdIdeal m →
    θ_run (Cert.OutFwdIdeal.defs (F := Ideal)) (onTc (τ := Cert.OutFwdIdeal.τ) (Cert.OutFwdIdeal.main (F := Ideal))) ⟨m, fun _ => 0, g⟩ (fun r => (∀ c : Dev Cert.OutFwdIdeal.nD,
      r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
      ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
      ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
      ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
      ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
      ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ r.2.sem = fun _ => 0)

def quiescent_OutFwdRefIdeal [hOutFwdRefIdeal : Cert.OutFwdRefIdeal.Facts] : Prop :=
  ∀ (m : (ℓ : Loc Cert.OutFwdRefIdeal.nD Cert.OutFwdRefIdeal.τ Cert.OutFwdRefIdeal.sig) → Buf (Elt Ideal) ℓ) (g : Dev Cert.OutFwdRefIdeal.nD → PrngReg), Pre_OutFwdRefIdeal m →
    θ_run (Cert.OutFwdRefIdeal.defs (F := Ideal)) (onTc (τ := Cert.OutFwdRefIdeal.τ) (Cert.OutFwdRefIdeal.main (F := Ideal))) ⟨m, fun _ => 0, g⟩ (fun r => (∀ c : Dev Cert.OutFwdRefIdeal.nD,
      r.2.mem ((c.tc : Thread Cert.OutFwdRefIdeal.nD Cert.OutFwdRefIdeal.τ).loc Cert.OutFwdRefIdeal.main_arg0) = m ((c.tc : Thread Cert.OutFwdRefIdeal.nD Cert.OutFwdRefIdeal.τ).loc Cert.OutFwdRefIdeal.main_arg0)
      ∧ r.2.mem ((c.tc : Thread Cert.OutFwdRefIdeal.nD Cert.OutFwdRefIdeal.τ).loc Cert.OutFwdRefIdeal.main_arg1) = m ((c.tc : Thread Cert.OutFwdRefIdeal.nD Cert.OutFwdRefIdeal.τ).loc Cert.OutFwdRefIdeal.main_arg1)
      ∧ r.2.mem ((c.tc : Thread Cert.OutFwdRefIdeal.nD Cert.OutFwdRefIdeal.τ).loc Cert.OutFwdRefIdeal.main_arg2) = m ((c.tc : Thread Cert.OutFwdRefIdeal.nD Cert.OutFwdRefIdeal.τ).loc Cert.OutFwdRefIdeal.main_arg2)
      ∧ r.2.mem ((c.tc : Thread Cert.OutFwdRefIdeal.nD Cert.OutFwdRefIdeal.τ).loc Cert.OutFwdRefIdeal.main_arg3) = m ((c.tc : Thread Cert.OutFwdRefIdeal.nD Cert.OutFwdRefIdeal.τ).loc Cert.OutFwdRefIdeal.main_arg3)
      ∧ r.2.mem ((c.tc : Thread Cert.OutFwdRefIdeal.nD Cert.OutFwdRefIdeal.τ).loc Cert.OutFwdRefIdeal.main_arg4) = m ((c.tc : Thread Cert.OutFwdRefIdeal.nD Cert.OutFwdRefIdeal.τ).loc Cert.OutFwdRefIdeal.main_arg4)
      ∧ r.2.mem ((c.tc : Thread Cert.OutFwdRefIdeal.nD Cert.OutFwdRefIdeal.τ).loc Cert.OutFwdRefIdeal.main_arg5) = m ((c.tc : Thread Cert.OutFwdRefIdeal.nD Cert.OutFwdRefIdeal.τ).loc Cert.OutFwdRefIdeal.main_arg5))
      ∧ r.2.sem = fun _ => 0)

def quiescent_DownFwd [hDownFwd : Cert.DownFwd.Facts] : Prop :=
  ∀ (m : (ℓ : Loc Cert.DownFwd.nD Cert.DownFwd.τ Cert.DownFwd.sig) → Buf (Elt Bits) ℓ) (g : Dev Cert.DownFwd.nD → PrngReg), Pre_DownFwd m →
    θ_run (Cert.DownFwd.defs (F := Bits)) (onTc (τ := Cert.DownFwd.τ) (Cert.DownFwd.main (F := Bits))) ⟨m, fun _ => 0, g⟩ (fun r => (∀ c : Dev Cert.DownFwd.nD,
      r.2.mem ((c.tc : Thread Cert.DownFwd.nD Cert.DownFwd.τ).loc Cert.DownFwd.main_arg0) = m ((c.tc : Thread Cert.DownFwd.nD Cert.DownFwd.τ).loc Cert.DownFwd.main_arg0)
      ∧ r.2.mem ((c.tc : Thread Cert.DownFwd.nD Cert.DownFwd.τ).loc Cert.DownFwd.main_arg1) = m ((c.tc : Thread Cert.DownFwd.nD Cert.DownFwd.τ).loc Cert.DownFwd.main_arg1)
      ∧ r.2.mem ((c.tc : Thread Cert.DownFwd.nD Cert.DownFwd.τ).loc Cert.DownFwd.main_arg2) = m ((c.tc : Thread Cert.DownFwd.nD Cert.DownFwd.τ).loc Cert.DownFwd.main_arg2)
      ∧ r.2.mem ((c.tc : Thread Cert.DownFwd.nD Cert.DownFwd.τ).loc Cert.DownFwd.main_arg3) = m ((c.tc : Thread Cert.DownFwd.nD Cert.DownFwd.τ).loc Cert.DownFwd.main_arg3)
      ∧ r.2.mem ((c.tc : Thread Cert.DownFwd.nD Cert.DownFwd.τ).loc Cert.DownFwd.main_arg4) = m ((c.tc : Thread Cert.DownFwd.nD Cert.DownFwd.τ).loc Cert.DownFwd.main_arg4)
      ∧ r.2.mem ((c.tc : Thread Cert.DownFwd.nD Cert.DownFwd.τ).loc Cert.DownFwd.main_arg5) = m ((c.tc : Thread Cert.DownFwd.nD Cert.DownFwd.τ).loc Cert.DownFwd.main_arg5))
      ∧ r.2.sem = fun _ => 0)

def quiescent_DownFwdIdeal [hDownFwdIdeal : Cert.DownFwdIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg), Pre_DownFwdIdeal m →
    θ_run (Cert.DownFwdIdeal.defs (F := Ideal)) (onTc (τ := Cert.DownFwdIdeal.τ) (Cert.DownFwdIdeal.main (F := Ideal))) ⟨m, fun _ => 0, g⟩ (fun r => (∀ c : Dev Cert.DownFwdIdeal.nD,
      r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
      ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
      ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
      ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
      ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4)
      ∧ r.2.mem ((c.tc : Thread Cert.DownFwdIdeal.nD Cert.DownFwdIdeal.τ).loc Cert.DownFwdIdeal.main_arg5) = m ((c.tc : Thread Cert.DownFwdIdeal.nD Cert.DownFwdIdeal.τ).loc Cert.DownFwdIdeal.main_arg5))
      ∧ r.2.sem = fun _ => 0)

def quiescent_DownFwdRefIdeal [hDownFwdRefIdeal : Cert.DownFwdRefIdeal.Facts] : Prop :=
  ∀ (m : (ℓ : Loc Cert.DownFwdRefIdeal.nD Cert.DownFwdRefIdeal.τ Cert.DownFwdRefIdeal.sig) → Buf (Elt Ideal) ℓ) (g : Dev Cert.DownFwdRefIdeal.nD → PrngReg), Pre_DownFwdRefIdeal m →
    θ_run (Cert.DownFwdRefIdeal.defs (F := Ideal)) (onTc (τ := Cert.DownFwdRefIdeal.τ) (Cert.DownFwdRefIdeal.main (F := Ideal))) ⟨m, fun _ => 0, g⟩ (fun r => (∀ c : Dev Cert.DownFwdRefIdeal.nD,
      r.2.mem ((c.tc : Thread Cert.DownFwdRefIdeal.nD Cert.DownFwdRefIdeal.τ).loc Cert.DownFwdRefIdeal.main_arg0) = m ((c.tc : Thread Cert.DownFwdRefIdeal.nD Cert.DownFwdRefIdeal.τ).loc Cert.DownFwdRefIdeal.main_arg0)
      ∧ r.2.mem ((c.tc : Thread Cert.DownFwdRefIdeal.nD Cert.DownFwdRefIdeal.τ).loc Cert.DownFwdRefIdeal.main_arg1) = m ((c.tc : Thread Cert.DownFwdRefIdeal.nD Cert.DownFwdRefIdeal.τ).loc Cert.DownFwdRefIdeal.main_arg1)
      ∧ r.2.mem ((c.tc : Thread Cert.DownFwdRefIdeal.nD Cert.DownFwdRefIdeal.τ).loc Cert.DownFwdRefIdeal.main_arg2) = m ((c.tc : Thread Cert.DownFwdRefIdeal.nD Cert.DownFwdRefIdeal.τ).loc Cert.DownFwdRefIdeal.main_arg2)
      ∧ r.2.mem ((c.tc : Thread Cert.DownFwdRefIdeal.nD Cert.DownFwdRefIdeal.τ).loc Cert.DownFwdRefIdeal.main_arg3) = m ((c.tc : Thread Cert.DownFwdRefIdeal.nD Cert.DownFwdRefIdeal.τ).loc Cert.DownFwdRefIdeal.main_arg3)
      ∧ r.2.mem ((c.tc : Thread Cert.DownFwdRefIdeal.nD Cert.DownFwdRefIdeal.τ).loc Cert.DownFwdRefIdeal.main_arg4) = m ((c.tc : Thread Cert.DownFwdRefIdeal.nD Cert.DownFwdRefIdeal.τ).loc Cert.DownFwdRefIdeal.main_arg4)
      ∧ r.2.mem ((c.tc : Thread Cert.DownFwdRefIdeal.nD Cert.DownFwdRefIdeal.τ).loc Cert.DownFwdRefIdeal.main_arg5) = m ((c.tc : Thread Cert.DownFwdRefIdeal.nD Cert.DownFwdRefIdeal.τ).loc Cert.DownFwdRefIdeal.main_arg5))
      ∧ r.2.sem = fun _ => 0)

def quiescent_Post [hPost : Cert.Post.Facts] : Prop :=
  ∀ (m : (ℓ : Loc Cert.Post.nD Cert.Post.τ Cert.Post.sig) → Buf (Elt Bits) ℓ) (g : Dev Cert.Post.nD → PrngReg), Pre_Post m →
    θ_run (Cert.Post.defs (F := Bits)) (onTc (τ := Cert.Post.τ) (Cert.Post.main (F := Bits))) ⟨m, fun _ => 0, g⟩ (fun r => (∀ c : Dev Cert.Post.nD,
      r.2.mem ((c.tc : Thread Cert.Post.nD Cert.Post.τ).loc Cert.Post.main_arg0) = m ((c.tc : Thread Cert.Post.nD Cert.Post.τ).loc Cert.Post.main_arg0)
      ∧ r.2.mem ((c.tc : Thread Cert.Post.nD Cert.Post.τ).loc Cert.Post.main_arg1) = m ((c.tc : Thread Cert.Post.nD Cert.Post.τ).loc Cert.Post.main_arg1)
      ∧ r.2.mem ((c.tc : Thread Cert.Post.nD Cert.Post.τ).loc Cert.Post.main_arg2) = m ((c.tc : Thread Cert.Post.nD Cert.Post.τ).loc Cert.Post.main_arg2)
      ∧ r.2.mem ((c.tc : Thread Cert.Post.nD Cert.Post.τ).loc Cert.Post.main_arg3) = m ((c.tc : Thread Cert.Post.nD Cert.Post.τ).loc Cert.Post.main_arg3)
      ∧ r.2.mem ((c.tc : Thread Cert.Post.nD Cert.Post.τ).loc Cert.Post.main_arg4) = m ((c.tc : Thread Cert.Post.nD Cert.Post.τ).loc Cert.Post.main_arg4)
      ∧ r.2.mem ((c.tc : Thread Cert.Post.nD Cert.Post.τ).loc Cert.Post.main_arg5) = m ((c.tc : Thread Cert.Post.nD Cert.Post.τ).loc Cert.Post.main_arg5))
      ∧ r.2.sem = fun _ => 0)

def quiescent_PostIdeal [hPostIdeal : Cert.PostIdeal.Facts] : Prop :=
  ∀ (m : (ℓ : Loc Cert.PostIdeal.nD Cert.PostIdeal.τ Cert.PostIdeal.sig) → Buf (Elt Ideal) ℓ) (g : Dev Cert.PostIdeal.nD → PrngReg), Pre_PostIdeal m →
    θ_run (Cert.PostIdeal.defs (F := Ideal)) (onTc (τ := Cert.PostIdeal.τ) (Cert.PostIdeal.main (F := Ideal))) ⟨m, fun _ => 0, g⟩ (fun r => (∀ c : Dev Cert.PostIdeal.nD,
      r.2.mem ((c.tc : Thread Cert.PostIdeal.nD Cert.PostIdeal.τ).loc Cert.PostIdeal.main_arg0) = m ((c.tc : Thread Cert.PostIdeal.nD Cert.PostIdeal.τ).loc Cert.PostIdeal.main_arg0)
      ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
      ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
      ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
      ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
      ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ r.2.sem = fun _ => 0)

def quiescent_PostRefIdeal [hPostRefIdeal : Cert.PostRefIdeal.Facts] : Prop :=
  ∀ (m : (ℓ : Loc Cert.PostRefIdeal.nD Cert.PostRefIdeal.τ Cert.PostRefIdeal.sig) → Buf (Elt Ideal) ℓ) (g : Dev Cert.PostRefIdeal.nD → PrngReg), Pre_PostRefIdeal m →
    θ_run (Cert.PostRefIdeal.defs (F := Ideal)) (onTc (τ := Cert.PostRefIdeal.τ) (Cert.PostRefIdeal.main (F := Ideal))) ⟨m, fun _ => 0, g⟩ (fun r => (∀ c : Dev Cert.PostRefIdeal.nD,
      r.2.mem ((c.tc : Thread Cert.PostRefIdeal.nD Cert.PostRefIdeal.τ).loc Cert.PostRefIdeal.main_arg0) = m ((c.tc : Thread Cert.PostRefIdeal.nD Cert.PostRefIdeal.τ).loc Cert.PostRefIdeal.main_arg0)
      ∧ r.2.mem ((c.tc : Thread Cert.PostRefIdeal.nD Cert.PostRefIdeal.τ).loc Cert.PostRefIdeal.main_arg1) = m ((c.tc : Thread Cert.PostRefIdeal.nD Cert.PostRefIdeal.τ).loc Cert.PostRefIdeal.main_arg1)
      ∧ r.2.mem ((c.tc : Thread Cert.PostRefIdeal.nD Cert.PostRefIdeal.τ).loc Cert.PostRefIdeal.main_arg2) = m ((c.tc : Thread Cert.PostRefIdeal.nD Cert.PostRefIdeal.τ).loc Cert.PostRefIdeal.main_arg2)
      ∧ r.2.mem ((c.tc : Thread Cert.PostRefIdeal.nD Cert.PostRefIdeal.τ).loc Cert.PostRefIdeal.main_arg3) = m ((c.tc : Thread Cert.PostRefIdeal.nD Cert.PostRefIdeal.τ).loc Cert.PostRefIdeal.main_arg3)
      ∧ r.2.mem ((c.tc : Thread Cert.PostRefIdeal.nD Cert.PostRefIdeal.τ).loc Cert.PostRefIdeal.main_arg4) = m ((c.tc : Thread Cert.PostRefIdeal.nD Cert.PostRefIdeal.τ).loc Cert.PostRefIdeal.main_arg4)
      ∧ r.2.mem ((c.tc : Thread Cert.PostRefIdeal.nD Cert.PostRefIdeal.τ).loc Cert.PostRefIdeal.main_arg5) = m ((c.tc : Thread Cert.PostRefIdeal.nD Cert.PostRefIdeal.τ).loc Cert.PostRefIdeal.main_arg5))
      ∧ r.2.sem = fun _ => 0)

def quiescent_PostB [hPostB : Cert.PostB.Facts] : Prop :=
  ∀ (m : (ℓ : Loc Cert.PostB.nD Cert.PostB.τ Cert.PostB.sig) → Buf (Elt Bits) ℓ) (g : Dev Cert.PostB.nD → PrngReg), Pre_PostB m →
    θ_run (Cert.PostB.defs (F := Bits)) (onTc (τ := Cert.PostB.τ) (Cert.PostB.main (F := Bits))) ⟨m, fun _ => 0, g⟩ (fun r => (∀ c : Dev Cert.PostB.nD,
      r.2.mem ((c.tc : Thread Cert.PostB.nD Cert.PostB.τ).loc Cert.PostB.main_arg0) = m ((c.tc : Thread Cert.PostB.nD Cert.PostB.τ).loc Cert.PostB.main_arg0)
      ∧ r.2.mem ((c.tc : Thread Cert.PostB.nD Cert.PostB.τ).loc Cert.PostB.main_arg1) = m ((c.tc : Thread Cert.PostB.nD Cert.PostB.τ).loc Cert.PostB.main_arg1)
      ∧ r.2.mem ((c.tc : Thread Cert.PostB.nD Cert.PostB.τ).loc Cert.PostB.main_arg2) = m ((c.tc : Thread Cert.PostB.nD Cert.PostB.τ).loc Cert.PostB.main_arg2)
      ∧ r.2.mem ((c.tc : Thread Cert.PostB.nD Cert.PostB.τ).loc Cert.PostB.main_arg3) = m ((c.tc : Thread Cert.PostB.nD Cert.PostB.τ).loc Cert.PostB.main_arg3)
      ∧ r.2.mem ((c.tc : Thread Cert.PostB.nD Cert.PostB.τ).loc Cert.PostB.main_arg4) = m ((c.tc : Thread Cert.PostB.nD Cert.PostB.τ).loc Cert.PostB.main_arg4)
      ∧ r.2.mem ((c.tc : Thread Cert.PostB.nD Cert.PostB.τ).loc Cert.PostB.main_arg5) = m ((c.tc : Thread Cert.PostB.nD Cert.PostB.τ).loc Cert.PostB.main_arg5))
      ∧ r.2.sem = fun _ => 0)

def quiescent_PostBIdeal [hPostBIdeal : Cert.PostBIdeal.Facts] : Prop :=
  ∀ (m : (ℓ : Loc Cert.PostBIdeal.nD Cert.PostBIdeal.τ Cert.PostBIdeal.sig) → Buf (Elt Ideal) ℓ) (g : Dev Cert.PostBIdeal.nD → PrngReg), Pre_PostBIdeal m →
    θ_run (Cert.PostBIdeal.defs (F := Ideal)) (onTc (τ := Cert.PostBIdeal.τ) (Cert.PostBIdeal.main (F := Ideal))) ⟨m, fun _ => 0, g⟩ (fun r => (∀ c : Dev Cert.PostBIdeal.nD,
      r.2.mem ((c.tc : Thread Cert.PostBIdeal.nD Cert.PostBIdeal.τ).loc Cert.PostBIdeal.main_arg0) = m ((c.tc : Thread Cert.PostBIdeal.nD Cert.PostBIdeal.τ).loc Cert.PostBIdeal.main_arg0)
      ∧ r.2.mem ((c.tc : Thread Cert.PostBIdeal.nD Cert.PostBIdeal.τ).loc Cert.PostBIdeal.main_arg1) = m ((c.tc : Thread Cert.PostBIdeal.nD Cert.PostBIdeal.τ).loc Cert.PostBIdeal.main_arg1)
      ∧ r.2.mem ((c.tc : Thread Cert.PostBIdeal.nD Cert.PostBIdeal.τ).loc Cert.PostBIdeal.main_arg2) = m ((c.tc : Thread Cert.PostBIdeal.nD Cert.PostBIdeal.τ).loc Cert.PostBIdeal.main_arg2)
      ∧ r.2.mem ((c.tc : Thread Cert.PostBIdeal.nD Cert.PostBIdeal.τ).loc Cert.PostBIdeal.main_arg3) = m ((c.tc : Thread Cert.PostBIdeal.nD Cert.PostBIdeal.τ).loc Cert.PostBIdeal.main_arg3)
      ∧ r.2.mem ((c.tc : Thread Cert.PostBIdeal.nD Cert.PostBIdeal.τ).loc Cert.PostBIdeal.main_arg4) = m ((c.tc : Thread Cert.PostBIdeal.nD Cert.PostBIdeal.τ).loc Cert.PostBIdeal.main_arg4)
      ∧ r.2.mem ((c.tc : Thread Cert.PostBIdeal.nD Cert.PostBIdeal.τ).loc Cert.PostBIdeal.main_arg5) = m ((c.tc : Thread Cert.PostBIdeal.nD Cert.PostBIdeal.τ).loc Cert.PostBIdeal.main_arg5))
      ∧ r.2.sem = fun _ => 0)

def quiescent_PostBRefIdeal [hPostBRefIdeal : Cert.PostBRefIdeal.Facts] : Prop :=
  ∀ (m : (ℓ : Loc Cert.PostBRefIdeal.nD Cert.PostBRefIdeal.τ Cert.PostBRefIdeal.sig) → Buf (Elt Ideal) ℓ) (g : Dev Cert.PostBRefIdeal.nD → PrngReg), Pre_PostBRefIdeal m →
    θ_run (Cert.PostBRefIdeal.defs (F := Ideal)) (onTc (τ := Cert.PostBRefIdeal.τ) (Cert.PostBRefIdeal.main (F := Ideal))) ⟨m, fun _ => 0, g⟩ (fun r => (∀ c : Dev Cert.PostBRefIdeal.nD,
      r.2.mem ((c.tc : Thread Cert.PostBRefIdeal.nD Cert.PostBRefIdeal.τ).loc Cert.PostBRefIdeal.main_arg0) = m ((c.tc : Thread Cert.PostBRefIdeal.nD Cert.PostBRefIdeal.τ).loc Cert.PostBRefIdeal.main_arg0)
      ∧ r.2.mem ((c.tc : Thread Cert.PostBRefIdeal.nD Cert.PostBRefIdeal.τ).loc Cert.PostBRefIdeal.main_arg1) = m ((c.tc : Thread Cert.PostBRefIdeal.nD Cert.PostBRefIdeal.τ).loc Cert.PostBRefIdeal.main_arg1)
      ∧ r.2.mem ((c.tc : Thread Cert.PostBRefIdeal.nD Cert.PostBRefIdeal.τ).loc Cert.PostBRefIdeal.main_arg2) = m ((c.tc : Thread Cert.PostBRefIdeal.nD Cert.PostBRefIdeal.τ).loc Cert.PostBRefIdeal.main_arg2)
      ∧ r.2.mem ((c.tc : Thread Cert.PostBRefIdeal.nD Cert.PostBRefIdeal.τ).loc Cert.PostBRefIdeal.main_arg3) = m ((c.tc : Thread Cert.PostBRefIdeal.nD Cert.PostBRefIdeal.τ).loc Cert.PostBRefIdeal.main_arg3)
      ∧ r.2.mem ((c.tc : Thread Cert.PostBRefIdeal.nD Cert.PostBRefIdeal.τ).loc Cert.PostBRefIdeal.main_arg4) = m ((c.tc : Thread Cert.PostBRefIdeal.nD Cert.PostBRefIdeal.τ).loc Cert.PostBRefIdeal.main_arg4)
      ∧ r.2.mem ((c.tc : Thread Cert.PostBRefIdeal.nD Cert.PostBRefIdeal.τ).loc Cert.PostBRefIdeal.main_arg5) = m ((c.tc : Thread Cert.PostBRefIdeal.nD Cert.PostBRefIdeal.τ).loc Cert.PostBRefIdeal.main_arg5))
      ∧ r.2.sem = fun _ => 0)

def quiescent_AdaMod [hAdaMod : Cert.AdaMod.Facts] : Prop :=
  ∀ (m : (ℓ : Loc Cert.AdaMod.nD Cert.AdaMod.τ Cert.AdaMod.sig) → Buf (Elt Bits) ℓ) (g : Dev Cert.AdaMod.nD → PrngReg), Pre_AdaMod m →
    θ_run (Cert.AdaMod.defs (F := Bits)) (onTc (τ := Cert.AdaMod.τ) (Cert.AdaMod.main (F := Bits))) ⟨m, fun _ => 0, g⟩ (fun r => (∀ c : Dev Cert.AdaMod.nD,
      r.2.mem ((c.tc : Thread Cert.AdaMod.nD Cert.AdaMod.τ).loc Cert.AdaMod.main_arg0) = m ((c.tc : Thread Cert.AdaMod.nD Cert.AdaMod.τ).loc Cert.AdaMod.main_arg0)
      ∧ r.2.mem ((c.tc : Thread Cert.AdaMod.nD Cert.AdaMod.τ).loc Cert.AdaMod.main_arg1) = m ((c.tc : Thread Cert.AdaMod.nD Cert.AdaMod.τ).loc Cert.AdaMod.main_arg1)
      ∧ r.2.mem ((c.tc : Thread Cert.AdaMod.nD Cert.AdaMod.τ).loc Cert.AdaMod.main_arg2) = m ((c.tc : Thread Cert.AdaMod.nD Cert.AdaMod.τ).loc Cert.AdaMod.main_arg2))
      ∧ r.2.sem = fun _ => 0)

def quiescent_AdaModIdeal [hAdaModIdeal : Cert.AdaModIdeal.Facts] : Prop :=
  ∀ (m : (ℓ : Loc Cert.AdaModIdeal.nD Cert.AdaModIdeal.τ Cert.AdaModIdeal.sig) → Buf (Elt Ideal) ℓ) (g : Dev Cert.AdaModIdeal.nD → PrngReg), Pre_AdaModIdeal m →
    θ_run (Cert.AdaModIdeal.defs (F := Ideal)) (onTc (τ := Cert.AdaModIdeal.τ) (Cert.AdaModIdeal.main (F := Ideal))) ⟨m, fun _ => 0, g⟩ (fun r => (∀ c : Dev Cert.AdaModIdeal.nD,
      r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
      ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
      ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ r.2.sem = fun _ => 0)

def quiescent_AdaModRefIdeal [hAdaModRefIdeal : Cert.AdaModRefIdeal.Facts] : Prop :=
  ∀ (m : (ℓ : Loc Cert.AdaModRefIdeal.nD Cert.AdaModRefIdeal.τ Cert.AdaModRefIdeal.sig) → Buf (Elt Ideal) ℓ) (g : Dev Cert.AdaModRefIdeal.nD → PrngReg), Pre_AdaModRefIdeal m →
    θ_run (Cert.AdaModRefIdeal.defs (F := Ideal)) (onTc (τ := Cert.AdaModRefIdeal.τ) (Cert.AdaModRefIdeal.main (F := Ideal))) ⟨m, fun _ => 0, g⟩ (fun r => (∀ c : Dev Cert.AdaModRefIdeal.nD,
      r.2.mem ((c.tc : Thread Cert.AdaModRefIdeal.nD Cert.AdaModRefIdeal.τ).loc Cert.AdaModRefIdeal.main_arg0) = m ((c.tc : Thread Cert.AdaModRefIdeal.nD Cert.AdaModRefIdeal.τ).loc Cert.AdaModRefIdeal.main_arg0)
      ∧ r.2.mem ((c.tc : Thread Cert.AdaModRefIdeal.nD Cert.AdaModRefIdeal.τ).loc Cert.AdaModRefIdeal.main_arg1) = m ((c.tc : Thread Cert.AdaModRefIdeal.nD Cert.AdaModRefIdeal.τ).loc Cert.AdaModRefIdeal.main_arg1)
      ∧ r.2.mem ((c.tc : Thread Cert.AdaModRefIdeal.nD Cert.AdaModRefIdeal.τ).loc Cert.AdaModRefIdeal.main_arg2) = m ((c.tc : Thread Cert.AdaModRefIdeal.nD Cert.AdaModRefIdeal.τ).loc Cert.AdaModRefIdeal.main_arg2))
      ∧ r.2.sem = fun _ => 0)

def quiescent_AdaDw [hAdaDw : Cert.AdaDw.Facts] : Prop :=
  ∀ (m : (ℓ : Loc Cert.AdaDw.nD Cert.AdaDw.τ Cert.AdaDw.sig) → Buf (Elt Bits) ℓ) (g : Dev Cert.AdaDw.nD → PrngReg), Pre_AdaDw m →
    θ_run (Cert.AdaDw.defs (F := Bits)) (onTc (τ := Cert.AdaDw.τ) (Cert.AdaDw.main (F := Bits))) ⟨m, fun _ => 0, g⟩ (fun r => (∀ c : Dev Cert.AdaDw.nD,
      r.2.mem ((c.tc : Thread Cert.AdaDw.nD Cert.AdaDw.τ).loc Cert.AdaDw.main_arg0) = m ((c.tc : Thread Cert.AdaDw.nD Cert.AdaDw.τ).loc Cert.AdaDw.main_arg0)
      ∧ r.2.mem ((c.tc : Thread Cert.AdaDw.nD Cert.AdaDw.τ).loc Cert.AdaDw.main_arg1) = m ((c.tc : Thread Cert.AdaDw.nD Cert.AdaDw.τ).loc Cert.AdaDw.main_arg1))
      ∧ r.2.sem = fun _ => 0)

def quiescent_AdaDwIdeal [hAdaDwIdeal : Cert.AdaDwIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg), Pre_AdaDwIdeal m →
    θ_run (Cert.AdaDwIdeal.defs (F := Ideal)) (onTc (τ := Cert.AdaDwIdeal.τ) (Cert.AdaDwIdeal.main (F := Ideal))) ⟨m, fun _ => 0, g⟩ (fun r => (∀ c : Dev Cert.AdaDwIdeal.nD,
      r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
      ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ r.2.sem = fun _ => 0)

def quiescent_AdaDwRefIdeal [hAdaDwRefIdeal : Cert.AdaDwRefIdeal.Facts] : Prop :=
  ∀ (m : (ℓ : Loc Cert.AdaDwRefIdeal.nD Cert.AdaDwRefIdeal.τ Cert.AdaDwRefIdeal.sig) → Buf (Elt Ideal) ℓ) (g : Dev Cert.AdaDwRefIdeal.nD → PrngReg), Pre_AdaDwRefIdeal m →
    θ_run (Cert.AdaDwRefIdeal.defs (F := Ideal)) (onTc (τ := Cert.AdaDwRefIdeal.τ) (Cert.AdaDwRefIdeal.main (F := Ideal))) ⟨m, fun _ => 0, g⟩ (fun r => (∀ c : Dev Cert.AdaDwRefIdeal.nD,
      r.2.mem ((c.tc : Thread Cert.AdaDwRefIdeal.nD Cert.AdaDwRefIdeal.τ).loc Cert.AdaDwRefIdeal.main_arg0) = m ((c.tc : Thread Cert.AdaDwRefIdeal.nD Cert.AdaDwRefIdeal.τ).loc Cert.AdaDwRefIdeal.main_arg0)
      ∧ r.2.mem ((c.tc : Thread Cert.AdaDwRefIdeal.nD Cert.AdaDwRefIdeal.τ).loc Cert.AdaDwRefIdeal.main_arg1) = m ((c.tc : Thread Cert.AdaDwRefIdeal.nD Cert.AdaDwRefIdeal.τ).loc Cert.AdaDwRefIdeal.main_arg1))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2))
      ∧ r.2.sem = fun _ => 0)

def quiescent_AdamW [hAdamW : Cert.AdamW.Facts] : Prop :=
  ∀ (m : (ℓ : Loc Cert.AdamW.nD Cert.AdamW.τ Cert.AdamW.sig) → Buf (Elt Bits) ℓ) (g : Dev Cert.AdamW.nD → PrngReg), Pre_AdamW m →
    θ_run (Cert.AdamW.defs (F := Bits)) (onTc (τ := Cert.AdamW.τ) (Cert.AdamW.main (F := Bits))) ⟨m, fun _ => 0, g⟩ (fun r => (∀ c : Dev Cert.AdamW.nD,
      r.2.mem ((c.tc : Thread Cert.AdamW.nD Cert.AdamW.τ).loc Cert.AdamW.main_arg0) = m ((c.tc : Thread Cert.AdamW.nD Cert.AdamW.τ).loc Cert.AdamW.main_arg0)
      ∧ r.2.mem ((c.tc : Thread Cert.AdamW.nD Cert.AdamW.τ).loc Cert.AdamW.main_arg1) = m ((c.tc : Thread Cert.AdamW.nD Cert.AdamW.τ).loc Cert.AdamW.main_arg1)
      ∧ r.2.mem ((c.tc : Thread Cert.AdamW.nD Cert.AdamW.τ).loc Cert.AdamW.main_arg2) = m ((c.tc : Thread Cert.AdamW.nD Cert.AdamW.τ).loc Cert.AdamW.main_arg2)
      ∧ r.2.mem ((c.tc : Thread Cert.AdamW.nD Cert.AdamW.τ).loc Cert.AdamW.main_arg3) = m ((c.tc : Thread Cert.AdamW.nD Cert.AdamW.τ).loc Cert.AdamW.main_arg3))
      ∧ r.2.sem = fun _ => 0)

def quiescent_AdamWIdeal [hAdamWIdeal : Cert.AdamWIdeal.Facts] : Prop :=
  ∀ (m : (ℓ : Loc Cert.AdamWIdeal.nD Cert.AdamWIdeal.τ Cert.AdamWIdeal.sig) → Buf (Elt Ideal) ℓ) (g : Dev Cert.AdamWIdeal.nD → PrngReg), Pre_AdamWIdeal m →
    θ_run (Cert.AdamWIdeal.defs (F := Ideal)) (onTc (τ := Cert.AdamWIdeal.τ) (Cert.AdamWIdeal.main (F := Ideal))) ⟨m, fun _ => 0, g⟩ (fun r => (∀ c : Dev Cert.AdamWIdeal.nD,
      r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
      ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
      ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
      ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ r.2.sem = fun _ => 0)

def quiescent_AdamWRefIdeal [hAdamWRefIdeal : Cert.AdamWRefIdeal.Facts] : Prop :=
  ∀ (m : (ℓ : Loc Cert.AdamWRefIdeal.nD Cert.AdamWRefIdeal.τ Cert.AdamWRefIdeal.sig) → Buf (Elt Ideal) ℓ) (g : Dev Cert.AdamWRefIdeal.nD → PrngReg), Pre_AdamWRefIdeal m →
    θ_run (Cert.AdamWRefIdeal.defs (F := Ideal)) (onTc (τ := Cert.AdamWRefIdeal.τ) (Cert.AdamWRefIdeal.main (F := Ideal))) ⟨m, fun _ => 0, g⟩ (fun r => (∀ c : Dev Cert.AdamWRefIdeal.nD,
      r.2.mem ((c.tc : Thread Cert.AdamWRefIdeal.nD Cert.AdamWRefIdeal.τ).loc Cert.AdamWRefIdeal.main_arg0) = m ((c.tc : Thread Cert.AdamWRefIdeal.nD Cert.AdamWRefIdeal.τ).loc Cert.AdamWRefIdeal.main_arg0)
      ∧ r.2.mem ((c.tc : Thread Cert.AdamWRefIdeal.nD Cert.AdamWRefIdeal.τ).loc Cert.AdamWRefIdeal.main_arg1) = m ((c.tc : Thread Cert.AdamWRefIdeal.nD Cert.AdamWRefIdeal.τ).loc Cert.AdamWRefIdeal.main_arg1)
      ∧ r.2.mem ((c.tc : Thread Cert.AdamWRefIdeal.nD Cert.AdamWRefIdeal.τ).loc Cert.AdamWRefIdeal.main_arg2) = m ((c.tc : Thread Cert.AdamWRefIdeal.nD Cert.AdamWRefIdeal.τ).loc Cert.AdamWRefIdeal.main_arg2)
      ∧ r.2.mem ((c.tc : Thread Cert.AdamWRefIdeal.nD Cert.AdamWRefIdeal.τ).loc Cert.AdamWRefIdeal.main_arg3) = m ((c.tc : Thread Cert.AdamWRefIdeal.nD Cert.AdamWRefIdeal.τ).loc Cert.AdamWRefIdeal.main_arg3))
      ∧ r.2.sem = fun _ => 0)

def preserves_InDw_InDwIdeal : Prop :=
  True

def algebraic_InDwIdeal_InDwRefIdeal [hInDwIdeal : Cert.InDwIdeal.Facts] [hInDwRefIdeal : Cert.InDwRefIdeal.Facts] : Prop :=
  ∀ (m : (ℓ : Loc Cert.InDwIdeal.nD Cert.InDwIdeal.τ Cert.InDwIdeal.sig) → Buf (Elt Ideal) ℓ) (g : Dev Cert.InDwIdeal.nD → PrngReg)
    (m' : (ℓ : Loc Cert.InDwRefIdeal.nD Cert.InDwRefIdeal.τ Cert.InDwRefIdeal.sig) → Buf (Elt Ideal) ℓ) (g' : Dev Cert.InDwRefIdeal.nD → PrngReg), Pre_InDwIdeal m →
    (∀ c : Dev Cert.InDwIdeal.nD,
      m' ((c.tc : Thread Cert.InDwRefIdeal.nD Cert.InDwRefIdeal.τ).loc Cert.InDwRefIdeal.main_arg0) = m ((c.tc : Thread Cert.InDwIdeal.nD Cert.InDwIdeal.τ).loc Cert.InDwIdeal.main_arg0)
      ∧ m' ((c.tc : Thread Cert.InDwRefIdeal.nD Cert.InDwRefIdeal.τ).loc Cert.InDwRefIdeal.main_arg1) = m ((c.tc : Thread Cert.InDwIdeal.nD Cert.InDwIdeal.τ).loc Cert.InDwIdeal.main_arg1)
      ∧ m' ((c.tc : Thread Cert.InDwRefIdeal.nD Cert.InDwRefIdeal.τ).loc Cert.InDwRefIdeal.main_arg2) = m ((c.tc : Thread Cert.InDwIdeal.nD Cert.InDwIdeal.τ).loc Cert.InDwIdeal.main_arg2)) →
    ∃ (v0 : (c : Dev Cert.InDwIdeal.nD) → Buf (Elt Ideal) ((c.tc : Thread Cert.InDwIdeal.nD Cert.InDwIdeal.τ).loc Cert.InDwIdeal.main_v0)),
      θ_run (Cert.InDwIdeal.defs (F := Ideal)) (onTc (τ := Cert.InDwIdeal.τ) (Cert.InDwIdeal.main (F := Ideal))) ⟨m, fun _ => 0, g⟩ (fun r => ∀ c : Dev Cert.InDwIdeal.nD,
          r.2.mem ((c.tc : Thread Cert.InDwIdeal.nD Cert.InDwIdeal.τ).loc Cert.InDwIdeal.main_v0) = v0 c
          ∧ r.2.mem ((c.tc : Thread Cert.InDwIdeal.nD Cert.InDwIdeal.τ).loc Cert.InDwIdeal.main_arg0) = m ((c.tc : Thread Cert.InDwIdeal.nD Cert.InDwIdeal.τ).loc Cert.InDwIdeal.main_arg0)
          ∧ r.2.mem ((c.tc : Thread Cert.InDwIdeal.nD Cert.InDwIdeal.τ).loc Cert.InDwIdeal.main_arg1) = m ((c.tc : Thread Cert.InDwIdeal.nD Cert.InDwIdeal.τ).loc Cert.InDwIdeal.main_arg1)
          ∧ r.2.mem ((c.tc : Thread Cert.InDwIdeal.nD Cert.InDwIdeal.τ).loc Cert.InDwIdeal.main_arg2) = m ((c.tc : Thread Cert.InDwIdeal.nD Cert.InDwIdeal.τ).loc Cert.InDwIdeal.main_arg2))
      ∧ θ_run (Cert.InDwRefIdeal.defs (F := Ideal)) (onTc (τ := Cert.InDwRefIdeal.τ) (Cert.InDwRefIdeal.main (F := Ideal))) ⟨m', fun _ => 0, g'⟩ (fun r => ∀ c : Dev Cert.InDwRefIdeal.nD,
          r.2.mem ((c.tc : Thread Cert.InDwRefIdeal.nD Cert.InDwRefIdeal.τ).loc Cert.InDwRefIdeal.main_v14) = v0 c
          ∧ r.2.mem ((c.tc : Thread Cert.InDwRefIdeal.nD Cert.InDwRefIdeal.τ).loc Cert.InDwRefIdeal.main_arg0) = m' ((c.tc : Thread Cert.InDwRefIdeal.nD Cert.InDwRefIdeal.τ).loc Cert.InDwRefIdeal.main_arg0)
          ∧ r.2.mem ((c.tc : Thread Cert.InDwRefIdeal.nD Cert.InDwRefIdeal.τ).loc Cert.InDwRefIdeal.main_arg1) = m' ((c.tc : Thread Cert.InDwRefIdeal.nD Cert.InDwRefIdeal.τ).loc Cert.InDwRefIdeal.main_arg1)
          ∧ r.2.mem ((c.tc : Thread Cert.InDwRefIdeal.nD Cert.InDwRefIdeal.τ).loc Cert.InDwRefIdeal.main_arg2) = m' ((c.tc : Thread Cert.InDwRefIdeal.nD Cert.InDwRefIdeal.τ).loc Cert.InDwRefIdeal.main_arg2))

def preserves_InDx_InDxIdeal : Prop :=
  True

def algebraic_InDxIdeal_InDxRefIdeal [hInDxIdeal : Cert.InDxIdeal.Facts] [hInDxRefIdeal : Cert.InDxRefIdeal.Facts] : Prop :=
  ∀ (m : (ℓ : Loc Cert.InDxIdeal.nD Cert.InDxIdeal.τ Cert.InDxIdeal.sig) → Buf (Elt Ideal) ℓ) (g : Dev Cert.InDxIdeal.nD → PrngReg)
    (m' : (ℓ : Loc Cert.InDxRefIdeal.nD Cert.InDxRefIdeal.τ Cert.InDxRefIdeal.sig) → Buf (Elt Ideal) ℓ) (g' : Dev Cert.InDxRefIdeal.nD → PrngReg), Pre_InDxIdeal m →
    (∀ c : Dev Cert.InDxIdeal.nD,
      m' ((c.tc : Thread Cert.InDxRefIdeal.nD Cert.InDxRefIdeal.τ).loc Cert.InDxRefIdeal.main_arg0) = m ((c.tc : Thread Cert.InDxIdeal.nD Cert.InDxIdeal.τ).loc Cert.InDxIdeal.main_arg0)
      ∧ m' ((c.tc : Thread Cert.InDxRefIdeal.nD Cert.InDxRefIdeal.τ).loc Cert.InDxRefIdeal.main_arg1) = m ((c.tc : Thread Cert.InDxIdeal.nD Cert.InDxIdeal.τ).loc Cert.InDxIdeal.main_arg1)
      ∧ m' ((c.tc : Thread Cert.InDxRefIdeal.nD Cert.InDxRefIdeal.τ).loc Cert.InDxRefIdeal.main_arg2) = m ((c.tc : Thread Cert.InDxIdeal.nD Cert.InDxIdeal.τ).loc Cert.InDxIdeal.main_arg2)
      ∧ m' ((c.tc : Thread Cert.InDxRefIdeal.nD Cert.InDxRefIdeal.τ).loc Cert.InDxRefIdeal.main_arg3) = m ((c.tc : Thread Cert.InDxIdeal.nD Cert.InDxIdeal.τ).loc Cert.InDxIdeal.main_arg3)
      ∧ m' ((c.tc : Thread Cert.InDxRefIdeal.nD Cert.InDxRefIdeal.τ).loc Cert.InDxRefIdeal.main_arg4) = m ((c.tc : Thread Cert.InDxIdeal.nD Cert.InDxIdeal.τ).loc Cert.InDxIdeal.main_arg4)) →
    ∃ (v0 : (c : Dev Cert.InDxIdeal.nD) → Buf (Elt Ideal) ((c.tc : Thread Cert.InDxIdeal.nD Cert.InDxIdeal.τ).loc Cert.InDxIdeal.main_v0_0)) (v1 : (c : Dev Cert.InDxIdeal.nD) → Buf (Elt Ideal) ((c.tc : Thread Cert.InDxIdeal.nD Cert.InDxIdeal.τ).loc Cert.InDxIdeal.main_v0_1)) (v2 : (c : Dev Cert.InDxIdeal.nD) → Buf (Elt Ideal) ((c.tc : Thread Cert.InDxIdeal.nD Cert.InDxIdeal.τ).loc Cert.InDxIdeal.main_v0_2)),
      θ_run (Cert.InDxIdeal.defs (F := Ideal)) (onTc (τ := Cert.InDxIdeal.τ) (Cert.InDxIdeal.main (F := Ideal))) ⟨m, fun _ => 0, g⟩ (fun r => ∀ c : Dev Cert.InDxIdeal.nD,
          r.2.mem ((c.tc : Thread Cert.InDxIdeal.nD Cert.InDxIdeal.τ).loc Cert.InDxIdeal.main_v0_0) = v0 c
          ∧ r.2.mem ((c.tc : Thread Cert.InDxIdeal.nD Cert.InDxIdeal.τ).loc Cert.InDxIdeal.main_v0_1) = v1 c
          ∧ r.2.mem ((c.tc : Thread Cert.InDxIdeal.nD Cert.InDxIdeal.τ).loc Cert.InDxIdeal.main_v0_2) = v2 c
          ∧ r.2.mem ((c.tc : Thread Cert.InDxIdeal.nD Cert.InDxIdeal.τ).loc Cert.InDxIdeal.main_arg0) = m ((c.tc : Thread Cert.InDxIdeal.nD Cert.InDxIdeal.τ).loc Cert.InDxIdeal.main_arg0)
          ∧ r.2.mem ((c.tc : Thread Cert.InDxIdeal.nD Cert.InDxIdeal.τ).loc Cert.InDxIdeal.main_arg1) = m ((c.tc : Thread Cert.InDxIdeal.nD Cert.InDxIdeal.τ).loc Cert.InDxIdeal.main_arg1)
          ∧ r.2.mem ((c.tc : Thread Cert.InDxIdeal.nD Cert.InDxIdeal.τ).loc Cert.InDxIdeal.main_arg2) = m ((c.tc : Thread Cert.InDxIdeal.nD Cert.InDxIdeal.τ).loc Cert.InDxIdeal.main_arg2)
          ∧ r.2.mem ((c.tc : Thread Cert.InDxIdeal.nD Cert.InDxIdeal.τ).loc Cert.InDxIdeal.main_arg3) = m ((c.tc : Thread Cert.InDxIdeal.nD Cert.InDxIdeal.τ).loc Cert.InDxIdeal.main_arg3)
          ∧ r.2.mem ((c.tc : Thread Cert.InDxIdeal.nD Cert.InDxIdeal.τ).loc Cert.InDxIdeal.main_arg4) = m ((c.tc : Thread Cert.InDxIdeal.nD Cert.InDxIdeal.τ).loc Cert.InDxIdeal.main_arg4))
      ∧ θ_run (Cert.InDxRefIdeal.defs (F := Ideal)) (onTc (τ := Cert.InDxRefIdeal.τ) (Cert.InDxRefIdeal.main (F := Ideal))) ⟨m', fun _ => 0, g'⟩ (fun r => ∀ c : Dev Cert.InDxRefIdeal.nD,
          r.2.mem ((c.tc : Thread Cert.InDxRefIdeal.nD Cert.InDxRefIdeal.τ).loc Cert.InDxRefIdeal.main_v20) = v0 c
          ∧ r.2.mem ((c.tc : Thread Cert.InDxRefIdeal.nD Cert.InDxRefIdeal.τ).loc Cert.InDxRefIdeal.main_v14) = v1 c
          ∧ r.2.mem ((c.tc : Thread Cert.InDxRefIdeal.nD Cert.InDxRefIdeal.τ).loc Cert.InDxRefIdeal.main_v17) = v2 c
          ∧ r.2.mem ((c.tc : Thread Cert.InDxRefIdeal.nD Cert.InDxRefIdeal.τ).loc Cert.InDxRefIdeal.main_arg0) = m' ((c.tc : Thread Cert.InDxRefIdeal.nD Cert.InDxRefIdeal.τ).loc Cert.InDxRefIdeal.main_arg0)
          ∧ r.2.mem ((c.tc : Thread Cert.InDxRefIdeal.nD Cert.InDxRefIdeal.τ).loc Cert.InDxRefIdeal.main_arg1) = m' ((c.tc : Thread Cert.InDxRefIdeal.nD Cert.InDxRefIdeal.τ).loc Cert.InDxRefIdeal.main_arg1)
          ∧ r.2.mem ((c.tc : Thread Cert.InDxRefIdeal.nD Cert.InDxRefIdeal.τ).loc Cert.InDxRefIdeal.main_arg2) = m' ((c.tc : Thread Cert.InDxRefIdeal.nD Cert.InDxRefIdeal.τ).loc Cert.InDxRefIdeal.main_arg2)
          ∧ r.2.mem ((c.tc : Thread Cert.InDxRefIdeal.nD Cert.InDxRefIdeal.τ).loc Cert.InDxRefIdeal.main_arg3) = m' ((c.tc : Thread Cert.InDxRefIdeal.nD Cert.InDxRefIdeal.τ).loc Cert.InDxRefIdeal.main_arg3)
          ∧ r.2.mem ((c.tc : Thread Cert.InDxRefIdeal.nD Cert.InDxRefIdeal.τ).loc Cert.InDxRefIdeal.main_arg4) = m' ((c.tc : Thread Cert.InDxRefIdeal.nD Cert.InDxRefIdeal.τ).loc Cert.InDxRefIdeal.main_arg4))

def preserves_UpDw_UpDwIdeal : Prop :=
  True

def algebraic_UpDwIdeal_UpDwRefIdeal [hUpDwIdeal : Cert.UpDwIdeal.Facts] [hUpDwRefIdeal : Cert.UpDwRefIdeal.Facts] : Prop :=
  ∀ (m : (ℓ : Loc Cert.UpDwIdeal.nD Cert.UpDwIdeal.τ Cert.UpDwIdeal.sig) → Buf (Elt Ideal) ℓ) (g : Dev Cert.UpDwIdeal.nD → PrngReg)
    (m' : (ℓ : Loc Cert.UpDwRefIdeal.nD Cert.UpDwRefIdeal.τ Cert.UpDwRefIdeal.sig) → Buf (Elt Ideal) ℓ) (g' : Dev Cert.UpDwRefIdeal.nD → PrngReg), Pre_UpDwIdeal m →
    (∀ c : Dev Cert.UpDwIdeal.nD,
      m' ((c.tc : Thread Cert.UpDwRefIdeal.nD Cert.UpDwRefIdeal.τ).loc Cert.UpDwRefIdeal.main_arg0) = m ((c.tc : Thread Cert.UpDwIdeal.nD Cert.UpDwIdeal.τ).loc Cert.UpDwIdeal.main_arg0)
      ∧ m' ((c.tc : Thread Cert.UpDwRefIdeal.nD Cert.UpDwRefIdeal.τ).loc Cert.UpDwRefIdeal.main_arg1) = m ((c.tc : Thread Cert.UpDwIdeal.nD Cert.UpDwIdeal.τ).loc Cert.UpDwIdeal.main_arg1)
      ∧ m' ((c.tc : Thread Cert.UpDwRefIdeal.nD Cert.UpDwRefIdeal.τ).loc Cert.UpDwRefIdeal.main_arg2) = m ((c.tc : Thread Cert.UpDwIdeal.nD Cert.UpDwIdeal.τ).loc Cert.UpDwIdeal.main_arg2)) →
    ∃ (v0 : (c : Dev Cert.UpDwIdeal.nD) → Buf (Elt Ideal) ((c.tc : Thread Cert.UpDwIdeal.nD Cert.UpDwIdeal.τ).loc Cert.UpDwIdeal.main_v0)),
      θ_run (Cert.UpDwIdeal.defs (F := Ideal)) (onTc (τ := Cert.UpDwIdeal.τ) (Cert.UpDwIdeal.main (F := Ideal))) ⟨m, fun _ => 0, g⟩ (fun r => ∀ c : Dev Cert.UpDwIdeal.nD,
          r.2.mem ((c.tc : Thread Cert.UpDwIdeal.nD Cert.UpDwIdeal.τ).loc Cert.UpDwIdeal.main_v0) = v0 c
          ∧ r.2.mem ((c.tc : Thread Cert.UpDwIdeal.nD Cert.UpDwIdeal.τ).loc Cert.UpDwIdeal.main_arg0) = m ((c.tc : Thread Cert.UpDwIdeal.nD Cert.UpDwIdeal.τ).loc Cert.UpDwIdeal.main_arg0)
          ∧ r.2.mem ((c.tc : Thread Cert.UpDwIdeal.nD Cert.UpDwIdeal.τ).loc Cert.UpDwIdeal.main_arg1) = m ((c.tc : Thread Cert.UpDwIdeal.nD Cert.UpDwIdeal.τ).loc Cert.UpDwIdeal.main_arg1)
          ∧ r.2.mem ((c.tc : Thread Cert.UpDwIdeal.nD Cert.UpDwIdeal.τ).loc Cert.UpDwIdeal.main_arg2) = m ((c.tc : Thread Cert.UpDwIdeal.nD Cert.UpDwIdeal.τ).loc Cert.UpDwIdeal.main_arg2))
      ∧ θ_run (Cert.UpDwRefIdeal.defs (F := Ideal)) (onTc (τ := Cert.UpDwRefIdeal.τ) (Cert.UpDwRefIdeal.main (F := Ideal))) ⟨m', fun _ => 0, g'⟩ (fun r => ∀ c : Dev Cert.UpDwRefIdeal.nD,
          r.2.mem ((c.tc : Thread Cert.UpDwRefIdeal.nD Cert.UpDwRefIdeal.τ).loc Cert.UpDwRefIdeal.main_v14) = v0 c
          ∧ r.2.mem ((c.tc : Thread Cert.UpDwRefIdeal.nD Cert.UpDwRefIdeal.τ).loc Cert.UpDwRefIdeal.main_arg0) = m' ((c.tc : Thread Cert.UpDwRefIdeal.nD Cert.UpDwRefIdeal.τ).loc Cert.UpDwRefIdeal.main_arg0)
          ∧ r.2.mem ((c.tc : Thread Cert.UpDwRefIdeal.nD Cert.UpDwRefIdeal.τ).loc Cert.UpDwRefIdeal.main_arg1) = m' ((c.tc : Thread Cert.UpDwRefIdeal.nD Cert.UpDwRefIdeal.τ).loc Cert.UpDwRefIdeal.main_arg1)
          ∧ r.2.mem ((c.tc : Thread Cert.UpDwRefIdeal.nD Cert.UpDwRefIdeal.τ).loc Cert.UpDwRefIdeal.main_arg2) = m' ((c.tc : Thread Cert.UpDwRefIdeal.nD Cert.UpDwRefIdeal.τ).loc Cert.UpDwRefIdeal.main_arg2))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)
      ∧ m' ((c.tc : Thread Cert.UpDxRefIdeal.nD Cert.UpDxRefIdeal.τ).loc Cert.UpDxRefIdeal.main_arg2) = m ((c.tc : Thread Cert.UpDxIdeal.nD Cert.UpDxIdeal.τ).loc Cert.UpDxIdeal.main_arg2)
      ∧ m' ((c.tc : Thread Cert.UpDxRefIdeal.nD Cert.UpDxRefIdeal.τ).loc Cert.UpDxRefIdeal.main_arg3) = m ((c.tc : Thread Cert.UpDxIdeal.nD Cert.UpDxIdeal.τ).loc Cert.UpDxIdeal.main_arg3)
      ∧ m' ((c.tc : Thread Cert.UpDxRefIdeal.nD Cert.UpDxRefIdeal.τ).loc Cert.UpDxRefIdeal.main_arg4) = m ((c.tc : Thread Cert.UpDxIdeal.nD Cert.UpDxIdeal.τ).loc Cert.UpDxIdeal.main_arg4)) →
    ∃ (v0 : (c : Dev Cert.UpDxIdeal.nD) → Buf (Elt Ideal) ((c.tc : Thread Cert.UpDxIdeal.nD Cert.UpDxIdeal.τ).loc Cert.UpDxIdeal.main_v0_0)) (v1 : (c : Dev Cert.UpDxIdeal.nD) → Buf (Elt Ideal) ((c.tc : Thread Cert.UpDxIdeal.nD Cert.UpDxIdeal.τ).loc Cert.UpDxIdeal.main_v0_1)) (v2 : (c : Dev Cert.UpDxIdeal.nD) → Buf (Elt Ideal) ((c.tc : Thread Cert.UpDxIdeal.nD Cert.UpDxIdeal.τ).loc Cert.UpDxIdeal.main_v0_2)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0_0) = v0 c
          ∧ r.2.mem ((c.tc : Thread Cert.UpDxIdeal.nD Cert.UpDxIdeal.τ).loc Cert.UpDxIdeal.main_v0_1) = v1 c
          ∧ r.2.mem ((c.tc : Thread Cert.UpDxIdeal.nD Cert.UpDxIdeal.τ).loc Cert.UpDxIdeal.main_v0_2) = v2 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1)
          ∧ r.2.mem ((c.tc : Thread Cert.UpDxIdeal.nD Cert.UpDxIdeal.τ).loc Cert.UpDxIdeal.main_arg2) = m ((c.tc : Thread Cert.UpDxIdeal.nD Cert.UpDxIdeal.τ).loc Cert.UpDxIdeal.main_arg2)
          ∧ r.2.mem ((c.tc : Thread Cert.UpDxIdeal.nD Cert.UpDxIdeal.τ).loc Cert.UpDxIdeal.main_arg3) = m ((c.tc : Thread Cert.UpDxIdeal.nD Cert.UpDxIdeal.τ).loc Cert.UpDxIdeal.main_arg3)
          ∧ r.2.mem ((c.tc : Thread Cert.UpDxIdeal.nD Cert.UpDxIdeal.τ).loc Cert.UpDxIdeal.main_arg4) = m ((c.tc : Thread Cert.UpDxIdeal.nD Cert.UpDxIdeal.τ).loc Cert.UpDxIdeal.main_arg4))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v20) = v0 c
          ∧ r.2.mem ((c.tc : Thread Cert.UpDxRefIdeal.nD Cert.UpDxRefIdeal.τ).loc Cert.UpDxRefIdeal.main_v14) = v1 c
          ∧ r.2.mem ((c.tc : Thread Cert.UpDxRefIdeal.nD Cert.UpDxRefIdeal.τ).loc Cert.UpDxRefIdeal.main_v17) = v2 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1)
          ∧ r.2.mem ((c.tc : Thread Cert.UpDxRefIdeal.nD Cert.UpDxRefIdeal.τ).loc Cert.UpDxRefIdeal.main_arg2) = m' ((c.tc : Thread Cert.UpDxRefIdeal.nD Cert.UpDxRefIdeal.τ).loc Cert.UpDxRefIdeal.main_arg2)
          ∧ r.2.mem ((c.tc : Thread Cert.UpDxRefIdeal.nD Cert.UpDxRefIdeal.τ).loc Cert.UpDxRefIdeal.main_arg3) = m' ((c.tc : Thread Cert.UpDxRefIdeal.nD Cert.UpDxRefIdeal.τ).loc Cert.UpDxRefIdeal.main_arg3)
          ∧ r.2.mem ((c.tc : Thread Cert.UpDxRefIdeal.nD Cert.UpDxRefIdeal.τ).loc Cert.UpDxRefIdeal.main_arg4) = m' ((c.tc : Thread Cert.UpDxRefIdeal.nD Cert.UpDxRefIdeal.τ).loc Cert.UpDxRefIdeal.main_arg4))

def preserves_OutDw_OutDwIdeal : Prop :=
  True

def algebraic_OutDwIdeal_OutDwRefIdeal [hOutDwIdeal : Cert.OutDwIdeal.Facts] [hOutDwRefIdeal : Cert.OutDwRefIdeal.Facts] : Prop :=
  ∀ (m : (ℓ : Loc Cert.OutDwIdeal.nD Cert.OutDwIdeal.τ Cert.OutDwIdeal.sig) → Buf (Elt Ideal) ℓ) (g : Dev Cert.OutDwIdeal.nD → PrngReg)
    (m' : (ℓ : Loc Cert.OutDwRefIdeal.nD Cert.OutDwRefIdeal.τ Cert.OutDwRefIdeal.sig) → Buf (Elt Ideal) ℓ) (g' : Dev Cert.OutDwRefIdeal.nD → PrngReg), Pre_OutDwIdeal m →
    (∀ c : Dev Cert.OutDwIdeal.nD,
      m' ((c.tc : Thread Cert.OutDwRefIdeal.nD Cert.OutDwRefIdeal.τ).loc Cert.OutDwRefIdeal.main_arg0) = m ((c.tc : Thread Cert.OutDwIdeal.nD Cert.OutDwIdeal.τ).loc Cert.OutDwIdeal.main_arg0)
      ∧ m' ((c.tc : Thread Cert.OutDwRefIdeal.nD Cert.OutDwRefIdeal.τ).loc Cert.OutDwRefIdeal.main_arg1) = m ((c.tc : Thread Cert.OutDwIdeal.nD Cert.OutDwIdeal.τ).loc Cert.OutDwIdeal.main_arg1)) →
    ∃ (v0 : (c : Dev Cert.OutDwIdeal.nD) → Buf (Elt Ideal) ((c.tc : Thread Cert.OutDwIdeal.nD Cert.OutDwIdeal.τ).loc Cert.OutDwIdeal.main_v0)),
      θ_run (Cert.OutDwIdeal.defs (F := Ideal)) (onTc (τ := Cert.OutDwIdeal.τ) (Cert.OutDwIdeal.main (F := Ideal))) ⟨m, fun _ => 0, g⟩ (fun r => ∀ c : Dev Cert.OutDwIdeal.nD,
          r.2.mem ((c.tc : Thread Cert.OutDwIdeal.nD Cert.OutDwIdeal.τ).loc Cert.OutDwIdeal.main_v0) = v0 c
          ∧ r.2.mem ((c.tc : Thread Cert.OutDwIdeal.nD Cert.OutDwIdeal.τ).loc Cert.OutDwIdeal.main_arg0) = m ((c.tc : Thread Cert.OutDwIdeal.nD Cert.OutDwIdeal.τ).loc Cert.OutDwIdeal.main_arg0)
          ∧ r.2.mem ((c.tc : Thread Cert.OutDwIdeal.nD Cert.OutDwIdeal.τ).loc Cert.OutDwIdeal.main_arg1) = m ((c.tc : Thread Cert.OutDwIdeal.nD Cert.OutDwIdeal.τ).loc Cert.OutDwIdeal.main_arg1))
      ∧ θ_run (Cert.OutDwRefIdeal.defs (F := Ideal)) (onTc (τ := Cert.OutDwRefIdeal.τ) (Cert.OutDwRefIdeal.main (F := Ideal))) ⟨m', fun _ => 0, g'⟩ (fun r => ∀ c : Dev Cert.OutDwRefIdeal.nD,
          r.2.mem ((c.tc : Thread Cert.OutDwRefIdeal.nD Cert.OutDwRefIdeal.τ).loc Cert.OutDwRefIdeal.main_v6) = v0 c
          ∧ r.2.mem ((c.tc : Thread Cert.OutDwRefIdeal.nD Cert.OutDwRefIdeal.τ).loc Cert.OutDwRefIdeal.main_arg0) = m' ((c.tc : Thread Cert.OutDwRefIdeal.nD Cert.OutDwRefIdeal.τ).loc Cert.OutDwRefIdeal.main_arg0)
          ∧ r.2.mem ((c.tc : Thread Cert.OutDwRefIdeal.nD Cert.OutDwRefIdeal.τ).loc Cert.OutDwRefIdeal.main_arg1) = m' ((c.tc : Thread Cert.OutDwRefIdeal.nD Cert.OutDwRefIdeal.τ).loc Cert.OutDwRefIdeal.main_arg1))

def preserves_OutDx_OutDxIdeal : Prop :=
  True

def algebraic_OutDxIdeal_OutDxRefIdeal [hOutDxIdeal : Cert.OutDxIdeal.Facts] [hOutDxRefIdeal : Cert.OutDxRefIdeal.Facts] : Prop :=
  ∀ (m : (ℓ : Loc Cert.OutDxIdeal.nD Cert.OutDxIdeal.τ Cert.OutDxIdeal.sig) → Buf (Elt Ideal) ℓ) (g : Dev Cert.OutDxIdeal.nD → PrngReg)
    (m' : (ℓ : Loc Cert.OutDxRefIdeal.nD Cert.OutDxRefIdeal.τ Cert.OutDxRefIdeal.sig) → Buf (Elt Ideal) ℓ) (g' : Dev Cert.OutDxRefIdeal.nD → PrngReg), Pre_OutDxIdeal m →
    (∀ c : Dev Cert.OutDxIdeal.nD,
      m' ((c.tc : Thread Cert.OutDxRefIdeal.nD Cert.OutDxRefIdeal.τ).loc Cert.OutDxRefIdeal.main_arg0) = m ((c.tc : Thread Cert.OutDxIdeal.nD Cert.OutDxIdeal.τ).loc Cert.OutDxIdeal.main_arg0)
      ∧ m' ((c.tc : Thread Cert.OutDxRefIdeal.nD Cert.OutDxRefIdeal.τ).loc Cert.OutDxRefIdeal.main_arg1) = m ((c.tc : Thread Cert.OutDxIdeal.nD Cert.OutDxIdeal.τ).loc Cert.OutDxIdeal.main_arg1)) →
    ∃ (v0 : (c : Dev Cert.OutDxIdeal.nD) → Buf (Elt Ideal) ((c.tc : Thread Cert.OutDxIdeal.nD Cert.OutDxIdeal.τ).loc Cert.OutDxIdeal.main_v0)),
      θ_run (Cert.OutDxIdeal.defs (F := Ideal)) (onTc (τ := Cert.OutDxIdeal.τ) (Cert.OutDxIdeal.main (F := Ideal))) ⟨m, fun _ => 0, g⟩ (fun r => ∀ c : Dev Cert.OutDxIdeal.nD,
          r.2.mem ((c.tc : Thread Cert.OutDxIdeal.nD Cert.OutDxIdeal.τ).loc Cert.OutDxIdeal.main_v0) = v0 c
          ∧ r.2.mem ((c.tc : Thread Cert.OutDxIdeal.nD Cert.OutDxIdeal.τ).loc Cert.OutDxIdeal.main_arg0) = m ((c.tc : Thread Cert.OutDxIdeal.nD Cert.OutDxIdeal.τ).loc Cert.OutDxIdeal.main_arg0)
          ∧ r.2.mem ((c.tc : Thread Cert.OutDxIdeal.nD Cert.OutDxIdeal.τ).loc Cert.OutDxIdeal.main_arg1) = m ((c.tc : Thread Cert.OutDxIdeal.nD Cert.OutDxIdeal.τ).loc Cert.OutDxIdeal.main_arg1))
      ∧ θ_run (Cert.OutDxRefIdeal.defs (F := Ideal)) (onTc (τ := Cert.OutDxRefIdeal.τ) (Cert.OutDxRefIdeal.main (F := Ideal))) ⟨m', fun _ => 0, g'⟩ (fun r => ∀ c : Dev Cert.OutDxRefIdeal.nD,
          r.2.mem ((c.tc : Thread Cert.OutDxRefIdeal.nD Cert.OutDxRefIdeal.τ).loc Cert.OutDxRefIdeal.main_v4) = v0 c
          ∧ r.2.mem ((c.tc : Thread Cert.OutDxRefIdeal.nD Cert.OutDxRefIdeal.τ).loc Cert.OutDxRefIdeal.main_arg0) = m' ((c.tc : Thread Cert.OutDxRefIdeal.nD Cert.OutDxRefIdeal.τ).loc Cert.OutDxRefIdeal.main_arg0)
          ∧ r.2.mem ((c.tc : Thread Cert.OutDxRefIdeal.nD Cert.OutDxRefIdeal.τ).loc Cert.OutDxRefIdeal.main_arg1) = m' ((c.tc : Thread Cert.OutDxRefIdeal.nD Cert.OutDxRefIdeal.τ).loc Cert.OutDxRefIdeal.main_arg1))

def preserves_DownDw_DownDwIdeal : Prop :=
  True

def algebraic_DownDwIdeal_DownDwRefIdeal [hDownDwIdeal : Cert.DownDwIdeal.Facts] [hDownDwRefIdeal : Cert.DownDwRefIdeal.Facts] : Prop :=
  ∀ (m : (ℓ : Loc Cert.DownDwIdeal.nD Cert.DownDwIdeal.τ Cert.DownDwIdeal.sig) → Buf (Elt Ideal) ℓ) (g : Dev Cert.DownDwIdeal.nD → PrngReg)
    (m' : (ℓ : Loc Cert.DownDwRefIdeal.nD Cert.DownDwRefIdeal.τ Cert.DownDwRefIdeal.sig) → Buf (Elt Ideal) ℓ) (g' : Dev Cert.DownDwRefIdeal.nD → PrngReg), Pre_DownDwIdeal m →
    (∀ c : Dev Cert.DownDwIdeal.nD,
      m' ((c.tc : Thread Cert.DownDwRefIdeal.nD Cert.DownDwRefIdeal.τ).loc Cert.DownDwRefIdeal.main_arg0) = m ((c.tc : Thread Cert.DownDwIdeal.nD Cert.DownDwIdeal.τ).loc Cert.DownDwIdeal.main_arg0)
      ∧ m' ((c.tc : Thread Cert.DownDwRefIdeal.nD Cert.DownDwRefIdeal.τ).loc Cert.DownDwRefIdeal.main_arg1) = m ((c.tc : Thread Cert.DownDwIdeal.nD Cert.DownDwIdeal.τ).loc Cert.DownDwIdeal.main_arg1)) →
    ∃ (v0 : (c : Dev Cert.DownDwIdeal.nD) → Buf (Elt Ideal) ((c.tc : Thread Cert.DownDwIdeal.nD Cert.DownDwIdeal.τ).loc Cert.DownDwIdeal.main_v0)),
      θ_run (Cert.DownDwIdeal.defs (F := Ideal)) (onTc (τ := Cert.DownDwIdeal.τ) (Cert.DownDwIdeal.main (F := Ideal))) ⟨m, fun _ => 0, g⟩ (fun r => ∀ c : Dev Cert.DownDwIdeal.nD,
          r.2.mem ((c.tc : Thread Cert.DownDwIdeal.nD Cert.DownDwIdeal.τ).loc Cert.DownDwIdeal.main_v0) = v0 c
          ∧ r.2.mem ((c.tc : Thread Cert.DownDwIdeal.nD Cert.DownDwIdeal.τ).loc Cert.DownDwIdeal.main_arg0) = m ((c.tc : Thread Cert.DownDwIdeal.nD Cert.DownDwIdeal.τ).loc Cert.DownDwIdeal.main_arg0)
          ∧ r.2.mem ((c.tc : Thread Cert.DownDwIdeal.nD Cert.DownDwIdeal.τ).loc Cert.DownDwIdeal.main_arg1) = m ((c.tc : Thread Cert.DownDwIdeal.nD Cert.DownDwIdeal.τ).loc Cert.DownDwIdeal.main_arg1))
      ∧ θ_run (Cert.DownDwRefIdeal.defs (F := Ideal)) (onTc (τ := Cert.DownDwRefIdeal.τ) (Cert.DownDwRefIdeal.main (F := Ideal))) ⟨m', fun _ => 0, g'⟩ (fun r => ∀ c : Dev Cert.DownDwRefIdeal.nD,
          r.2.mem ((c.tc : Thread Cert.DownDwRefIdeal.nD Cert.DownDwRefIdeal.τ).loc Cert.DownDwRefIdeal.main_v6) = v0 c
          ∧ r.2.mem ((c.tc : Thread Cert.DownDwRefIdeal.nD Cert.DownDwRefIdeal.τ).loc Cert.DownDwRefIdeal.main_arg0) = m' ((c.tc : Thread Cert.DownDwRefIdeal.nD Cert.DownDwRefIdeal.τ).loc Cert.DownDwRefIdeal.main_arg0)
          ∧ r.2.mem ((c.tc : Thread Cert.DownDwRefIdeal.nD Cert.DownDwRefIdeal.τ).loc Cert.DownDwRefIdeal.main_arg1) = m' ((c.tc : Thread Cert.DownDwRefIdeal.nD Cert.DownDwRefIdeal.τ).loc Cert.DownDwRefIdeal.main_arg1))

def preserves_DownDx_DownDxIdeal : Prop :=
  True

def algebraic_DownDxIdeal_DownDxRefIdeal [hDownDxIdeal : Cert.DownDxIdeal.Facts] [hDownDxRefIdeal : Cert.DownDxRefIdeal.Facts] : Prop :=
  ∀ (m : (ℓ : Loc Cert.DownDxIdeal.nD Cert.DownDxIdeal.τ Cert.DownDxIdeal.sig) → Buf (Elt Ideal) ℓ) (g : Dev Cert.DownDxIdeal.nD → PrngReg)
    (m' : (ℓ : Loc Cert.DownDxRefIdeal.nD Cert.DownDxRefIdeal.τ Cert.DownDxRefIdeal.sig) → Buf (Elt Ideal) ℓ) (g' : Dev Cert.DownDxRefIdeal.nD → PrngReg), Pre_DownDxIdeal m →
    (∀ c : Dev Cert.DownDxIdeal.nD,
      m' ((c.tc : Thread Cert.DownDxRefIdeal.nD Cert.DownDxRefIdeal.τ).loc Cert.DownDxRefIdeal.main_arg0) = m ((c.tc : Thread Cert.DownDxIdeal.nD Cert.DownDxIdeal.τ).loc Cert.DownDxIdeal.main_arg0)
      ∧ m' ((c.tc : Thread Cert.DownDxRefIdeal.nD Cert.DownDxRefIdeal.τ).loc Cert.DownDxRefIdeal.main_arg1) = m ((c.tc : Thread Cert.DownDxIdeal.nD Cert.DownDxIdeal.τ).loc Cert.DownDxIdeal.main_arg1)) →
    ∃ (v0 : (c : Dev Cert.DownDxIdeal.nD) → Buf (Elt Ideal) ((c.tc : Thread Cert.DownDxIdeal.nD Cert.DownDxIdeal.τ).loc Cert.DownDxIdeal.main_v0)),
      θ_run (Cert.DownDxIdeal.defs (F := Ideal)) (onTc (τ := Cert.DownDxIdeal.τ) (Cert.DownDxIdeal.main (F := Ideal))) ⟨m, fun _ => 0, g⟩ (fun r => ∀ c : Dev Cert.DownDxIdeal.nD,
          r.2.mem ((c.tc : Thread Cert.DownDxIdeal.nD Cert.DownDxIdeal.τ).loc Cert.DownDxIdeal.main_v0) = v0 c
          ∧ r.2.mem ((c.tc : Thread Cert.DownDxIdeal.nD Cert.DownDxIdeal.τ).loc Cert.DownDxIdeal.main_arg0) = m ((c.tc : Thread Cert.DownDxIdeal.nD Cert.DownDxIdeal.τ).loc Cert.DownDxIdeal.main_arg0)
          ∧ r.2.mem ((c.tc : Thread Cert.DownDxIdeal.nD Cert.DownDxIdeal.τ).loc Cert.DownDxIdeal.main_arg1) = m ((c.tc : Thread Cert.DownDxIdeal.nD Cert.DownDxIdeal.τ).loc Cert.DownDxIdeal.main_arg1))
      ∧ θ_run (Cert.DownDxRefIdeal.defs (F := Ideal)) (onTc (τ := Cert.DownDxRefIdeal.τ) (Cert.DownDxRefIdeal.main (F := Ideal))) ⟨m', fun _ => 0, g'⟩ (fun r => ∀ c : Dev Cert.DownDxRefIdeal.nD,
          r.2.mem ((c.tc : Thread Cert.DownDxRefIdeal.nD Cert.DownDxRefIdeal.τ).loc Cert.DownDxRefIdeal.main_v4) = v0 c
          ∧ r.2.mem ((c.tc : Thread Cert.DownDxRefIdeal.nD Cert.DownDxRefIdeal.τ).loc Cert.DownDxRefIdeal.main_arg0) = m' ((c.tc : Thread Cert.DownDxRefIdeal.nD Cert.DownDxRefIdeal.τ).loc Cert.DownDxRefIdeal.main_arg0)
          ∧ r.2.mem ((c.tc : Thread Cert.DownDxRefIdeal.nD Cert.DownDxRefIdeal.τ).loc Cert.DownDxRefIdeal.main_arg1) = m' ((c.tc : Thread Cert.DownDxRefIdeal.nD Cert.DownDxRefIdeal.τ).loc Cert.DownDxRefIdeal.main_arg1))

def preserves_InFwd_InFwdIdeal : Prop :=
  True

def algebraic_InFwdIdeal_InFwdRefIdeal [hInFwdIdeal : Cert.InFwdIdeal.Facts] [hInFwdRefIdeal : Cert.InFwdRefIdeal.Facts] : Prop :=
  ∀ (m : (ℓ : Loc Cert.InFwdIdeal.nD Cert.InFwdIdeal.τ Cert.InFwdIdeal.sig) → Buf (Elt Ideal) ℓ) (g : Dev Cert.InFwdIdeal.nD → PrngReg)
    (m' : (ℓ : Loc Cert.InFwdRefIdeal.nD Cert.InFwdRefIdeal.τ Cert.InFwdRefIdeal.sig) → Buf (Elt Ideal) ℓ) (g' : Dev Cert.InFwdRefIdeal.nD → PrngReg), Pre_InFwdIdeal m →
    (∀ c : Dev Cert.InFwdIdeal.nD,
      m' ((c.tc : Thread Cert.InFwdRefIdeal.nD Cert.InFwdRefIdeal.τ).loc Cert.InFwdRefIdeal.main_arg0) = m ((c.tc : Thread Cert.InFwdIdeal.nD Cert.InFwdIdeal.τ).loc Cert.InFwdIdeal.main_arg0)
      ∧ m' ((c.tc : Thread Cert.InFwdRefIdeal.nD Cert.InFwdRefIdeal.τ).loc Cert.InFwdRefIdeal.main_arg1) = m ((c.tc : Thread Cert.InFwdIdeal.nD Cert.InFwdIdeal.τ).loc Cert.InFwdIdeal.main_arg1)
      ∧ m' ((c.tc : Thread Cert.InFwdRefIdeal.nD Cert.InFwdRefIdeal.τ).loc Cert.InFwdRefIdeal.main_arg2) = m ((c.tc : Thread Cert.InFwdIdeal.nD Cert.InFwdIdeal.τ).loc Cert.InFwdIdeal.main_arg2)) →
    ∃ (v0 : (c : Dev Cert.InFwdIdeal.nD) → Buf (Elt Ideal) ((c.tc : Thread Cert.InFwdIdeal.nD Cert.InFwdIdeal.τ).loc Cert.InFwdIdeal.main_v0)),
      θ_run (Cert.InFwdIdeal.defs (F := Ideal)) (onTc (τ := Cert.InFwdIdeal.τ) (Cert.InFwdIdeal.main (F := Ideal))) ⟨m, fun _ => 0, g⟩ (fun r => ∀ c : Dev Cert.InFwdIdeal.nD,
          r.2.mem ((c.tc : Thread Cert.InFwdIdeal.nD Cert.InFwdIdeal.τ).loc Cert.InFwdIdeal.main_v0) = v0 c
          ∧ r.2.mem ((c.tc : Thread Cert.InFwdIdeal.nD Cert.InFwdIdeal.τ).loc Cert.InFwdIdeal.main_arg0) = m ((c.tc : Thread Cert.InFwdIdeal.nD Cert.InFwdIdeal.τ).loc Cert.InFwdIdeal.main_arg0)
          ∧ r.2.mem ((c.tc : Thread Cert.InFwdIdeal.nD Cert.InFwdIdeal.τ).loc Cert.InFwdIdeal.main_arg1) = m ((c.tc : Thread Cert.InFwdIdeal.nD Cert.InFwdIdeal.τ).loc Cert.InFwdIdeal.main_arg1)
          ∧ r.2.mem ((c.tc : Thread Cert.InFwdIdeal.nD Cert.InFwdIdeal.τ).loc Cert.InFwdIdeal.main_arg2) = m ((c.tc : Thread Cert.InFwdIdeal.nD Cert.InFwdIdeal.τ).loc Cert.InFwdIdeal.main_arg2))
      ∧ θ_run (Cert.InFwdRefIdeal.defs (F := Ideal)) (onTc (τ := Cert.InFwdRefIdeal.τ) (Cert.InFwdRefIdeal.main (F := Ideal))) ⟨m', fun _ => 0, g'⟩ (fun r => ∀ c : Dev Cert.InFwdRefIdeal.nD,
          r.2.mem ((c.tc : Thread Cert.InFwdRefIdeal.nD Cert.InFwdRefIdeal.τ).loc Cert.InFwdRefIdeal.main_v10) = v0 c
          ∧ r.2.mem ((c.tc : Thread Cert.InFwdRefIdeal.nD Cert.InFwdRefIdeal.τ).loc Cert.InFwdRefIdeal.main_arg0) = m' ((c.tc : Thread Cert.InFwdRefIdeal.nD Cert.InFwdRefIdeal.τ).loc Cert.InFwdRefIdeal.main_arg0)
          ∧ r.2.mem ((c.tc : Thread Cert.InFwdRefIdeal.nD Cert.InFwdRefIdeal.τ).loc Cert.InFwdRefIdeal.main_arg1) = m' ((c.tc : Thread Cert.InFwdRefIdeal.nD Cert.InFwdRefIdeal.τ).loc Cert.InFwdRefIdeal.main_arg1)
          ∧ r.2.mem ((c.tc : Thread Cert.InFwdRefIdeal.nD Cert.InFwdRefIdeal.τ).loc Cert.InFwdRefIdeal.main_arg2) = m' ((c.tc : Thread Cert.InFwdRefIdeal.nD Cert.InFwdRefIdeal.τ).loc Cert.InFwdRefIdeal.main_arg2))

def preserves_UpFwd_UpFwdIdeal : Prop :=
  True

def algebraic_UpFwdIdeal_UpFwdRefIdeal [hUpFwdIdeal : Cert.UpFwdIdeal.Facts] [hUpFwdRefIdeal : Cert.UpFwdRefIdeal.Facts] : Prop :=
  ∀ (m : (ℓ : Loc Cert.UpFwdIdeal.nD Cert.UpFwdIdeal.τ Cert.UpFwdIdeal.sig) → Buf (Elt Ideal) ℓ) (g : Dev Cert.UpFwdIdeal.nD → PrngReg)
    (m' : (ℓ : Loc Cert.UpFwdRefIdeal.nD Cert.UpFwdRefIdeal.τ Cert.UpFwdRefIdeal.sig) → Buf (Elt Ideal) ℓ) (g' : Dev Cert.UpFwdRefIdeal.nD → PrngReg), Pre_UpFwdIdeal m →
    (∀ c : Dev Cert.UpFwdIdeal.nD,
      m' ((c.tc : Thread Cert.UpFwdRefIdeal.nD Cert.UpFwdRefIdeal.τ).loc Cert.UpFwdRefIdeal.main_arg0) = m ((c.tc : Thread Cert.UpFwdIdeal.nD Cert.UpFwdIdeal.τ).loc Cert.UpFwdIdeal.main_arg0)
      ∧ m' ((c.tc : Thread Cert.UpFwdRefIdeal.nD Cert.UpFwdRefIdeal.τ).loc Cert.UpFwdRefIdeal.main_arg1) = m ((c.tc : Thread Cert.UpFwdIdeal.nD Cert.UpFwdIdeal.τ).loc Cert.UpFwdIdeal.main_arg1)
      ∧ m' ((c.tc : Thread Cert.UpFwdRefIdeal.nD Cert.UpFwdRefIdeal.τ).loc Cert.UpFwdRefIdeal.main_arg2) = m ((c.tc : Thread Cert.UpFwdIdeal.nD Cert.UpFwdIdeal.τ).loc Cert.UpFwdIdeal.main_arg2)) →
    ∃ (v0 : (c : Dev Cert.UpFwdIdeal.nD) → Buf (Elt Ideal) ((c.tc : Thread Cert.UpFwdIdeal.nD Cert.UpFwdIdeal.τ).loc Cert.UpFwdIdeal.main_v0)),
      θ_run (Cert.UpFwdIdeal.defs (F := Ideal)) (onTc (τ := Cert.UpFwdIdeal.τ) (Cert.UpFwdIdeal.main (F := Ideal))) ⟨m, fun _ => 0, g⟩ (fun r => ∀ c : Dev Cert.UpFwdIdeal.nD,
          r.2.mem ((c.tc : Thread Cert.UpFwdIdeal.nD Cert.UpFwdIdeal.τ).loc Cert.UpFwdIdeal.main_v0) = v0 c
          ∧ r.2.mem ((c.tc : Thread Cert.UpFwdIdeal.nD Cert.UpFwdIdeal.τ).loc Cert.UpFwdIdeal.main_arg0) = m ((c.tc : Thread Cert.UpFwdIdeal.nD Cert.UpFwdIdeal.τ).loc Cert.UpFwdIdeal.main_arg0)
          ∧ r.2.mem ((c.tc : Thread Cert.UpFwdIdeal.nD Cert.UpFwdIdeal.τ).loc Cert.UpFwdIdeal.main_arg1) = m ((c.tc : Thread Cert.UpFwdIdeal.nD Cert.UpFwdIdeal.τ).loc Cert.UpFwdIdeal.main_arg1)
          ∧ r.2.mem ((c.tc : Thread Cert.UpFwdIdeal.nD Cert.UpFwdIdeal.τ).loc Cert.UpFwdIdeal.main_arg2) = m ((c.tc : Thread Cert.UpFwdIdeal.nD Cert.UpFwdIdeal.τ).loc Cert.UpFwdIdeal.main_arg2))
      ∧ θ_run (Cert.UpFwdRefIdeal.defs (F := Ideal)) (onTc (τ := Cert.UpFwdRefIdeal.τ) (Cert.UpFwdRefIdeal.main (F := Ideal))) ⟨m', fun _ => 0, g'⟩ (fun r => ∀ c : Dev Cert.UpFwdRefIdeal.nD,
          r.2.mem ((c.tc : Thread Cert.UpFwdRefIdeal.nD Cert.UpFwdRefIdeal.τ).loc Cert.UpFwdRefIdeal.main_v10) = v0 c
          ∧ r.2.mem ((c.tc : Thread Cert.UpFwdRefIdeal.nD Cert.UpFwdRefIdeal.τ).loc Cert.UpFwdRefIdeal.main_arg0) = m' ((c.tc : Thread Cert.UpFwdRefIdeal.nD Cert.UpFwdRefIdeal.τ).loc Cert.UpFwdRefIdeal.main_arg0)
          ∧ r.2.mem ((c.tc : Thread Cert.UpFwdRefIdeal.nD Cert.UpFwdRefIdeal.τ).loc Cert.UpFwdRefIdeal.main_arg1) = m' ((c.tc : Thread Cert.UpFwdRefIdeal.nD Cert.UpFwdRefIdeal.τ).loc Cert.UpFwdRefIdeal.main_arg1)
          ∧ r.2.mem ((c.tc : Thread Cert.UpFwdRefIdeal.nD Cert.UpFwdRefIdeal.τ).loc Cert.UpFwdRefIdeal.main_arg2) = m' ((c.tc : Thread Cert.UpFwdRefIdeal.nD Cert.UpFwdRefIdeal.τ).loc Cert.UpFwdRefIdeal.main_arg2))

def preserves_OutFwd_OutFwdIdeal : Prop :=
  True

def algebraic_OutFwdIdeal_OutFwdRefIdeal [hOutFwdIdeal : Cert.OutFwdIdeal.Facts] [hOutFwdRefIdeal : Cert.OutFwdRefIdeal.Facts] : Prop :=
  ∀ (m : (ℓ : Loc Cert.OutFwdIdeal.nD Cert.OutFwdIdeal.τ Cert.OutFwdIdeal.sig) → Buf (Elt Ideal) ℓ) (g : Dev Cert.OutFwdIdeal.nD → PrngReg)
    (m' : (ℓ : Loc Cert.OutFwdRefIdeal.nD Cert.OutFwdRefIdeal.τ Cert.OutFwdRefIdeal.sig) → Buf (Elt Ideal) ℓ) (g' : Dev Cert.OutFwdRefIdeal.nD → PrngReg), Pre_OutFwdIdeal m →
    (∀ c : Dev Cert.OutFwdIdeal.nD,
      m' ((c.tc : Thread Cert.OutFwdRefIdeal.nD Cert.OutFwdRefIdeal.τ).loc Cert.OutFwdRefIdeal.main_arg0) = m ((c.tc : Thread Cert.OutFwdIdeal.nD Cert.OutFwdIdeal.τ).loc Cert.OutFwdIdeal.main_arg0)
      ∧ m' ((c.tc : Thread Cert.OutFwdRefIdeal.nD Cert.OutFwdRefIdeal.τ).loc Cert.OutFwdRefIdeal.main_arg1) = m ((c.tc : Thread Cert.OutFwdIdeal.nD Cert.OutFwdIdeal.τ).loc Cert.OutFwdIdeal.main_arg1)
      ∧ m' ((c.tc : Thread Cert.OutFwdRefIdeal.nD Cert.OutFwdRefIdeal.τ).loc Cert.OutFwdRefIdeal.main_arg2) = m ((c.tc : Thread Cert.OutFwdIdeal.nD Cert.OutFwdIdeal.τ).loc Cert.OutFwdIdeal.main_arg2)
      ∧ m' ((c.tc : Thread Cert.OutFwdRefIdeal.nD Cert.OutFwdRefIdeal.τ).loc Cert.OutFwdRefIdeal.main_arg3) = m ((c.tc : Thread Cert.OutFwdIdeal.nD Cert.OutFwdIdeal.τ).loc Cert.OutFwdIdeal.main_arg3)
      ∧ m' ((c.tc : Thread Cert.OutFwdRefIdeal.nD Cert.OutFwdRefIdeal.τ).loc Cert.OutFwdRefIdeal.main_arg4) = m ((c.tc : Thread Cert.OutFwdIdeal.nD Cert.OutFwdIdeal.τ).loc Cert.OutFwdIdeal.main_arg4)
      ∧ m' ((c.tc : Thread Cert.OutFwdRefIdeal.nD Cert.OutFwdRefIdeal.τ).loc Cert.OutFwdRefIdeal.main_arg5) = m ((c.tc : Thread Cert.OutFwdIdeal.nD Cert.OutFwdIdeal.τ).loc Cert.OutFwdIdeal.main_arg5)) →
    ∃ (v0 : (c : Dev Cert.OutFwdIdeal.nD) → Buf (Elt Ideal) ((c.tc : Thread Cert.OutFwdIdeal.nD Cert.OutFwdIdeal.τ).loc Cert.OutFwdIdeal.main_v0_0)) (v1 : (c : Dev Cert.OutFwdIdeal.nD) → Buf (Elt Ideal) ((c.tc : Thread Cert.OutFwdIdeal.nD Cert.OutFwdIdeal.τ).loc Cert.OutFwdIdeal.main_v0_1)),
      θ_run (Cert.OutFwdIdeal.defs (F := Ideal)) (onTc (τ := Cert.OutFwdIdeal.τ) (Cert.OutFwdIdeal.main (F := Ideal))) ⟨m, fun _ => 0, g⟩ (fun r => ∀ c : Dev Cert.OutFwdIdeal.nD,
          r.2.mem ((c.tc : Thread Cert.OutFwdIdeal.nD Cert.OutFwdIdeal.τ).loc Cert.OutFwdIdeal.main_v0_0) = v0 c
          ∧ r.2.mem ((c.tc : Thread Cert.OutFwdIdeal.nD Cert.OutFwdIdeal.τ).loc Cert.OutFwdIdeal.main_v0_1) = v1 c
          ∧ r.2.mem ((c.tc : Thread Cert.OutFwdIdeal.nD Cert.OutFwdIdeal.τ).loc Cert.OutFwdIdeal.main_arg0) = m ((c.tc : Thread Cert.OutFwdIdeal.nD Cert.OutFwdIdeal.τ).loc Cert.OutFwdIdeal.main_arg0)
          ∧ r.2.mem ((c.tc : Thread Cert.OutFwdIdeal.nD Cert.OutFwdIdeal.τ).loc Cert.OutFwdIdeal.main_arg1) = m ((c.tc : Thread Cert.OutFwdIdeal.nD Cert.OutFwdIdeal.τ).loc Cert.OutFwdIdeal.main_arg1)
          ∧ r.2.mem ((c.tc : Thread Cert.OutFwdIdeal.nD Cert.OutFwdIdeal.τ).loc Cert.OutFwdIdeal.main_arg2) = m ((c.tc : Thread Cert.OutFwdIdeal.nD Cert.OutFwdIdeal.τ).loc Cert.OutFwdIdeal.main_arg2)
          ∧ r.2.mem ((c.tc : Thread Cert.OutFwdIdeal.nD Cert.OutFwdIdeal.τ).loc Cert.OutFwdIdeal.main_arg3) = m ((c.tc : Thread Cert.OutFwdIdeal.nD Cert.OutFwdIdeal.τ).loc Cert.OutFwdIdeal.main_arg3)
          ∧ r.2.mem ((c.tc : Thread Cert.OutFwdIdeal.nD Cert.OutFwdIdeal.τ).loc Cert.OutFwdIdeal.main_arg4) = m ((c.tc : Thread Cert.OutFwdIdeal.nD Cert.OutFwdIdeal.τ).loc Cert.OutFwdIdeal.main_arg4)
          ∧ r.2.mem ((c.tc : Thread Cert.OutFwdIdeal.nD Cert.OutFwdIdeal.τ).loc Cert.OutFwdIdeal.main_arg5) = m ((c.tc : Thread Cert.OutFwdIdeal.nD Cert.OutFwdIdeal.τ).loc Cert.OutFwdIdeal.main_arg5))
      ∧ θ_run (Cert.OutFwdRefIdeal.defs (F := Ideal)) (onTc (τ := Cert.OutFwdRefIdeal.τ) (Cert.OutFwdRefIdeal.main (F := Ideal))) ⟨m', fun _ => 0, g'⟩ (fun r => ∀ c : Dev Cert.OutFwdRefIdeal.nD,
          r.2.mem ((c.tc : Thread Cert.OutFwdRefIdeal.nD Cert.OutFwdRefIdeal.τ).loc Cert.OutFwdRefIdeal.main_v3) = v0 c
          ∧ r.2.mem ((c.tc : Thread Cert.OutFwdRefIdeal.nD Cert.OutFwdRefIdeal.τ).loc Cert.OutFwdRefIdeal.main_v30) = v1 c
          ∧ r.2.mem ((c.tc : Thread Cert.OutFwdRefIdeal.nD Cert.OutFwdRefIdeal.τ).loc Cert.OutFwdRefIdeal.main_arg0) = m' ((c.tc : Thread Cert.OutFwdRefIdeal.nD Cert.OutFwdRefIdeal.τ).loc Cert.OutFwdRefIdeal.main_arg0)
          ∧ r.2.mem ((c.tc : Thread Cert.OutFwdRefIdeal.nD Cert.OutFwdRefIdeal.τ).loc Cert.OutFwdRefIdeal.main_arg1) = m' ((c.tc : Thread Cert.OutFwdRefIdeal.nD Cert.OutFwdRefIdeal.τ).loc Cert.OutFwdRefIdeal.main_arg1)
          ∧ r.2.mem ((c.tc : Thread Cert.OutFwdRefIdeal.nD Cert.OutFwdRefIdeal.τ).loc Cert.OutFwdRefIdeal.main_arg2) = m' ((c.tc : Thread Cert.OutFwdRefIdeal.nD Cert.OutFwdRefIdeal.τ).loc Cert.OutFwdRefIdeal.main_arg2)
          ∧ r.2.mem ((c.tc : Thread Cert.OutFwdRefIdeal.nD Cert.OutFwdRefIdeal.τ).loc Cert.OutFwdRefIdeal.main_arg3) = m' ((c.tc : Thread Cert.OutFwdRefIdeal.nD Cert.OutFwdRefIdeal.τ).loc Cert.OutFwdRefIdeal.main_arg3)
          ∧ r.2.mem ((c.tc : Thread Cert.OutFwdRefIdeal.nD Cert.OutFwdRefIdeal.τ).loc Cert.OutFwdRefIdeal.main_arg4) = m' ((c.tc : Thread Cert.OutFwdRefIdeal.nD Cert.OutFwdRefIdeal.τ).loc Cert.OutFwdRefIdeal.main_arg4)
          ∧ r.2.mem ((c.tc : Thread Cert.OutFwdRefIdeal.nD Cert.OutFwdRefIdeal.τ).loc Cert.OutFwdRefIdeal.main_arg5) = m' ((c.tc : Thread Cert.OutFwdRefIdeal.nD Cert.OutFwdRefIdeal.τ).loc Cert.OutFwdRefIdeal.main_arg5))

def preserves_DownFwd_DownFwdIdeal : Prop :=
  True

def algebraic_DownFwdIdeal_DownFwdRefIdeal [hDownFwdIdeal : Cert.DownFwdIdeal.Facts] [hDownFwdRefIdeal : Cert.DownFwdRefIdeal.Facts] : Prop :=
  ∀ (m : (ℓ : Loc Cert.DownFwdIdeal.nD Cert.DownFwdIdeal.τ Cert.DownFwdIdeal.sig) → Buf (Elt Ideal) ℓ) (g : Dev Cert.DownFwdIdeal.nD → PrngReg)
    (m' : (ℓ : Loc Cert.DownFwdRefIdeal.nD Cert.DownFwdRefIdeal.τ Cert.DownFwdRefIdeal.sig) → Buf (Elt Ideal) ℓ) (g' : Dev Cert.DownFwdRefIdeal.nD → PrngReg), Pre_DownFwdIdeal m →
    (∀ c : Dev Cert.DownFwdIdeal.nD,
      m' ((c.tc : Thread Cert.DownFwdRefIdeal.nD Cert.DownFwdRefIdeal.τ).loc Cert.DownFwdRefIdeal.main_arg0) = m ((c.tc : Thread Cert.DownFwdIdeal.nD Cert.DownFwdIdeal.τ).loc Cert.DownFwdIdeal.main_arg0)
      ∧ m' ((c.tc : Thread Cert.DownFwdRefIdeal.nD Cert.DownFwdRefIdeal.τ).loc Cert.DownFwdRefIdeal.main_arg1) = m ((c.tc : Thread Cert.DownFwdIdeal.nD Cert.DownFwdIdeal.τ).loc Cert.DownFwdIdeal.main_arg1)
      ∧ m' ((c.tc : Thread Cert.DownFwdRefIdeal.nD Cert.DownFwdRefIdeal.τ).loc Cert.DownFwdRefIdeal.main_arg2) = m ((c.tc : Thread Cert.DownFwdIdeal.nD Cert.DownFwdIdeal.τ).loc Cert.DownFwdIdeal.main_arg2)
      ∧ m' ((c.tc : Thread Cert.DownFwdRefIdeal.nD Cert.DownFwdRefIdeal.τ).loc Cert.DownFwdRefIdeal.main_arg3) = m ((c.tc : Thread Cert.DownFwdIdeal.nD Cert.DownFwdIdeal.τ).loc Cert.DownFwdIdeal.main_arg3)
      ∧ m' ((c.tc : Thread Cert.DownFwdRefIdeal.nD Cert.DownFwdRefIdeal.τ).loc Cert.DownFwdRefIdeal.main_arg4) = m ((c.tc : Thread Cert.DownFwdIdeal.nD Cert.DownFwdIdeal.τ).loc Cert.DownFwdIdeal.main_arg4)
      ∧ m' ((c.tc : Thread Cert.DownFwdRefIdeal.nD Cert.DownFwdRefIdeal.τ).loc Cert.DownFwdRefIdeal.main_arg5) = m ((c.tc : Thread Cert.DownFwdIdeal.nD Cert.DownFwdIdeal.τ).loc Cert.DownFwdIdeal.main_arg5)) →
    ∃ (v0 : (c : Dev Cert.DownFwdIdeal.nD) → Buf (Elt Ideal) ((c.tc : Thread Cert.DownFwdIdeal.nD Cert.DownFwdIdeal.τ).loc Cert.DownFwdIdeal.main_v0_0)) (v1 : (c : Dev Cert.DownFwdIdeal.nD) → Buf (Elt Ideal) ((c.tc : Thread Cert.DownFwdIdeal.nD Cert.DownFwdIdeal.τ).loc Cert.DownFwdIdeal.main_v0_1)),
      θ_run (Cert.DownFwdIdeal.defs (F := Ideal)) (onTc (τ := Cert.DownFwdIdeal.τ) (Cert.DownFwdIdeal.main (F := Ideal))) ⟨m, fun _ => 0, g⟩ (fun r => ∀ c : Dev Cert.DownFwdIdeal.nD,
          r.2.mem ((c.tc : Thread Cert.DownFwdIdeal.nD Cert.DownFwdIdeal.τ).loc Cert.DownFwdIdeal.main_v0_0) = v0 c
          ∧ r.2.mem ((c.tc : Thread Cert.DownFwdIdeal.nD Cert.DownFwdIdeal.τ).loc Cert.DownFwdIdeal.main_v0_1) = v1 c
          ∧ r.2.mem ((c.tc : Thread Cert.DownFwdIdeal.nD Cert.DownFwdIdeal.τ).loc Cert.DownFwdIdeal.main_arg0) = m ((c.tc : Thread Cert.DownFwdIdeal.nD Cert.DownFwdIdeal.τ).loc Cert.DownFwdIdeal.main_arg0)
          ∧ r.2.mem ((c.tc : Thread Cert.DownFwdIdeal.nD Cert.DownFwdIdeal.τ).loc Cert.DownFwdIdeal.main_arg1) = m ((c.tc : Thread Cert.DownFwdIdeal.nD Cert.DownFwdIdeal.τ).loc Cert.DownFwdIdeal.main_arg1)
          ∧ r.2.mem ((c.tc : Thread Cert.DownFwdIdeal.nD Cert.DownFwdIdeal.τ).loc Cert.DownFwdIdeal.main_arg2) = m ((c.tc : Thread Cert.DownFwdIdeal.nD Cert.DownFwdIdeal.τ).loc Cert.DownFwdIdeal.main_arg2)
          ∧ r.2.mem ((c.tc : Thread Cert.DownFwdIdeal.nD Cert.DownFwdIdeal.τ).loc Cert.DownFwdIdeal.main_arg3) = m ((c.tc : Thread Cert.DownFwdIdeal.nD Cert.DownFwdIdeal.τ).loc Cert.DownFwdIdeal.main_arg3)
          ∧ r.2.mem ((c.tc : Thread Cert.DownFwdIdeal.nD Cert.DownFwdIdeal.τ).loc Cert.DownFwdIdeal.main_arg4) = m ((c.tc : Thread Cert.DownFwdIdeal.nD Cert.DownFwdIdeal.τ).loc Cert.DownFwdIdeal.main_arg4)
          ∧ r.2.mem ((c.tc : Thread Cert.DownFwdIdeal.nD Cert.DownFwdIdeal.τ).loc Cert.DownFwdIdeal.main_arg5) = m ((c.tc : Thread Cert.DownFwdIdeal.nD Cert.DownFwdIdeal.τ).loc Cert.DownFwdIdeal.main_arg5))
      ∧ θ_run (Cert.DownFwdRefIdeal.defs (F := Ideal)) (onTc (τ := Cert.DownFwdRefIdeal.τ) (Cert.DownFwdRefIdeal.main (F := Ideal))) ⟨m', fun _ => 0, g'⟩ (fun r => ∀ c : Dev Cert.DownFwdRefIdeal.nD,
          r.2.mem ((c.tc : Thread Cert.DownFwdRefIdeal.nD Cert.DownFwdRefIdeal.τ).loc Cert.DownFwdRefIdeal.main_v3) = v0 c
          ∧ r.2.mem ((c.tc : Thread Cert.DownFwdRefIdeal.nD Cert.DownFwdRefIdeal.τ).loc Cert.DownFwdRefIdeal.main_v30) = v1 c
          ∧ r.2.mem ((c.tc : Thread Cert.DownFwdRefIdeal.nD Cert.DownFwdRefIdeal.τ).loc Cert.DownFwdRefIdeal.main_arg0) = m' ((c.tc : Thread Cert.DownFwdRefIdeal.nD Cert.DownFwdRefIdeal.τ).loc Cert.DownFwdRefIdeal.main_arg0)
          ∧ r.2.mem ((c.tc : Thread Cert.DownFwdRefIdeal.nD Cert.DownFwdRefIdeal.τ).loc Cert.DownFwdRefIdeal.main_arg1) = m' ((c.tc : Thread Cert.DownFwdRefIdeal.nD Cert.DownFwdRefIdeal.τ).loc Cert.DownFwdRefIdeal.main_arg1)
          ∧ r.2.mem ((c.tc : Thread Cert.DownFwdRefIdeal.nD Cert.DownFwdRefIdeal.τ).loc Cert.DownFwdRefIdeal.main_arg2) = m' ((c.tc : Thread Cert.DownFwdRefIdeal.nD Cert.DownFwdRefIdeal.τ).loc Cert.DownFwdRefIdeal.main_arg2)
          ∧ r.2.mem ((c.tc : Thread Cert.DownFwdRefIdeal.nD Cert.DownFwdRefIdeal.τ).loc Cert.DownFwdRefIdeal.main_arg3) = m' ((c.tc : Thread Cert.DownFwdRefIdeal.nD Cert.DownFwdRefIdeal.τ).loc Cert.DownFwdRefIdeal.main_arg3)
          ∧ r.2.mem ((c.tc : Thread Cert.DownFwdRefIdeal.nD Cert.DownFwdRefIdeal.τ).loc Cert.DownFwdRefIdeal.main_arg4) = m' ((c.tc : Thread Cert.DownFwdRefIdeal.nD Cert.DownFwdRefIdeal.τ).loc Cert.DownFwdRefIdeal.main_arg4)
          ∧ r.2.mem ((c.tc : Thread Cert.DownFwdRefIdeal.nD Cert.DownFwdRefIdeal.τ).loc Cert.DownFwdRefIdeal.main_arg5) = m' ((c.tc : Thread Cert.DownFwdRefIdeal.nD Cert.DownFwdRefIdeal.τ).loc Cert.DownFwdRefIdeal.main_arg5))

def preserves_Post_PostIdeal : Prop :=
  True

def algebraic_PostIdeal_PostRefIdeal [hPostIdeal : Cert.PostIdeal.Facts] [hPostRefIdeal : Cert.PostRefIdeal.Facts] : Prop :=
  ∀ (m : (ℓ : Loc Cert.PostIdeal.nD Cert.PostIdeal.τ Cert.PostIdeal.sig) → Buf (Elt Ideal) ℓ) (g : Dev Cert.PostIdeal.nD → PrngReg)
    (m' : (ℓ : Loc Cert.PostRefIdeal.nD Cert.PostRefIdeal.τ Cert.PostRefIdeal.sig) → Buf (Elt Ideal) ℓ) (g' : Dev Cert.PostRefIdeal.nD → PrngReg), Pre_PostIdeal m →
    (∀ c : Dev Cert.PostIdeal.nD,
      m' ((c.tc : Thread Cert.PostRefIdeal.nD Cert.PostRefIdeal.τ).loc Cert.PostRefIdeal.main_arg0) = m ((c.tc : Thread Cert.PostIdeal.nD Cert.PostIdeal.τ).loc Cert.PostIdeal.main_arg0)
      ∧ m' ((c.tc : Thread Cert.PostRefIdeal.nD Cert.PostRefIdeal.τ).loc Cert.PostRefIdeal.main_arg1) = m ((c.tc : Thread Cert.PostIdeal.nD Cert.PostIdeal.τ).loc Cert.PostIdeal.main_arg1)
      ∧ m' ((c.tc : Thread Cert.PostRefIdeal.nD Cert.PostRefIdeal.τ).loc Cert.PostRefIdeal.main_arg2) = m ((c.tc : Thread Cert.PostIdeal.nD Cert.PostIdeal.τ).loc Cert.PostIdeal.main_arg2)
      ∧ m' ((c.tc : Thread Cert.PostRefIdeal.nD Cert.PostRefIdeal.τ).loc Cert.PostRefIdeal.main_arg3) = m ((c.tc : Thread Cert.PostIdeal.nD Cert.PostIdeal.τ).loc Cert.PostIdeal.main_arg3)
      ∧ m' ((c.tc : Thread Cert.PostRefIdeal.nD Cert.PostRefIdeal.τ).loc Cert.PostRefIdeal.main_arg4) = m ((c.tc : Thread Cert.PostIdeal.nD Cert.PostIdeal.τ).loc Cert.PostIdeal.main_arg4)
      ∧ m' ((c.tc : Thread Cert.PostRefIdeal.nD Cert.PostRefIdeal.τ).loc Cert.PostRefIdeal.main_arg5) = m ((c.tc : Thread Cert.PostIdeal.nD Cert.PostIdeal.τ).loc Cert.PostIdeal.main_arg5)) →
    ∃ (v0 : (c : Dev Cert.PostIdeal.nD) → Buf (Elt Ideal) ((c.tc : Thread Cert.PostIdeal.nD Cert.PostIdeal.τ).loc Cert.PostIdeal.main_v0_0)) (v1 : (c : Dev Cert.PostIdeal.nD) → Buf (Elt Ideal) ((c.tc : Thread Cert.PostIdeal.nD Cert.PostIdeal.τ).loc Cert.PostIdeal.main_v0_1)) (v2 : (c : Dev Cert.PostIdeal.nD) → Buf (Elt Ideal) ((c.tc : Thread Cert.PostIdeal.nD Cert.PostIdeal.τ).loc Cert.PostIdeal.main_v0_2)) (v3 : (c : Dev Cert.PostIdeal.nD) → Buf (Elt Ideal) ((c.tc : Thread Cert.PostIdeal.nD Cert.PostIdeal.τ).loc Cert.PostIdeal.main_v0_3)) (v4 : (c : Dev Cert.PostIdeal.nD) → Buf (Elt Ideal) ((c.tc : Thread Cert.PostIdeal.nD Cert.PostIdeal.τ).loc Cert.PostIdeal.main_v0_4)),
      θ_run (Cert.PostIdeal.defs (F := Ideal)) (onTc (τ := Cert.PostIdeal.τ) (Cert.PostIdeal.main (F := Ideal))) ⟨m, fun _ => 0, g⟩ (fun r => ∀ c : Dev Cert.PostIdeal.nD,
          r.2.mem ((c.tc : Thread Cert.PostIdeal.nD Cert.PostIdeal.τ).loc Cert.PostIdeal.main_v0_0) = v0 c
          ∧ r.2.mem ((c.tc : Thread Cert.PostIdeal.nD Cert.PostIdeal.τ).loc Cert.PostIdeal.main_v0_1) = v1 c
          ∧ r.2.mem ((c.tc : Thread Cert.PostIdeal.nD Cert.PostIdeal.τ).loc Cert.PostIdeal.main_v0_2) = v2 c
          ∧ r.2.mem ((c.tc : Thread Cert.PostIdeal.nD Cert.PostIdeal.τ).loc Cert.PostIdeal.main_v0_3) = v3 c
          ∧ r.2.mem ((c.tc : Thread Cert.PostIdeal.nD Cert.PostIdeal.τ).loc Cert.PostIdeal.main_v0_4) = v4 c
          ∧ r.2.mem ((c.tc : Thread Cert.PostIdeal.nD Cert.PostIdeal.τ).loc Cert.PostIdeal.main_arg0) = m ((c.tc : Thread Cert.PostIdeal.nD Cert.PostIdeal.τ).loc Cert.PostIdeal.main_arg0)
          ∧ r.2.mem ((c.tc : Thread Cert.PostIdeal.nD Cert.PostIdeal.τ).loc Cert.PostIdeal.main_arg1) = m ((c.tc : Thread Cert.PostIdeal.nD Cert.PostIdeal.τ).loc Cert.PostIdeal.main_arg1)
          ∧ r.2.mem ((c.tc : Thread Cert.PostIdeal.nD Cert.PostIdeal.τ).loc Cert.PostIdeal.main_arg2) = m ((c.tc : Thread Cert.PostIdeal.nD Cert.PostIdeal.τ).loc Cert.PostIdeal.main_arg2)
          ∧ r.2.mem ((c.tc : Thread Cert.PostIdeal.nD Cert.PostIdeal.τ).loc Cert.PostIdeal.main_arg3) = m ((c.tc : Thread Cert.PostIdeal.nD Cert.PostIdeal.τ).loc Cert.PostIdeal.main_arg3)
          ∧ r.2.mem ((c.tc : Thread Cert.PostIdeal.nD Cert.PostIdeal.τ).loc Cert.PostIdeal.main_arg4) = m ((c.tc : Thread Cert.PostIdeal.nD Cert.PostIdeal.τ).loc Cert.PostIdeal.main_arg4)
          ∧ r.2.mem ((c.tc : Thread Cert.PostIdeal.nD Cert.PostIdeal.τ).loc Cert.PostIdeal.main_arg5) = m ((c.tc : Thread Cert.PostIdeal.nD Cert.PostIdeal.τ).loc Cert.PostIdeal.main_arg5))
      ∧ θ_run (Cert.PostRefIdeal.defs (F := Ideal)) (onTc (τ := Cert.PostRefIdeal.τ) (Cert.PostRefIdeal.main (F := Ideal))) ⟨m', fun _ => 0, g'⟩ (fun r => ∀ c : Dev Cert.PostRefIdeal.nD,
          r.2.mem ((c.tc : Thread Cert.PostRefIdeal.nD Cert.PostRefIdeal.τ).loc Cert.PostRefIdeal.main_v67) = v0 c
          ∧ r.2.mem ((c.tc : Thread Cert.PostRefIdeal.nD Cert.PostRefIdeal.τ).loc Cert.PostRefIdeal.main_v68) = v1 c
          ∧ r.2.mem ((c.tc : Thread Cert.PostRefIdeal.nD Cert.PostRefIdeal.τ).loc Cert.PostRefIdeal.main_v65) = v2 c
          ∧ r.2.mem ((c.tc : Thread Cert.PostRefIdeal.nD Cert.PostRefIdeal.τ).loc Cert.PostRefIdeal.main_v38) = v3 c
          ∧ r.2.mem ((c.tc : Thread Cert.PostRefIdeal.nD Cert.PostRefIdeal.τ).loc Cert.PostRefIdeal.main_v35) = v4 c
          ∧ r.2.mem ((c.tc : Thread Cert.PostRefIdeal.nD Cert.PostRefIdeal.τ).loc Cert.PostRefIdeal.main_arg0) = m' ((c.tc : Thread Cert.PostRefIdeal.nD Cert.PostRefIdeal.τ).loc Cert.PostRefIdeal.main_arg0)
          ∧ r.2.mem ((c.tc : Thread Cert.PostRefIdeal.nD Cert.PostRefIdeal.τ).loc Cert.PostRefIdeal.main_arg1) = m' ((c.tc : Thread Cert.PostRefIdeal.nD Cert.PostRefIdeal.τ).loc Cert.PostRefIdeal.main_arg1)
          ∧ r.2.mem ((c.tc : Thread Cert.PostRefIdeal.nD Cert.PostRefIdeal.τ).loc Cert.PostRefIdeal.main_arg2) = m' ((c.tc : Thread Cert.PostRefIdeal.nD Cert.PostRefIdeal.τ).loc Cert.PostRefIdeal.main_arg2)
          ∧ r.2.mem ((c.tc : Thread Cert.PostRefIdeal.nD Cert.PostRefIdeal.τ).loc Cert.PostRefIdeal.main_arg3) = m' ((c.tc : Thread Cert.PostRefIdeal.nD Cert.PostRefIdeal.τ).loc Cert.PostRefIdeal.main_arg3)
          ∧ r.2.mem ((c.tc : Thread Cert.PostRefIdeal.nD Cert.PostRefIdeal.τ).loc Cert.PostRefIdeal.main_arg4) = m' ((c.tc : Thread Cert.PostRefIdeal.nD Cert.PostRefIdeal.τ).loc Cert.PostRefIdeal.main_arg4)
          ∧ r.2.mem ((c.tc : Thread Cert.PostRefIdeal.nD Cert.PostRefIdeal.τ).loc Cert.PostRefIdeal.main_arg5) = m' ((c.tc : Thread Cert.PostRefIdeal.nD Cert.PostRefIdeal.τ).loc Cert.PostRefIdeal.main_arg5))

def preserves_PostB_PostBIdeal : Prop :=
  True

def algebraic_PostBIdeal_PostBRefIdeal [hPostBIdeal : Cert.PostBIdeal.Facts] [hPostBRefIdeal : Cert.PostBRefIdeal.Facts] : Prop :=
  ∀ (m : (ℓ : Loc Cert.PostBIdeal.nD Cert.PostBIdeal.τ Cert.PostBIdeal.sig) → Buf (Elt Ideal) ℓ) (g : Dev Cert.PostBIdeal.nD → PrngReg)
    (m' : (ℓ : Loc Cert.PostBRefIdeal.nD Cert.PostBRefIdeal.τ Cert.PostBRefIdeal.sig) → Buf (Elt Ideal) ℓ) (g' : Dev Cert.PostBRefIdeal.nD → PrngReg), Pre_PostBIdeal m →
    (∀ c : Dev Cert.PostBIdeal.nD,
      m' ((c.tc : Thread Cert.PostBRefIdeal.nD Cert.PostBRefIdeal.τ).loc Cert.PostBRefIdeal.main_arg0) = m ((c.tc : Thread Cert.PostBIdeal.nD Cert.PostBIdeal.τ).loc Cert.PostBIdeal.main_arg0)
      ∧ m' ((c.tc : Thread Cert.PostBRefIdeal.nD Cert.PostBRefIdeal.τ).loc Cert.PostBRefIdeal.main_arg1) = m ((c.tc : Thread Cert.PostBIdeal.nD Cert.PostBIdeal.τ).loc Cert.PostBIdeal.main_arg1)
      ∧ m' ((c.tc : Thread Cert.PostBRefIdeal.nD Cert.PostBRefIdeal.τ).loc Cert.PostBRefIdeal.main_arg2) = m ((c.tc : Thread Cert.PostBIdeal.nD Cert.PostBIdeal.τ).loc Cert.PostBIdeal.main_arg2)
      ∧ m' ((c.tc : Thread Cert.PostBRefIdeal.nD Cert.PostBRefIdeal.τ).loc Cert.PostBRefIdeal.main_arg3) = m ((c.tc : Thread Cert.PostBIdeal.nD Cert.PostBIdeal.τ).loc Cert.PostBIdeal.main_arg3)
      ∧ m' ((c.tc : Thread Cert.PostBRefIdeal.nD Cert.PostBRefIdeal.τ).loc Cert.PostBRefIdeal.main_arg4) = m ((c.tc : Thread Cert.PostBIdeal.nD Cert.PostBIdeal.τ).loc Cert.PostBIdeal.main_arg4)
      ∧ m' ((c.tc : Thread Cert.PostBRefIdeal.nD Cert.PostBRefIdeal.τ).loc Cert.PostBRefIdeal.main_arg5) = m ((c.tc : Thread Cert.PostBIdeal.nD Cert.PostBIdeal.τ).loc Cert.PostBIdeal.main_arg5)) →
    ∃ (v0 : (c : Dev Cert.PostBIdeal.nD) → Buf (Elt Ideal) ((c.tc : Thread Cert.PostBIdeal.nD Cert.PostBIdeal.τ).loc Cert.PostBIdeal.main_v0_0)) (v1 : (c : Dev Cert.PostBIdeal.nD) → Buf (Elt Ideal) ((c.tc : Thread Cert.PostBIdeal.nD Cert.PostBIdeal.τ).loc Cert.PostBIdeal.main_v0_1)) (v2 : (c : Dev Cert.PostBIdeal.nD) → Buf (Elt Ideal) ((c.tc : Thread Cert.PostBIdeal.nD Cert.PostBIdeal.τ).loc Cert.PostBIdeal.main_v0_2)) (v3 : (c : Dev Cert.PostBIdeal.nD) → Buf (Elt Ideal) ((c.tc : Thread Cert.PostBIdeal.nD Cert.PostBIdeal.τ).loc Cert.PostBIdeal.main_v0_3)) (v4 : (c : Dev Cert.PostBIdeal.nD) → Buf (Elt Ideal) ((c.tc : Thread Cert.PostBIdeal.nD Cert.PostBIdeal.τ).loc Cert.PostBIdeal.main_v0_4)),
      θ_run (Cert.PostBIdeal.defs (F := Ideal)) (onTc (τ := Cert.PostBIdeal.τ) (Cert.PostBIdeal.main (F := Ideal))) ⟨m, fun _ => 0, g⟩ (fun r => ∀ c : Dev Cert.PostBIdeal.nD,
          r.2.mem ((c.tc : Thread Cert.PostBIdeal.nD Cert.PostBIdeal.τ).loc Cert.PostBIdeal.main_v0_0) = v0 c
          ∧ r.2.mem ((c.tc : Thread Cert.PostBIdeal.nD Cert.PostBIdeal.τ).loc Cert.PostBIdeal.main_v0_1) = v1 c
          ∧ r.2.mem ((c.tc : Thread Cert.PostBIdeal.nD Cert.PostBIdeal.τ).loc Cert.PostBIdeal.main_v0_2) = v2 c
          ∧ r.2.mem ((c.tc : Thread Cert.PostBIdeal.nD Cert.PostBIdeal.τ).loc Cert.PostBIdeal.main_v0_3) = v3 c
          ∧ r.2.mem ((c.tc : Thread Cert.PostBIdeal.nD Cert.PostBIdeal.τ).loc Cert.PostBIdeal.main_v0_4) = v4 c
          ∧ r.2.mem ((c.tc : Thread Cert.PostBIdeal.nD Cert.PostBIdeal.τ).loc Cert.PostBIdeal.main_arg0) = m ((c.tc : Thread Cert.PostBIdeal.nD Cert.PostBIdeal.τ).loc Cert.PostBIdeal.main_arg0)
          ∧ r.2.mem ((c.tc : Thread Cert.PostBIdeal.nD Cert.PostBIdeal.τ).loc Cert.PostBIdeal.main_arg1) = m ((c.tc : Thread Cert.PostBIdeal.nD Cert.PostBIdeal.τ).loc Cert.PostBIdeal.main_arg1)
          ∧ r.2.mem ((c.tc : Thread Cert.PostBIdeal.nD Cert.PostBIdeal.τ).loc Cert.PostBIdeal.main_arg2) = m ((c.tc : Thread Cert.PostBIdeal.nD Cert.PostBIdeal.τ).loc Cert.PostBIdeal.main_arg2)
          ∧ r.2.mem ((c.tc : Thread Cert.PostBIdeal.nD Cert.PostBIdeal.τ).loc Cert.PostBIdeal.main_arg3) = m ((c.tc : Thread Cert.PostBIdeal.nD Cert.PostBIdeal.τ).loc Cert.PostBIdeal.main_arg3)
          ∧ r.2.mem ((c.tc : Thread Cert.PostBIdeal.nD Cert.PostBIdeal.τ).loc Cert.PostBIdeal.main_arg4) = m ((c.tc : Thread Cert.PostBIdeal.nD Cert.PostBIdeal.τ).loc Cert.PostBIdeal.main_arg4)
          ∧ r.2.mem ((c.tc : Thread Cert.PostBIdeal.nD Cert.PostBIdeal.τ).loc Cert.PostBIdeal.main_arg5) = m ((c.tc : Thread Cert.PostBIdeal.nD Cert.PostBIdeal.τ).loc Cert.PostBIdeal.main_arg5))
      ∧ θ_run (Cert.PostBRefIdeal.defs (F := Ideal)) (onTc (τ := Cert.PostBRefIdeal.τ) (Cert.PostBRefIdeal.main (F := Ideal))) ⟨m', fun _ => 0, g'⟩ (fun r => ∀ c : Dev Cert.PostBRefIdeal.nD,
          r.2.mem ((c.tc : Thread Cert.PostBRefIdeal.nD Cert.PostBRefIdeal.τ).loc Cert.PostBRefIdeal.main_v67) = v0 c
          ∧ r.2.mem ((c.tc : Thread Cert.PostBRefIdeal.nD Cert.PostBRefIdeal.τ).loc Cert.PostBRefIdeal.main_v68) = v1 c
          ∧ r.2.mem ((c.tc : Thread Cert.PostBRefIdeal.nD Cert.PostBRefIdeal.τ).loc Cert.PostBRefIdeal.main_v65) = v2 c
          ∧ r.2.mem ((c.tc : Thread Cert.PostBRefIdeal.nD Cert.PostBRefIdeal.τ).loc Cert.PostBRefIdeal.main_v38) = v3 c
          ∧ r.2.mem ((c.tc : Thread Cert.PostBRefIdeal.nD Cert.PostBRefIdeal.τ).loc Cert.PostBRefIdeal.main_v35) = v4 c
          ∧ r.2.mem ((c.tc : Thread Cert.PostBRefIdeal.nD Cert.PostBRefIdeal.τ).loc Cert.PostBRefIdeal.main_arg0) = m' ((c.tc : Thread Cert.PostBRefIdeal.nD Cert.PostBRefIdeal.τ).loc Cert.PostBRefIdeal.main_arg0)
          ∧ r.2.mem ((c.tc : Thread Cert.PostBRefIdeal.nD Cert.PostBRefIdeal.τ).loc Cert.PostBRefIdeal.main_arg1) = m' ((c.tc : Thread Cert.PostBRefIdeal.nD Cert.PostBRefIdeal.τ).loc Cert.PostBRefIdeal.main_arg1)
          ∧ r.2.mem ((c.tc : Thread Cert.PostBRefIdeal.nD Cert.PostBRefIdeal.τ).loc Cert.PostBRefIdeal.main_arg2) = m' ((c.tc : Thread Cert.PostBRefIdeal.nD Cert.PostBRefIdeal.τ).loc Cert.PostBRefIdeal.main_arg2)
          ∧ r.2.mem ((c.tc : Thread Cert.PostBRefIdeal.nD Cert.PostBRefIdeal.τ).loc Cert.PostBRefIdeal.main_arg3) = m' ((c.tc : Thread Cert.PostBRefIdeal.nD Cert.PostBRefIdeal.τ).loc Cert.PostBRefIdeal.main_arg3)
          ∧ r.2.mem ((c.tc : Thread Cert.PostBRefIdeal.nD Cert.PostBRefIdeal.τ).loc Cert.PostBRefIdeal.main_arg4) = m' ((c.tc : Thread Cert.PostBRefIdeal.nD Cert.PostBRefIdeal.τ).loc Cert.PostBRefIdeal.main_arg4)
          ∧ r.2.mem ((c.tc : Thread Cert.PostBRefIdeal.nD Cert.PostBRefIdeal.τ).loc Cert.PostBRefIdeal.main_arg5) = m' ((c.tc : Thread Cert.PostBRefIdeal.nD Cert.PostBRefIdeal.τ).loc Cert.PostBRefIdeal.main_arg5))

def preserves_AdaMod_AdaModIdeal : Prop :=
  True

def algebraic_AdaModIdeal_AdaModRefIdeal [hAdaModIdeal : Cert.AdaModIdeal.Facts] [hAdaModRefIdeal : Cert.AdaModRefIdeal.Facts] : Prop :=
  ∀ (m : (ℓ : Loc Cert.AdaModIdeal.nD Cert.AdaModIdeal.τ Cert.AdaModIdeal.sig) → Buf (Elt Ideal) ℓ) (g : Dev Cert.AdaModIdeal.nD → PrngReg)
    (m' : (ℓ : Loc Cert.AdaModRefIdeal.nD Cert.AdaModRefIdeal.τ Cert.AdaModRefIdeal.sig) → Buf (Elt Ideal) ℓ) (g' : Dev Cert.AdaModRefIdeal.nD → PrngReg), Pre_AdaModIdeal m →
    (∀ c : Dev Cert.AdaModIdeal.nD,
      m' ((c.tc : Thread Cert.AdaModRefIdeal.nD Cert.AdaModRefIdeal.τ).loc Cert.AdaModRefIdeal.main_arg0) = m ((c.tc : Thread Cert.AdaModIdeal.nD Cert.AdaModIdeal.τ).loc Cert.AdaModIdeal.main_arg0)
      ∧ m' ((c.tc : Thread Cert.AdaModRefIdeal.nD Cert.AdaModRefIdeal.τ).loc Cert.AdaModRefIdeal.main_arg1) = m ((c.tc : Thread Cert.AdaModIdeal.nD Cert.AdaModIdeal.τ).loc Cert.AdaModIdeal.main_arg1)
      ∧ m' ((c.tc : Thread Cert.AdaModRefIdeal.nD Cert.AdaModRefIdeal.τ).loc Cert.AdaModRefIdeal.main_arg2) = m ((c.tc : Thread Cert.AdaModIdeal.nD Cert.AdaModIdeal.τ).loc Cert.AdaModIdeal.main_arg2)) →
    ∃ (v0 : (c : Dev Cert.AdaModIdeal.nD) → Buf (Elt Ideal) ((c.tc : Thread Cert.AdaModIdeal.nD Cert.AdaModIdeal.τ).loc Cert.AdaModIdeal.main_v1)),
      θ_run (Cert.AdaModIdeal.defs (F := Ideal)) (onTc (τ := Cert.AdaModIdeal.τ) (Cert.AdaModIdeal.main (F := Ideal))) ⟨m, fun _ => 0, g⟩ (fun r => ∀ c : Dev Cert.AdaModIdeal.nD,
          r.2.mem ((c.tc : Thread Cert.AdaModIdeal.nD Cert.AdaModIdeal.τ).loc Cert.AdaModIdeal.main_v1) = v0 c
          ∧ r.2.mem ((c.tc : Thread Cert.AdaModIdeal.nD Cert.AdaModIdeal.τ).loc Cert.AdaModIdeal.main_arg0) = m ((c.tc : Thread Cert.AdaModIdeal.nD Cert.AdaModIdeal.τ).loc Cert.AdaModIdeal.main_arg0)
          ∧ r.2.mem ((c.tc : Thread Cert.AdaModIdeal.nD Cert.AdaModIdeal.τ).loc Cert.AdaModIdeal.main_arg1) = m ((c.tc : Thread Cert.AdaModIdeal.nD Cert.AdaModIdeal.τ).loc Cert.AdaModIdeal.main_arg1)
          ∧ r.2.mem ((c.tc : Thread Cert.AdaModIdeal.nD Cert.AdaModIdeal.τ).loc Cert.AdaModIdeal.main_arg2) = m ((c.tc : Thread Cert.AdaModIdeal.nD Cert.AdaModIdeal.τ).loc Cert.AdaModIdeal.main_arg2))
      ∧ θ_run (Cert.AdaModRefIdeal.defs (F := Ideal)) (onTc (τ := Cert.AdaModRefIdeal.τ) (Cert.AdaModRefIdeal.main (F := Ideal))) ⟨m', fun _ => 0, g'⟩ (fun r => ∀ c : Dev Cert.AdaModRefIdeal.nD,
          r.2.mem ((c.tc : Thread Cert.AdaModRefIdeal.nD Cert.AdaModRefIdeal.τ).loc Cert.AdaModRefIdeal.main_v5) = v0 c
          ∧ r.2.mem ((c.tc : Thread Cert.AdaModRefIdeal.nD Cert.AdaModRefIdeal.τ).loc Cert.AdaModRefIdeal.main_arg0) = m' ((c.tc : Thread Cert.AdaModRefIdeal.nD Cert.AdaModRefIdeal.τ).loc Cert.AdaModRefIdeal.main_arg0)
          ∧ r.2.mem ((c.tc : Thread Cert.AdaModRefIdeal.nD Cert.AdaModRefIdeal.τ).loc Cert.AdaModRefIdeal.main_arg1) = m' ((c.tc : Thread Cert.AdaModRefIdeal.nD Cert.AdaModRefIdeal.τ).loc Cert.AdaModRefIdeal.main_arg1)
          ∧ r.2.mem ((c.tc : Thread Cert.AdaModRefIdeal.nD Cert.AdaModRefIdeal.τ).loc Cert.AdaModRefIdeal.main_arg2) = m' ((c.tc : Thread Cert.AdaModRefIdeal.nD Cert.AdaModRefIdeal.τ).loc Cert.AdaModRefIdeal.main_arg2))

def preserves_AdaDw_AdaDwIdeal : Prop :=
  True

def algebraic_AdaDwIdeal_AdaDwRefIdeal [hAdaDwIdeal : Cert.AdaDwIdeal.Facts] [hAdaDwRefIdeal : Cert.AdaDwRefIdeal.Facts] : Prop :=
  ∀ (m : (ℓ : Loc Cert.AdaDwIdeal.nD Cert.AdaDwIdeal.τ Cert.AdaDwIdeal.sig) → Buf (Elt Ideal) ℓ) (g : Dev Cert.AdaDwIdeal.nD → PrngReg)
    (m' : (ℓ : Loc Cert.AdaDwRefIdeal.nD Cert.AdaDwRefIdeal.τ Cert.AdaDwRefIdeal.sig) → Buf (Elt Ideal) ℓ) (g' : Dev Cert.AdaDwRefIdeal.nD → PrngReg), Pre_AdaDwIdeal m →
    (∀ c : Dev Cert.AdaDwIdeal.nD,
      m' ((c.tc : Thread Cert.AdaDwRefIdeal.nD Cert.AdaDwRefIdeal.τ).loc Cert.AdaDwRefIdeal.main_arg0) = m ((c.tc : Thread Cert.AdaDwIdeal.nD Cert.AdaDwIdeal.τ).loc Cert.AdaDwIdeal.main_arg0)
      ∧ m' ((c.tc : Thread Cert.AdaDwRefIdeal.nD Cert.AdaDwRefIdeal.τ).loc Cert.AdaDwRefIdeal.main_arg1) = m ((c.tc : Thread Cert.AdaDwIdeal.nD Cert.AdaDwIdeal.τ).loc Cert.AdaDwIdeal.main_arg1)) →
    ∃ (v0 : (c : Dev Cert.AdaDwIdeal.nD) → Buf (Elt Ideal) ((c.tc : Thread Cert.AdaDwIdeal.nD Cert.AdaDwIdeal.τ).loc Cert.AdaDwIdeal.main_v0)),
      θ_run (Cert.AdaDwIdeal.defs (F := Ideal)) (onTc (τ := Cert.AdaDwIdeal.τ) (Cert.AdaDwIdeal.main (F := Ideal))) ⟨m, fun _ => 0, g⟩ (fun r => ∀ c : Dev Cert.AdaDwIdeal.nD,
          r.2.mem ((c.tc : Thread Cert.AdaDwIdeal.nD Cert.AdaDwIdeal.τ).loc Cert.AdaDwIdeal.main_v0) = v0 c
          ∧ r.2.mem ((c.tc : Thread Cert.AdaDwIdeal.nD Cert.AdaDwIdeal.τ).loc Cert.AdaDwIdeal.main_arg0) = m ((c.tc : Thread Cert.AdaDwIdeal.nD Cert.AdaDwIdeal.τ).loc Cert.AdaDwIdeal.main_arg0)
          ∧ r.2.mem ((c.tc : Thread Cert.AdaDwIdeal.nD Cert.AdaDwIdeal.τ).loc Cert.AdaDwIdeal.main_arg1) = m ((c.tc : Thread Cert.AdaDwIdeal.nD Cert.AdaDwIdeal.τ).loc Cert.AdaDwIdeal.main_arg1))
      ∧ θ_run (Cert.AdaDwRefIdeal.defs (F := Ideal)) (onTc (τ := Cert.AdaDwRefIdeal.τ) (Cert.AdaDwRefIdeal.main (F := Ideal))) ⟨m', fun _ => 0, g'⟩ (fun r => ∀ c : Dev Cert.AdaDwRefIdeal.nD,
          r.2.mem ((c.tc : Thread Cert.AdaDwRefIdeal.nD Cert.AdaDwRefIdeal.τ).loc Cert.AdaDwRefIdeal.main_v10) = v0 c
          ∧ r.2.mem ((c.tc : Thread Cert.AdaDwRefIdeal.nD Cert.AdaDwRefIdeal.τ).loc Cert.AdaDwRefIdeal.main_arg0) = m' ((c.tc : Thread Cert.AdaDwRefIdeal.nD Cert.AdaDwRefIdeal.τ).loc Cert.AdaDwRefIdeal.main_arg0)
          ∧ r.2.mem ((c.tc : Thread Cert.AdaDwRefIdeal.nD Cert.AdaDwRefIdeal.τ).loc Cert.AdaDwRefIdeal.main_arg1) = m' ((c.tc : Thread Cert.AdaDwRefIdeal.nD Cert.AdaDwRefIdeal.τ).loc Cert.AdaDwRefIdeal.main_arg1))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)) →
    ∃ (v0 : (c : Dev Cert.LossIdeal.nD) → Buf (Elt Ideal) ((c.tc : Thread Cert.LossIdeal.nD Cert.LossIdeal.τ).loc Cert.LossIdeal.main_v0_0)) (v1 : (c : Dev Cert.LossIdeal.nD) → Buf (Elt Ideal) ((c.tc : Thread Cert.LossIdeal.nD Cert.LossIdeal.τ).loc Cert.LossIdeal.main_v0_1)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_0) = v0 c
          ∧ r.2.mem ((c.tc : Thread Cert.LossIdeal.nD Cert.LossIdeal.τ).loc Cert.LossIdeal.main_v0_1) = v1 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v15) = v0 c
          ∧ r.2.mem ((c.tc : Thread Cert.LossRefIdeal.nD Cert.LossRefIdeal.τ).loc Cert.LossRefIdeal.main_v14) = v1 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1))

def preserves_Attn_AttnIdeal : Prop :=
  IdealRules.named_const.Statement Cert.AttnIdeal.κ "mask" .f32 0xF149F2CA#32 ⊥

def preserves_AdamW_AdamWIdeal : Prop :=
  True

def algebraic_AdamWIdeal_AdamWRefIdeal [hAdamWIdeal : Cert.AdamWIdeal.Facts] [hAdamWRefIdeal : Cert.AdamWRefIdeal.Facts] : Prop :=
  ∀ (m : (ℓ : Loc Cert.AdamWIdeal.nD Cert.AdamWIdeal.τ Cert.AdamWIdeal.sig) → Buf (Elt Ideal) ℓ) (g : Dev Cert.AdamWIdeal.nD → PrngReg)
    (m' : (ℓ : Loc Cert.AdamWRefIdeal.nD Cert.AdamWRefIdeal.τ Cert.AdamWRefIdeal.sig) → Buf (Elt Ideal) ℓ) (g' : Dev Cert.AdamWRefIdeal.nD → PrngReg), Pre_AdamWIdeal m →
    (∀ c : Dev Cert.AdamWIdeal.nD,
      m' ((c.tc : Thread Cert.AdamWRefIdeal.nD Cert.AdamWRefIdeal.τ).loc Cert.AdamWRefIdeal.main_arg0) = m ((c.tc : Thread Cert.AdamWIdeal.nD Cert.AdamWIdeal.τ).loc Cert.AdamWIdeal.main_arg0)
      ∧ m' ((c.tc : Thread Cert.AdamWRefIdeal.nD Cert.AdamWRefIdeal.τ).loc Cert.AdamWRefIdeal.main_arg1) = m ((c.tc : Thread Cert.AdamWIdeal.nD Cert.AdamWIdeal.τ).loc Cert.AdamWIdeal.main_arg1)
      ∧ m' ((c.tc : Thread Cert.AdamWRefIdeal.nD Cert.AdamWRefIdeal.τ).loc Cert.AdamWRefIdeal.main_arg2) = m ((c.tc : Thread Cert.AdamWIdeal.nD Cert.AdamWIdeal.τ).loc Cert.AdamWIdeal.main_arg2)
      ∧ m' ((c.tc : Thread Cert.AdamWRefIdeal.nD Cert.AdamWRefIdeal.τ).loc Cert.AdamWRefIdeal.main_arg3) = m ((c.tc : Thread Cert.AdamWIdeal.nD Cert.AdamWIdeal.τ).loc Cert.AdamWIdeal.main_arg3)) →
    ∃ (v0 : (c : Dev Cert.AdamWIdeal.nD) → Buf (Elt Ideal) ((c.tc : Thread Cert.AdamWIdeal.nD Cert.AdamWIdeal.τ).loc Cert.AdamWIdeal.main_v0_1)) (v1 : (c : Dev Cert.AdamWIdeal.nD) → Buf (Elt Ideal) ((c.tc : Thread Cert.AdamWIdeal.nD Cert.AdamWIdeal.τ).loc Cert.AdamWIdeal.main_v0_2)) (v2 : (c : Dev Cert.AdamWIdeal.nD) → Buf (Elt Ideal) ((c.tc : Thread Cert.AdamWIdeal.nD Cert.AdamWIdeal.τ).loc Cert.AdamWIdeal.main_v0_3)),
      θ_run (Cert.AdamWIdeal.defs (F := Ideal)) (onTc (τ := Cert.AdamWIdeal.τ) (Cert.AdamWIdeal.main (F := Ideal))) ⟨m, fun _ => 0, g⟩ (fun r => ∀ c : Dev Cert.AdamWIdeal.nD,
          r.2.mem ((c.tc : Thread Cert.AdamWIdeal.nD Cert.AdamWIdeal.τ).loc Cert.AdamWIdeal.main_v0_1) = v0 c
          ∧ r.2.mem ((c.tc : Thread Cert.AdamWIdeal.nD Cert.AdamWIdeal.τ).loc Cert.AdamWIdeal.main_v0_2) = v1 c
          ∧ r.2.mem ((c.tc : Thread Cert.AdamWIdeal.nD Cert.AdamWIdeal.τ).loc Cert.AdamWIdeal.main_v0_3) = v2 c
          ∧ r.2.mem ((c.tc : Thread Cert.AdamWIdeal.nD Cert.AdamWIdeal.τ).loc Cert.AdamWIdeal.main_arg0) = m ((c.tc : Thread Cert.AdamWIdeal.nD Cert.AdamWIdeal.τ).loc Cert.AdamWIdeal.main_arg0)
          ∧ r.2.mem ((c.tc : Thread Cert.AdamWIdeal.nD Cert.AdamWIdeal.τ).loc Cert.AdamWIdeal.main_arg1) = m ((c.tc : Thread Cert.AdamWIdeal.nD Cert.AdamWIdeal.τ).loc Cert.AdamWIdeal.main_arg1)
          ∧ r.2.mem ((c.tc : Thread Cert.AdamWIdeal.nD Cert.AdamWIdeal.τ).loc Cert.AdamWIdeal.main_arg2) = m ((c.tc : Thread Cert.AdamWIdeal.nD Cert.AdamWIdeal.τ).loc Cert.AdamWIdeal.main_arg2)
          ∧ r.2.mem ((c.tc : Thread Cert.AdamWIdeal.nD Cert.AdamWIdeal.τ).loc Cert.AdamWIdeal.main_arg3) = m ((c.tc : Thread Cert.AdamWIdeal.nD Cert.AdamWIdeal.τ).loc Cert.AdamWIdeal.main_arg3))
      ∧ θ_run (Cert.AdamWRefIdeal.defs (F := Ideal)) (onTc (τ := Cert.AdamWRefIdeal.τ) (Cert.AdamWRefIdeal.main (F := Ideal))) ⟨m', fun _ => 0, g'⟩ (fun r => ∀ c : Dev Cert.AdamWRefIdeal.nD,
          r.2.mem ((c.tc : Thread Cert.AdamWRefIdeal.nD Cert.AdamWRefIdeal.τ).loc Cert.AdamWRefIdeal.main_v23) = v0 c
          ∧ r.2.mem ((c.tc : Thread Cert.AdamWRefIdeal.nD Cert.AdamWRefIdeal.τ).loc Cert.AdamWRefIdeal.main_v4) = v1 c
          ∧ r.2.mem ((c.tc : Thread Cert.AdamWRefIdeal.nD Cert.AdamWRefIdeal.τ).loc Cert.AdamWRefIdeal.main_v10) = v2 c
          ∧ r.2.mem ((c.tc : Thread Cert.AdamWRefIdeal.nD Cert.AdamWRefIdeal.τ).loc Cert.AdamWRefIdeal.main_arg0) = m' ((c.tc : Thread Cert.AdamWRefIdeal.nD Cert.AdamWRefIdeal.τ).loc Cert.AdamWRefIdeal.main_arg0)
          ∧ r.2.mem ((c.tc : Thread Cert.AdamWRefIdeal.nD Cert.AdamWRefIdeal.τ).loc Cert.AdamWRefIdeal.main_arg1) = m' ((c.tc : Thread Cert.AdamWRefIdeal.nD Cert.AdamWRefIdeal.τ).loc Cert.AdamWRefIdeal.main_arg1)
          ∧ r.2.mem ((c.tc : Thread Cert.AdamWRefIdeal.nD Cert.AdamWRefIdeal.τ).loc Cert.AdamWRefIdeal.main_arg2) = m' ((c.tc : Thread Cert.AdamWRefIdeal.nD Cert.AdamWRefIdeal.τ).loc Cert.AdamWRefIdeal.main_arg2)
          ∧ r.2.mem ((c.tc : Thread Cert.AdamWRefIdeal.nD Cert.AdamWRefIdeal.τ).loc Cert.AdamWRefIdeal.main_arg3) = m' ((c.tc : Thread Cert.AdamWRefIdeal.nD Cert.AdamWRefIdeal.τ).loc Cert.AdamWRefIdeal.main_arg3))

def Claim : Prop :=
  ∃ (hInDw : Cert.InDw.Facts) (hInDwIdeal : Cert.InDwIdeal.Facts) (hInDwRefIdeal : Cert.InDwRefIdeal.Facts) (hInDx : Cert.InDx.Facts) (hInDxIdeal : Cert.InDxIdeal.Facts) (hInDxRefIdeal : Cert.InDxRefIdeal.Facts) (hUpDw : Cert.UpDw.Facts) (hUpDwIdeal : Cert.UpDwIdeal.Facts) (hUpDwRefIdeal : Cert.UpDwRefIdeal.Facts) (hUpDx : Cert.UpDx.Facts) (hUpDxIdeal : Cert.UpDxIdeal.Facts) (hUpDxRefIdeal : Cert.UpDxRefIdeal.Facts) (hOutDw : Cert.OutDw.Facts) (hOutDwIdeal : Cert.OutDwIdeal.Facts) (hOutDwRefIdeal : Cert.OutDwRefIdeal.Facts) (hOutDx : Cert.OutDx.Facts) (hOutDxIdeal : Cert.OutDxIdeal.Facts) (hOutDxRefIdeal : Cert.OutDxRefIdeal.Facts) (hDownDw : Cert.DownDw.Facts) (hDownDwIdeal : Cert.DownDwIdeal.Facts) (hDownDwRefIdeal : Cert.DownDwRefIdeal.Facts) (hDownDx : Cert.DownDx.Facts) (hDownDxIdeal : Cert.DownDxIdeal.Facts) (hDownDxRefIdeal : Cert.DownDxRefIdeal.Facts) (hInFwd : Cert.InFwd.Facts) (hInFwdIdeal : Cert.InFwdIdeal.Facts) (hInFwdRefIdeal : Cert.InFwdRefIdeal.Facts) (hUpFwd : Cert.UpFwd.Facts) (hUpFwdIdeal : Cert.UpFwdIdeal.Facts) (hUpFwdRefIdeal : Cert.UpFwdRefIdeal.Facts) (hOutFwd : Cert.OutFwd.Facts) (hOutFwdIdeal : Cert.OutFwdIdeal.Facts) (hOutFwdRefIdeal : Cert.OutFwdRefIdeal.Facts) (hDownFwd : Cert.DownFwd.Facts) (hDownFwdIdeal : Cert.DownFwdIdeal.Facts) (hDownFwdRefIdeal : Cert.DownFwdRefIdeal.Facts) (hPost : Cert.Post.Facts) (hPostIdeal : Cert.PostIdeal.Facts) (hPostRefIdeal : Cert.PostRefIdeal.Facts) (hPostB : Cert.PostB.Facts) (hPostBIdeal : Cert.PostBIdeal.Facts) (hPostBRefIdeal : Cert.PostBRefIdeal.Facts) (hAdaMod : Cert.AdaMod.Facts) (hAdaModIdeal : Cert.AdaModIdeal.Facts) (hAdaModRefIdeal : Cert.AdaModRefIdeal.Facts) (hAdaDw : Cert.AdaDw.Facts) (hAdaDwIdeal : Cert.AdaDwIdeal.Facts) (hAdaDwRefIdeal : Cert.AdaDwRefIdeal.Facts) (hLoss : Cert.Loss.Facts) (hLossIdeal : Cert.LossIdeal.Facts) (hLossRefIdeal : Cert.LossRefIdeal.Facts) (hAttn : Cert.Attn.Facts) (hAttnIdeal : Cert.AttnIdeal.Facts) (hAttnRefIdeal : Cert.AttnRefIdeal.Facts) (hAdamW : Cert.AdamW.Facts) (hAdamWIdeal : Cert.AdamWIdeal.Facts) (hAdamWRefIdeal : Cert.AdamWRefIdeal.Facts),
    quiescent_InDw (hInDw := hInDw)
    ∧ quiescent_InDwIdeal (hInDwIdeal := hInDwIdeal)
    ∧ quiescent_InDwRefIdeal (hInDwRefIdeal := hInDwRefIdeal)
    ∧ quiescent_InDx (hInDx := hInDx)
    ∧ quiescent_InDxIdeal (hInDxIdeal := hInDxIdeal)
    ∧ quiescent_InDxRefIdeal (hInDxRefIdeal := hInDxRefIdeal)
    ∧ quiescent_UpDw (hUpDw := hUpDw)
    ∧ quiescent_UpDwIdeal (hUpDwIdeal := hUpDwIdeal)
    ∧ quiescent_UpDwRefIdeal (hUpDwRefIdeal := hUpDwRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_OutDw (hOutDw := hOutDw)
    ∧ quiescent_OutDwIdeal (hOutDwIdeal := hOutDwIdeal)
    ∧ quiescent_OutDwRefIdeal (hOutDwRefIdeal := hOutDwRefIdeal)
    ∧ quiescent_OutDx (hOutDx := hOutDx)
    ∧ quiescent_OutDxIdeal (hOutDxIdeal := hOutDxIdeal)
    ∧ quiescent_OutDxRefIdeal (hOutDxRefIdeal := hOutDxRefIdeal)
    ∧ quiescent_DownDw (hDownDw := hDownDw)
    ∧ quiescent_DownDwIdeal (hDownDwIdeal := hDownDwIdeal)
    ∧ quiescent_DownDwRefIdeal (hDownDwRefIdeal := hDownDwRefIdeal)
    ∧ quiescent_DownDx (hDownDx := hDownDx)
    ∧ quiescent_DownDxIdeal (hDownDxIdeal := hDownDxIdeal)
    ∧ quiescent_DownDxRefIdeal (hDownDxRefIdeal := hDownDxRefIdeal)
    ∧ quiescent_InFwd (hInFwd := hInFwd)
    ∧ quiescent_InFwdIdeal (hInFwdIdeal := hInFwdIdeal)
    ∧ quiescent_InFwdRefIdeal (hInFwdRefIdeal := hInFwdRefIdeal)
    ∧ quiescent_UpFwd (hUpFwd := hUpFwd)
    ∧ quiescent_UpFwdIdeal (hUpFwdIdeal := hUpFwdIdeal)
    ∧ quiescent_UpFwdRefIdeal (hUpFwdRefIdeal := hUpFwdRefIdeal)
    ∧ quiescent_OutFwd (hOutFwd := hOutFwd)
    ∧ quiescent_OutFwdIdeal (hOutFwdIdeal := hOutFwdIdeal)
    ∧ quiescent_OutFwdRefIdeal (hOutFwdRefIdeal := hOutFwdRefIdeal)
    ∧ quiescent_DownFwd (hDownFwd := hDownFwd)
    ∧ quiescent_DownFwdIdeal (hDownFwdIdeal := hDownFwdIdeal)
    ∧ quiescent_DownFwdRefIdeal (hDownFwdRefIdeal := hDownFwdRefIdeal)
    ∧ quiescent_Post (hPost := hPost)
    ∧ quiescent_PostIdeal (hPostIdeal := hPostIdeal)
    ∧ quiescent_PostRefIdeal (hPostRefIdeal := hPostRefIdeal)
    ∧ quiescent_PostB (hPostB := hPostB)
    ∧ quiescent_PostBIdeal (hPostBIdeal := hPostBIdeal)
    ∧ quiescent_PostBRefIdeal (hPostBRefIdeal := hPostBRefIdeal)
    ∧ quiescent_AdaMod (hAdaMod := hAdaMod)
    ∧ quiescent_AdaModIdeal (hAdaModIdeal := hAdaModIdeal)
    ∧ quiescent_AdaModRefIdeal (hAdaModRefIdeal := hAdaModRefIdeal)
    ∧ quiescent_AdaDw (hAdaDw := hAdaDw)
    ∧ quiescent_AdaDwIdeal (hAdaDwIdeal := hAdaDwIdeal)
    ∧ quiescent_AdaDwRefIdeal (hAdaDwRefIdeal := hAdaDwRefIdeal)
    ∧ quiescent_Loss (hLoss := hLoss)
    ∧ quiescent_LossIdeal (hLossIdeal := hLossIdeal)
    ∧ quiescent_LossRefIdeal (hLossRefIdeal := hLossRefIdeal)
    ∧ quiescent_Attn (hAttn := hAttn)
    ∧ quiescent_AttnIdeal (hAttnIdeal := hAttnIdeal)
    ∧ quiescent_AttnRefIdeal (hAttnRefIdeal := hAttnRefIdeal)
    ∧ quiescent_AdamW (hAdamW := hAdamW)
    ∧ quiescent_AdamWIdeal (hAdamWIdeal := hAdamWIdeal)
    ∧ quiescent_AdamWRefIdeal (hAdamWRefIdeal := hAdamWRefIdeal)
    ∧ preserves_InDw_InDwIdeal
    ∧ algebraic_InDwIdeal_InDwRefIdeal (hInDwIdeal := hInDwIdeal) (hInDwRefIdeal := hInDwRefIdeal)
    ∧ preserves_InDx_InDxIdeal
    ∧ algebraic_InDxIdeal_InDxRefIdeal (hInDxIdeal := hInDxIdeal) (hInDxRefIdeal := hInDxRefIdeal)
    ∧ preserves_UpDw_UpDwIdeal
    ∧ algebraic_UpDwIdeal_UpDwRefIdeal (hUpDwIdeal := hUpDwIdeal) (hUpDwRefIdeal := hUpDwRefIdeal)
    ∧ preserves_UpDx_UpDxIdeal
    ∧ algebraic_UpDxIdeal_UpDxRefIdeal (hUpDxIdeal := hUpDxIdeal) (hUpDxRefIdeal := hUpDxRefIdeal)
    ∧ preserves_OutDw_OutDwIdeal
    ∧ algebraic_OutDwIdeal_OutDwRefIdeal (hOutDwIdeal := hOutDwIdeal) (hOutDwRefIdeal := hOutDwRefIdeal)
    ∧ preserves_OutDx_OutDxIdeal
    ∧ algebraic_OutDxIdeal_OutDxRefIdeal (hOutDxIdeal := hOutDxIdeal) (hOutDxRefIdeal := hOutDxRefIdeal)
    ∧ preserves_DownDw_DownDwIdeal
    ∧ algebraic_DownDwIdeal_DownDwRefIdeal (hDownDwIdeal := hDownDwIdeal) (hDownDwRefIdeal := hDownDwRefIdeal)
    ∧ preserves_DownDx_DownDxIdeal
    ∧ algebraic_DownDxIdeal_DownDxRefIdeal (hDownDxIdeal := hDownDxIdeal) (hDownDxRefIdeal := hDownDxRefIdeal)
    ∧ preserves_InFwd_InFwdIdeal
    ∧ algebraic_InFwdIdeal_InFwdRefIdeal (hInFwdIdeal := hInFwdIdeal) (hInFwdRefIdeal := hInFwdRefIdeal)
    ∧ preserves_UpFwd_UpFwdIdeal
    ∧ algebraic_UpFwdIdeal_UpFwdRefIdeal (hUpFwdIdeal := hUpFwdIdeal) (hUpFwdRefIdeal := hUpFwdRefIdeal)
    ∧ preserves_OutFwd_OutFwdIdeal
    ∧ algebraic_OutFwdIdeal_OutFwdRefIdeal (hOutFwdIdeal := hOutFwdIdeal) (hOutFwdRefIdeal := hOutFwdRefIdeal)
    ∧ preserves_DownFwd_DownFwdIdeal
    ∧ algebraic_DownFwdIdeal_DownFwdRefIdeal (hDownFwdIdeal := hDownFwdIdeal) (hDownFwdRefIdeal := hDownFwdRefIdeal)
    ∧ preserves_Post_PostIdeal
    ∧ algebraic_PostIdeal_PostRefIdeal (hPostIdeal := hPostIdeal) (hPostRefIdeal := hPostRefIdeal)
    ∧ preserves_PostB_PostBIdeal
    ∧ algebraic_PostBIdeal_PostBRefIdeal (hPostBIdeal := hPostBIdeal) (hPostBRefIdeal := hPostBRefIdeal)
    ∧ preserves_AdaMod_AdaModIdeal
    ∧ algebraic_AdaModIdeal_AdaModRefIdeal (hAdaModIdeal := hAdaModIdeal) (hAdaModRefIdeal := hAdaModRefIdeal)
    ∧ preserves_AdaDw_AdaDwIdeal
    ∧ algebraic_AdaDwIdeal_AdaDwRefIdeal (hAdaDwIdeal := hAdaDwIdeal) (hAdaDwRefIdeal := hAdaDwRefIdeal)
    ∧ preserves_Loss_LossIdeal
    ∧ algebraic_LossIdeal_LossRefIdeal (hLossIdeal := hLossIdeal) (hLossRefIdeal := hLossRefIdeal)
    ∧ preserves_Attn_AttnIdeal
    ∧ preserves_AdamW_AdamWIdeal
    ∧ algebraic_AdamWIdeal_AdamWRefIdeal (hAdamWIdeal := hAdamWIdeal) (hAdamWRefIdeal := hAdamWRefIdeal)
-- ==== InDw.lean ====
abbrev S4096x2432 : Shape := ⟨2, ![4096, 2432]⟩
abbrev S4096x1024 : Shape := ⟨2, ![4096, 1024]⟩
abbrev S8x1024 : Shape := ⟨2, ![8, 1024]⟩
abbrev S2432x1024 : Shape := ⟨2, ![2432, 1024]⟩
abbrev S512x2432 : Shape := ⟨2, ![512, 2432]⟩
abbrev S512x1024 : Shape := ⟨2, ![512, 1024]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x2432, .bf16⟩
  | .hbm, ⟨1, _⟩ => ⟨S4096x1024, .f32⟩
  | .hbm, ⟨2, _⟩ => ⟨S8x1024, .f32⟩
  | .hbm, ⟨3, _⟩ => ⟨S2432x1024, .bf16⟩
  | .local _ .vmem, ⟨0, _⟩ => ⟨S512x2432, .bf16⟩
  | .local _ .vmem, ⟨1, _⟩ => ⟨S512x2432, .bf16⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S2432x1024, .bf16⟩
  | .local _ .vmem, ⟨6, _⟩ => ⟨S2432x1024, .f32⟩
  | _, _ => ⟨S4096x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_12 : BitVec 32 := 0#32
  let v22 : BitVec 1 := Scalar.cmpi .ne v21 c0_i32_12
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S2432x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]
-- ==== InDwRefIdeal.lean ====
abbrev S4096x2432 : Shape := ⟨2, ![4096, 2432]⟩
abbrev S4096x1024 : Shape := ⟨2, ![4096, 1024]⟩
abbrev S8x1024 : Shape := ⟨2, ![8, 1024]⟩
abbrev S_ : Shape := ⟨0, ![]⟩
abbrev S1024x2432 : Shape := ⟨2, ![1024, 2432]⟩
abbrev S1x1024 : Shape := ⟨2, ![1, 1024]⟩
abbrev S2432x1024 : Shape := ⟨2, ![2432, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x2432, .bf16⟩
  | .hbm, ⟨1, _⟩ => ⟨S4096x1024, .f32⟩
  | .hbm, ⟨2, _⟩ => ⟨S8x1024, .f32⟩
  | .hbm, ⟨3, _⟩ => ⟨S_, .f32⟩
  | .hbm, ⟨4, _⟩ => ⟨S1024x2432, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x2432, .f32⟩
  | .hbm, ⟨15, _⟩ => ⟨S4096x2432, .f32⟩
  | .hbm, ⟨16, _⟩ => ⟨S2432x1024, .f32⟩
  | .hbm, ⟨17, _⟩ => ⟨S1024x2432, .f32⟩
  | .hbm, ⟨18, _⟩ => ⟨S2432x1024, .f32⟩
  | .hbm, ⟨19, _⟩ => ⟨S2432x1024, .bf16⟩
  | _, _ => ⟨S4096x2432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== InDx.lean ====
abbrev S4096x2432 : Shape := ⟨2, ![4096, 2432]⟩
abbrev S2432x1024 : Shape := ⟨2, ![2432, 1024]⟩
abbrev S4096x1024 : Shape := ⟨2, ![4096, 1024]⟩
abbrev S8x1024 : Shape := ⟨2, ![8, 1024]⟩
abbrev S1x1024 : Shape := ⟨2, ![1, 1024]⟩
abbrev S512x2432 : Shape := ⟨2, ![512, 2432]⟩
abbrev S512x1024 : Shape := ⟨2, ![512, 1024]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x2432, .bf16⟩
  | .hbm, ⟨1, _⟩ => ⟨S2432x1024, .bf16⟩
  | .hbm, ⟨2, _⟩ => ⟨S4096x1024, .f32⟩
  | .hbm, ⟨3, _⟩ => ⟨S4096x1024, .f32⟩
  | .hbm, ⟨4, _⟩ => ⟨S8x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S512x2432, .bf16⟩
  | .local _ .vmem, ⟨1, _⟩ => ⟨S512x2432, .bf16⟩
  | .local _ .vmem, ⟨2, _⟩ => ⟨S2432x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S4096x2432, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2432 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2432x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== InDxRefIdeal.lean ====
abbrev S4096x2432 : Shape := ⟨2, ![4096, 2432]⟩
abbrev S2432x1024 : Shape := ⟨2, ![2432, 1024]⟩
abbrev S4096x1024 : Shape := ⟨2, ![4096, 1024]⟩
abbrev S8x1024 : Shape := ⟨2, ![8, 1024]⟩
abbrev S1024x2432 : Shape := ⟨2, ![1024, 2432]⟩
abbrev S1x1024 : Shape := ⟨2, ![1, 1024]⟩
abbrev S_ : Shape := ⟨0, ![]⟩
abbrev S1024 : Shape := ⟨1, ![1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x2432, .bf16⟩
  | .hbm, ⟨1, _⟩ => ⟨S2432x1024, .bf16⟩
  | .hbm, ⟨2, _⟩ => ⟨S4096x1024, .f32⟩
  | .hbm, ⟨3, _⟩ => ⟨S4096x1024, .f32⟩
  | .hbm, ⟨4, _⟩ => ⟨S8x1024, .f32⟩
  | .hbm, ⟨5, _⟩ => ⟨S2432x1024, .f32⟩
  | .hbm, ⟨6, _⟩ => ⟨S1024x2432, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x2432, .f32⟩
  | .hbm, ⟨17, _⟩ => ⟨S4096x2432, .f32⟩
  | .hbm, ⟨18, _⟩ => ⟨S4096x1024, .f32⟩
  | .hbm, ⟨19, _⟩ => ⟨S_, .f32⟩
  | .hbm, ⟨20, _⟩ => ⟨S1024, .f32⟩
  | .hbm, ⟨21, _⟩ => ⟨S1x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | _, _ => ⟨S4096x2432, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== UpDw.lean ====
abbrev S4096x5632 : Shape := ⟨2, ![4096, 5632]⟩
abbrev S4096x1024 : Shape := ⟨2, ![4096, 1024]⟩
abbrev S8x1024 : Shape := ⟨2, ![8, 1024]⟩
abbrev S5632x1024 : Shape := ⟨2, ![5632, 1024]⟩
abbrev S512x5632 : Shape := ⟨2, ![512, 5632]⟩
abbrev S512x512 : Shape := ⟨2, ![512, 512]⟩
abbrev S8x512 : Shape := ⟨2, ![8, 512]⟩
abbrev S5632x512 : Shape := ⟨2, ![5632, 512]⟩
abbrev S1x512 : Shape := ⟨2, ![1, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .f32⟩
  | .hbm, ⟨2, _⟩ => ⟨S8x1024, .f32⟩
  | .hbm, ⟨3, _⟩ => ⟨S5632x1024, .bf16⟩
  | .local _ .vmem, ⟨0, _⟩ => ⟨S512x5632, .bf16⟩
  | .local _ .vmem, ⟨1, _⟩ => ⟨S512x5632, .bf16⟩
  | .local _ .vmem, ⟨2, _⟩ => ⟨S512x512, .f32⟩
  | .local _ .vmem, ⟨3, _⟩ => ⟨S512x512, .f32⟩
  | .local _ .vmem, ⟨4, _⟩ => ⟨S8x512, .f32⟩
  | .local _ .vmem, ⟨5, _⟩ => ⟨S8x512, .f32⟩
  | .local _ .vmem, ⟨6, _⟩ => ⟨S5632x512, .bf16⟩
  | .local _ .vmem, ⟨7, _⟩ => ⟨S5632x512, .bf16⟩
  | .local _ .vmem, ⟨8, _⟩ => ⟨S5632x512, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![2, 8], ![false, false]⟩

def k0_cond2 (i : grid0.Coords) : BitVec 1 :=
  let arg1 : BitVec 32 := BitVec.ofNat 32 (i 1).val
  let c7_i32 : BitVec 32 := 7#32
  let v20 : BitVec 1 := Scalar.cmpi .eq arg1 c7_i32
  let v21 : BitVec 32 := Scalar.extui v20
  let c0_i32_11 : BitVec 32 := 0#32
  let v22 : BitVec 1 := Scalar.cmpi .ne v21 c0_i32_11
  v22

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S5632x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== UpDwRefIdeal.lean ====
abbrev S4096x5632 : Shape := ⟨2, ![4096, 5632]⟩
abbrev S4096x1024 : Shape := ⟨2, ![4096, 1024]⟩
abbrev S8x1024 : Shape := ⟨2, ![8, 1024]⟩
abbrev S_ : Shape := ⟨0, ![]⟩
abbrev S1024x5632 : Shape := ⟨2, ![1024, 5632]⟩
abbrev S1x1024 : Shape := ⟨2, ![1, 1024]⟩
abbrev S5632x1024 : Shape := ⟨2, ![5632, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S4096x1024, .f32⟩
  | .hbm, ⟨2, _⟩ => ⟨S8x1024, .f32⟩
  | .hbm, ⟨3, _⟩ => ⟨S_, .f32⟩
  | .hbm, ⟨4, _⟩ => ⟨S1024x5632, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x5632, .f32⟩
  | .hbm, ⟨15, _⟩ => ⟨S4096x5632, .f32⟩
  | .hbm, ⟨16, _⟩ => ⟨S5632x1024, .f32⟩
  | .hbm, ⟨17, _⟩ => ⟨S1024x5632, .f32⟩
  | .hbm, ⟨18, _⟩ => ⟨S5632x1024, .f32⟩
  | .hbm, ⟨19, _⟩ => ⟨S5632x1024, .bf16⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== UpDx.lean ====
abbrev S4096x5632 : Shape := ⟨2, ![4096, 5632]⟩
abbrev S5632x1024 : Shape := ⟨2, ![5632, 1024]⟩
abbrev S4096x1024 : Shape := ⟨2, ![4096, 1024]⟩
abbrev S8x1024 : Shape := ⟨2, ![8, 1024]⟩
abbrev S1x1024 : Shape := ⟨2, ![1, 1024]⟩
abbrev S512x5632 : Shape := ⟨2, ![512, 5632]⟩
abbrev S512x1024 : Shape := ⟨2, ![512, 1024]⟩
abbrev S1024 : Shape := ⟨1, ![1024]⟩

abbrev nBuf : Space → Nat
  | .hbm => 8
  | .vmem => 12
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S4096x1024, .f32⟩
  | .hbm, ⟨4, _⟩ => ⟨S8x1024, .f32⟩
  | .hbm, ⟨5, _⟩ => ⟨S4096x1024, .f32⟩
  | .hbm, ⟨6, _⟩ => ⟨S1x1024, .f32⟩
  | .hbm, ⟨7, _⟩ => ⟨S1x1024, .f32⟩
  | .local _ .vmem, ⟨0, _⟩ => ⟨S512x5632, .bf16⟩
  | .local _ .vmem, ⟨1, _⟩ => ⟨S512x5632, .bf16⟩
  | .local _ .vmem, ⟨2, _⟩ => ⟨S5632x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | _, _ => ⟨S4096x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x5632 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S5632x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== UpDxRefIdeal.lean ====
abbrev S4096x5632 : Shape := ⟨2, ![4096, 5632]⟩
abbrev S5632x1024 : Shape := ⟨2, ![5632, 1024]⟩
abbrev S4096x1024 : Shape := ⟨2, ![4096, 1024]⟩
abbrev S8x1024 : Shape := ⟨2, ![8, 1024]⟩
abbrev S1024x5632 : Shape := ⟨2, ![1024, 5632]⟩
abbrev S1x1024 : Shape := ⟨2, ![1, 1024]⟩
abbrev S_ : Shape := ⟨0, ![]⟩
abbrev S1024 : Shape := ⟨1, ![1024]⟩

abbrev nBuf : Space → Nat
  | .hbm => 29
  | .vmem => 0
  | .smem => 0
  | _ => 0

abbrev bufTy : (tb : Table) → Fin (tcTables nBuf tb) → BufTy
  | .hbm, ⟨0, _⟩ => ⟨S4096x5632, .bf16⟩
  | .hbm, ⟨1, _⟩ => ⟨S5632x1024, .bf16⟩
  | .hbm, ⟨2, _⟩ => ⟨S4096x1024, .f32⟩
  | .hbm, ⟨3, _⟩ => ⟨S4096x1024, .f32⟩
  | .hbm, ⟨4, _⟩ => ⟨S8x1024, .f32⟩
  | .hbm, ⟨5, _⟩ => ⟨S5632x1024, .f32⟩
  | .hbm, ⟨6, _⟩ => ⟨S1024x5632, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S1x1024, .f32⟩
  | .hbm, ⟨11, _⟩ => ⟨S1x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x5632, .f32⟩
  | .hbm, ⟨17, _⟩ => ⟨S4096x5632, .f32⟩
  | .hbm, ⟨18, _⟩ => ⟨S4096x1024, .f32⟩
  | .hbm, ⟨19, _⟩ => ⟨S_, .f32⟩
  | .hbm, ⟨20, _⟩ => ⟨S1024, .f32⟩
  | .hbm, ⟨21, _⟩ => ⟨S1x1024, .f32⟩
  | .hbm, ⟨22, _⟩ => ⟨S4096x1024, .f32⟩
  | .hbm, ⟨23, _⟩ => ⟨S_, .f32⟩
  | .hbm, ⟨24, _⟩ => ⟨S1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | _, _ => ⟨S4096x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== OutDw.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S1024x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .bf16⟩
  | .local _ .vmem, ⟨5, _⟩ => ⟨S1024x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== OutDwRefIdeal.lean ====
abbrev S4096x1024 : Shape := ⟨2, ![4096, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutDx.lean ====
abbrev S4096x1024 : Shape := ⟨2, ![4096, 1024]⟩
abbrev S1024x1024 : Shape := ⟨2, ![1024, 1024]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== DownDw.lean ====
abbrev S4096x2816 : Shape := ⟨2, ![4096, 2816]⟩
abbrev S4096x1024 : Shape := ⟨2, ![4096, 1024]⟩
abbrev S2816x1024 : Shape := ⟨2, ![2816, 1024]⟩
abbrev S512x2816 : Shape := ⟨2, ![512, 2816]⟩
abbrev S512x1024 : Shape := ⟨2, ![512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S2816x1024, .bf16⟩
  | .local _ .vmem, ⟨0, _⟩ => ⟨S512x2816, .bf16⟩
  | .local _ .vmem, ⟨1, _⟩ => ⟨S512x2816, .bf16⟩
  | .local _ .vmem, ⟨2, _⟩ => ⟨S512x1024, .bf16⟩
  | .local _ .vmem, ⟨3, _⟩ => ⟨S512x1024, .bf16⟩
  | .local _ .vmem, ⟨4, _⟩ => ⟨S2816x1024, .bf16⟩
  | .local _ .vmem, ⟨5, _⟩ => ⟨S2816x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DownDwRefIdeal.lean ====
abbrev S4096x2816 : Shape := ⟨2, ![4096, 2816]⟩
abbrev S4096x1024 : Shape := ⟨2, ![4096, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S4096x1024, .bf16⟩
  | .hbm, ⟨2, _⟩ => ⟨S_, .f32⟩
  | .hbm, ⟨3, _⟩ => ⟨S2816x1024, .f32⟩
  | .hbm, ⟨4, _⟩ => ⟨S4096x2816, .f32⟩
  | .hbm, ⟨5, _⟩ => ⟨S4096x1024, .f32⟩
  | .hbm, ⟨6, _⟩ => ⟨S4096x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DownDx.lean ====
abbrev S4096x1024 : Shape := ⟨2, ![4096, 1024]⟩
abbrev S2816x1024 : Shape := ⟨2, ![2816, 1024]⟩
abbrev S4096x2816 : Shape := ⟨2, ![4096, 2816]⟩
abbrev S512x1024 : Shape := ⟨2, ![512, 1024]⟩
abbrev S512x2816 : Shape := ⟨2, ![512, 2816]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S4096x2816, .f32⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .f32⟩
  | .local _ .vmem, ⟨4, _⟩ => ⟨S512x2816, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== DownDxRefIdeal.lean ====
abbrev S4096x1024 : Shape := ⟨2, ![4096, 1024]⟩
abbrev S2816x1024 : Shape := ⟨2, ![2816, 1024]⟩
abbrev S_ : Shape := ⟨0, ![]⟩
abbrev S4096x2816 : Shape := ⟨2, ![4096, 2816]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S2816x1024, .bf16⟩
  | .hbm, ⟨2, _⟩ => ⟨S_, .f32⟩
  | .hbm, ⟨3, _⟩ => ⟨S4096x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S4096x2816, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== InFwd.lean ====
abbrev S4096x1024 : Shape := ⟨2, ![4096, 1024]⟩
abbrev S2432x1024 : Shape := ⟨2, ![2432, 1024]⟩
abbrev S8x1024 : Shape := ⟨2, ![8, 1024]⟩
abbrev S4096x2432 : Shape := ⟨2, ![4096, 2432]⟩
abbrev S512x1024 : Shape := ⟨2, ![512, 1024]⟩
abbrev S512x2432 : Shape := ⟨2, ![512, 2432]⟩
abbrev S1x1024 : Shape := ⟨2, ![1, 1024]⟩

abbrev nBuf : Space → Nat
  | .hbm => 4
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S2432x1024, .bf16⟩
  | .hbm, ⟨2, _⟩ => ⟨S8x1024, .f32⟩
  | .hbm, ⟨3, _⟩ => ⟨S4096x2432, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S2432x1024, .bf16⟩
  | .local _ .vmem, ⟨4, _⟩ => ⟨S512x2432, .f32⟩
  | .local _ .vmem, ⟨5, _⟩ => ⟨S512x2432, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2432x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 2 → Memref sig .tc .vmem S512x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InFwdRefIdeal.lean ====
abbrev S4096x1024 : Shape := ⟨2, ![4096, 1024]⟩
abbrev S2432x1024 : Shape := ⟨2, ![2432, 1024]⟩
abbrev S8x1024 : Shape := ⟨2, ![8, 1024]⟩
abbrev S1x1024 : Shape := ⟨2, ![1, 1024]⟩
abbrev S1024x2432 : Shape := ⟨2, ![1024, 2432]⟩
abbrev S_ : Shape := ⟨0, ![]⟩
abbrev S4096x2432 : Shape := ⟨2, ![4096, 2432]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S2432x1024, .bf16⟩
  | .hbm, ⟨2, _⟩ => ⟨S8x1024, .f32⟩
  | .hbm, ⟨3, _⟩ => ⟨S1x1024, .f32⟩
  | .hbm, ⟨4, _⟩ => ⟨S1x1024, .f32⟩
  | .hbm, ⟨5, _⟩ => ⟨S2432x1024, .f32⟩
  | .hbm, ⟨6, _⟩ => ⟨S1024x2432, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x2432, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== UpFwd.lean ====
abbrev S4096x1024 : Shape := ⟨2, ![4096, 1024]⟩
abbrev S5632x1024 : Shape := ⟨2, ![5632, 1024]⟩
abbrev S8x1024 : Shape := ⟨2, ![8, 1024]⟩
abbrev S4096x5632 : Shape := ⟨2, ![4096, 5632]⟩
abbrev S512x1024 : Shape := ⟨2, ![512, 1024]⟩
abbrev S2816x1024 : Shape := ⟨2, ![2816, 1024]⟩
abbrev S512x2816 : Shape := ⟨2, ![512, 2816]⟩
abbrev S1x1024 : Shape := ⟨2, ![1, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S5632x1024, .bf16⟩
  | .hbm, ⟨2, _⟩ => ⟨S8x1024, .f32⟩
  | .hbm, ⟨3, _⟩ => ⟨S4096x5632, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S2816x1024, .bf16⟩
  | .local _ .vmem, ⟨4, _⟩ => ⟨S2816x1024, .bf16⟩
  | .local _ .vmem, ⟨5, _⟩ => ⟨S512x2816, .f32⟩
  | .local _ .vmem, ⟨6, _⟩ => ⟨S512x2816, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2816x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x2816 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== UpFwdRefIdeal.lean ====
abbrev S4096x1024 : Shape := ⟨2, ![4096, 1024]⟩
abbrev S5632x1024 : Shape := ⟨2, ![5632, 1024]⟩
abbrev S8x1024 : Shape := ⟨2, ![8, 1024]⟩
abbrev S1x1024 : Shape := ⟨2, ![1, 1024]⟩
abbrev S1024x5632 : Shape := ⟨2, ![1024, 5632]⟩
abbrev S_ : Shape := ⟨0, ![]⟩
abbrev S4096x5632 : Shape := ⟨2, ![4096, 5632]⟩

abbrev nBuf : Space → Nat
  | .hbm => 15
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S5632x1024, .bf16⟩
  | .hbm, ⟨2, _⟩ => ⟨S8x1024, .f32⟩
  | .hbm, ⟨3, _⟩ => ⟨S1x1024, .f32⟩
  | .hbm, ⟨4, _⟩ => ⟨S1x1024, .f32⟩
  | .hbm, ⟨5, _⟩ => ⟨S5632x1024, .f32⟩
  | .hbm, ⟨6, _⟩ => ⟨S1024x5632, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x5632, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== OutFwd.lean ====
abbrev S4096x1024 : Shape := ⟨2, ![4096, 1024]⟩
abbrev S1024x1024 : Shape := ⟨2, ![1024, 1024]⟩
abbrev S8x1024 : Shape := ⟨2, ![8, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S8x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutFwdRefIdeal.lean ====
abbrev S4096x1024 : Shape := ⟨2, ![4096, 1024]⟩
abbrev S1024x1024 : Shape := ⟨2, ![1024, 1024]⟩
abbrev S8x1024 : Shape := ⟨2, ![8, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S8x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x1024, .f32⟩
  | .hbm, ⟨8, _⟩ => ⟨S1024x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== DownFwd.lean ====
abbrev S4096x2816 : Shape := ⟨2, ![4096, 2816]⟩
abbrev S2816x1024 : Shape := ⟨2, ![2816, 1024]⟩
abbrev S4096x1024 : Shape := ⟨2, ![4096, 1024]⟩
abbrev S8x1024 : Shape := ⟨2, ![8, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 12
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S8x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | _, _ => ⟨S4096x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== DownFwdRefIdeal.lean ====
abbrev S4096x2816 : Shape := ⟨2, ![4096, 2816]⟩
abbrev S2816x1024 : Shape := ⟨2, ![2816, 1024]⟩
abbrev S4096x1024 : Shape := ⟨2, ![4096, 1024]⟩
abbrev S8x1024 : Shape := ⟨2, ![8, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩

abbrev nBuf : Space → Nat
  | .hbm => 44
  | .vmem => 0
  | .smem => 0
  | _ => 0

abbrev bufTy : (tb : Table) → Fin (tcTables nBuf tb) → BufTy
  | .hbm, ⟨0, _⟩ => ⟨S4096x2816, .bf16⟩
  | .hbm, ⟨1, _⟩ => ⟨S2816x1024, .bf16⟩
  | .hbm, ⟨2, _⟩ => ⟨S4096x1024, .f32⟩
  | .hbm, ⟨3, _⟩ => ⟨S8x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S4096x2816, .f32⟩
  | .hbm, ⟨8, _⟩ => ⟨S2816x1024, .f32⟩
  | .hbm, ⟨9, _⟩ => ⟨S4096x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S1x1024, .f32⟩
  | .hbm, ⟨15, _⟩ => ⟨S1x1024, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S4096, .f32⟩
  | .hbm, ⟨21, _⟩ => ⟨S4096x1, .f32⟩
  | .hbm, ⟨22, _⟩ => ⟨S_, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x1024, .f32⟩
  | _, _ => ⟨S4096x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Post.lean ====
abbrev S4096x1024 : Shape := ⟨2, ![4096, 1024]⟩
abbrev S8x1024 : Shape := ⟨2, ![8, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PostRefIdeal.lean ====
abbrev S4096x1024 : Shape := ⟨2, ![4096, 1024]⟩
abbrev S8x1024 : Shape := ⟨2, ![8, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S_, .f32⟩
  | .hbm, ⟨91, _⟩ => ⟨S4096x1024, .f32⟩
  | .hbm, ⟨92, _⟩ => ⟨S4096x1024, .f32⟩
  | .hbm, ⟨93, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== PostB.lean ====
abbrev S4096x1024 : Shape := ⟨2, ![4096, 1024]⟩
abbrev S8x1024 : Shape := ⟨2, ![8, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S4096x1024, .f32⟩
  | .hbm, ⟨7, _⟩ => ⟨S4096x1024, .bf16⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S1x1024, .f32⟩
  | .local _ .vmem, ⟨6, _⟩ => ⟨S1x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14
abbrev cc0_sem10_0 : DmaSem sig := 15

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== PostBRefIdeal.lean ====
abbrev S4096x1024 : Shape := ⟨2, ![4096, 1024]⟩
abbrev S8x1024 : Shape := ⟨2, ![8, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x1024, .f32⟩
  | .hbm, ⟨3, _⟩ => ⟨S1x1024, .f32⟩
  | .hbm, ⟨4, _⟩ => ⟨S1x1024, .f32⟩
  | .hbm, ⟨5, _⟩ => ⟨S4096x1024, .f32⟩
  | .hbm, ⟨6, _⟩ => ⟨S1x1024, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S_, .f32⟩
  | .hbm, ⟨11, _⟩ => ⟨S1x1024, .f32⟩
  | .hbm, ⟨12, _⟩ => ⟨S1x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S_, .f32⟩
  | .hbm, ⟨17, _⟩ => ⟨S4096, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096, .f32⟩
  | .hbm, ⟨30, _⟩ => ⟨S4096x1, .f32⟩
  | .hbm, ⟨31, _⟩ => ⟨S_, .f32⟩
  | .hbm, ⟨32, _⟩ => ⟨S4096x1, .f32⟩
  | .hbm, ⟨33, _⟩ => ⟨S4096x1, .f32⟩
  | .hbm, ⟨34, _⟩ => ⟨S_, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S4096x1, .f32⟩
  | .hbm, ⟨39, _⟩ => ⟨S_, .f32⟩
  | .hbm, ⟨40, _⟩ => ⟨S4096x1, .f32⟩
  | .hbm, ⟨41, _⟩ => ⟨S4096x1, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S1024, .f32⟩
  | .hbm, ⟨51, _⟩ => ⟨S1x1024, .f32⟩
  | .hbm, ⟨52, _⟩ => ⟨S4096x1024, .f32⟩
  | .hbm, ⟨53, _⟩ => ⟨S_, .f32⟩
  | .hbm, ⟨54, _⟩ => ⟨S1024, .f32⟩
  | .hbm, ⟨55, _⟩ => ⟨S1x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096, .f32⟩
  | .hbm, ⟨61, _⟩ => ⟨S4096x1, .f32⟩
  | .hbm, ⟨62, _⟩ => ⟨S4096x1024, .f32⟩
  | .hbm, ⟨63, _⟩ => ⟨S4096x1024, .f32⟩
  | .hbm, ⟨64, _⟩ => ⟨S4096x1, .f32⟩
  | .hbm, ⟨65, _⟩ => ⟨S_, .f32⟩
  | .hbm, ⟨66, _⟩ => ⟨S4096x1, .f32⟩
  | .hbm, ⟨67, _⟩ => ⟨S4096x1, .f32⟩
  | .hbm, ⟨68, _⟩ => ⟨S_, .f32⟩
  | .hbm, ⟨69, _⟩ => ⟨S4096, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S_, .f32⟩
  | .hbm, ⟨75, _⟩ => ⟨S4096, .f32⟩
  | .hbm, ⟨76, _⟩ => ⟨S4096x1, .f32⟩
  | .hbm, ⟨77, _⟩ => ⟨S_, .f32⟩
  | .hbm, ⟨78, _⟩ => ⟨S4096x1, .f32⟩
  | .hbm, ⟨79, _⟩ => ⟨S4096x1, .f32⟩
  | .hbm, ⟨80, _⟩ => ⟨S_, .f32⟩
  | .hbm, ⟨81, _⟩ => ⟨S4096, .f32⟩
  | .hbm, ⟨82, _⟩ => ⟨S4096x1024, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S_, .f32⟩
  | .hbm, ⟨88, _⟩ => ⟨S1024, .f32⟩
  | .hbm, ⟨89, _⟩ => ⟨S1x1024, .f32⟩
  | .hbm, ⟨90, _⟩ => ⟨S_, .f32⟩
  | .hbm, ⟨91, _⟩ => ⟨S4096x1024, .f32⟩
  | .hbm, ⟨92, _⟩ => ⟨S4096x1024, .f32⟩
  | .hbm, ⟨93, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_cst_4 : Ref sig .tc := ⟨.hbm, 28, rfl⟩
abbrev main_v17 : Ref sig .tc := ⟨.hbm, 29, rfl⟩
abbrev main_v18 : Ref sig .tc := ⟨.hbm, 30, rfl⟩
abbrev main_cst_5 : Ref sig .tc := ⟨.hbm, 31, rfl⟩
abbrev main_v19 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_7 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_10 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_cst_12 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_13 : Ref sig .tc := ⟨.hbm, 74, rfl⟩
abbrev main_v54 : Ref sig .tc := ⟨.hbm, 75, rfl⟩
abbrev main_v55 : Ref sig .tc := ⟨.hbm, 76, rfl⟩
abbrev main_cst_14 : Ref sig .tc := ⟨.hbm, 77, rfl⟩
abbrev main_v56 : Ref sig .tc := ⟨.hbm, 78, rfl⟩
abbrev main_v57 : Ref sig .tc := ⟨.hbm, 79, rfl⟩
abbrev main_cst_15 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_16 : Ref sig .tc := ⟨.hbm, 87, rfl⟩
abbrev main_v64 : Ref sig .tc := ⟨.hbm, 88, rfl⟩
abbrev main_v65 : Ref sig .tc := ⟨.hbm, 89, rfl⟩
abbrev main_cst_17 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩

abbrev nD : Nat := 1
abbrev τ : Topo := Topo.v7x

variable {F : FTy → Type} [FloatOps F]
-- ==== AdaMod.lean ====
abbrev S8x1024 : Shape := ⟨2, ![8, 1024]⟩
abbrev S4x1024x768 : Shape := ⟨3, ![4, 1024, 768]⟩
abbrev S4x768 : Shape := ⟨2, ![4, 768]⟩
abbrev S4x1x768 : Shape := ⟨3, ![4, 1, 768]⟩
abbrev S4x8x768 : Shape := ⟨3, ![4, 8, 768]⟩
abbrev S1x1024x768 : Shape := ⟨3, ![1, 1024, 768]⟩
abbrev S1x1x768 : Shape := ⟨3, ![1, 1, 768]⟩
abbrev S1x8x768 : Shape := ⟨3, ![1, 8, 768]⟩
abbrev S1024x768 : Shape := ⟨2, ![1024, 768]⟩
abbrev S8x768 : Shape := ⟨2, ![8, 768]⟩
abbrev S1x768 : Shape := ⟨2, ![1, 768]⟩

abbrev nBuf : Space → Nat
  | .hbm => 5
  | .vmem => 7
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x768, .f32⟩
  | .hbm, ⟨3, _⟩ => ⟨S4x1x768, .f32⟩
  | .hbm, ⟨4, _⟩ => ⟨S4x8x768, .f32⟩
  | .local _ .vmem, ⟨0, _⟩ => ⟨S8x1024, .f32⟩
  | .local _ .vmem, ⟨1, _⟩ => ⟨S1x1024x768, .f32⟩
  | .local _ .vmem, ⟨2, _⟩ => ⟨S1x1024x768, .f32⟩
  | .local _ .vmem, ⟨3, _⟩ => ⟨S1x1x768, .f32⟩
  | .local _ .vmem, ⟨4, _⟩ => ⟨S1x1x768, .f32⟩
  | .local _ .vmem, ⟨5, _⟩ => ⟨S1x8x768, .f32⟩
  | .local _ .vmem, ⟨6, _⟩ => ⟨S1x8x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x1024x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x8x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== AdaModRefIdeal.lean ====
abbrev S8x1024 : Shape := ⟨2, ![8, 1024]⟩
abbrev S4x1024x768 : Shape := ⟨3, ![4, 1024, 768]⟩
abbrev S4x768 : Shape := ⟨2, ![4, 768]⟩
abbrev S_ : Shape := ⟨0, ![]⟩
abbrev S8x4x768 : Shape := ⟨3, ![8, 4, 768]⟩
abbrev S4x8x768 : Shape := ⟨3, ![4, 8, 768]⟩
abbrev S4x1x768 : Shape := ⟨3, ![4, 1, 768]⟩

abbrev nBuf : Space → Nat
  | .hbm => 17
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x1024x768, .f32⟩
  | .hbm, ⟨2, _⟩ => ⟨S4x768, .f32⟩
  | .hbm, ⟨3, _⟩ => ⟨S8x1024, .f32⟩
  | .hbm, ⟨4, _⟩ => ⟨S8x1024, .f32⟩
  | .hbm, ⟨5, _⟩ => ⟨S_, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S8x1024, .f32⟩
  | .hbm, ⟨12, _⟩ => ⟨S8x4x768, .f32⟩
  | .hbm, ⟨13, _⟩ => ⟨S4x8x768, .f32⟩
  | .hbm, ⟨14, _⟩ => ⟨S4x1x768, .f32⟩
  | .hbm, ⟨15, _⟩ => ⟨S4x8x768, .f32⟩
  | .hbm, ⟨16, _⟩ => ⟨S4x8x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== AdaDw.lean ====
abbrev S8x1024 : Shape := ⟨2, ![8, 1024]⟩
abbrev S4x8x768 : Shape := ⟨3, ![4, 8, 768]⟩
abbrev S4x1024x768 : Shape := ⟨3, ![4, 1024, 768]⟩
abbrev S1x8x768 : Shape := ⟨3, ![1, 8, 768]⟩
abbrev S1x1024x768 : Shape := ⟨3, ![1, 1024, 768]⟩
abbrev S8x768 : Shape := ⟨2, ![8, 768]⟩
abbrev S1024x768 : Shape := ⟨2, ![1024, 768]⟩

abbrev nBuf : Space → Nat
  | .hbm => 3
  | .vmem => 5
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S4x1024x768, .f32⟩
  | .local _ .vmem, ⟨0, _⟩ => ⟨S8x1024, .f32⟩
  | .local _ .vmem, ⟨1, _⟩ => ⟨S1x8x768, .f32⟩
  | .local _ .vmem, ⟨2, _⟩ => ⟨S1x8x768, .f32⟩
  | .local _ .vmem, ⟨3, _⟩ => ⟨S1x1024x768, .f32⟩
  | .local _ .vmem, ⟨4, _⟩ => ⟨S1x1024x768, .f32⟩
  | _, _ => ⟨S8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x8x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== AdaDwRefIdeal.lean ====
abbrev S8x1024 : Shape := ⟨2, ![8, 1024]⟩
abbrev S4x8x768 : Shape := ⟨3, ![4, 8, 768]⟩
abbrev S_ : Shape := ⟨0, ![]⟩
abbrev S4x1024x768 : Shape := ⟨3, ![4, 1024, 768]⟩
abbrev S4x768 : Shape := ⟨2, ![4, 768]⟩
abbrev S8x4x768 : Shape := ⟨3, ![8, 4, 768]⟩
abbrev S4x1x768 : Shape := ⟨3, ![4, 1, 768]⟩
abbrev S4x768x1024 : Shape := ⟨3, ![4, 768, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8x1024, .f32⟩
  | .hbm, ⟨1, _⟩ => ⟨S4x8x768, .f32⟩
  | .hbm, ⟨2, _⟩ => ⟨S_, .f32⟩
  | .hbm, ⟨3, _⟩ => ⟨S4x1024x768, .f32⟩
  | .hbm, ⟨4, _⟩ => ⟨S_, .f32⟩
  | .hbm, ⟨5, _⟩ => ⟨S4x768, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S8x4x768, .f32⟩
  | .hbm, ⟨16, _⟩ => ⟨S4x8x768, .f32⟩
  | .hbm, ⟨17, _⟩ => ⟨S4x1x768, .f32⟩
  | .hbm, ⟨18, _⟩ => ⟨S4x8x768, .f32⟩
  | .hbm, ⟨19, _⟩ => ⟨S4x8x768, .f32⟩
  | .hbm, ⟨20, _⟩ => ⟨S8x4x768, .f32⟩
  | .hbm, ⟨21, _⟩ => ⟨S4x768x1024, .f32⟩
  | .hbm, ⟨22, _⟩ => ⟨S4x1024x768, .f32⟩
  | _, _ => ⟨S8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩

abbrev nD : Nat := 1
abbrev τ : Topo := Topo.v7x

variable {F : FTy → Type} [FloatOps F]
-- ==== Loss.lean ====
abbrev S4096x1024 : Shape := ⟨2, ![4096, 1024]⟩
abbrev S8x128 : Shape := ⟨2, ![8, 128]⟩
abbrev S512x1024 : Shape := ⟨2, ![512, 1024]⟩
abbrev S512 : Shape := ⟨1, ![512]⟩
abbrev S512x1 : Shape := ⟨2, ![512, 1]⟩
abbrev S1x512x1 : Shape := ⟨3, ![1, 512, 1]⟩
abbrev S1 : Shape := ⟨1, ![1]⟩
abbrev S1x1x1 : Shape := ⟨3, ![1, 1, 1]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S8x128, .f32⟩
  | .hbm, ⟨3, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S8x128, .f32⟩
  | .local _ .vmem, ⟨5, _⟩ => ⟨S512x1024, .f32⟩
  | .local _ .vmem, ⟨6, _⟩ => ⟨S512x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== LossRefIdeal.lean ====
abbrev S4096x1024 : Shape := ⟨2, ![4096, 1024]⟩
abbrev S_ : Shape := ⟨0, ![]⟩
abbrev S4096 : Shape := ⟨1, ![4096]⟩
abbrev S8x128 : Shape := ⟨2, ![8, 128]⟩

abbrev nBuf : Space → Nat
  | .hbm => 26
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S4096x1024, .f32⟩
  | .hbm, ⟨4, _⟩ => ⟨S_, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096, .f32⟩
  | .hbm, ⟨20, _⟩ => ⟨S_, .f32⟩
  | .hbm, ⟨21, _⟩ => ⟨S4096, .f32⟩
  | .hbm, ⟨22, _⟩ => ⟨S4096, .f32⟩
  | .hbm, ⟨23, _⟩ => ⟨S4096x1024, .f32⟩
  | .hbm, ⟨24, _⟩ => ⟨S4096x1024, .f32⟩
  | .hbm, ⟨25, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Attn.lean ====
abbrev S4096x2432 : Shape := ⟨2, ![4096, 2432]⟩
abbrev S4096x8 : Shape := ⟨2, ![4096, 8]⟩
abbrev S4096x1024 : Shape := ⟨2, ![4096, 1024]⟩
abbrev S4096x512 : Shape := ⟨2, ![4096, 512]⟩
abbrev S4096x8x1 : Shape := ⟨3, ![4096, 8, 1]⟩
abbrev S_ : Shape := ⟨0, ![]⟩
abbrev S4096x8x3 : Shape := ⟨3, ![4096, 8, 3]⟩
abbrev S4096x8x58 : Shape := ⟨3, ![4096, 8, 58]⟩
abbrev S4096x8x64 : Shape := ⟨3, ![4096, 8, 64]⟩
abbrev S4096x8x128 : Shape := ⟨3, ![4096, 8, 128]⟩
abbrev S8x4096x4096 : Shape := ⟨3, ![8, 4096, 4096]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩
abbrev S4x2x4096 : Shape := ⟨3, ![4, 2, 4096]⟩
abbrev S4x8x4096 : Shape := ⟨3, ![4, 8, 4096]⟩
abbrev S1024x4096 : Shape := ⟨2, ![1024, 4096]⟩
abbrev S4096x256 : Shape := ⟨2, ![4096, 256]⟩
abbrev S256x4096 : Shape := ⟨2, ![256, 4096]⟩
abbrev S512x256 : Shape := ⟨2, ![512, 256]⟩
abbrev S256x512 : Shape := ⟨2, ![256, 512]⟩
abbrev S512x128 : Shape := ⟨2, ![512, 128]⟩
abbrev S4096x128 : Shape := ⟨2, ![4096, 128]⟩
abbrev S1x8x4096 : Shape := ⟨3, ![1, 8, 4096]⟩
abbrev S128x4096 : Shape := ⟨2, ![128, 4096]⟩
abbrev S2x128x4096 : Shape := ⟨3, ![2, 128, 4096]⟩
abbrev S512x512 : Shape := ⟨2, ![512, 512]⟩
abbrev S128x512 : Shape := ⟨2, ![128, 512]⟩
abbrev S64x512 : Shape := ⟨2, ![64, 512]⟩
abbrev S512 : Shape := ⟨1, ![512]⟩
abbrev S1x512 : Shape := ⟨2, ![1, 512]⟩
abbrev S1x1x512 : Shape := ⟨3, ![1, 1, 512]⟩
abbrev S1x128x512 : Shape := ⟨3, ![1, 128, 512]⟩
abbrev S512x1 : Shape := ⟨2, ![512, 1]⟩

abbrev nBuf : Space → Nat
  | .hbm => 93
  | .vmem => 29
  | .smem => 0
  | _ => 0

abbrev bufTy : (tb : Table) → Fin (tcTables nBuf tb) → BufTy
  | .hbm, ⟨0, _⟩ => ⟨S4096x2432, .f32⟩
  | .hbm, ⟨1, _⟩ => ⟨S4096x8, .f32⟩
  | .hbm, ⟨2, _⟩ => ⟨S4096x1024, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x8, .bf16⟩
  | .hbm, ⟨7, _⟩ => ⟨S4096x8, .f32⟩
  | .hbm, ⟨8, _⟩ => ⟨S4096x8, .f32⟩
  | .hbm, ⟨9, _⟩ => ⟨S4096x8, .bf16⟩
  | .hbm, ⟨10, _⟩ => ⟨S4096x8, .f32⟩
  | .hbm, ⟨11, _⟩ => ⟨S4096x8, .f32⟩
  | .hbm, ⟨12, _⟩ => ⟨S4096x8, .bf16⟩
  | .hbm, ⟨13, _⟩ => ⟨S4096x8, .f32⟩
  | .hbm, ⟨14, _⟩ => ⟨S4096x8x1, .f32⟩
  | .hbm, ⟨15, _⟩ => ⟨S4096x8x1, .f32⟩
  | .hbm, ⟨16, _⟩ => ⟨S4096x8x1, .f32⟩
  | .hbm, ⟨17, _⟩ => ⟨S_, .f32⟩
  | .hbm, ⟨18, _⟩ => ⟨S4096x8x3, .f32⟩
  | .hbm, ⟨19, _⟩ => ⟨S_, .f32⟩
  | .hbm, ⟨20, _⟩ => ⟨S4096x8x58, .f32⟩
  | .hbm, ⟨21, _⟩ => ⟨S4096x8x64, .f32⟩
  | .hbm, ⟨22, _⟩ => ⟨S_, .f32⟩
  | .hbm, ⟨23, _⟩ => ⟨S4096x8x64, .f32⟩
  | .hbm, ⟨24, _⟩ => ⟨S4096x8x64, .f32⟩
  | .hbm, ⟨25, _⟩ => ⟨S4096x8x128, .f32⟩
  | .hbm, ⟨26, _⟩ => ⟨S4096x1024, .f32⟩
  | .hbm, ⟨27, _⟩ => ⟨S4096x8x64, .f32⟩
  | .hbm, ⟨28, _⟩ => ⟨S4096x8x1, .f32⟩
  | .hbm, ⟨29, _⟩ => ⟨S4096x8x1, .f32⟩
  | .hbm, ⟨30, _⟩ => ⟨S4096x8x1, .f32⟩
  | .hbm, ⟨31, _⟩ => ⟨S4096x8x128, .f32⟩
  | .hbm, ⟨32, _⟩ => ⟨S4096x1024, .f32⟩
  | .hbm, ⟨33, _⟩ => ⟨S4096x8x64, .f32⟩
  | .hbm, ⟨34, _⟩ => ⟨S4096x8x64, .f32⟩
  | .hbm, ⟨35, _⟩ => ⟨S8x4096x4096, .f32⟩
  | .hbm, ⟨36, _⟩ => ⟨S_, .f32⟩
  | .hbm, ⟨37, _⟩ => ⟨S8x4096x4096, .f32⟩
  | .hbm, ⟨38, _⟩ => ⟨S8x4096x4096, .f32⟩
  | .hbm, ⟨39, _⟩ => ⟨S8x4096, .f32⟩
  | .hbm, ⟨40, _⟩ => ⟨S8x4096x1, .f32⟩
  | .hbm, ⟨41, _⟩ => ⟨S8x4096, .f32⟩
  | .hbm, ⟨42, _⟩ => ⟨S8x1x4096, .f32⟩
  | .hbm, ⟨43, _⟩ => ⟨S8x4096x4096, .f32⟩
  | .hbm, ⟨44, _⟩ => ⟨S8x4096x4096, .f32⟩
  | .hbm, ⟨45, _⟩ => ⟨S8x4096x4096, .f32⟩
  | .hbm, ⟨46, _⟩ => ⟨S4096, .i32⟩
  | .hbm, ⟨47, _⟩ => ⟨S1x4096, .i32⟩
  | .hbm, ⟨48, _⟩ => ⟨S4096, .i32⟩
  | .hbm, ⟨49, _⟩ => ⟨S4096x1, .i32⟩
  | .hbm, ⟨50, _⟩ => ⟨S4096x4096, .i32⟩
  | .hbm, ⟨51, _⟩ => ⟨S4096x4096, .i32⟩
  | .hbm, ⟨52, _⟩ => ⟨S4096x4096, .i1⟩
  | .hbm, ⟨53, _⟩ => ⟨S8x4096x4096, .f32⟩
  | .hbm, ⟨54, _⟩ => ⟨S_, .f32⟩
  | .hbm, ⟨55, _⟩ => ⟨S_, .f32⟩
  | .hbm, ⟨56, _⟩ => ⟨S8x4096x4096, .i1⟩
  | .hbm, ⟨57, _⟩ => ⟨S8x4096x4096, .f32⟩
  | .hbm, ⟨58, _⟩ => ⟨S8x4096x4096, .f32⟩
  | .hbm, ⟨59, _⟩ => ⟨S_, .f32⟩
  | .hbm, ⟨60, _⟩ => ⟨S8x4096, .f32⟩
  | .hbm, ⟨61, _⟩ => ⟨S8x4096x1, .f32⟩
  | .hbm, ⟨62, _⟩ => ⟨S8x4096x4096, .f32⟩
  | .hbm, ⟨63, _⟩ => ⟨S8x4096x4096, .f32⟩
  | .hbm, ⟨64, _⟩ => ⟨S8x4096x4096, .f32⟩
  | .hbm, ⟨65, _⟩ => ⟨S_, .f32⟩
  | .hbm, ⟨66, _⟩ => ⟨S8x4096, .f32⟩
  | .hbm, ⟨67, _⟩ => ⟨S8x4096x1, .f32⟩
  | .hbm, ⟨68, _⟩ => ⟨S8x4096x4096, .f32⟩
  | .hbm, ⟨69, _⟩ => ⟨S8x4096x4096, .f32⟩
  | .hbm, ⟨70, _⟩ => ⟨S8x4096x1, .f32⟩
  | .hbm, ⟨71, _⟩ => ⟨S8x4096x1, .f32⟩
  | .hbm, ⟨72, _⟩ => ⟨S8x4096, .f32⟩
  | .hbm, ⟨73, _⟩ => ⟨S4096x8x64, .f32⟩
  | .hbm, ⟨74, _⟩ => ⟨S8x64x4096, .f32⟩
  | .hbm, ⟨75, _⟩ => ⟨S4096x8x64, .f32⟩
  | .hbm, ⟨76, _⟩ => ⟨S4096x512, .f32⟩
  | .hbm, ⟨77, _⟩ => ⟨S4x2x4096, .f32⟩
  | .hbm, ⟨78, _⟩ => ⟨S_, .i32⟩
  | .hbm, ⟨79, _⟩ => ⟨S_, .f32⟩
  | .hbm, ⟨80, _⟩ => ⟨S4x8x4096, .f32⟩
  | .hbm, ⟨81, _⟩ => ⟨S4096x1024, .bf16⟩
  | .hbm, ⟨82, _⟩ => ⟨S1024x4096, .f32⟩
  | .hbm, ⟨83, _⟩ => ⟨S1024x4096, .bf16⟩
  | .hbm, ⟨84, _⟩ => ⟨S4096x1024, .bf16⟩
  | .hbm, ⟨85, _⟩ => ⟨S1024x4096, .f32⟩
  | .hbm, ⟨86, _⟩ => ⟨S1024x4096, .bf16⟩
  | .hbm, ⟨87, _⟩ => ⟨S4096x512, .bf16⟩
  | .hbm, ⟨88, _⟩ => ⟨S4096x512, .bf16⟩
  | .hbm, ⟨89, _⟩ => ⟨S4096x512, .bf16⟩
  | .hbm, ⟨90, _⟩ => ⟨S4096x512, .bf16⟩
  | .hbm, ⟨91, _⟩ => ⟨S4096x512, .f32⟩
  | .hbm, ⟨92, _⟩ => ⟨S4096x512, .f32⟩
  | .local _ .vmem, ⟨0, _⟩ => ⟨S4096x256, .bf16⟩
  | .local _ .vmem, ⟨1, _⟩ => ⟨S4096x256, .bf16⟩
  | .local _ .vmem, ⟨2, _⟩ => ⟨S256x4096, .bf16⟩
  | .local _ .vmem, ⟨3, _⟩ => ⟨S256x4096, .bf16⟩
  | .local _ .vmem, ⟨4, _⟩ => ⟨S512x256, .bf16⟩
  | .local _ .vmem, ⟨5, _⟩ => ⟨S512x256, .bf16⟩
  | .local _ .vmem, ⟨6, _⟩ => ⟨S256x512, .bf16⟩
  | .local _ .vmem, ⟨7, _⟩ => ⟨S256x512, .bf16⟩
  | .local _ .vmem, ⟨8, _⟩ => ⟨S512x128, .f32⟩
  | .local _ .vmem, ⟨9, _⟩ => ⟨S512x128, .f32⟩
  | .local _ .vmem, ⟨10, _⟩ => ⟨S4096x128, .bf16⟩
  | .local _ .vmem, ⟨11, _⟩ => ⟨S4096x128, .bf16⟩
  | .local _ .vmem, ⟨12, _⟩ => ⟨S1x8x4096, .f32⟩
  | .local _ .vmem, ⟨13, _⟩ => ⟨S1x8x4096, .f32⟩
  | .local _ .vmem, ⟨14, _⟩ => ⟨S4096x128, .f32⟩
  | .local _ .vmem, ⟨15, _⟩ => ⟨S4096x128, .f32⟩
  | .local _ .vmem, ⟨16, _⟩ => ⟨S4096x128, .bf16⟩
  | .local _ .vmem, ⟨17, _⟩ => ⟨S4096x128, .bf16⟩
  | .local _ .vmem, ⟨18, _⟩ => ⟨S512x128, .bf16⟩
  | .local _ .vmem, ⟨19, _⟩ => ⟨S512x128, .bf16⟩
  | .local _ .vmem, ⟨20, _⟩ => ⟨S512x128, .bf16⟩
  | .local _ .vmem, ⟨21, _⟩ => ⟨S512x128, .bf16⟩
  | .local _ .vmem, ⟨22, _⟩ => ⟨S4096x128, .f32⟩
  | .local _ .vmem, ⟨23, _⟩ => ⟨S4096x128, .f32⟩
  | .local _ .vmem, ⟨24, _⟩ => ⟨S512x128, .f32⟩
  | .local _ .vmem, ⟨25, _⟩ => ⟨S512x128, .f32⟩
  | .local _ .vmem, ⟨26, _⟩ => ⟨S128x4096, .bf16⟩
  | .local _ .vmem, ⟨27, _⟩ => ⟨S8x4096, .f32⟩
  | .local _ .vmem, ⟨28, _⟩ => ⟨S2x128x4096, .f32⟩
  | _, _ => ⟨S4096x2432, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst : Ref sig .tc := ⟨.hbm, 17, rfl⟩
abbrev main_v14 : Ref sig .tc := ⟨.hbm, 18, rfl⟩
abbrev main_cst_0 : Ref sig .tc := ⟨.hbm, 19, rfl⟩
abbrev main_v15 : Ref sig .tc := ⟨.hbm, 20, rfl⟩
abbrev main_v16 : Ref sig .tc := ⟨.hbm, 21, rfl⟩
abbrev main_cst_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_cst_2 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_cst_3 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v47 : Ref sig .tc := ⟨.hbm, 58, rfl⟩
abbrev main_cst_4 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_5 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_c : Ref sig .tc := ⟨.hbm, 78, rfl⟩
abbrev main_call1_v0 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73_0 : Ref sig .tc := ⟨.hbm, 88, rfl⟩
abbrev main_v73_1 : Ref sig .tc := ⟨.hbm, 89, rfl⟩
abbrev main_v73_2 : Ref sig .tc := ⟨.hbm, 90, rfl⟩
abbrev main_v73_3 : Ref sig .tc := ⟨.hbm, 91, rfl⟩
abbrev main_v73_4 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_scratch0 : Ref sig .tc := ⟨.vmem, 26, rfl⟩
abbrev cc0_scratch1 : Ref sig .tc := ⟨.vmem, 27, rfl⟩
abbrev cc0_scratch2 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25

abbrev nD : Nat := 1
abbrev τ : Topo := Topo.v7x

variable {F : FTy → Type} [FloatOps F]

abbrev grid0 : Pipeline.Grid := ⟨2, ![4, 8], ![false, false]⟩

def k0_cond1 (i : grid0.Coords) : BitVec 1 :=
  let arg1 : BitVec 32 := BitVec.ofNat 32 (i 1).val
  let c0_i32 : BitVec 32 := 0#32
  let v6 : BitVec 1 := Scalar.cmpi .eq arg1 c0_i32
  let v7 : BitVec 32 := Scalar.extui v6
  let c0_i32_0 : BitVec 32 := 0#32
  let v8 : BitVec 1 := Scalar.cmpi .ne v7 c0_i32_0
  v8

@[reducible] def k0_t1_loop : Scf.Loop 32 :=
  let c0_i32_69 : BitVec 32 := 0#32
  let c8_i32_70 : BitVec 32 := 8#32
  let v153 : BitVec 32 := Scalar.addi c0_i32_69 c8_i32_70
  let c1_i32_71 : BitVec 32 := 1#32
  ⟨c0_i32_69, v153, c1_i32_71⟩
def k0_mult1 (k0_t1 : Fin k0_t1_loop.trips) : BitVec 32 :=
  let c0_i32_69 : BitVec 32 := 0#32
  let c1_i32_71 : BitVec 32 := 1#32
  let arg18 : BitVec 32 := Scf.iv c0_i32_69 c1_i32_71 k0_t1
  let c512_i32_73 : BitVec 32 := 512#32
  let v154 : BitVec 32 := Scalar.muli arg18 c512_i32_73
  v154
def k0_off1 (k0_t1 : Fin k0_t1_loop.trips) : Fin 2 → Nat :=
  let c0_i32_69 : BitVec 32 := 0#32
  let c1_i32_71 : BitVec 32 := 1#32
  let arg18 : BitVec 32 := Scf.iv c0_i32_69 c1_i32_71 k0_t1
  let c512_i32_73 : BitVec 32 := 512#32
  let v154 : BitVec 32 := Scalar.muli arg18 c512_i32_73
  let v155 : BitVec 32 := v154
  let v156 : Index := Scalar.indexCast v155
  let c0_74 : Index := 0#32
  ![v156.toNat, 0]
def k0_off2 (k0_t1 : Fin k0_t1_loop.trips) : Fin 2 → Nat :=
  let c0_77 : Index := 0#32
  let c0_i32_69 : BitVec 32 := 0#32
  let c1_i32_71 : BitVec 32 := 1#32
  let arg18 : BitVec 32 := Scf.iv c0_i32_69 c1_i32_71 k0_t1
  let c512_i32_73 : BitVec 32 := 512#32
  let v154 : BitVec 32 := Scalar.muli arg18 c512_i32_73
  let v155 : BitVec 32 := v154
  let v167 : Index := Scalar.indexCast v155
  ![0, v167.toNat]
def k0_off3 (k0_t1 : Fin k0_t1_loop.trips) : Fin 2 → Nat :=
  let c1_79 : Index := 1#32
  let c0_i32_69 : BitVec 32 := 0#32
  let c1_i32_71 : BitVec 32 := 1#32
  let arg18 : BitVec 32 := Scf.iv c0_i32_69 c1_i32_71 k0_t1
  let c512_i32_73 : BitVec 32 := 512#32
  let v154 : BitVec 32 := Scalar.muli arg18 c512_i32_73
  let v155 : BitVec 32 := v154
  let v174 : Index := Scalar.indexCast v155
  ![1, v174.toNat]
def k0_off4 (k0_t1 : Fin k0_t1_loop.trips) : Fin 2 → Nat :=
  let c0_80 : Index := 0#32
  let c0_i32_69 : BitVec 32 := 0#32
  let c1_i32_71 : BitVec 32 := 1#32
  let arg18 : BitVec 32 := Scf.iv c0_i32_69 c1_i32_71 k0_t1
  let c512_i32_73 : BitVec 32 := 512#32
  let v154 : BitVec 32 := Scalar.muli arg18 c512_i32_73
  let v155 : BitVec 32 := v154
  let v180 : Index := Scalar.indexCast v155
  ![0, v180.toNat]
def k0_mult2 (i : grid0.Coords) : BitVec 32 :=
  let arg1 : BitVec 32 := BitVec.ofNat 32 (i 1).val
  let c512_i32 : BitVec 32 := 512#32
  let v20 : BitVec 32 := Scalar.muli arg1 c512_i32
  v20
def k0_off5 (i : grid0.Coords) : Fin 2 → Nat :=
  let arg1 : BitVec 32 := BitVec.ofNat 32 (i 1).val
  let c512_i32 : BitVec 32 := 512#32
  let v20 : BitVec 32 := Scalar.muli arg1 c512_i32
  let v21 : BitVec 32 := v20
  let v22 : Index := Scalar.indexCast v21
  let c0_7 : Index := 0#32
  ![v22.toNat, 0]
def k0_off6 (i : grid0.Coords) : Fin 2 → Nat :=
  let c0_10 : Index := 0#32
  let arg1 : BitVec 32 := BitVec.ofNat 32 (i 1).val
  let c512_i32 : BitVec 32 := 512#32
  let v20 : BitVec 32 := Scalar.muli arg1 c512_i32
  let v21 : BitVec 32 := v20
  let v27 : Index := Scalar.indexCast v21
  ![0, v27.toNat]
def k0_off7 (i : grid0.Coords) : Fin 3 → Nat :=
  let c0_13 : Index := 0#32
  let c0_14 : Index := 0#32
  let arg1 : BitVec 32 := BitVec.ofNat 32 (i 1).val
  let c512_i32 : BitVec 32 := 512#32
  let v20 : BitVec 32 := Scalar.muli arg1 c512_i32
  let v21 : BitVec 32 := v20
  let v33 : Index := Scalar.indexCast v21
  ![0, 0, v33.toNat]
def k0_off8 (i : grid0.Coords) : Fin 2 → Nat :=
  let c0_16 : Index := 0#32
  let arg1 : BitVec 32 := BitVec.ofNat 32 (i 1).val
  let c512_i32 : BitVec 32 := 512#32
  let v20 : BitVec 32 := Scalar.muli arg1 c512_i32
  let v21 : BitVec 32 := v20
  let v42 : Index := Scalar.indexCast v21
  ![0, v42.toNat]
def k0_off9 (i : grid0.Coords) : Fin 2 → Nat :=
  let c0_18 : Index := 0#32
  let arg1 : BitVec 32 := BitVec.ofNat 32 (i 1).val
  let c512_i32 : BitVec 32 := 512#32
  let v20 : BitVec 32 := Scalar.muli arg1 c512_i32
  let v21 : BitVec 32 := v20
  let v45 : Index := Scalar.indexCast v21
  ![0, v45.toNat]
def k0_off10 (i : grid0.Coords) : Fin 2 → Nat :=
  let arg1 : BitVec 32 := BitVec.ofNat 32 (i 1).val
  let c512_i32 : BitVec 32 := 512#32
  let v20 : BitVec 32 := Scalar.muli arg1 c512_i32
  let v21 : BitVec 32 := v20
  let v51 : Index := Scalar.indexCast v21
  let c0_19 : Index := 0#32
  ![v51.toNat, 0]
def k0_off11 (i : grid0.Coords) : Fin 3 → Nat :=
  let c0_21 : Index := 0#32
  let c0_22 : Index := 0#32
  let arg1 : BitVec 32 := BitVec.ofNat 32 (i 1).val
  let c512_i32 : BitVec 32 := 512#32
  let v20 : BitVec 32 := Scalar.muli arg1 c512_i32
  let v21 : BitVec 32 := v20
  let v56 : Index := Scalar.indexCast v21
  ![0, 0, v56.toNat]
def k0_off12 (i : grid0.Coords) : Fin 2 → Nat :=
  let c128_29 : Index := 128#32
  let arg1 : BitVec 32 := BitVec.ofNat 32 (i 1).val
  let c512_i32 : BitVec 32 := 512#32
  let v20 : BitVec 32 := Scalar.muli arg1 c512_i32
  let v21 : BitVec 32 := v20
  let v69 : Index := Scalar.indexCast v21
  ![128, v69.toNat]
def k0_off13 (i : grid0.Coords) : Fin 3 → Nat :=
  let c0_32 : Index := 0#32
  let c1 : Index := 1#32
  let arg1 : BitVec 32 := BitVec.ofNat 32 (i 1).val
  let c512_i32 : BitVec 32 := 512#32
  let v20 : BitVec 32 := Scalar.muli arg1 c512_i32
  let v21 : BitVec 32 := v20
  let v75 : Index := Scalar.indexCast v21
  ![0, 1, v75.toNat]
def k0_off14 (i : grid0.Coords) : Fin 2 → Nat :=
  let c1_36 : Index := 1#32
  let arg1 : BitVec 32 := BitVec.ofNat 32 (i 1).val
  let c512_i32 : BitVec 32 := 512#32
  let v20 : BitVec 32 := Scalar.muli arg1 c512_i32
  let v21 : BitVec 32 := v20
  let v87 : Index := Scalar.indexCast v21
  ![1, v87.toNat]
def k0_off15 (i : grid0.Coords) : Fin 2 → Nat :=
  let arg1 : BitVec 32 := BitVec.ofNat 32 (i 1).val
  let c512_i32 : BitVec 32 := 512#32
  let v20 : BitVec 32 := Scalar.muli arg1 c512_i32
  let v21 : BitVec 32 := v20
  let v93 : Index := Scalar.indexCast v21
  let c128_37 : Index := 128#32
  ![v93.toNat, 128]
def k0_off16 (i : grid0.Coords) : Fin 3 → Nat :=
  let c1_39 : Index := 1#32
  let c0_40 : Index := 0#32
  let arg1 : BitVec 32 := BitVec.ofNat 32 (i 1).val
  let c512_i32 : BitVec 32 := 512#32
  let v20 : BitVec 32 := Scalar.muli arg1 c512_i32
  let v21 : BitVec 32 := v20
  let v98 : Index := Scalar.indexCast v21
  ![1, 0, v98.toNat]
@[reducible] def k0_t2_loop (i : grid0.Coords) : Scf.Loop 32 :=
  let arg1 : BitVec 32 := BitVec.ofNat 32 (i 1).val
  let c1_i32 : BitVec 32 := 1#32
  let v109 : BitVec 32 := Scalar.addi arg1 c1_i32
  let c8_i32 : BitVec 32 := 8#32
  let v110 : BitVec 32 := Scalar.subi c8_i32 v109
  let c1_i32_46 : BitVec 32 := 1#32
  let v112 : BitVec 32 := Scalar.divsi v110 c1_i32_46
  let v113 : BitVec 32 := Scalar.muli v112 c1_i32_46
  let v114 : BitVec 32 := Scalar.addi v109 v113
  let c1_i32_47 : BitVec 32 := 1#32
  ⟨v109, v114, c1_i32_47⟩
def k0_mult3 (i : grid0.Coords) (k0_t2 : Fin (k0_t2_loop i).trips) : BitVec 32 :=
  let arg1 : BitVec 32 := BitVec.ofNat 32 (i 1).val
  let c1_i32 : BitVec 32 := 1#32
  let v109 : BitVec 32 := Scalar.addi arg1 c1_i32
  let c1_i32_47 : BitVec 32 := 1#32
  let arg18 : BitVec 32 := Scf.iv v109 c1_i32_47 k0_t2
  let c512_i32_62 : BitVec 32 := 512#32
  let v145 : BitVec 32 := Scalar.muli arg18 c512_i32_62
  v145
def k0_off17 (i : grid0.Coords) (k0_t2 : Fin (k0_t2_loop i).trips) : Fin 2 → Nat :=
  let arg1 : BitVec 32 := BitVec.ofNat 32 (i 1).val
  let c1_i32 : BitVec 32 := 1#32
  let v109 : BitVec 32 := Scalar.addi arg1 c1_i32
  let c1_i32_47 : BitVec 32 := 1#32
  let arg18 : BitVec 32 := Scf.iv v109 c1_i32_47 k0_t2
  let c512_i32_62 : BitVec 32 := 512#32
  let v145 : BitVec 32 := Scalar.muli arg18 c512_i32_62
  let v146 : BitVec 32 := v145
  let v147 : Index := Scalar.indexCast v146
  let c0_63 : Index := 0#32
  ![v147.toNat, 0]
def k0_off18 (i : grid0.Coords) (k0_t2 : Fin (k0_t2_loop i).trips) : Fin 2 → Nat :=
  let c0_66 : Index := 0#32
  let arg1 : BitVec 32 := BitVec.ofNat 32 (i 1).val
  let c1_i32 : BitVec 32 := 1#32
  let v109 : BitVec 32 := Scalar.addi arg1 c1_i32
  let c1_i32_47 : BitVec 32 := 1#32
  let arg18 : BitVec 32 := Scf.iv v109 c1_i32_47 k0_t2
  let c512_i32_62 : BitVec 32 := 512#32
  let v145 : BitVec 32 := Scalar.muli arg18 c512_i32_62
  let v146 : BitVec 32 := v145
  let v152 : Index := Scalar.indexCast v146
  ![0, v152.toNat]
def k0_off19 (i : grid0.Coords) (k0_t2 : Fin (k0_t2_loop i).trips) : Fin 3 → Nat :=
  let c0_68 : Index := 0#32
  let c0_69 : Index := 0#32
  let arg1 : BitVec 32 := BitVec.ofNat 32 (i 1).val
  let c1_i32 : BitVec 32 := 1#32
  let v109 : BitVec 32 := Scalar.addi arg1 c1_i32
  let c1_i32_47 : BitVec 32 := 1#32
  let arg18 : BitVec 32 := Scf.iv v109 c1_i32_47 k0_t2
  let c512_i32_62 : BitVec 32 := 512#32
  let v145 : BitVec 32 := Scalar.muli arg18 c512_i32_62
  let v146 : BitVec 32 := v145
  let v156 : Index := Scalar.indexCast v146
  ![0, 0, v156.toNat]
def k0_off20 (i : grid0.Coords) (k0_t2 : Fin (k0_t2_loop i).trips) : Fin 2 → Nat :=
  let c0_71 : Index := 0#32
  let arg1 : BitVec 32 := BitVec.ofNat 32 (i 1).val
  let c1_i32 : BitVec 32 := 1#32
  let v109 : BitVec 32 := Scalar.addi arg1 c1_i32
  let c1_i32_47 : BitVec 32 := 1#32
  let arg18 : BitVec 32 := Scf.iv v109 c1_i32_47 k0_t2
  let c512_i32_62 : BitVec 32 := 512#32
  let v145 : BitVec 32 := Scalar.muli arg18 c512_i32_62
  let v146 : BitVec 32 := v145
  let v165 : Index := Scalar.indexCast v146
  ![0, v165.toNat]
def k0_off21 (i : grid0.Coords) (k0_t2 : Fin (k0_t2_loop i).trips) : Fin 2 → Nat :=
  let c0_73 : Index := 0#32
  let arg1 : BitVec 32 := BitVec.ofNat 32 (i 1).val
  let c1_i32 : BitVec 32 := 1#32
  let v109 : BitVec 32 := Scalar.addi arg1 c1_i32
  let c1_i32_47 : BitVec 32 := 1#32
  let arg18 : BitVec 32 := Scf.iv v109 c1_i32_47 k0_t2
  let c512_i32_62 : BitVec 32 := 512#32
  let v145 : BitVec 32 := Scalar.muli arg18 c512_i32_62
  let v146 : BitVec 32 := v145
  let v168 : Index := Scalar.indexCast v146
  ![0, v168.toNat]
def k0_off22 (i : grid0.Coords) (k0_t2 : Fin (k0_t2_loop i).trips) : Fin 2 → Nat :=
  let arg1 : BitVec 32 := BitVec.ofNat 32 (i 1).val
  let c1_i32 : BitVec 32 := 1#32
  let v109 : BitVec 32 := Scalar.addi arg1 c1_i32
  let c1_i32_47 : BitVec 32 := 1#32
  let arg18 : BitVec 32 := Scf.iv v109 c1_i32_47 k0_t2
  let c512_i32_62 : BitVec 32 := 512#32
  let v145 : BitVec 32 := Scalar.muli arg18 c512_i32_62
  let v146 : BitVec 32 := v145
  let v174 : Index := Scalar.indexCast v146
  let c0_74 : Index := 0#32
  ![v174.toNat, 0]
def k0_off23 (i : grid0.Coords) (k0_t2 : Fin (k0_t2_loop i).trips) : Fin 3 → Nat :=
  let c0_76 : Index := 0#32
  let c0_77 : Index := 0#32
  let arg1 : BitVec 32 := BitVec.ofNat 32 (i 1).val
  let c1_i32 : BitVec 32 := 1#32
  let v109 : BitVec 32 := Scalar.addi arg1 c1_i32
  let c1_i32_47 : BitVec 32 := 1#32
  let arg18 : BitVec 32 := Scf.iv v109 c1_i32_47 k0_t2
  let c512_i32_62 : BitVec 32 := 512#32
  let v145 : BitVec 32 := Scalar.muli arg18 c512_i32_62
  let v146 : BitVec 32 := v145
  let v179 : Index := Scalar.indexCast v146
  ![0, 0, v179.toNat]
def k0_off24 (i : grid0.Coords) (k0_t2 : Fin (k0_t2_loop i).trips) : Fin 2 → Nat :=
  let c128_85 : Index := 128#32
  let arg1 : BitVec 32 := BitVec.ofNat 32 (i 1).val
  let c1_i32 : BitVec 32 := 1#32
  let v109 : BitVec 32 := Scalar.addi arg1 c1_i32
  let c1_i32_47 : BitVec 32 := 1#32
  let arg18 : BitVec 32 := Scf.iv v109 c1_i32_47 k0_t2
  let c512_i32_62 : BitVec 32 := 512#32
  let v145 : BitVec 32 := Scalar.muli arg18 c512_i32_62
  let v146 : BitVec 32 := v145
  let v192 : Index := Scalar.indexCast v146
  ![128, v192.toNat]
def k0_off25 (i : grid0.Coords) (k0_t2 : Fin (k0_t2_loop i).trips) : Fin 3 → Nat :=
  let c0_87 : Index := 0#32
  let c1_88 : Index := 1#32
  let arg1 : BitVec 32 := BitVec.ofNat 32 (i 1).val
  let c1_i32 : BitVec 32 := 1#32
  let v109 : BitVec 32 := Scalar.addi arg1 c1_i32
  let c1_i32_47 : BitVec 32 := 1#32
  let arg18 : BitVec 32 := Scf.iv v109 c1_i32_47 k0_t2
  let c512_i32_62 : BitVec 32 := 512#32
  let v145 : BitVec 32 := Scalar.muli arg18 c512_i32_62
  let v146 : BitVec 32 := v145
  let v196 : Index := Scalar.indexCast v146
  ![0, 1, v196.toNat]
def k0_off26 (i : grid0.Coords) (k0_t2 : Fin (k0_t2_loop i).trips) : Fin 2 → Nat :=
  let c1_92 : Index := 1#32
  let arg1 : BitVec 32 := BitVec.ofNat 32 (i 1).val
  let c1_i32 : BitVec 32 := 1#32
  let v109 : BitVec 32 := Scalar.addi arg1 c1_i32
  let c1_i32_47 : BitVec 32 := 1#32
  let arg18 : BitVec 32 := Scf.iv v109 c1_i32_47 k0_t2
  let c512_i32_62 : BitVec 32 := 512#32
  let v145 : BitVec 32 := Scalar.muli arg18 c512_i32_62
  let v146 : BitVec 32 := v145
  let v208 : Index := Scalar.indexCast v146
  ![1, v208.toNat]
def k0_off27 (i : grid0.Coords) (k0_t2 : Fin (k0_t2_loop i).trips) : Fin 2 → Nat :=
  let arg1 : BitVec 32 := BitVec.ofNat 32 (i 1).val
  let c1_i32 : BitVec 32 := 1#32
  let v109 : BitVec 32 := Scalar.addi arg1 c1_i32
  let c1_i32_47 : BitVec 32 := 1#32
  let arg18 : BitVec 32 := Scf.iv v109 c1_i32_47 k0_t2
  let c512_i32_62 : BitVec 32 := 512#32
  let v145 : BitVec 32 := Scalar.muli arg18 c512_i32_62
  let v146 : BitVec 32 := v145
  let v214 : Index := Scalar.indexCast v146
  let c128_93 : Index := 128#32
  ![v214.toNat, 128]
def k0_off28 (i : grid0.Coords) (k0_t2 : Fin (k0_t2_loop i).trips) : Fin 3 → Nat :=
  let c1_95 : Index := 1#32
  let c0_96 : Index := 0#32
  let arg1 : BitVec 32 := BitVec.ofNat 32 (i 1).val
  let c1_i32 : BitVec 32 := 1#32
  let v109 : BitVec 32 := Scalar.addi arg1 c1_i32
  let c1_i32_47 : BitVec 32 := 1#32
  let arg18 : BitVec 32 := Scf.iv v109 c1_i32_47 k0_t2
  let c512_i32_62 : BitVec 32 := 512#32
  let v145 : BitVec 32 := Scalar.muli arg18 c512_i32_62
  let v146 : BitVec 32 := v145
  let v219 : Index := Scalar.indexCast v146
  ![1, 0, v219.toNat]
@[reducible] def k0_t3_loop (i : grid0.Coords) : Scf.Loop 32 :=
  let arg1 : BitVec 32 := BitVec.ofNat 32 (i 1).val
  let c1_i32 : BitVec 32 := 1#32
  let v109 : BitVec 32 := Scalar.addi arg1 c1_i32
  let c8_i32 : BitVec 32 := 8#32
  let v110 : BitVec 32 := Scalar.subi c8_i32 v109
  let c1_i32_46 : BitVec 32 := 1#32
  let v112 : BitVec 32 := Scalar.divsi v110 c1_i32_46
  let v113 : BitVec 32 := Scalar.muli v112 c1_i32_46
  let v114 : BitVec 32 := Scalar.addi v109 v113
  let v111 : BitVec 32 := Scalar.addi v109 v110
  let c1_i32_48 : BitVec 32 := 1#32
  ⟨v114, v111, c1_i32_48⟩
def k0_mult4 (i : grid0.Coords) (k0_t3 : Fin (k0_t3_loop i).trips) : BitVec 32 :=
  let arg1 : BitVec 32 := BitVec.ofNat 32 (i 1).val
  let c1_i32 : BitVec 32 := 1#32
  let v109 : BitVec 32 := Scalar.addi arg1 c1_i32
  let c8_i32 : BitVec 32 := 8#32
  let v110 : BitVec 32 := Scalar.subi c8_i32 v109
  let c1_i32_46 : BitVec 32 := 1#32
  let v112 : BitVec 32 := Scalar.divsi v110 c1_i32_46
  let v113 : BitVec 32 := Scalar.muli v112 c1_i32_46
  let v114 : BitVec 32 := Scalar.addi v109 v113
  let c1_i32_48 : BitVec 32 := 1#32
  let arg18 : BitVec 32 := Scf.iv v114 c1_i32_48 k0_t3
  let c512_i32_62 : BitVec 32 := 512#32
  let v145 : BitVec 32 := Scalar.muli arg18 c512_i32_62
  v145
def k0_off29 (i : grid0.Coords) (k0_t3 : Fin (k0_t3_loop i).trips) : Fin 2 → Nat :=
  let arg1 : BitVec 32 := BitVec.ofNat 32 (i 1).val
  let c1_i32 : BitVec 32 := 1#32
  let v109 : BitVec 32 := Scalar.addi arg1 c1_i32
  let c8_i32 : BitVec 32 := 8#32
  let v110 : BitVec 32 := Scalar.subi c8_i32 v109
  let c1_i32_46 : BitVec 32 := 1#32
  let v112 : BitVec 32 := Scalar.divsi v110 c1_i32_46
  let v113 : BitVec 32 := Scalar.muli v112 c1_i32_46
  let v114 : BitVec 32 := Scalar.addi v109 v113
  let c1_i32_48 : BitVec 32 := 1#32
  let arg18 : BitVec 32 := Scf.iv v114 c1_i32_48 k0_t3
  let c512_i32_62 : BitVec 32 := 512#32
  let v145 : BitVec 32 := Scalar.muli arg18 c512_i32_62
  let v146 : BitVec 32 := v145
  let v147 : Index := Scalar.indexCast v146
  let c0_63 : Index := 0#32
  ![v147.toNat, 0]
def k0_off30 (i : grid0.Coords) (k0_t3 : Fin (k0_t3_loop i).trips) : Fin 2 → Nat :=
  let c0_66 : Index := 0#32
  let arg1 : BitVec 32 := BitVec.ofNat 32 (i 1).val
  let c1_i32 : BitVec 32 := 1#32
  let v109 : BitVec 32 := Scalar.addi arg1 c1_i32
  let c8_i32 : BitVec 32 := 8#32
  let v110 : BitVec 32 := Scalar.subi c8_i32 v109
  let c1_i32_46 : BitVec 32 := 1#32
  let v112 : BitVec 32 := Scalar.divsi v110 c1_i32_46
  let v113 : BitVec 32 := Scalar.muli v112 c1_i32_46
  let v114 : BitVec 32 := Scalar.addi v109 v113
  let c1_i32_48 : BitVec 32 := 1#32
  let arg18 : BitVec 32 := Scf.iv v114 c1_i32_48 k0_t3
  let c512_i32_62 : BitVec 32 := 512#32
  let v145 : BitVec 32 := Scalar.muli arg18 c512_i32_62
  let v146 : BitVec 32 := v145
  let v152 : Index := Scalar.indexCast v146
  ![0, v152.toNat]
def k0_off31 (i : grid0.Coords) (k0_t3 : Fin (k0_t3_loop i).trips) : Fin 3 → Nat :=
  let c0_68 : Index := 0#32
  let c0_69 : Index := 0#32
  let arg1 : BitVec 32 := BitVec.ofNat 32 (i 1).val
  let c1_i32 : BitVec 32 := 1#32
  let v109 : BitVec 32 := Scalar.addi arg1 c1_i32
  let c8_i32 : BitVec 32 := 8#32
  let v110 : BitVec 32 := Scalar.subi c8_i32 v109
  let c1_i32_46 : BitVec 32 := 1#32
  let v112 : BitVec 32 := Scalar.divsi v110 c1_i32_46
  let v113 : BitVec 32 := Scalar.muli v112 c1_i32_46
  let v114 : BitVec 32 := Scalar.addi v109 v113
  let c1_i32_48 : BitVec 32 := 1#32
  let arg18 : BitVec 32 := Scf.iv v114 c1_i32_48 k0_t3
  let c512_i32_62 : BitVec 32 := 512#32
  let v145 : BitVec 32 := Scalar.muli arg18 c512_i32_62
  let v146 : BitVec 32 := v145
  let v156 : Index := Scalar.indexCast v146
  ![0, 0, v156.toNat]
def k0_off32 (i : grid0.Coords) (k0_t3 : Fin (k0_t3_loop i).trips) : Fin 2 → Nat :=
  let c0_71 : Index := 0#32
  let arg1 : BitVec 32 := BitVec.ofNat 32 (i 1).val
  let c1_i32 : BitVec 32 := 1#32
  let v109 : BitVec 32 := Scalar.addi arg1 c1_i32
  let c8_i32 : BitVec 32 := 8#32
  let v110 : BitVec 32 := Scalar.subi c8_i32 v109
  let c1_i32_46 : BitVec 32 := 1#32
  let v112 : BitVec 32 := Scalar.divsi v110 c1_i32_46
  let v113 : BitVec 32 := Scalar.muli v112 c1_i32_46
  let v114 : BitVec 32 := Scalar.addi v109 v113
  let c1_i32_48 : BitVec 32 := 1#32
  let arg18 : BitVec 32 := Scf.iv v114 c1_i32_48 k0_t3
  let c512_i32_62 : BitVec 32 := 512#32
  let v145 : BitVec 32 := Scalar.muli arg18 c512_i32_62
  let v146 : BitVec 32 := v145
  let v165 : Index := Scalar.indexCast v146
  ![0, v165.toNat]
def k0_off33 (i : grid0.Coords) (k0_t3 : Fin (k0_t3_loop i).trips) : Fin 2 → Nat :=
  let c0_73 : Index := 0#32
  let arg1 : BitVec 32 := BitVec.ofNat 32 (i 1).val
  let c1_i32 : BitVec 32 := 1#32
  let v109 : BitVec 32 := Scalar.addi arg1 c1_i32
  let c8_i32 : BitVec 32 := 8#32
  let v110 : BitVec 32 := Scalar.subi c8_i32 v109
  let c1_i32_46 : BitVec 32 := 1#32
  let v112 : BitVec 32 := Scalar.divsi v110 c1_i32_46
  let v113 : BitVec 32 := Scalar.muli v112 c1_i32_46
  let v114 : BitVec 32 := Scalar.addi v109 v113
  let c1_i32_48 : BitVec 32 := 1#32
  let arg18 : BitVec 32 := Scf.iv v114 c1_i32_48 k0_t3
  let c512_i32_62 : BitVec 32 := 512#32
  let v145 : BitVec 32 := Scalar.muli arg18 c512_i32_62
  let v146 : BitVec 32 := v145
  let v168 : Index := Scalar.indexCast v146
  ![0, v168.toNat]
def k0_off34 (i : grid0.Coords) (k0_t3 : Fin (k0_t3_loop i).trips) : Fin 2 → Nat :=
  let arg1 : BitVec 32 := BitVec.ofNat 32 (i 1).val
  let c1_i32 : BitVec 32 := 1#32
  let v109 : BitVec 32 := Scalar.addi arg1 c1_i32
  let c8_i32 : BitVec 32 := 8#32
  let v110 : BitVec 32 := Scalar.subi c8_i32 v109
  let c1_i32_46 : BitVec 32 := 1#32
  let v112 : BitVec 32 := Scalar.divsi v110 c1_i32_46
  let v113 : BitVec 32 := Scalar.muli v112 c1_i32_46
  let v114 : BitVec 32 := Scalar.addi v109 v113
  let c1_i32_48 : BitVec 32 := 1#32
  let arg18 : BitVec 32 := Scf.iv v114 c1_i32_48 k0_t3
  let c512_i32_62 : BitVec 32 := 512#32
  let v145 : BitVec 32 := Scalar.muli arg18 c512_i32_62
  let v146 : BitVec 32 := v145
  let v174 : Index := Scalar.indexCast v146
  let c0_74 : Index := 0#32
  ![v174.toNat, 0]
def k0_off35 (i : grid0.Coords) (k0_t3 : Fin (k0_t3_loop i).trips) : Fin 3 → Nat :=
  let c0_76 : Index := 0#32
  let c0_77 : Index := 0#32
  let arg1 : BitVec 32 := BitVec.ofNat 32 (i 1).val
  let c1_i32 : BitVec 32 := 1#32
  let v109 : BitVec 32 := Scalar.addi arg1 c1_i32
  let c8_i32 : BitVec 32 := 8#32
  let v110 : BitVec 32 := Scalar.subi c8_i32 v109
  let c1_i32_46 : BitVec 32 := 1#32
  let v112 : BitVec 32 := Scalar.divsi v110 c1_i32_46
  let v113 : BitVec 32 := Scalar.muli v112 c1_i32_46
  let v114 : BitVec 32 := Scalar.addi v109 v113
  let c1_i32_48 : BitVec 32 := 1#32
  let arg18 : BitVec 32 := Scf.iv v114 c1_i32_48 k0_t3
  let c512_i32_62 : BitVec 32 := 512#32
  let v145 : BitVec 32 := Scalar.muli arg18 c512_i32_62
  let v146 : BitVec 32 := v145
  let v179 : Index := Scalar.indexCast v146
  ![0, 0, v179.toNat]
def k0_off36 (i : grid0.Coords) (k0_t3 : Fin (k0_t3_loop i).trips) : Fin 2 → Nat :=
  let c128_85 : Index := 128#32
  let arg1 : BitVec 32 := BitVec.ofNat 32 (i 1).val
  let c1_i32 : BitVec 32 := 1#32
  let v109 : BitVec 32 := Scalar.addi arg1 c1_i32
  let c8_i32 : BitVec 32 := 8#32
  let v110 : BitVec 32 := Scalar.subi c8_i32 v109
  let c1_i32_46 : BitVec 32 := 1#32
  let v112 : BitVec 32 := Scalar.divsi v110 c1_i32_46
  let v113 : BitVec 32 := Scalar.muli v112 c1_i32_46
  let v114 : BitVec 32 := Scalar.addi v109 v113
  let c1_i32_48 : BitVec 32 := 1#32
  let arg18 : BitVec 32 := Scf.iv v114 c1_i32_48 k0_t3
  let c512_i32_62 : BitVec 32 := 512#32
  let v145 : BitVec 32 := Scalar.muli arg18 c512_i32_62
  let v146 : BitVec 32 := v145
  let v192 : Index := Scalar.indexCast v146
  ![128, v192.toNat]
def k0_off37 (i : grid0.Coords) (k0_t3 : Fin (k0_t3_loop i).trips) : Fin 3 → Nat :=
  let c0_87 : Index := 0#32
  let c1_88 : Index := 1#32
  let arg1 : BitVec 32 := BitVec.ofNat 32 (i 1).val
  let c1_i32 : BitVec 32 := 1#32
  let v109 : BitVec 32 := Scalar.addi arg1 c1_i32
  let c8_i32 : BitVec 32 := 8#32
  let v110 : BitVec 32 := Scalar.subi c8_i32 v109
  let c1_i32_46 : BitVec 32 := 1#32
  let v112 : BitVec 32 := Scalar.divsi v110 c1_i32_46
  let v113 : BitVec 32 := Scalar.muli v112 c1_i32_46
  let v114 : BitVec 32 := Scalar.addi v109 v113
  let c1_i32_48 : BitVec 32 := 1#32
  let arg18 : BitVec 32 := Scf.iv v114 c1_i32_48 k0_t3
  let c512_i32_62 : BitVec 32 := 512#32
  let v145 : BitVec 32 := Scalar.muli arg18 c512_i32_62
  let v146 : BitVec 32 := v145
  let v196 : Index := Scalar.indexCast v146
  ![0, 1, v196.toNat]
def k0_off38 (i : grid0.Coords) (k0_t3 : Fin (k0_t3_loop i).trips) : Fin 2 → Nat :=
  let c1_92 : Index := 1#32
  let arg1 : BitVec 32 := BitVec.ofNat 32 (i 1).val
  let c1_i32 : BitVec 32 := 1#32
  let v109 : BitVec 32 := Scalar.addi arg1 c1_i32
  let c8_i32 : BitVec 32 := 8#32
  let v110 : BitVec 32 := Scalar.subi c8_i32 v109
  let c1_i32_46 : BitVec 32 := 1#32
  let v112 : BitVec 32 := Scalar.divsi v110 c1_i32_46
  let v113 : BitVec 32 := Scalar.muli v112 c1_i32_46
  let v114 : BitVec 32 := Scalar.addi v109 v113
  let c1_i32_48 : BitVec 32 := 1#32
  let arg18 : BitVec 32 := Scf.iv v114 c1_i32_48 k0_t3
  let c512_i32_62 : BitVec 32 := 512#32
  let v145 : BitVec 32 := Scalar.muli arg18 c512_i32_62
  let v146 : BitVec 32 := v145
  let v208 : Index := Scalar.indexCast v146
  ![1, v208.toNat]
def k0_off39 (i : grid0.Coords) (k0_t3 : Fin (k0_t3_loop i).trips) : Fin 2 → Nat :=
  let arg1 : BitVec 32 := BitVec.ofNat 32 (i 1).val
  let c1_i32 : BitVec 32 := 1#32
  let v109 : BitVec 32 := Scalar.addi arg1 c1_i32
  let c8_i32 : BitVec 32 := 8#32
  let v110 : BitVec 32 := Scalar.subi c8_i32 v109
  let c1_i32_46 : BitVec 32 := 1#32
  let v112 : BitVec 32 := Scalar.divsi v110 c1_i32_46
  let v113 : BitVec 32 := Scalar.muli v112 c1_i32_46
  let v114 : BitVec 32 := Scalar.addi v109 v113
  let c1_i32_48 : BitVec 32 := 1#32
  let arg18 : BitVec 32 := Scf.iv v114 c1_i32_48 k0_t3
  let c512_i32_62 : BitVec 32 := 512#32
  let v145 : BitVec 32 := Scalar.muli arg18 c512_i32_62
  let v146 : BitVec 32 := v145
  let v214 : Index := Scalar.indexCast v146
  let c128_93 : Index := 128#32
  ![v214.toNat, 128]
def k0_off40 (i : grid0.Coords) (k0_t3 : Fin (k0_t3_loop i).trips) : Fin 3 → Nat :=
  let c1_95 : Index := 1#32
  let c0_96 : Index := 0#32
  let arg1 : BitVec 32 := BitVec.ofNat 32 (i 1).val
  let c1_i32 : BitVec 32 := 1#32
  let v109 : BitVec 32 := Scalar.addi arg1 c1_i32
  let c8_i32 : BitVec 32 := 8#32
  let v110 : BitVec 32 := Scalar.subi c8_i32 v109
  let c1_i32_46 : BitVec 32 := 1#32
  let v112 : BitVec 32 := Scalar.divsi v110 c1_i32_46
  let v113 : BitVec 32 := Scalar.muli v112 c1_i32_46
  let v114 : BitVec 32 := Scalar.addi v109 v113
  let c1_i32_48 : BitVec 32 := 1#32
  let arg18 : BitVec 32 := Scf.iv v114 c1_i32_48 k0_t3
  let c512_i32_62 : BitVec 32 := 512#32
  let v145 : BitVec 32 := Scalar.muli arg18 c512_i32_62
  let v146 : BitVec 32 := v145
  let v219 : Index := Scalar.indexCast v146
  ![1, 0, v219.toNat]
def k0_cond2 (i : grid0.Coords) : BitVec 1 :=
  let arg1 : BitVec 32 := BitVec.ofNat 32 (i 1).val
  let c7_i32 : BitVec 32 := 7#32
  let v142 : BitVec 1 := Scalar.cmpi .eq arg1 c7_i32
  let v143 : BitVec 32 := Scalar.extui v142
  let c0_i32_61 : BitVec 32 := 0#32
  let v144 : BitVec 1 := Scalar.cmpi .ne v143 c0_i32_61
  v144

@[reducible] def k0_t4_loop : Scf.Loop 32 :=
  let c0_i32_62 : BitVec 32 := 0#32
  let c8_i32_63 : BitVec 32 := 8#32
  let v145 : BitVec 32 := Scalar.addi c0_i32_62 c8_i32_63
  let c1_i32_64 : BitVec 32 := 1#32
  ⟨c0_i32_62, v145, c1_i32_64⟩
def k0_mult5 (k0_t4 : Fin k0_t4_loop.trips) : BitVec 32 :=
  let c0_i32_62 : BitVec 32 := 0#32
  let c1_i32_64 : BitVec 32 := 1#32
  let arg18 : BitVec 32 := Scf.iv c0_i32_62 c1_i32_64 k0_t4
  let c512_i32_66 : BitVec 32 := 512#32
  let v146 : BitVec 32 := Scalar.muli arg18 c512_i32_66
  v146
def k0_off41 (k0_t4 : Fin k0_t4_loop.trips) : Fin 3 → Nat :=
  let c0_67 : Index := 0#32
  let c0_68 : Index := 0#32
  let c0_i32_62 : BitVec 32 := 0#32
  let c1_i32_64 : BitVec 32 := 1#32
  let arg18 : BitVec 32 := Scf.iv c0_i32_62 c1_i32_64 k0_t4
  let c512_i32_66 : BitVec 32 := 512#32
  let v146 : BitVec 32 := Scalar.muli arg18 c512_i32_66
  let v147 : BitVec 32 := v146
  let v148 : Index := Scalar.indexCast v147
  ![0, 0, v148.toNat]
def k0_off42 (k0_t4 : Fin k0_t4_loop.trips) : Fin 3 → Nat :=
  let c1_69 : Index := 1#32
  let c0_70 : Index := 0#32
  let c0_i32_62 : BitVec 32 := 0#32
  let c1_i32_64 : BitVec 32 := 1#32
  let arg18 : BitVec 32 := Scf.iv c0_i32_62 c1_i32_64 k0_t4
  let c512_i32_66 : BitVec 32 := 512#32
  let v146 : BitVec 32 := Scalar.muli arg18 c512_i32_66
  let v147 : BitVec 32 := v146
  let v152 : Index := Scalar.indexCast v147
  ![1, 0, v152.toNat]
def k0_off43 (k0_t4 : Fin k0_t4_loop.trips) : Fin 2 → Nat :=
  let c0_i32_62 : BitVec 32 := 0#32
  let c1_i32_64 : BitVec 32 := 1#32
  let arg18 : BitVec 32 := Scf.iv c0_i32_62 c1_i32_64 k0_t4
  let c512_i32_66 : BitVec 32 := 512#32
  let v146 : BitVec 32 := Scalar.muli arg18 c512_i32_66
  let v147 : BitVec 32 := v146
  let v161 : Index := Scalar.indexCast v147
  let c0_73 : Index := 0#32
  ![v161.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let c14_i32 : BitVec 32 := 14#32
  let v0 : BitVec 32 := Scalar.addi c14_i32 arg0
  let c0_i32 : BitVec 32 := 0#32
  ![arg1.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x8x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S4096x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S512x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S4096x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S512x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== AttnIdeal.lean ====
variable {F : FTy → Type} [FloatOps F] [Named F]
def κ : String → Option EReal := fun
  | "mask" => some ⊥
  | _ => none
-- ==== AttnRefIdeal.lean ====
abbrev S4096x2432 : Shape := ⟨2, ![4096, 2432]⟩
abbrev S4096x8 : Shape := ⟨2, ![4096, 8]⟩
abbrev S4096x1024 : Shape := ⟨2, ![4096, 1024]⟩
abbrev S4096x512 : Shape := ⟨2, ![4096, 512]⟩
abbrev S4096x8x64 : Shape := ⟨3, ![4096, 8, 64]⟩
abbrev S8x4096x4096 : Shape := ⟨3, ![8, 4096, 4096]⟩
abbrev S_ : Shape := ⟨0, ![]⟩
abbrev S8x4096 : Shape := ⟨2, ![8, 4096]⟩
abbrev S8x4096x1 : Shape := ⟨3, ![8, 4096, 1]⟩
abbrev S8x1x4096 : Shape := ⟨3, ![8, 1, 4096]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S8x64x4096 : Shape := ⟨3, ![8, 64, 4096]⟩

abbrev nBuf : Space → Nat
  | .hbm => 57
  | .vmem => 0
  | .smem => 0
  | _ => 0

abbrev bufTy : (tb : Table) → Fin (tcTables nBuf tb) → BufTy
  | .hbm, ⟨0, _⟩ => ⟨S4096x2432, .f32⟩
  | .hbm, ⟨1, _⟩ => ⟨S4096x8, .f32⟩
  | .hbm, ⟨2, _⟩ => ⟨S4096x1024, .f32⟩
  | .hbm, ⟨3, _⟩ => ⟨S4096x512, .f32⟩
  | .hbm, ⟨4, _⟩ => ⟨S4096x512, .f32⟩
  | .hbm, ⟨5, _⟩ => ⟨S4096x512, .f32⟩
  | .hbm, ⟨6, _⟩ => ⟨S4096x8x64, .f32⟩
  | .hbm, ⟨7, _⟩ => ⟨S4096x8x64, .f32⟩
  | .hbm, ⟨8, _⟩ => ⟨S8x4096x4096, .f32⟩
  | .hbm, ⟨9, _⟩ => ⟨S_, .f32⟩
  | .hbm, ⟨10, _⟩ => ⟨S8x4096x4096, .f32⟩
  | .hbm, ⟨11, _⟩ => ⟨S8x4096x4096, .f32⟩
  | .hbm, ⟨12, _⟩ => ⟨S8x4096, .f32⟩
  | .hbm, ⟨13, _⟩ => ⟨S8x4096x1, .f32⟩
  | .hbm, ⟨14, _⟩ => ⟨S8x4096, .f32⟩
  | .hbm, ⟨15, _⟩ => ⟨S8x1x4096, .f32⟩
  | .hbm, ⟨16, _⟩ => ⟨S8x4096x4096, .f32⟩
  | .hbm, ⟨17, _⟩ => ⟨S8x4096x4096, .f32⟩
  | .hbm, ⟨18, _⟩ => ⟨S8x4096x4096, .f32⟩
  | .hbm, ⟨19, _⟩ => ⟨S4096, .i32⟩
  | .hbm, ⟨20, _⟩ => ⟨S1x4096, .i32⟩
  | .hbm, ⟨21, _⟩ => ⟨S4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S8x4096x4096, .f32⟩
  | .hbm, ⟨27, _⟩ => ⟨S_, .f32⟩
  | .hbm, ⟨28, _⟩ => ⟨S_, .f32⟩
  | .hbm, ⟨29, _⟩ => ⟨S8x4096x4096, .i1⟩
  | .hbm, ⟨30, _⟩ => ⟨S8x4096x4096, .f32⟩
  | .hbm, ⟨31, _⟩ => ⟨S8x4096x4096, .f32⟩
  | .hbm, ⟨32, _⟩ => ⟨S_, .f32⟩
  | .hbm, ⟨33, _⟩ => ⟨S8x4096, .f32⟩
  | .hbm, ⟨34, _⟩ => ⟨S_, .f32⟩
  | .hbm, ⟨35, _⟩ => ⟨S8x4096, .f32⟩
  | .hbm, ⟨36, _⟩ => ⟨S8x4096, .f32⟩
  | .hbm, ⟨37, _⟩ => ⟨S8x4096x1, .f32⟩
  | .hbm, ⟨38, _⟩ => ⟨S8x4096x4096, .f32⟩
  | .hbm, ⟨39, _⟩ => ⟨S8x4096x4096, .f32⟩
  | .hbm, ⟨40, _⟩ => ⟨S8x4096x4096, .f32⟩
  | .hbm, ⟨41, _⟩ => ⟨S_, .f32⟩
  | .hbm, ⟨42, _⟩ => ⟨S8x4096, .f32⟩
  | .hbm, ⟨43, _⟩ => ⟨S8x4096x1, .f32⟩
  | .hbm, ⟨44, _⟩ => ⟨S8x4096x4096, .f32⟩
  | .hbm, ⟨45, _⟩ => ⟨S8x4096x4096, .f32⟩
  | .hbm, ⟨46, _⟩ => ⟨S4096x8x64, .f32⟩
  | .hbm, ⟨47, _⟩ => ⟨S8x64x4096, .f32⟩
  | .hbm, ⟨48, _⟩ => ⟨S4096x8x64, .f32⟩
  | .hbm, ⟨49, _⟩ => ⟨S4096x512, .f32⟩
  | .hbm, ⟨50, _⟩ => ⟨S4096x512, .f32⟩
  | .hbm, ⟨51, _⟩ => ⟨S4096x8x64, .f32⟩
  | .hbm, ⟨52, _⟩ => ⟨S8x64x4096, .f32⟩
  | .hbm, ⟨53, _⟩ => ⟨S8x64x4096, .f32⟩
  | .hbm, ⟨54, _⟩ => ⟨S4096x8x64, .f32⟩
  | .hbm, ⟨55, _⟩ => ⟨S4096x512, .f32⟩
  | .hbm, ⟨56, _⟩ => ⟨S4096x512, .bf16⟩
  | _, _ => ⟨S4096x2432, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_cst_0 : Ref sig .tc := ⟨.hbm, 27, rfl⟩
abbrev main_call0_v0 : Ref sig .tc := ⟨.hbm, 28, rfl⟩
abbrev main_call0_v1 : Ref sig .tc := ⟨.hbm, 29, rfl⟩
abbrev main_call0_v2 : Ref sig .tc := ⟨.hbm, 30, rfl⟩
abbrev main_v23 : Ref sig .tc := ⟨.hbm, 31, rfl⟩
abbrev main_cst_1 : Ref sig .tc := ⟨.hbm, 32, rfl⟩
abbrev main_v24 : Ref sig .tc := ⟨.hbm, 33, rfl⟩
abbrev main_cst_2 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_3 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩

abbrev nD : Nat := 1
abbrev τ : Topo := Topo.v7x

variable {F : FTy → Type} [FloatOps F]
-- ==== AdamW.lean ====
abbrev S4096x768 : Shape := ⟨2, ![4096, 768]⟩
abbrev S256x768 : Shape := ⟨2, ![256, 768]⟩

abbrev nBuf : Space → Nat
  | .hbm => 8
  | .vmem => 16
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S4096x768, .f32⟩
  | .hbm, ⟨5, _⟩ => ⟨S4096x768, .f32⟩
  | .hbm, ⟨6, _⟩ => ⟨S4096x768, .f32⟩
  | .hbm, ⟨7, _⟩ => ⟨S4096x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | .local _ .vmem, ⟨14, _⟩ => ⟨S256x768, .f32⟩
  | .local _ .vmem, ⟨15, _⟩ => ⟨S256x768, .f32⟩
  | _, _ => ⟨S4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamWRefIdeal.lean ====
abbrev S4096x768 : Shape := ⟨2, ![4096, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x768, .f32⟩
  | .hbm, ⟨1, _⟩ => ⟨S4096x768, .f32⟩
  | .hbm, ⟨2, _⟩ => ⟨S4096x768, .f32⟩
  | .hbm, ⟨3, _⟩ => ⟨S4096x768, .f32⟩
  | .hbm, ⟨4, _⟩ => ⟨S_, .f32⟩
  | .hbm, ⟨5, _⟩ => ⟨S4096x768, .f32⟩
  | .hbm, ⟨6, _⟩ => ⟨S4096x768, .f32⟩
  | .hbm, ⟨7, _⟩ => ⟨S_, .f32⟩
  | .hbm, ⟨8, _⟩ => ⟨S4096x768, .f32⟩
  | .hbm, ⟨9, _⟩ => ⟨S4096x768, .f32⟩
  | .hbm, ⟨10, _⟩ => ⟨S4096x768, .f32⟩
  | .hbm, ⟨11, _⟩ => ⟨S_, .f32⟩
  | .hbm, ⟨12, _⟩ => ⟨S4096x768, .f32⟩
  | .hbm, ⟨13, _⟩ => ⟨S4096x768, .f32⟩
  | .hbm, ⟨14, _⟩ => ⟨S4096x768, .f32⟩
  | .hbm, ⟨15, _⟩ => ⟨S_, .f32⟩
  | .hbm, ⟨16, _⟩ => ⟨S4096x768, .f32⟩
  | .hbm, ⟨17, _⟩ => ⟨S4096x768, .f32⟩
  | .hbm, ⟨18, _⟩ => ⟨S4096x768, .f32⟩
  | .hbm, ⟨19, _⟩ => ⟨S_, .f32⟩
  | .hbm, ⟨20, _⟩ => ⟨S4096x768, .f32⟩
  | .hbm, ⟨21, _⟩ => ⟨S4096x768, .f32⟩
  | .hbm, ⟨22, _⟩ => ⟨S_, .f32⟩
  | .hbm, ⟨23, _⟩ => ⟨S4096x768, .f32⟩
  | .hbm, ⟨24, _⟩ => ⟨S4096x768, .f32⟩
  | .hbm, ⟨25, _⟩ => ⟨S4096x768, .f32⟩
  | .hbm, ⟨26, _⟩ => ⟨S_, .f32⟩
  | .hbm, ⟨27, _⟩ => ⟨S4096x768, .f32⟩
  | .hbm, ⟨28, _⟩ => ⟨S4096x768, .f32⟩
  | .hbm, ⟨29, _⟩ => ⟨S4096x768, .f32⟩
  | .hbm, ⟨30, _⟩ => ⟨S_, .f32⟩
  | .hbm, ⟨31, _⟩ => ⟨S4096x768, .f32⟩
  | .hbm, ⟨32, _⟩ => ⟨S4096x768, .f32⟩
  | .hbm, ⟨33, _⟩ => ⟨S4096x768, .f32⟩
  | .hbm, ⟨34, _⟩ => ⟨S_, .f32⟩
  | .hbm, ⟨35, _⟩ => ⟨S4096x768, .f32⟩
  | .hbm, ⟨36, _⟩ => ⟨S4096x768, .f32⟩
  | _, _ => ⟨S4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Proof.AttnLoop.lean ====
module

public import proofs.«01_k».proof.Proof.Gen.AttnIdeal.Frame
public import proofs.«01_k».proof.Proof.Gen.AttnIdeal.Loops

/-! The loop over the later query tiles. Its region does not read all the values in scope before it, so its invariant
is the generated one at fixed values of those it does not read. -/

@[expose] public section

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

set_option warn.classDefReducibility false in
/-- The loop's invariant, a function of the values its region reads. -/
@[sl_loop] def loopInv (𝒱 : Variants) (c : Dev nD) (bd : Option 𝒱.V) (E : Set ℕ) (i : grid0.Coords) (arg2 : Memref sig .tc .vmem S4096x256 .bf16) (harg2 : arg2.IsWhole) (arg3 : Memref sig .tc .vmem S256x4096 .bf16) (harg3 : arg3.IsWhole) (arg4 : Memref sig .tc .vmem S512x256 .bf16) (harg4 : arg4.IsWhole) (arg5 : Memref sig .tc .vmem S256x512 .bf16) (harg5 : arg5.IsWhole) (arg6 : Memref sig .tc .vmem S512x128 .f32) (harg6 : arg6.IsWhole) (arg7 : Memref sig .tc .vmem S4096x128 .bf16) (harg7 : arg7.IsWhole) (arg8 : Memref sig .tc .vmem S1x8x4096 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole) (arg14 : Memref sig .tc .vmem S512x128 .f32) (harg14 : arg14.IsWhole) (arg15 : Memref sig .tc .vmem S128x4096 .bf16) (harg15 : arg15.IsWhole) (arg16 : Memref sig .tc .vmem S8x4096 .f32) (harg16 : arg16.IsWhole) (arg17 : Memref sig .tc .vmem S2x128x4096 .f32) (harg17 : arg17.IsWhole) (v12 : FVec F S512x128 .bf16) (v15 : FVec F S512x128 .bf16) (v109 : BitVec 32) (X2 : BufTy.Contents (Elt F) arg2.view.ty) (X3 : BufTy.Contents (Elt F) arg3.view.ty) (X4 : BufTy.Contents (Elt F) arg4.view.ty) (X5 : BufTy.Contents (Elt F) arg5.view.ty) (X8 : BufTy.Contents (Elt F) arg8.view.ty) (X9 : BufTy.Contents (Elt F) arg9.view.ty) (X15 : BufTy.Contents (Elt F) arg15.view.ty) (X16 : BufTy.Contents (Elt F) arg16.view.ty) (G17 : BufTy.Contents (Elt F) arg17.view.ty) (init : FVec F S512x128 .f32 × FVec F S512x128 .f32 × FVec F S512x128 .f32 × FVec F S512x128 .f32) :=
  loopInv_k0_t2 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (0#32) v12 v15 k0_pay48 k0_pay49 (0#32) v12 k0_pay46 k0_pay47 (broadcast S512x512 (Scalar.ofBits .f32 0x00000000#32)) v109 X2 X3 X4 X5 X8 X9 X15 X16 G17 init

end Cert.AttnIdeal.Run

end

end
-- ==== Proof.AttnPrep.lean ====
module

public import proofs.«01_k».proof.Proof.Gen.AttnIdeal.Frame
public import proofs.«01_k».proof.Proof.AttnLoop
public import Idealize.ShloMosaic.Lib.LoopRemainder

/-! The first part of the attention gradient's body. -/

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1600000 in
/-- The start of a head pair (key tile 0): the three scratch buffers are prepared, then the diagonal tile's first operands are read. -/
noncomputable def prepA (c : Dev nD) (i : grid0.Coords) (arg2 : Memref sig .tc .vmem S4096x256 .bf16) (harg2 : arg2.IsWhole) (arg3 : Memref sig .tc .vmem S256x4096 .bf16) (harg3 : arg3.IsWhole) (arg4 : Memref sig .tc .vmem S512x256 .bf16) (harg4 : arg4.IsWhole) (arg5 : Memref sig .tc .vmem S256x512 .bf16) (harg5 : arg5.IsWhole) (arg6 : Memref sig .tc .vmem S512x128 .f32) (harg6 : arg6.IsWhole) (arg7 : Memref sig .tc .vmem S4096x128 .bf16) (harg7 : arg7.IsWhole) (arg8 : Memref sig .tc .vmem S1x8x4096 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole) (arg14 : Memref sig .tc .vmem S512x128 .f32) (harg14 : arg14.IsWhole) (arg15 : Memref sig .tc .vmem S128x4096 .bf16) (harg15 : arg15.IsWhole) (arg16 : Memref sig .tc .vmem S8x4096 .f32) (harg16 : arg16.IsWhole) (arg17 : Memref sig .tc .vmem S2x128x4096 .f32) (harg17 : arg17.IsWhole) (hc : k0_cond1 i = 1#1)
    (x0 : Vec F S4096x256 .bf16) (x1 : Vec F S256x4096 .bf16) (x2 : Vec F S512x256 .bf16) (x3 : Vec F S256x512 .bf16) (x4 : Vec F S512x128 .f32) (x5 : Vec F S4096x128 .bf16) (x6 : Vec F S1x8x4096 .f32) (x7 : Vec F S4096x128 .f32) (X15 : BufTy.Contents (Elt F) arg15.view.ty) (X16 : BufTy.Contents (Elt F) arg16.view.ty) (X17 : BufTy.Contents (Elt F) arg17.view.ty) :
    Σ' (Y15 : BufTy.Contents (Elt F) arg15.view.ty), Σ' (Y16 : BufTy.Contents (Elt F) arg16.view.ty), Σ' (Y17 : BufTy.Contents (Elt F) arg17.view.ty), { R : Σ' (arg1 : BitVec 32) (v0 : IVec S512x128 32) (v2 : IVec S512x128 1) (v5 : IVec S512x512 1) (v12 : FVec F S512x128 .bf16) (v15 : FVec F S512x128 .bf16) (v16 : FVec F S512x128 .f32) (v17 : FVec F S512x128 .f32) (v18 : FVec F S512x128 .f32) (v19 : FVec F S512x128 .f32) (v21 : BitVec 32) (v24 : FVec F S512x128 .bf16) (v32 : FVec F S512x512 .f32), FVec F S512x512 .f32 //
      ∀ (E : Set ℕ) (K : (Σ' (arg1 : BitVec 32) (v0 : IVec S512x128 32) (v2 : IVec S512x128 1) (v5 : IVec S512x512 1) (v12 : FVec F S512x128 .bf16) (v15 : FVec F S512x128 .bf16) (v16 : FVec F S512x128 .f32) (v17 : FVec F S512x128 .f32) (v18 : FVec F S512x128 .f32) (v19 : FVec F S512x128 .f32) (v21 : BitVec 32) (v24 : FVec F S512x128 .bf16) (v32 : FVec F S512x512 .f32), FVec F S512x512 .f32) → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg15.view.loc (c : Thread nD τ) ↦[arg15.view.set]{fullShare} Y15) ∗ (arg16.view.loc (c : Thread nD τ) ↦[arg16.view.set]{fullShare} Y16) ∗ (arg17.view.loc (c : Thread nD τ) ↦[arg17.view.set]{fullShare} Y17)) -∗ K R))
          ⊢ wp frame (wpE (defs₀ (F := F)) Variants.none c none) E (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, ?_, ?_, ?_, fun E K => ?run⟩
  case run =>
    simp only [k0_part5_eq_skeleton]; unfold k0_part5_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, H15, H16, H17, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H15]; · iexact H15
    isplitl [H16]; · iexact H16
    iexact H17

set_option maxHeartbeats 1600000 in
/-- The start of a later key tile: the diagonal tile's first operands are read. -/
noncomputable def prepB (c : Dev nD) (i : grid0.Coords) (arg2 : Memref sig .tc .vmem S4096x256 .bf16) (harg2 : arg2.IsWhole) (arg3 : Memref sig .tc .vmem S256x4096 .bf16) (harg3 : arg3.IsWhole) (arg4 : Memref sig .tc .vmem S512x256 .bf16) (harg4 : arg4.IsWhole) (arg5 : Memref sig .tc .vmem S256x512 .bf16) (harg5 : arg5.IsWhole) (arg6 : Memref sig .tc .vmem S512x128 .f32) (harg6 : arg6.IsWhole) (arg7 : Memref sig .tc .vmem S4096x128 .bf16) (harg7 : arg7.IsWhole) (arg8 : Memref sig .tc .vmem S1x8x4096 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole) (arg14 : Memref sig .tc .vmem S512x128 .f32) (harg14 : arg14.IsWhole) (arg15 : Memref sig .tc .vmem S128x4096 .bf16) (harg15 : arg15.IsWhole) (arg16 : Memref sig .tc .vmem S8x4096 .f32) (harg16 : arg16.IsWhole) (arg17 : Memref sig .tc .vmem S2x128x4096 .f32) (harg17 : arg17.IsWhole) (hc : ¬k0_cond1 i = 1#1)
    (x0 : Vec F S4096x256 .bf16) (x1 : Vec F S256x4096 .bf16) (x2 : Vec F S512x256 .bf16) (x3 : Vec F S256x512 .bf16) (x4 : Vec F S512x128 .f32) (x5 : Vec F S4096x128 .bf16) (x6 : Vec F S1x8x4096 .f32) (x7 : Vec F S4096x128 .f32) (X15 : BufTy.Contents (Elt F) arg15.view.ty) (X16 : BufTy.Contents (Elt F) arg16.view.ty) (X17 : BufTy.Contents (Elt F) arg17.view.ty) :
    { R : Σ' (arg1 : BitVec 32) (v0 : IVec S512x128 32) (v2 : IVec S512x128 1) (v5 : IVec S512x512 1) (v12 : FVec F S512x128 .bf16) (v15 : FVec F S512x128 .bf16) (v16 : FVec F S512x128 .f32) (v17 : FVec F S512x128 .f32) (v18 : FVec F S512x128 .f32) (v19 : FVec F S512x128 .f32) (v21 : BitVec 32) (v24 : FVec F S512x128 .bf16) (v32 : FVec F S512x512 .f32), FVec F S512x512 .f32 //
      ∀ (E : Set ℕ) (K : (Σ' (arg1 : BitVec 32) (v0 : IVec S512x128 32) (v2 : IVec S512x128 1) (v5 : IVec S512x512 1) (v12 : FVec F S512x128 .bf16) (v15 : FVec F S512x128 .bf16) (v16 : FVec F S512x128 .f32) (v17 : FVec F S512x128 .f32) (v18 : FVec F S512x128 .f32) (v19 : FVec F S512x128 .f32) (v21 : BitVec 32) (v24 : FVec F S512x128 .bf16) (v32 : FVec F S512x512 .f32), FVec F S512x512 .f32) → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17)) -∗ K R))
          ⊢ wp frame (wpE (defs₀ (F := F)) Variants.none c none) E (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K } := by
  refine ⟨?_, fun E K => ?run⟩
  case run =>
    simp only [k0_part5_eq_skeleton]; unfold k0_part5_skel
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, H15, H16, H17, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H15]; · iexact H15
    isplitl [H16]; · iexact H16
    iexact H17

end Cert.AttnIdeal.Run

end

end
-- ==== Proof.AttnTail.lean ====
module

public import proofs.«01_k».proof.Proof.Gen.AttnIdeal.Frame
public import proofs.«01_k».proof.Proof.AttnLoop
public import Idealize.ShloMosaic.Lib.LoopRemainder

/-! The attention gradient's body as its first part and the rest. -/

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- What the body does after its first part, of the values that part hands on. -/
noncomputable def rest (i : grid0.Coords) (arg2 : Memref sig .tc .vmem S4096x256 .bf16) (harg2 : arg2.IsWhole) (arg3 : Memref sig .tc .vmem S256x4096 .bf16) (harg3 : arg3.IsWhole) (arg4 : Memref sig .tc .vmem S512x256 .bf16) (harg4 : arg4.IsWhole) (arg5 : Memref sig .tc .vmem S256x512 .bf16) (harg5 : arg5.IsWhole) (arg6 : Memref sig .tc .vmem S512x128 .f32) (harg6 : arg6.IsWhole) (arg7 : Memref sig .tc .vmem S4096x128 .bf16) (harg7 : arg7.IsWhole) (arg8 : Memref sig .tc .vmem S1x8x4096 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole) (arg14 : Memref sig .tc .vmem S512x128 .f32) (harg14 : arg14.IsWhole) (arg15 : Memref sig .tc .vmem S128x4096 .bf16) (harg15 : arg15.IsWhole) (arg16 : Memref sig .tc .vmem S8x4096 .f32) (harg16 : arg16.IsWhole) (arg17 : Memref sig .tc .vmem S2x128x4096 .f32) (harg17 : arg17.IsWhole) (arg1 : BitVec 32) (v0 : IVec S512x128 32) (v2 : IVec S512x128 1) (v5 : IVec S512x512 1) (v12 : FVec F S512x128 .bf16) (v15 : FVec F S512x128 .bf16) (v16 : FVec F S512x128 .f32) (v17 : FVec F S512x128 .f32) (v18 : FVec F S512x128 .f32) (v19 : FVec F S512x128 .f32) (v21 : BitVec 32) (v24 : FVec F S512x128 .bf16) (v32 : FVec F S512x512 .f32) (v36 : FVec F S512x512 .f32) :
    Prog (TpuEff nD τ sig (Elt F) Λ₀ .tc) PUnit := do
  let ⟨v41, v55, v74⟩ : Σ' (v41 : FVec F S512x128 .f32) (v55 : FVec F S512x128 .f32), FVec F S512x512 .f32 ← k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v5 v12 v16 v17 v21 v24 v32 v36
  let ⟨v116_0, v116_1, v116_2, v116_3⟩ : Σ' (v116_0 : FVec F S512x128 .f32) (v116_1 : FVec F S512x128 .f32) (v116_2 : FVec F S512x128 .f32), FVec F S512x128 .f32 ← k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v12 v15 v18 v19 v21 v24 v41 v55 v74
  let v119 : Vec F S512x128 .bf16 ← Prog.lift (.load arg12 (Rect.unit (s := S512x128) ![0, 0] S512x128.size inb_S512x128_S512x128_0_0).toLoadRect (View.loadsAt_vmem h_S512x128))
  Prog.lift (.store arg12 (Rect.unit (s := S512x128) ![0, 0] S512x128.size inb_S512x128_S512x128_0_0) (k0_pay1 v2 v116_1 v116_3) Finset.univ (View.stores_vmem h_S512x128 (harg12.storeExact_slice rfl _ packedbf16_S512x128_S512x128_0_0) (fun _ => rfl)) (.inl rfl))
  let v123 : Vec F S512x128 .bf16 ← Prog.lift (.load arg11 (Rect.unit (s := S512x128) ![0, 0] S512x128.size inb_S512x128_S512x128_0_0).toLoadRect (View.loadsAt_vmem h_S512x128))
  Prog.lift (.store arg11 (Rect.unit (s := S512x128) ![0, 0] S512x128.size inb_S512x128_S512x128_0_0) (k0_pay2 v2 v116_0 v116_2) Finset.univ (View.stores_vmem h_S512x128 (harg11.storeExact_slice rfl _ packedbf16_S512x128_S512x128_0_0) (fun _ => rfl)) (.inl rfl))
  let v141 : Vec F S512x128 .f32 ← Prog.lift (.load arg14 (Rect.unit (s := S512x128) ![0, 0] S512x128.size inb_S512x128_S512x128_0_0).toLoadRect (View.loadsAt_vmem h_S512x128))
  Prog.lift (.store arg14 (Rect.unit (s := S512x128) ![0, 0] S512x128.size inb_S512x128_S512x128_0_0) (k0_pay3 v0 v116_0 v116_2) Finset.univ (View.stores_vmem_bits_univ h_S512x128 rfl) (.inl rfl))
  if k0_h2 : k0_cond2 i = 1#1 then do
    Scf.Loop.for k0_t4_loop (k0_t4_ok i k0_h2) ⟨⟩ (k0_t4_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 v0 v2 k0_h2)
    pure ⟨⟩
  else do
    pure ⟨⟩
  pure ⟨⟩

set_option maxRecDepth 65536 in
/-- The body is its first part, then the rest. -/
theorem body_eq (i : grid0.Coords) (arg2 : Memref sig .tc .vmem S4096x256 .bf16) (harg2 : arg2.IsWhole) (arg3 : Memref sig .tc .vmem S256x4096 .bf16) (harg3 : arg3.IsWhole) (arg4 : Memref sig .tc .vmem S512x256 .bf16) (harg4 : arg4.IsWhole) (arg5 : Memref sig .tc .vmem S256x512 .bf16) (harg5 : arg5.IsWhole) (arg6 : Memref sig .tc .vmem S512x128 .f32) (harg6 : arg6.IsWhole) (arg7 : Memref sig .tc .vmem S4096x128 .bf16) (harg7 : arg7.IsWhole) (arg8 : Memref sig .tc .vmem S1x8x4096 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole) (arg14 : Memref sig .tc .vmem S512x128 .f32) (harg14 : arg14.IsWhole) (arg15 : Memref sig .tc .vmem S128x4096 .bf16) (harg15 : arg15.IsWhole) (arg16 : Memref sig .tc .vmem S8x4096 .f32) (harg16 : arg16.IsWhole) (arg17 : Memref sig .tc .vmem S2x128x4096 .f32) (harg17 : arg17.IsWhole) :
    cc0_attn_grad (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 = k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 >>= fun R =>
      rest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 R.1 R.2.1 R.2.2.1 R.2.2.2.1 R.2.2.2.2.1 R.2.2.2.2.2.1 R.2.2.2.2.2.2.1 R.2.2.2.2.2.2.2.1 R.2.2.2.2.2.2.2.2.1 R.2.2.2.2.2.2.2.2.2.1 R.2.2.2.2.2.2.2.2.2.2.1 R.2.2.2.2.2.2.2.2.2.2.2.1 R.2.2.2.2.2.2.2.2.2.2.2.2.1 R.2.2.2.2.2.2.2.2.2.2.2.2.2 := rfl

end Cert.AttnIdeal.Run

end

end
-- ==== Proof.AttnRestB.lean ====
module

public import proofs.«01_k».proof.Proof.Gen.AttnIdeal.Frame
public import proofs.«01_k».proof.Proof.AttnTail
public import proofs.«01_k».proof.Proof.AttnLoop
public import Idealize.ShloMosaic.Lib.LoopRemainder

/-! The rest of the body at a key tile that is not the last. -/

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1600000 in
/-- A key tile that is not the last, after its first part. -/
noncomputable def restB (c : Dev nD) (i : grid0.Coords) (arg2 : Memref sig .tc .vmem S4096x256 .bf16) (harg2 : arg2.IsWhole) (arg3 : Memref sig .tc .vmem S256x4096 .bf16) (harg3 : arg3.IsWhole) (arg4 : Memref sig .tc .vmem S512x256 .bf16) (harg4 : arg4.IsWhole) (arg5 : Memref sig .tc .vmem S256x512 .bf16) (harg5 : arg5.IsWhole) (arg6 : Memref sig .tc .vmem S512x128 .f32) (harg6 : arg6.IsWhole) (arg7 : Memref sig .tc .vmem S4096x128 .bf16) (harg7 : arg7.IsWhole) (arg8 : Memref sig .tc .vmem S1x8x4096 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole) (arg14 : Memref sig .tc .vmem S512x128 .f32) (harg14 : arg14.IsWhole) (arg15 : Memref sig .tc .vmem S128x4096 .bf16) (harg15 : arg15.IsWhole) (arg16 : Memref sig .tc .vmem S8x4096 .f32) (harg16 : arg16.IsWhole) (arg17 : Memref sig .tc .vmem S2x128x4096 .f32) (harg17 : arg17.IsWhole) (hc : ¬k0_cond2 i = 1#1)
    (x0 : Vec F S4096x256 .bf16) (x1 : Vec F S256x4096 .bf16) (x2 : Vec F S512x256 .bf16) (x3 : Vec F S256x512 .bf16) (x4 : Vec F S512x128 .f32) (x5 : Vec F S4096x128 .bf16) (x6 : Vec F S1x8x4096 .f32) (x7 : Vec F S4096x128 .f32) (X15 : BufTy.Contents (Elt F) arg15.view.ty) (X16 : BufTy.Contents (Elt F) arg16.view.ty) (X17 : BufTy.Contents (Elt F) arg17.view.ty) (arg1 : BitVec 32) (v0 : IVec S512x128 32) (v2 : IVec S512x128 1) (v5 : IVec S512x512 1) (v12 : FVec F S512x128 .bf16) (v15 : FVec F S512x128 .bf16) (v16 : FVec F S512x128 .f32) (v17 : FVec F S512x128 .f32) (v18 : FVec F S512x128 .f32) (v19 : FVec F S512x128 .f32) (v21 : BitVec 32) (v24 : FVec F S512x128 .bf16) (v32 : FVec F S512x512 .f32) (v36 : FVec F S512x512 .f32) :
    Σ' (L11 : List (View.Piece (Elt F) S512x128 .bf16)), Σ' (L12 : List (View.Piece (Elt F) S512x128 .bf16)), Σ' (L14 : List (View.Piece (Elt F) S512x128 .f32)), { L17 : List (View.Piece (Elt F) S2x128x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ f, (arg11.view.loc (c : Thread nD τ) ↦[arg11.view.set]{fullShare} arg11.view.writes (Elt F) f L11)) ∗ (∃ f, (arg12.view.loc (c : Thread nD τ) ↦[arg12.view.set]{fullShare} arg12.view.writes (Elt F) f L12)) ∗ (∃ d, owns (c : Thread nD τ) arg13 fullShare d) ∗ (∃ f, (arg14.view.loc (c : Thread nD τ) ↦[arg14.view.set]{fullShare} arg14.view.writes (Elt F) f L14)) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} (arg17.view.writes (Elt F) X17 L17))) -∗ K ⟨⟩))
          ⊢ wp frame (wpE (defs₀ (F := F)) Variants.none c none) E (rest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v2 v5 v12 v15 v16 v17 v18 v19 v21 v24 v32 v36) K } := by
  refine ⟨?_, ?_, ?_, ?_, fun E K => ?run⟩
  case run =>
    unfold rest
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, H15, H16, H17, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists d10; iexists f10; isplitr; · ipureintro; exact hf10
      iexact H10
    isplitl [H11]; · iexists _; iexact H11
    isplitl [H12]; · iexists _; iexact H12
    isplitl [H13]
    · iexists d13; iexists f13; isplitr; · ipureintro; exact hf13
      iexact H13
    isplitl [H14]; · iexists _; iexact H14
    isplitl [H15]; · iexact H15
    isplitl [H16]; · iexact H16
    iexact H17

end Cert.AttnIdeal.Run

end

end
-- ==== Proof.AttnRestC.lean ====
module

public import proofs.«01_k».proof.Proof.Gen.AttnIdeal.Frame
public import proofs.«01_k».proof.Proof.AttnTail
public import proofs.«01_k».proof.Proof.AttnLoop
public import Idealize.ShloMosaic.Lib.LoopRemainder

/-! The rest of the body at the last key tile. -/

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1600000 in
/-- The last key tile, after its first part: the query gradients are written out. -/
noncomputable def restC (c : Dev nD) (i : grid0.Coords) (arg2 : Memref sig .tc .vmem S4096x256 .bf16) (harg2 : arg2.IsWhole) (arg3 : Memref sig .tc .vmem S256x4096 .bf16) (harg3 : arg3.IsWhole) (arg4 : Memref sig .tc .vmem S512x256 .bf16) (harg4 : arg4.IsWhole) (arg5 : Memref sig .tc .vmem S256x512 .bf16) (harg5 : arg5.IsWhole) (arg6 : Memref sig .tc .vmem S512x128 .f32) (harg6 : arg6.IsWhole) (arg7 : Memref sig .tc .vmem S4096x128 .bf16) (harg7 : arg7.IsWhole) (arg8 : Memref sig .tc .vmem S1x8x4096 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole) (arg14 : Memref sig .tc .vmem S512x128 .f32) (harg14 : arg14.IsWhole) (arg15 : Memref sig .tc .vmem S128x4096 .bf16) (harg15 : arg15.IsWhole) (arg16 : Memref sig .tc .vmem S8x4096 .f32) (harg16 : arg16.IsWhole) (arg17 : Memref sig .tc .vmem S2x128x4096 .f32) (harg17 : arg17.IsWhole) (hc : k0_cond2 i = 1#1)
    (x0 : Vec F S4096x256 .bf16) (x1 : Vec F S256x4096 .bf16) (x2 : Vec F S512x256 .bf16) (x3 : Vec F S256x512 .bf16) (x4 : Vec F S512x128 .f32) (x5 : Vec F S4096x128 .bf16) (x6 : Vec F S1x8x4096 .f32) (x7 : Vec F S4096x128 .f32) (X15 : BufTy.Contents (Elt F) arg15.view.ty) (X16 : BufTy.Contents (Elt F) arg16.view.ty) (X17 : BufTy.Contents (Elt F) arg17.view.ty) (arg1 : BitVec 32) (v0 : IVec S512x128 32) (v2 : IVec S512x128 1) (v5 : IVec S512x512 1) (v12 : FVec F S512x128 .bf16) (v15 : FVec F S512x128 .bf16) (v16 : FVec F S512x128 .f32) (v17 : FVec F S512x128 .f32) (v18 : FVec F S512x128 .f32) (v19 : FVec F S512x128 .f32) (v21 : BitVec 32) (v24 : FVec F S512x128 .bf16) (v32 : FVec F S512x512 .f32) (v36 : FVec F S512x512 .f32) :
    Σ' (L11 : List (View.Piece (Elt F) S512x128 .bf16)), Σ' (L12 : List (View.Piece (Elt F) S512x128 .bf16)), Σ' (L14 : List (View.Piece (Elt F) S512x128 .f32)), Σ' (L10 : List (View.Piece (Elt F) S4096x128 .bf16)), Σ' (L13 : List (View.Piece (Elt F) S4096x128 .f32)), { L17 : List (View.Piece (Elt F) S2x128x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, (arg10.view.loc (c : Thread nD τ) ↦[arg10.view.set]{fullShare} arg10.view.writes (Elt F) f L10)) ∗ (∃ f, (arg11.view.loc (c : Thread nD τ) ↦[arg11.view.set]{fullShare} arg11.view.writes (Elt F) f L11)) ∗ (∃ f, (arg12.view.loc (c : Thread nD τ) ↦[arg12.view.set]{fullShare} arg12.view.writes (Elt F) f L12)) ∗ (∃ f, (arg13.view.loc (c : Thread nD τ) ↦[arg13.view.set]{fullShare} arg13.view.writes (Elt F) f L13)) ∗ (∃ f, (arg14.view.loc (c : Thread nD τ) ↦[arg14.view.set]{fullShare} arg14.view.writes (Elt F) f L14)) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} (arg17.view.writes (Elt F) X17 L17))) -∗ K ⟨⟩))
          ⊢ wp frame (wpE (defs₀ (F := F)) Variants.none c none) E (rest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v2 v5 v12 v15 v16 v17 v18 v19 v21 v24 v32 v36) K } := by
  refine ⟨?_, ?_, ?_, ?_, ?_, ?_, fun E K => ?run⟩
  case run =>
    unfold rest
    unfold owns
    iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, H15, H16, H17, Hk⟩
    obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9
    sl_exec (disch := sl_exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexact H15
    isplitl [H16]; · iexact H16
    iexact H17

end Cert.AttnIdeal.Run

end

end
-- ==== Proof.AttnBody.lean ====
module

public import proofs.«01_k».proof.Proof.AttnPrep
public import proofs.«01_k».proof.Proof.AttnRestB
public import proofs.«01_k».proof.Proof.AttnRestC
public import Idealize.ShloMosaic.Lib.LoopRemainder

/-! The attention gradient's body at any point, from any contents of its buffers. -/

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

set_option maxHeartbeats 1600000 in
/-- The rest of the body, at any key tile and any contents of the buffers: it runs, leaving the inputs. -/
theorem rest_any (c : Dev nD) (i : grid0.Coords) (arg2 : Memref sig .tc .vmem S4096x256 .bf16) (harg2 : arg2.IsWhole) (arg3 : Memref sig .tc .vmem S256x4096 .bf16) (harg3 : arg3.IsWhole) (arg4 : Memref sig .tc .vmem S512x256 .bf16) (harg4 : arg4.IsWhole) (arg5 : Memref sig .tc .vmem S256x512 .bf16) (harg5 : arg5.IsWhole) (arg6 : Memref sig .tc .vmem S512x128 .f32) (harg6 : arg6.IsWhole) (arg7 : Memref sig .tc .vmem S4096x128 .bf16) (harg7 : arg7.IsWhole) (arg8 : Memref sig .tc .vmem S1x8x4096 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole) (arg14 : Memref sig .tc .vmem S512x128 .f32) (harg14 : arg14.IsWhole) (arg15 : Memref sig .tc .vmem S128x4096 .bf16) (harg15 : arg15.IsWhole) (arg16 : Memref sig .tc .vmem S8x4096 .f32) (harg16 : arg16.IsWhole) (arg17 : Memref sig .tc .vmem S2x128x4096 .f32) (harg17 : arg17.IsWhole)
    (x0 : Vec F S4096x256 .bf16) (x1 : Vec F S256x4096 .bf16) (x2 : Vec F S512x256 .bf16) (x3 : Vec F S256x512 .bf16) (x4 : Vec F S512x128 .f32) (x5 : Vec F S4096x128 .bf16) (x6 : Vec F S1x8x4096 .f32) (x7 : Vec F S4096x128 .f32) (X15 : BufTy.Contents (Elt F) arg15.view.ty) (X16 : BufTy.Contents (Elt F) arg16.view.ty) (X17 : BufTy.Contents (Elt F) arg17.view.ty) (arg1 : BitVec 32) (v0 : IVec S512x128 32) (v2 : IVec S512x128 1) (v5 : IVec S512x512 1) (v12 : FVec F S512x128 .bf16) (v15 : FVec F S512x128 .bf16) (v16 : FVec F S512x128 .f32) (v17 : FVec F S512x128 .f32) (v18 : FVec F S512x128 .f32) (v19 : FVec F S512x128 .f32) (v21 : BitVec 32) (v24 : FVec F S512x128 .bf16) (v32 : FVec F S512x512 .f32) (v36 : FVec F S512x512 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ X, (arg15.view.loc (c : Thread nD τ) ↦[arg15.view.set]{fullShare} X)) ∗ (∃ X, (arg16.view.loc (c : Thread nD τ) ↦[arg16.view.set]{fullShare} X)) ∗ (∃ X, (arg17.view.loc (c : Thread nD τ) ↦[arg17.view.set]{fullShare} X))) -∗ K ⟨⟩))
      ⊢ wp frame (wpE (defs₀ (F := F)) Variants.none c none) E (rest i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg1 v0 v2 v5 v12 v15 v16 v17 v18 v19 v21 v24 v32 v36) K := by
  by_cases hc : k0_cond2 i = 1#1
  · iintro ⟨H2, H3, H4, H5, H6, H7, H8, H9, H10, H11, H12, H13, H14, H15, H16, H17, Hk⟩
    iapply ((restC c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 X15 X16 X17 arg1 v0 v2 v5 v12 v15 v16 v17 v18 v19 v21 v24 v32 v36).2.2.2.2.2.2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, ⟨%e10, H10⟩, ⟨%e11, H11⟩, ⟨%e12, H12⟩, ⟨%e13, H13⟩, ⟨%e14, H14⟩, H15, H16, H17⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexists _; unfold owns; iexists _; isplitr
      swap; · iexact H10
      ipureintro; rfl
    isplitl [H11]
    · iexists _; unfold owns; iexists _; isplitr
      swap; · iexact H11
      ipureintro; rfl
    isplitl [H12]
    · iexists _; unfold owns; iexists _; isplitr
      swap; · iexact H12
      ipureintro; rfl
    isplitl [H13]
    · iexists _; unfold owns; iexists _; isplitr
      swap; · iexact H13
      ipureintro; rfl
    isplitl [H14]
    · iexists _; unfold owns; iexists _; isplitr
      swap; · iexact H14
      ipureintro; rfl
    isplitl [H15]; · iexists _; iexact H15
    isplitl [H16]; · iexists _; iexact H16
    iexists _; iexact H17
  · iintro ⟨H2, H3, H4, H5, H6, H7, H8, H9, H10, H11, H12, H13, H14, H15, H16, H17, Hk⟩
    iapply ((restB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 X15 X16 X17 arg1 v0 v2 v5 v12 v15 v16 v17 v18 v19 v21 v24 v32 v36).2.2.2.2 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iintro ⟨H2, H3, H4, H5, H6, H7, H8, H9, H10, ⟨%e11, H11⟩, ⟨%e12, H12⟩, H13, ⟨%e14, H14⟩, H15, H16, H17⟩
    iapply Hk
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]
    · iexact H10
    isplitl [H11]
    · iexists _; unfold owns; iexists _; isplitr
      swap; · iexact H11
      ipureintro; rfl
    isplitl [H12]
    · iexists _; unfold owns; iexists _; isplitr
      swap; · iexact H12
      ipureintro; rfl
    isplitl [H13]
    · iexact H13
    isplitl [H14]
    · iexists _; unfold owns; iexists _; isplitr
      swap; · iexact H14
      ipureintro; rfl
    isplitl [H15]; · iexists _; iexact H15
    isplitl [H16]; · iexists _; iexact H16
    iexists _; iexact H17

set_option maxHeartbeats 1600000 in
/-- The whole body, at any point and any contents of the buffers: it runs, leaving the inputs. -/
theorem body_any (c : Dev nD) (i : grid0.Coords) (arg2 : Memref sig .tc .vmem S4096x256 .bf16) (harg2 : arg2.IsWhole) (arg3 : Memref sig .tc .vmem S256x4096 .bf16) (harg3 : arg3.IsWhole) (arg4 : Memref sig .tc .vmem S512x256 .bf16) (harg4 : arg4.IsWhole) (arg5 : Memref sig .tc .vmem S256x512 .bf16) (harg5 : arg5.IsWhole) (arg6 : Memref sig .tc .vmem S512x128 .f32) (harg6 : arg6.IsWhole) (arg7 : Memref sig .tc .vmem S4096x128 .bf16) (harg7 : arg7.IsWhole) (arg8 : Memref sig .tc .vmem S1x8x4096 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole) (arg14 : Memref sig .tc .vmem S512x128 .f32) (harg14 : arg14.IsWhole) (arg15 : Memref sig .tc .vmem S128x4096 .bf16) (harg15 : arg15.IsWhole) (arg16 : Memref sig .tc .vmem S8x4096 .f32) (harg16 : arg16.IsWhole) (arg17 : Memref sig .tc .vmem S2x128x4096 .f32) (harg17 : arg17.IsWhole)
    (x0 : Vec F S4096x256 .bf16) (x1 : Vec F S256x4096 .bf16) (x2 : Vec F S512x256 .bf16) (x3 : Vec F S256x512 .bf16) (x4 : Vec F S512x128 .f32) (x5 : Vec F S4096x128 .bf16) (x6 : Vec F S1x8x4096 .f32) (x7 : Vec F S4096x128 .f32) (X15 : BufTy.Contents (Elt F) arg15.view.ty) (X16 : BufTy.Contents (Elt F) arg16.view.ty) (X17 : BufTy.Contents (Elt F) arg17.view.ty) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ X, (arg15.view.loc (c : Thread nD τ) ↦[arg15.view.set]{fullShare} X)) ∗ (∃ X, (arg16.view.loc (c : Thread nD τ) ↦[arg16.view.set]{fullShare} X)) ∗ (∃ X, (arg17.view.loc (c : Thread nD τ) ↦[arg17.view.set]{fullShare} X))) -∗ K ⟨⟩))
      ⊢ wp frame (wpE (defs₀ (F := F)) Variants.none c none) E (cc0_attn_grad i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17) K := by
  rw [body_eq, wp_bind]
  by_cases hc : k0_cond1 i = 1#1
  · iintro ⟨H2, H3, H4, H5, H6, H7, H8, H9, H10, H11, H12, H13, H14, H15, H16, H17, Hk⟩
    iapply ((prepA c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 X15 X16 X17).2.2.2.2 E _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H15]; · iexact H15
    isplitl [H16]; · iexact H16
    isplitl [H17]; · iexact H17
    iintro ⟨H2, H3, H4, H5, H6, H7, H8, H9, H15, H16, H17⟩
    iapply (rest_any c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 _ _ _ _ _ _ _ _ _ _ _ _ _ _ _ _ _ E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact Hk
  · iintro ⟨H2, H3, H4, H5, H6, H7, H8, H9, H10, H11, H12, H13, H14, H15, H16, H17, Hk⟩
    iapply ((prepB c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc x0 x1 x2 x3 x4 x5 x6 x7 X15 X16 X17).2 E _)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H15]; · iexact H15
    isplitl [H16]; · iexact H16
    isplitl [H17]; · iexact H17
    iintro ⟨H2, H3, H4, H5, H6, H7, H8, H9, H15, H16, H17⟩
    iapply (rest_any c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 _ _ _ _ _ _ _ _ _ _ _ _ _ _ _ _ _ E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact Hk

end Cert.AttnIdeal.Run

end

end
-- ==== Proof.AttnFrame.lean ====
module

public import proofs.«01_k».proof.Proof.AttnBody
public import Idealize.ShloMosaic.Lib.LoopRemainder

/-! The attention gradient's run and frame. -/

@[expose] public section

set_option maxRecDepth 16384

noncomputable section

namespace Cert.AttnIdeal.Run

open Cert.AttnIdeal Cert.AttnIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What is known of the windows: the inputs hold their blocks; of the outputs nothing is said. -/
noncomputable def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => fun _ => Classical.arbitrary _
    | ⟨9, _⟩ => fun _ => Classical.arbitrary _
    | ⟨10, _⟩ => fun _ => Classical.arbitrary _
    | ⟨11, _⟩ => fun _ => Classical.arbitrary _
    | ⟨12, _⟩ => fun _ => Classical.arbitrary _
  Φ _ := Pipeline.ΦA spec0 c
  q _ := fullShare
  owed _ := 0

/-- The output windows. -/
def fgt (w : Fin 13) : Bool := decide (8 ≤ w.val)

/-- What the body is called with at point `t`, the windows one by one, -/
def bodyPre (c : Dev nD) (t : Fin cfg0.N) : sProp 𝕄 :=
  iprop((dats m 0 c).Φ t.castSucc ∗ (dats m 0 c).owesAt () t.castSucc ∗ (∃ d, owns (c : Thread nD τ) (st0_0 t) fullShare ((dats m 0 c).before 0 t d)) ∗ (∃ d, owns (c : Thread nD τ) (st0_1 t) fullShare ((dats m 0 c).before 1 t d)) ∗ (∃ d, owns (c : Thread nD τ) (st0_2 t) fullShare ((dats m 0 c).before 2 t d)) ∗ (∃ d, owns (c : Thread nD τ) (st0_3 t) fullShare ((dats m 0 c).before 3 t d)) ∗ (∃ d, owns (c : Thread nD τ) (st0_4 t) fullShare ((dats m 0 c).before 4 t d)) ∗ (∃ d, owns (c : Thread nD τ) (st0_5 t) fullShare ((dats m 0 c).before 5 t d)) ∗ (∃ d, owns (c : Thread nD τ) (st0_6 t) fullShare ((dats m 0 c).before 6 t d)) ∗ (∃ d, owns (c : Thread nD τ) (st0_7 t) fullShare ((dats m 0 c).before 7 t d)) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X) ∗ (∃ X, owns (c : Thread nD τ) (st0_12 t) fullShare X))

/-- and what it returns. -/
def bodyPost (c : Dev nD) (t : Fin cfg0.N) : sProp 𝕄 :=
  iprop((dats m 0 c).Φ t.succ ∗ (dats m 0 c).owesAt () t.succ ∗ owns (c : Thread nD τ) (st0_0 t) fullShare ((dats m 0 c).after 0 t) ∗ owns (c : Thread nD τ) (st0_1 t) fullShare ((dats m 0 c).after 1 t) ∗ owns (c : Thread nD τ) (st0_2 t) fullShare ((dats m 0 c).after 2 t) ∗ owns (c : Thread nD τ) (st0_3 t) fullShare ((dats m 0 c).after 3 t) ∗ owns (c : Thread nD τ) (st0_4 t) fullShare ((dats m 0 c).after 4 t) ∗ owns (c : Thread nD τ) (st0_5 t) fullShare ((dats m 0 c).after 5 t) ∗ owns (c : Thread nD τ) (st0_6 t) fullShare ((dats m 0 c).after 6 t) ∗ owns (c : Thread nD τ) (st0_7 t) fullShare ((dats m 0 c).after 7 t) ∗ (∃ X, owns (c : Thread nD τ) (st0_8 t) fullShare X) ∗ (∃ X, owns (c : Thread nD τ) (st0_9 t) fullShare X) ∗ (∃ X, owns (c : Thread nD τ) (st0_10 t) fullShare X) ∗ (∃ X, owns (c : Thread nD τ) (st0_11 t) fullShare X) ∗ (∃ X, owns (c : Thread nD τ) (st0_12 t) fullShare X))

theorem A_eq (c : Dev nD) (w) : (dats m 0 c).A w = V m c (Pipeline.arrRef spec0 w) := by dsimp only [dats]
theorem after0_0 (c : Dev nD) (t) : (dats m 0 c).after 0 t = iblk m c 0 t := by dsimp only [dats]
theorem before0_0 (c : Dev nD) (t) (d) : (dats m 0 c).before 0 t d = iblk m c 0 t :=
  before0_0_of m (dats m 0 c) (A_eq m c 0) (after0_0 m c) t d
theorem after0_1 (c : Dev nD) (t) : (dats m 0 c).after 1 t = iblk m c 1 t := by dsimp only [dats]
theorem before0_1 (c : Dev nD) (t) (d) : (dats m 0 c).before 1 t d = iblk m c 1 t :=
  before0_1_of m (dats m 0 c) (A_eq m c 1) (after0_1 m c) t d
theorem after0_2 (c : Dev nD) (t) : (dats m 0 c).after 2 t = iblk m c 2 t := by dsimp only [dats]
theorem before0_2 (c : Dev nD) (t) (d) : (dats m 0 c).before 2 t d = iblk m c 2 t :=
  before0_2_of m (dats m 0 c) (A_eq m c 2) (after0_2 m c) t d
theorem after0_3 (c : Dev nD) (t) : (dats m 0 c).after 3 t = iblk m c 3 t := by dsimp only [dats]
theorem before0_3 (c : Dev nD) (t) (d) : (dats m 0 c).before 3 t d = iblk m c 3 t :=
  before0_3_of m (dats m 0 c) (A_eq m c 3) (after0_3 m c) t d
theorem after0_4 (c : Dev nD) (t) : (dats m 0 c).after 4 t = iblk m c 4 t := by dsimp only [dats]
theorem before0_4 (c : Dev nD) (t) (d) : (dats m 0 c).before 4 t d = iblk m c 4 t :=
  before0_4_of m (dats m 0 c) (A_eq m c 4) (after0_4 m c) t d
theorem after0_5 (c : Dev nD) (t) : (dats m 0 c).after 5 t = iblk m c 5 t := by dsimp only [dats]
theorem before0_5 (c : Dev nD) (t) (d) : (dats m 0 c).before 5 t d = iblk m c 5 t :=
  before0_5_of m (dats m 0 c) (A_eq m c 5) (after0_5 m c) t d
theorem after0_6 (c : Dev nD) (t) : (dats m 0 c).after 6 t = iblk m c 6 t := by dsimp only [dats]
theorem before0_6 (c : Dev nD) (t) (d) : (dats m 0 c).before 6 t d = iblk m c 6 t :=
  before0_6_of m (dats m 0 c) (A_eq m c 6) (after0_6 m c) t d
theorem after0_7 (c : Dev nD) (t) : (dats m 0 c).after 7 t = iblk m c 7 t := by dsimp only [dats]
theorem before0_7 (c : Dev nD) (t) (d) : (dats m 0 c).before 7 t d = iblk m c 7 t :=
  before0_7_of m (dats m 0 c) (A_eq m c 7) (after0_7 m c) t d

theorem Φ_eq (c : Dev nD) (t) : (dats m 0 c).Φ t = Pipeline.ΦA spec0 c := by dsimp only [dats]
/-- The scratch buffers, as the body's memrefs name them. -/
theorem scratch_eq (c : Dev nD) :
    (Pipeline.scopedRest (Ix := Unit) (Name := ℕ) (U := UR sig nD τ) (Lvl := ℕ) (Val := Elt F) spec0 c : sProp 𝕄)
      = iprop((∃ X, ((Memref.whole cc0_scratch0).view.loc (c : Thread nD τ) ↦[(Memref.whole cc0_scratch0).view.set]{fullShare} X)) ∗ (∃ X, ((Memref.whole cc0_scratch1).view.loc (c : Thread nD τ) ↦[(Memref.whole cc0_scratch1).view.set]{fullShare} X)) ∗ (∃ X, ((Memref.whole cc0_scratch2).view.loc (c : Thread nD τ) ↦[(Memref.whole cc0_scratch2).view.set]{fullShare} X))) := by
  rw [scopedRest0_eq]; simp only [Memref.view_whole, View.set_whole]
theorem owes_eq (c : Dev nD) (t : Fin cfg0.N) : (dats m 0 c).owesAt () t.succ = (dats m 0 c).owesAt () t.castSucc := rfl

set_option maxHeartbeats 400000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, after0_0, before0_1, after0_1, before0_2, after0_2, before0_3, after0_3, before0_4, after0_4, before0_5, after0_5, before0_6, after0_6, before0_7, after0_7]
  rw [owes_eq, Φ_eq, Φ_eq]
  unfold Pipeline.ΦA
  rw [scratch_eq]
  iintro ⟨⟨⟨⟨%X15, S0⟩, ⟨%X16, S1⟩, ⟨%X17, S2⟩⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, H8, H9, H10, H11, H12⟩
  iapply (body_any c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (Memref.whole cc0_scratch0) (Memref.isWhole_whole _) (Memref.whole cc0_scratch1) (Memref.isWhole_whole _) (Memref.whole cc0_scratch2) (Memref.isWhole_whole _) (iblk m c 0 t) (iblk m c 1 t) (iblk m c 2 t) (iblk m c 3 t) (iblk m c 4 t) (iblk m c 5 t) (iblk m c 6 t) (iblk m c 7 t) X15 X16 X17 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [S0]; · iexact S0
  isplitl [S1]; · iexact S1
  isplitl [S2]; · iexact S2
  iintro ⟨H0, H1, H2, H3, H4, H5, H6, H7, H8, H9, H10, H11, H12, ⟨%Y15, S0⟩, ⟨%Y16, S1⟩, ⟨%Y17, S2⟩⟩
  isplitl [S0 S1 S2 Hr]
  · isplitr [Hr]
    · isplitl [S0]; · iexists Y15; iexact S0
      isplitl [S1]; · iexists Y16; iexact S1
      iexists Y17; iexact S2
    · iexact Hr
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body's obligation, the output windows forgotten. -/
theorem body_obligation (c : Dev nD) :
    BodyObligation (dats (F := F) m 0 c) (defs₀ (F := F)) Variants.none () Set.univ fgt := fun t => by
  rw [bigSep_W0, bigSep_W0, defs₀_row]
  exact triple_restated (sound_body m c t) rfl .rfl fun _ => .rfl

set_option backward.isDefEq.respectTransparency.types false in
/-- The launch: every run ends, with the inputs at what they were and every counter at zero. -/
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := fun c => (body_obligation m c).loose) (hshare := fun c => (dats m 0 c).share_full fun _ => rfl)
    (howed := fun _ _ => rfl) (V := V m) (hmain := hmain m Variants.none) (hA := A_eq m)
    (hΦ := Φ_eq m) (hQ' := fun _ h => h)

/-- The frame: the arguments end as they began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨(h.1.arr_in c 4 rfl).trans (V_main_arg0 m c),
      ((h.1 c).2 main_arg1 (Pipeline.mem_restRefs_of main_arg1 (by decide) (by decide))).trans (V_main_arg1 m c),
      (h.1.arr_in c 7 rfl).trans (V_main_arg2 m c)⟩, h.2⟩) (run_main m ρ)

end Cert.AttnIdeal.Run

end

end
-- ==== Proof.AttnBitsLoop.lean ====
module

public import proofs.«01_k».proof.Proof.Gen.Attn.Frame
public import proofs.«01_k».proof.Proof.Gen.Attn.Loops

/-! The loop over the later query tiles. Its region does not read all the values in scope before it, so its invariant
is the generated one at fixed values of those it does not read. -/

@[expose] public section

noncomputable section

namespace Cert.Attn.Run

open Cert.Attn Cert.Attn.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

set_option warn.classDefReducibility false in
/-- The loop's invariant, a function of the values its region reads. -/
@[sl_loop] def loopInv (𝒱 : Variants) (c : Dev nD) (bd : Option 𝒱.V) (E : Set ℕ) (i : grid0.Coords) (arg2 : Memref sig .tc .vmem S4096x256 .bf16) (harg2 : arg2.IsWhole) (arg3 : Memref sig .tc .vmem S256x4096 .bf16) (harg3 : arg3.IsWhole) (arg4 : Memref sig .tc .vmem S512x256 .bf16) (harg4 : arg4.IsWhole) (arg5 : Memref sig .tc .vmem S256x512 .bf16) (harg5 : arg5.IsWhole) (arg6 : Memref sig .tc .vmem S512x128 .f32) (harg6 : arg6.IsWhole) (arg7 : Memref sig .tc .vmem S4096x128 .bf16) (harg7 : arg7.IsWhole) (arg8 : Memref sig .tc .vmem S1x8x4096 .f32) (harg8 : arg8.IsWhole) (arg9 : Memref sig .tc .vmem S4096x128 .f32) (harg9 : arg9.IsWhole) (arg10 : Memref sig .tc .vmem S4096x128 .bf16) (harg10 : arg10.IsWhole) (arg11 : Memref sig .tc .vmem S512x128 .bf16) (harg11 : arg11.IsWhole) (arg12 : Memref sig .tc .vmem S512x128 .bf16) (harg12 : arg12.IsWhole) (arg13 : Memref sig .tc .vmem S4096x128 .f32) (harg13 : arg13.IsWhole) (arg14 : Memref sig .tc .vmem S512x128 .f32) (harg14 : arg14.IsWhole) (arg15 : Memref sig .tc .vmem S128x4096 .bf16) (harg15 : arg15.IsWhole) (arg16 : Memref sig .tc .vmem S8x4096 .f32) (harg16 : arg16.IsWhole) (arg17 : Memref sig .tc .vmem S2x128x4096 .f32) (harg17 : arg17.IsWhole) (v12 : FVec F S512x128 .bf16) (v15 : FVec F S512x128 .bf16) (v109 : BitVec 32) (X2 : BufTy.Contents (Elt F) arg2.view.ty) (X3 : BufTy.Contents (Elt F) arg3.view.ty) (X4 : BufTy.Contents (Elt F) arg4.view.ty) (X5 : BufTy.Contents (Elt F) arg5.view.ty) (X8 : BufTy.Contents (Elt F) arg8.view.ty) (X9 : BufTy.Contents (Elt F) arg9.view.ty) (X15 : BufTy.Contents (Elt F) arg15.view.ty) (X16 : BufTy.Contents (Elt F) arg16.view.ty) (G17 : BufTy.Contents (Elt F) arg17.view.ty) (init : FVec F S512x128 .f32 × FVec F S512x128 .f32 × FVec F S512x128 .f32 × FVec F S512x128 .f32) :=
  loopInv_k0_t2 (F := F) 𝒱 c bd E i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 (0#32) v12 v15 k0_pay48 k0_pay49 (0#32) v12 k0_pay46 k0_pay47 (broadcast S512x512 (Scalar.ofBits .f32 0x00000000#32)) v109 X2 X3 X4 X5 X8 X9 X15 X16 G17 init

end Cert.Attn.Run

end

end
-- ==== Proof.InDwRef.lean ====
/- The results of the reference of `InDw`, each as a term over the argument arrays. -/
module

public import proofs.«01_k».proof.Proof.Gen.InDwRefIdeal.Run
public import Idealize.ShloMosaic.Lib.Pointwise

@[expose] public section

set_option maxRecDepth 16384

noncomputable section

open Idealize.ShloMosaic Idealize.ShloMosaic.TcCoe Idealize.SL.Sem

namespace Cert.InDwRefIdeal.Value

open Cert.InDwRefIdeal Cert.InDwRefIdeal.Gen Idealize.ShloMosaic.StableHlo

/-- Result 1 of the reference. -/
abbrev REF_v14 (a0 : FVec Ideal S4096x2432 .bf16) (a1 : FVec Ideal S4096x1024 .f32) (a2 : FVec Ideal S8x1024 .f32) : FVec Ideal S2432x1024 .bf16 :=
  truncf .bf16 (transpose S2432x1024 [1, 0] (transpose S1024x2432 [1, 0] (Host.dotGeneral dot_S4096x2432_S4096x1024_S2432x1024_0_0_1_1_n_n none (extf .f32 a0 bitsLt_bf16_f32) (addf (mulf a1 (broadcastInDim S4096x1024 ![0, 1] bcast_S1x1024_S4096x1024_0_1 (addf (broadcastInDim S1x1024 ![] bcast_S_S1x1024 (constant S_ .f32 0x3F800000#32)) (extractStridedSlice S1x1024 ![1, 0] a2 slices_S8x1024_S1x1024_1_0)))) (broadcastInDim S4096x1024 ![0, 1] bcast_S1x1024_S4096x1024_0_1 (extractStridedSlice S1x1024 ![0, 0] a2 slices_S8x1024_S1x1024_0_0)))) transposes_S2432x1024_S1024x2432_1_0) transposes_S1024x2432_S2432x1024_1_0) bitsLt_bf16_f32

end Cert.InDwRefIdeal.Value

end
-- ==== Proof.InDwVal.lean ====
/- What the arrays of `InDwIdeal` hold after the run, against the reference. -/
module

public import proofs.«01_k».proof.Proof.Gen.InDwIdeal.Frame
public import proofs.«01_k».proof.Proof.InDwRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.InDwIdeal.Value

open Cert.InDwIdeal Cert.InDwIdeal.Gen Cert.InDwRefIdeal.Value

variable (m : (ℓ : Loc nD τ sig) → Buf (Elt Ideal) ℓ)

/-- every window's block index at every grid point, in closed form (decided). -/
theorem idx : ∀ t : Fin cfg0.N, win0_0.index t = ![(grid0.coords t 1).val, 0]
    ∧ win0_1.index t = ![(grid0.coords t 1).val, 0]
    ∧ win0_2.index t = ![0, 0]
    ∧ win0_3.index t = ![0, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![t.val, 0]
    ∧ win0_2.index t = ![0, 0]
    ∧ win0_3.index t = ![0, 0] :=
  (by decide +kernel : ∀ t : Fin grid0.N, _)

/-- the zero fill. -/
theorem hzero (j : S2432x1024.Idx) : k0_pay1 (F := Ideal) j = 0 := by
  pointwise! [k0_pay1]

/-- the accumulating payload = what the scratch held + its part (the payload at a ZERO accumulator). -/
theorem hpay (x : Vec Ideal S512x1024 .f32) (sc sh : Vec Ideal S1x1024 .f32) (acc : Vec Ideal S2432x1024 .f32) (d : Vec Ideal S512x2432 .bf16)
    (j : S2432x1024.Idx) : k0_pay2 x sc sh acc d j = acc j + k0_pay2 x sc sh (fun _ => 0) d j := by
  pointwise [k0_pay2]

/-- what the scratch holds after the last point: the sum over the points of their parts, which is the reference's product. -/
theorem scratch_last (c : Dev nD) (j : S2432x1024.Idx) :
    (outsAt0 m c t0_7.val t0_7.isLt).2 j = REF_v14 (m ((c : Thread nD τ).loc main_arg0)) (m ((c : Thread nD τ).loc main_arg1)) (m ((c : Thread nD τ).loc main_arg2)) j := by
  rw [Pipeline.eq_sum_fin_of_reset_step_apply_last (fun n h => (outsAt0 m c n h).2) 8 (fun _ => 0) _
    (fun t h j => by rw [outsAt0_A m c t h (by omega)]; frame_out; rw [hpay, hzero])
    (fun t h j => by
      by_cases h1 : t.val % 8 = 7
      · rw [outsAt0_C m c t h h1]; frame_out; rw [hpay, (Memref.isWhole_whole _).read_unread]
      · rw [outsAt0_B m c t h h1]; frame_out; rw [hpay, (Memref.isWhole_whole _).read_unread])
    (le_of_eq N_0) t0_7 rfl j, zero_add]
  pointwise [k0_pay2, REF_v14]
  refine Fin.sum_mul_add_congr fun t k hl => ?_
  blk_point [iblk, V, idx_val t]

/-- the result array: written back once, at the last point, from the scratch. -/
theorem final (c : Dev nD) : (dats m 0 c).arrAt 3 (cfgs 0).N = REF_v14 (m ((c : Thread nD τ).loc main_arg0)) (m ((c : Thread nD τ).loc main_arg1)) (m ((c : Thread nD τ).loc main_arg2)) := by
  refine (dats m 0 c).arrAt_eq_of_after_last 3 t0_7 (by decide +kernel) _ fun j => ?_
  blk_simp
  rw [after0_3, ← scratch_last, outsAt0_C m c t0_7 (by decide) (by decide)]
  frame_out
  pointwise [k0_pay3]

end Cert.InDwIdeal.Value

end
-- ==== Proof.InDwClaim.lean ====
/- The claims about `InDw`: its frames, and that the kernel over the extended reals computes its reference. -/
module

public import proofs.«01_k».proof.Defs
public import proofs.«01_k».proof.Proof.Gen.InDw.Frame
public import proofs.«01_k».proof.Proof.Gen.InDwIdeal.Frame
public import proofs.«01_k».proof.Proof.Gen.InDwIdeal.Value
public import proofs.«01_k».proof.Proof.Gen.InDwRefIdeal.Run
public import proofs.«01_k».proof.Proof.InDwVal

@[expose] public section

set_option maxRecDepth 16384

noncomputable section

namespace Cert.InDwClaim

open Idealize.ShloMosaic Idealize.SL.Sem

/-- the program over the machine's floats runs and leaves its arguments. -/
theorem frame : Cert.quiescent_InDw := fun m ρ _ => Cert.InDw.Gen.frame m ρ

/-- so does the program over the extended reals. -/
theorem frame_ideal : Cert.quiescent_InDwIdeal := fun m ρ _ => Cert.InDwIdeal.Gen.frame m ρ

/-- so does the reference. -/
theorem frame_ref : Cert.quiescent_InDwRefIdeal := by
  intro m g _
  exact (θ_run Cert.InDwRefIdeal.defs _ _).mono (fun r h => ⟨fun c => (h c).2, sem_eq_zero_of_no_sems (by decide) r.2⟩)
    (Cert.InDwRefIdeal.Value.run (F := Ideal) m g)

/-- a result of the kernel is the reference's, of equal arguments. -/
theorem eq_REF_v14 (m : (ℓ : Loc Cert.InDwIdeal.nD Cert.InDwIdeal.τ Cert.InDwIdeal.sig) → Buf (Elt Ideal) ℓ) (c : Dev Cert.InDwIdeal.nD)
    (a0 : Buf (Elt Ideal) ((c.tc : Thread Cert.InDwRefIdeal.nD Cert.InDwRefIdeal.τ).loc Cert.InDwRefIdeal.main_arg0)) (h0 : a0 = m ((c.tc : Thread Cert.InDwIdeal.nD Cert.InDwIdeal.τ).loc Cert.InDwIdeal.main_arg0))
    (a1 : Buf (Elt Ideal) ((c.tc : Thread Cert.InDwRefIdeal.nD Cert.InDwRefIdeal.τ).loc Cert.InDwRefIdeal.main_arg1)) (h1 : a1 = m ((c.tc : Thread Cert.InDwIdeal.nD Cert.InDwIdeal.τ).loc Cert.InDwIdeal.main_arg1))
    (a2 : Buf (Elt Ideal) ((c.tc : Thread Cert.InDwRefIdeal.nD Cert.InDwRefIdeal.τ).loc Cert.InDwRefIdeal.main_arg2)) (h2 : a2 = m ((c.tc : Thread Cert.InDwIdeal.nD Cert.InDwIdeal.τ).loc Cert.InDwIdeal.main_arg2))
    : Cert.InDwRefIdeal.Value.REF_v14 a0 a1 a2 = (Cert.InDwIdeal.Gen.dats m 0 c).arrAt 3 (Cert.InDwIdeal.cfgs 0).N := by
  rw [Cert.InDwIdeal.Value.final m c]
  subst h0 h1 h2
  rfl

/-- over the extended reals the kernel's results are the reference's, whatever the arguments. -/
theorem algebraic : Cert.algebraic_InDwIdeal_InDwRefIdeal := by
  intro m g m' g' _ hag
  refine ⟨_, Cert.InDwIdeal.Value.run_blocks m g, ?_⟩
  refine (θ_run Cert.InDwRefIdeal.defs _ _).mono (fun r h c => ?_) (Cert.InDwRefIdeal.Value.run (F := Ideal) m' g')
  exact ⟨(h c).1.trans (eq_REF_v14 m c _ (hag c).1 _ (hag c).2.1 _ (hag c).2.2),
    (h c).2⟩

end Cert.InDwClaim

end
-- ==== Proof.InDxRef.lean ====
/- The results of the reference of `InDx`, each as a term over the argument arrays. -/
module

public import proofs.«01_k».proof.Proof.Gen.InDxRefIdeal.Run
public import Idealize.ShloMosaic.Lib.Pointwise

@[expose] public section

set_option maxRecDepth 16384

noncomputable section

open Idealize.ShloMosaic Idealize.ShloMosaic.TcCoe Idealize.SL.Sem

namespace Cert.InDxRefIdeal.Value

open Cert.InDxRefIdeal Cert.InDxRefIdeal.Gen Idealize.ShloMosaic.StableHlo

/-- Result 1 of the reference. -/
abbrev REF_v20 (a0 : FVec Ideal S4096x2432 .bf16) (a1 : FVec Ideal S2432x1024 .bf16) (a3 : FVec Ideal S4096x1024 .f32) (a4 : FVec Ideal S8x1024 .f32) : FVec Ideal S4096x1024 .f32 :=
  addf a3 (mulf (Host.dotGeneral dot_S4096x2432_S1024x2432_S4096x1024_1_1_0_0_n_n none (extf .f32 a0 bitsLt_bf16_f32) (transpose S1024x2432 [1, 0] (extf .f32 a1 bitsLt_bf16_f32) transposes_S2432x1024_S1024x2432_1_0)) (broadcastInDim S4096x1024 ![0, 1] bcast_S1x1024_S4096x1024_0_1 (addf (broadcastInDim S1x1024 ![] bcast_S_S1x1024 (constant S_ .f32 0x3F800000#32)) (extractStridedSlice S1x1024 ![1, 0] a4 slices_S8x1024_S1x1024_1_0))))

/-- Result 2 of the reference. -/
abbrev REF_v14 (a0 : FVec Ideal S4096x2432 .bf16) (a1 : FVec Ideal S2432x1024 .bf16) : FVec Ideal S1x1024 .f32 :=
  shapeCast _ (Host.reduceAdd (Host.dotGeneral dot_S4096x2432_S1024x2432_S4096x1024_1_1_0_0_n_n none (extf .f32 a0 bitsLt_bf16_f32) (transpose S1024x2432 [1, 0] (extf .f32 a1 bitsLt_bf16_f32) transposes_S2432x1024_S1024x2432_1_0)) (constant S_ .f32 0x00000000#32) reducesTo_S4096x1024_S1024_d0 h_S_) shapeCasts_S1024_S1x1024

/-- Result 3 of the reference. -/
abbrev REF_v17 (a0 : FVec Ideal S4096x2432 .bf16) (a1 : FVec Ideal S2432x1024 .bf16) (a2 : FVec Ideal S4096x1024 .f32) : FVec Ideal S1x1024 .f32 :=
  shapeCast _ (Host.reduceAdd (mulf a2 (Host.dotGeneral dot_S4096x2432_S1024x2432_S4096x1024_1_1_0_0_n_n none (extf .f32 a0 bitsLt_bf16_f32) (transpose S1024x2432 [1, 0] (extf .f32 a1 bitsLt_bf16_f32) transposes_S2432x1024_S1024x2432_1_0))) (constant S_ .f32 0x00000000#32) reducesTo_S4096x1024_S1024_d0 h_S_) shapeCasts_S1024_S1x1024

end Cert.InDxRefIdeal.Value

end
-- ==== Proof.InDxVal.lean ====
/- What the arrays of `InDxIdeal` hold after the run, against the reference. -/
module

public import proofs.«01_k».proof.Proof.Gen.InDxIdeal.Frame
public import proofs.«01_k».proof.Proof.InDxRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.InDxIdeal.Value

open Cert.InDxIdeal Cert.InDxIdeal.Gen Cert.InDxRefIdeal.Value

variable (m : (ℓ : Loc nD τ sig) → Buf (Elt Ideal) ℓ)

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0]
    ∧ win0_3.index t = ![(grid0.coords t 0).val, 0]
    ∧ win0_4.index t = ![0, 0]
    ∧ win0_5.index t = ![(grid0.coords t 0).val, 0]
    ∧ win0_6.index t = ![0, 0]
    ∧ win0_7.index t = ![0, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![0, 0]
    ∧ win0_7.index t = ![0, 0] :=
  (by decide +kernel : ∀ t : Fin grid0.N, _)

/-- POINT of window 5 at a point of kit case A (`frame_out` opens the kit word). -/
theorem point_5_A (c : Dev nD) (t : Fin cfg0.N) (h0 : t.val % 8 = 0) (y) :
    (out0_A_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) ((hcond0_0 t).mpr h0) (iblk m c 0
      t) (iblk m c 1 t) (iblk m c 2 t) (iblk m c 3 t) (iblk m c 4 t)) y
      = REF_v20 (m ((c : Thread nD τ).loc main_arg0)) (m ((c : Thread nD τ).loc main_arg1)) (m ((c : Thread nD τ).loc
        main_arg3)) (m ((c : Thread nD τ).loc main_arg4)) (((cfg0.win 5).blk t).view.emb y) := by
  frame_out
  pointwise [k0_pay3, k0_pay4, k0_pay5, k0_pay6, REF_v20]; blk_point [iblk, V, idx_val t]; done

/-- POINT of window 5 at a point of kit case B (`frame_out` opens the kit word). -/
theorem point_5_B (c : Dev nD) (t : Fin cfg0.N) (h0 : ¬t.val % 8 = 0) (y) :
    (out0_B_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (fun h => h0 ((hcond0_0 t).mp h))
      (iblk m c 0 t) (iblk m c 1 t) (iblk m c 2 t) (iblk m c 3 t) (iblk m c 4 t) (outsAt0 m c (t.val - 1)
      (Nat.lt_of_le_of_lt (Nat.sub_le _ _) t.isLt)).2.1 (outsAt0 m c (t.val - 1) (Nat.lt_of_le_of_lt (Nat.sub_le _ _)
      t.isLt)).2.2) y
      = REF_v20 (m ((c : Thread nD τ).loc main_arg0)) (m ((c : Thread nD τ).loc main_arg1)) (m ((c : Thread nD τ).loc
        main_arg3)) (m ((c : Thread nD τ).loc main_arg4)) (((cfg0.win 5).blk t).view.emb y) := by
  frame_out
  pointwise [k0_pay3, k0_pay4, k0_pay5, k0_pay6, REF_v20]; blk_point [iblk, V, idx_val t]; done

theorem final_5 (c : Dev nD) : (dats m 0 c).arrAt 5 (cfgs 0).N = REF_v20 (m ((c : Thread nD τ).loc main_arg0)) (m ((c : Thread nD τ).loc main_arg1)) (m ((c : Thread nD τ).loc main_arg3)) (m ((c : Thread nD τ).loc main_arg4)) := by
  refine (dats m 0 c).arrAt_eq_of_covers 5 _ (by decide +kernel) fun t hf y => ?_
  blk_simp; rw [after0_5]
  by_cases h : t.val % 8 = 0
  · rw [outsAt0_A m c t h]; dsimp only; exact point_5_A m c t h y
  · rw [outsAt0_B m c t h]; dsimp only; exact point_5_B m c t h y

/-- the zero fill. -/
theorem hzero_6 (j : S1x1024.Idx) : k0_pay1 (F := Ideal) j = 0 := by
  pointwise! [k0_pay1]

/-- the accumulating payload = what the buffer held + its part (the payload at a ZERO accumulator -/
theorem hpay_6 (v3 : Vec Ideal S512x2432 .bf16) (v4 : Vec Ideal S2432x1024 .bf16) (v14 : Vec Ideal S1x1024 .f32) (j : S1x1024.Idx) :
    k0_pay5 v3 v4 v14 j = v14 j + k0_pay5 v3 v4 (fun _ => 0) j := by
  pointwise [k0_pay5]

/-- BRIDGE + the accumulation as ONE `Fin`-indexed sum (no induction, no `term`, no `outs_eq`). -/
theorem final_6 (c : Dev nD) : (dats m 0 c).arrAt 6 (cfgs 0).N = REF_v14 (m ((c : Thread nD τ).loc main_arg0)) (m ((c : Thread nD τ).loc main_arg1)) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0) _
    (fun t h j => by rw [outsAt0_A m c t h]; frame_out; rw [hpay_6, hzero_6])
    (fun t h j => by rw [outsAt0_B m c t h]; frame_out; rw [hpay_6])
    (le_of_eq N_0) t0_7 rfl j, zero_add]
  pointwise [k0_pay5, k0_pay3, REF_v14]
  refine Fin.sum_mul_add_congr fun t k hl => ?_
  blk_point [iblk, V, idx_val t]

/-- the zero fill. -/
theorem hzero_7 (j : S1x1024.Idx) : k0_pay2 (F := Ideal) j = 0 := by
  pointwise! [k0_pay2]

/-- the accumulating payload = what the buffer held + its part (the payload at a ZERO accumulator -/
theorem hpay_7 (v3 : Vec Ideal S512x2432 .bf16) (v4 : Vec Ideal S2432x1024 .bf16) (v20 : Vec Ideal S1x1024 .f32) (v22 : Vec Ideal S512x1024 .f32) (j : S1x1024.Idx) :
    k0_pay6 v3 v4 v20 v22 j = v20 j + k0_pay6 v3 v4 (fun _ => 0) v22 j := by
  pointwise [k0_pay6]

/-- BRIDGE + the accumulation as ONE `Fin`-indexed sum (no induction, no `term`, no `outs_eq`). -/
theorem final_7 (c : Dev nD) : (dats m 0 c).arrAt 7 (cfgs 0).N = REF_v17 (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0) _
    (fun t h j => by rw [outsAt0_A m c t h]; frame_out; rw [hpay_7, hzero_7])
    (fun t h j => by rw [outsAt0_B m c t h]; frame_out; rw [hpay_7])
    (le_of_eq N_0) t0_7 rfl j, zero_add]
  pointwise [k0_pay6, k0_pay3, REF_v17]
  refine Fin.sum_mul_add_congr fun t k hl => ?_
  blk_point [iblk, V, idx_val t]

end Cert.InDxIdeal.Value

end
-- ==== Proof.InDxClaim.lean ====
/- The claims about `InDx`: its frames, and that the kernel over the extended reals computes its reference. -/
module

public import proofs.«01_k».proof.Defs
public import proofs.«01_k».proof.Proof.Gen.InDx.Frame
public import proofs.«01_k».proof.Proof.Gen.InDxIdeal.Frame
public import proofs.«01_k».proof.Proof.Gen.InDxIdeal.Value
public import proofs.«01_k».proof.Proof.Gen.InDxRefIdeal.Run
public import proofs.«01_k».proof.Proof.InDxVal

@[expose] public section

set_option maxRecDepth 16384

noncomputable section

namespace Cert.InDxClaim

open Idealize.ShloMosaic Idealize.SL.Sem

/-- the program over the machine's floats runs and leaves its arguments. -/
theorem frame : Cert.quiescent_InDx := fun m ρ _ => Cert.InDx.Gen.frame m ρ

/-- so does the program over the extended reals. -/
theorem frame_ideal : Cert.quiescent_InDxIdeal := fun m ρ _ => Cert.InDxIdeal.Gen.frame m ρ

/-- so does the reference. -/
theorem frame_ref : Cert.quiescent_InDxRefIdeal := by
  intro m g _
  exact (θ_run Cert.InDxRefIdeal.defs _ _).mono (fun r h => ⟨fun c => (h c).2.2.2, sem_eq_zero_of_no_sems (by decide) r.2⟩)
    (Cert.InDxRefIdeal.Value.run (F := Ideal) m g)

/-- a result of the kernel is the reference's, of equal arguments. -/
theorem eq_REF_v20 (m : (ℓ : Loc Cert.InDxIdeal.nD Cert.InDxIdeal.τ Cert.InDxIdeal.sig) → Buf (Elt Ideal) ℓ) (c : Dev Cert.InDxIdeal.nD)
    (a0 : Buf (Elt Ideal) ((c.tc : Thread Cert.InDxRefIdeal.nD Cert.InDxRefIdeal.τ).loc Cert.InDxRefIdeal.main_arg0)) (h0 : a0 = m ((c.tc : Thread Cert.InDxIdeal.nD Cert.InDxIdeal.τ).loc Cert.InDxIdeal.main_arg0))
    (a1 : Buf (Elt Ideal) ((c.tc : Thread Cert.InDxRefIdeal.nD Cert.InDxRefIdeal.τ).loc Cert.InDxRefIdeal.main_arg1)) (h1 : a1 = m ((c.tc : Thread Cert.InDxIdeal.nD Cert.InDxIdeal.τ).loc Cert.InDxIdeal.main_arg1))
    (a3 : Buf (Elt Ideal) ((c.tc : Thread Cert.InDxRefIdeal.nD Cert.InDxRefIdeal.τ).loc Cert.InDxRefIdeal.main_arg3)) (h3 : a3 = m ((c.tc : Thread Cert.InDxIdeal.nD Cert.InDxIdeal.τ).loc Cert.InDxIdeal.main_arg3))
    (a4 : Buf (Elt Ideal) ((c.tc : Thread Cert.InDxRefIdeal.nD Cert.InDxRefIdeal.τ).loc Cert.InDxRefIdeal.main_arg4)) (h4 : a4 = m ((c.tc : Thread Cert.InDxIdeal.nD Cert.InDxIdeal.τ).loc Cert.InDxIdeal.main_arg4))
    : Cert.InDxRefIdeal.Value.REF_v20 a0 a1 a3 a4 = (Cert.InDxIdeal.Gen.dats m 0 c).arrAt 5 (Cert.InDxIdeal.cfgs 0).N := by
  rw [Cert.InDxIdeal.Value.final_5 m c]
  subst h0 h1 h3 h4
  rfl

/-- a result of the kernel is the reference's, of equal arguments. -/
theorem eq_REF_v14 (m : (ℓ : Loc Cert.InDxIdeal.nD Cert.InDxIdeal.τ Cert.InDxIdeal.sig) → Buf (Elt Ideal) ℓ) (c : Dev Cert.InDxIdeal.nD)
    (a0 : Buf (Elt Ideal) ((c.tc : Thread Cert.InDxRefIdeal.nD Cert.InDxRefIdeal.τ).loc Cert.InDxRefIdeal.main_arg0)) (h0 : a0 = m ((c.tc : Thread Cert.InDxIdeal.nD Cert.InDxIdeal.τ).loc Cert.InDxIdeal.main_arg0))
    (a1 : Buf (Elt Ideal) ((c.tc : Thread Cert.InDxRefIdeal.nD Cert.InDxRefIdeal.τ).loc Cert.InDxRefIdeal.main_arg1)) (h1 : a1 = m ((c.tc : Thread Cert.InDxIdeal.nD Cert.InDxIdeal.τ).loc Cert.InDxIdeal.main_arg1))
    : Cert.InDxRefIdeal.Value.REF_v14 a0 a1 = (Cert.InDxIdeal.Gen.dats m 0 c).arrAt 6 (Cert.InDxIdeal.cfgs 0).N := by
  rw [Cert.InDxIdeal.Value.final_6 m c]
  subst h0 h1
  rfl

/-- a result of the kernel is the reference's, of equal arguments. -/
theorem eq_REF_v17 (m : (ℓ : Loc Cert.InDxIdeal.nD Cert.InDxIdeal.τ Cert.InDxIdeal.sig) → Buf (Elt Ideal) ℓ) (c : Dev Cert.InDxIdeal.nD)
    (a0 : Buf (Elt Ideal) ((c.tc : Thread Cert.InDxRefIdeal.nD Cert.InDxRefIdeal.τ).loc Cert.InDxRefIdeal.main_arg0)) (h0 : a0 = m ((c.tc : Thread Cert.InDxIdeal.nD Cert.InDxIdeal.τ).loc Cert.InDxIdeal.main_arg0))
    (a1 : Buf (Elt Ideal) ((c.tc : Thread Cert.InDxRefIdeal.nD Cert.InDxRefIdeal.τ).loc Cert.InDxRefIdeal.main_arg1)) (h1 : a1 = m ((c.tc : Thread Cert.InDxIdeal.nD Cert.InDxIdeal.τ).loc Cert.InDxIdeal.main_arg1))
    (a2 : Buf (Elt Ideal) ((c.tc : Thread Cert.InDxRefIdeal.nD Cert.InDxRefIdeal.τ).loc Cert.InDxRefIdeal.main_arg2)) (h2 : a2 = m ((c.tc : Thread Cert.InDxIdeal.nD Cert.InDxIdeal.τ).loc Cert.InDxIdeal.main_arg2))
    : Cert.InDxRefIdeal.Value.REF_v17 a0 a1 a2 = (Cert.InDxIdeal.Gen.dats m 0 c).arrAt 7 (Cert.InDxIdeal.cfgs 0).N := by
  rw [Cert.InDxIdeal.Value.final_7 m c]
  subst h0 h1 h2
  rfl

/-- over the extended reals the kernel's results are the reference's, whatever the arguments. -/
theorem algebraic : Cert.algebraic_InDxIdeal_InDxRefIdeal := by
  intro m g m' g' _ hag
  refine ⟨_, _, _, Cert.InDxIdeal.Value.run_blocks m g, ?_⟩
  refine (θ_run Cert.InDxRefIdeal.defs _ _).mono (fun r h c => ?_) (Cert.InDxRefIdeal.Value.run (F := Ideal) m' g')
  exact ⟨(h c).1.trans (eq_REF_v20 m c _ (hag c).1 _ (hag c).2.1 _ (hag c).2.2.2.1 _ (hag c).2.2.2.2),
    (h c).2.1.trans (eq_REF_v14 m c _ (hag c).1 _ (hag c).2.1),
    (h c).2.2.1.trans (eq_REF_v17 m c _ (hag c).1 _ (hag c).2.1 _ (hag c).2.2.1),
    (h c).2.2.2⟩

end Cert.InDxClaim

end
-- ==== Proof.UpDwRef.lean ====
/- The results of the reference of `UpDw`, each as a term over the argument arrays. -/
module

public import proofs.«01_k».proof.Proof.Gen.UpDwRefIdeal.Run
public import Idealize.ShloMosaic.Lib.Pointwise

@[expose] public section

set_option maxRecDepth 16384

noncomputable section

open Idealize.ShloMosaic Idealize.ShloMosaic.TcCoe Idealize.SL.Sem

namespace Cert.UpDwRefIdeal.Value

open Cert.UpDwRefIdeal Cert.UpDwRefIdeal.Gen Idealize.ShloMosaic.StableHlo

/-- Result 1 of the reference. -/
abbrev REF_v14 (a0 : FVec Ideal S4096x5632 .bf16) (a1 : FVec Ideal S4096x1024 .f32) (a2 : FVec Ideal S8x1024 .f32) : FVec Ideal S5632x1024 .bf16 :=
  truncf .bf16 (transpose S5632x1024 [1, 0] (transpose S1024x5632 [1, 0] (Host.dotGeneral dot_S4096x5632_S4096x1024_S5632x1024_0_0_1_1_n_n none (extf .f32 a0 bitsLt_bf16_f32) (addf (mulf a1 (broadcastInDim S4096x1024 ![0, 1] bcast_S1x1024_S4096x1024_0_1 (addf (broadcastInDim S1x1024 ![] bcast_S_S1x1024 (constant S_ .f32 0x3F800000#32)) (extractStridedSlice S1x1024 ![4, 0] a2 slices_S8x1024_S1x1024_4_0)))) (broadcastInDim S4096x1024 ![0, 1] bcast_S1x1024_S4096x1024_0_1 (extractStridedSlice S1x1024 ![3, 0] a2 slices_S8x1024_S1x1024_3_0)))) transposes_S5632x1024_S1024x5632_1_0) transposes_S1024x5632_S5632x1024_1_0) bitsLt_bf16_f32

end Cert.UpDwRefIdeal.Value

end
-- ==== Proof.UpDwVal.lean ====
/- What the arrays of `UpDwIdeal` hold after the run, against the reference. -/
module

public import proofs.«01_k».proof.Proof.Gen.UpDwIdeal.Frame
public import proofs.«01_k».proof.Proof.UpDwRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.UpDwIdeal.Value

open Cert.UpDwIdeal Cert.UpDwIdeal.Gen Cert.UpDwRefIdeal.Value

variable (m : (ℓ : Loc nD τ sig) → Buf (Elt Ideal) ℓ)

/-- every window's block index at every grid point, in closed form (decided). -/
theorem idx : ∀ t : Fin cfg0.N, win0_0.index t = ![(grid0.coords t 1).val, 0]
    ∧ win0_1.index t = ![(grid0.coords t 1).val, (grid0.coords t 0).val]
    ∧ win0_2.index t = ![0, (grid0.coords t 0).val]
    ∧ win0_3.index t = ![0, (grid0.coords t 0).val] :=
  (by decide +kernel : ∀ t : Fin grid0.N, _)

/-- the same in `t.val` (for `omega` beside a schedule fact `t.val % J = r`). -/
theorem idx_val : ∀ t : Fin cfg0.N, win0_0.index t = ![t.val % 8, 0]
    ∧ win0_1.index t = ![t.val % 8, t.val / 8]
    ∧ win0_2.index t = ![0, t.val / 8]
    ∧ win0_3.index t = ![0, t.val / 8] :=
  (by decide +kernel : ∀ t : Fin grid0.N, _)

/-- the zero fill. -/
theorem hzero (j : S5632x512.Idx) : k0_pay1 (F := Ideal) j = 0 := by
  pointwise! [k0_pay1]

/-- the accumulating payload = what the scratch held + its part (the payload at a ZERO accumulator). -/
theorem hpay (x : Vec Ideal S512x512 .f32) (sc sh : Vec Ideal S1x512 .f32) (acc : Vec Ideal S5632x512 .f32) (d : Vec Ideal S512x5632 .bf16)
    (j : S5632x512.Idx) : k0_pay2 x sc sh acc d j = acc j + k0_pay2 x sc sh (fun _ => 0) d j := by
  pointwise [k0_pay2]

/-- what the scratch holds at the last point of a run: the sum over the run's points of their parts, which is a column block
    of the reference's product. -/
theorem scratch_flush (c : Dev nD) (t : Fin cfg0.N) (h7 : t.val % 8 = 7) (j : S5632x512.Idx) :
    (outsAt0 m c t.val t.isLt).2 j = REF_v14 (m ((c : Thread nD τ).loc main_arg0)) (m ((c : Thread nD τ).loc main_arg1)) (m ((c : Thread nD τ).loc main_arg2)) (((cfg0.win 3).blk t).view.emb j) := by
  rw [Pipeline.eq_sum_fin_of_reset_step_apply_of_flush (fun n h => (outsAt0 m c n h).2) 8 (fun _ => 0) _
    (fun t h j => by rw [outsAt0_A m c t h (by omega)]; frame_out; rw [hpay, hzero])
    (fun t h j => by
      by_cases h1 : t.val % 8 = 7
      · rw [outsAt0_C m c t h h1]; frame_out; rw [hpay, (Memref.isWhole_whole _).read_unread]
      · rw [outsAt0_B m c t h h1]; frame_out; rw [hpay, (Memref.isWhole_whole _).read_unread])
    t h7 j, zero_add]
  pointwise [k0_pay2, REF_v14]
  refine Fin.sum_mul_add_congr fun s k hl => ?_
  have hs : (8 * (t.val / 8) + s.val) % 8 = s.val := by omega
  have hq : (8 * (t.val / 8) + s.val) / 8 = t.val / 8 := by omega
  blk_point [iblk, V, idx_val t, idx_val ⟨8 * (t.val / 8) + s.val, Pipeline.run_point_lt_of_flush t h7 s⟩, hs, hq]

/-- the result array: each column block written back once, at the last point of its run, from the scratch. -/
theorem final (c : Dev nD) : (dats m 0 c).arrAt 3 (cfgs 0).N = REF_v14 (m ((c : Thread nD τ).loc main_arg0)) (m ((c : Thread nD τ).loc main_arg1)) (m ((c : Thread nD τ).loc main_arg2)) := by
  refine (dats m 0 c).arrAt_eq_of_covers 3 _ (by decide +kernel) fun t hf y => ?_
  have h7 : t.val % 8 = 7 := (flush0_3 t).mp hf
  blk_simp
  rw [after0_3, ← scratch_flush m c t h7, outsAt0_C m c t (by omega) h7]
  frame_out
  pointwise [k0_pay3]

end Cert.UpDwIdeal.Value

end
-- ==== Proof.UpDwClaim.lean ====
/- The claims about `UpDw`: its frames, and that the kernel over the extended reals computes its reference. -/
module

public import proofs.«01_k».proof.Defs
public import proofs.«01_k».proof.Proof.Gen.UpDw.Frame
public import proofs.«01_k».proof.Proof.Gen.UpDwIdeal.Frame
public import proofs.«01_k».proof.Proof.Gen.UpDwIdeal.Value
public import proofs.«01_k».proof.Proof.Gen.UpDwRefIdeal.Run
public import proofs.«01_k».proof.Proof.UpDwVal

@[expose] public section

set_option maxRecDepth 16384

noncomputable section

namespace Cert.UpDwClaim

open Idealize.ShloMosaic Idealize.SL.Sem

/-- the program over the machine's floats runs and leaves its arguments. -/
theorem frame : Cert.quiescent_UpDw := fun m ρ _ => Cert.UpDw.Gen.frame m ρ

/-- so does the program over the extended reals. -/
theorem frame_ideal : Cert.quiescent_UpDwIdeal := fun m ρ _ => Cert.UpDwIdeal.Gen.frame m ρ

/-- so does the reference. -/
theorem frame_ref : Cert.quiescent_UpDwRefIdeal := by
  intro m g _
  exact (θ_run Cert.UpDwRefIdeal.defs _ _).mono (fun r h => ⟨fun c => (h c).2, sem_eq_zero_of_no_sems (by decide) r.2⟩)
    (Cert.UpDwRefIdeal.Value.run (F := Ideal) m g)

/-- a result of the kernel is the reference's, of equal arguments. -/
theorem eq_REF_v14 (m : (ℓ : Loc Cert.UpDwIdeal.nD Cert.UpDwIdeal.τ Cert.UpDwIdeal.sig) → Buf (Elt Ideal) ℓ) (c : Dev Cert.UpDwIdeal.nD)
    (a0 : Buf (Elt Ideal) ((c.tc : Thread Cert.UpDwRefIdeal.nD Cert.UpDwRefIdeal.τ).loc Cert.UpDwRefIdeal.main_arg0)) (h0 : a0 = m ((c.tc : Thread Cert.UpDwIdeal.nD Cert.UpDwIdeal.τ).loc Cert.UpDwIdeal.main_arg0))
    (a1 : Buf (Elt Ideal) ((c.tc : Thread Cert.UpDwRefIdeal.nD Cert.UpDwRefIdeal.τ).loc Cert.UpDwRefIdeal.main_arg1)) (h1 : a1 = m ((c.tc : Thread Cert.UpDwIdeal.nD Cert.UpDwIdeal.τ).loc Cert.UpDwIdeal.main_arg1))
    (a2 : Buf (Elt Ideal) ((c.tc : Thread Cert.UpDwRefIdeal.nD Cert.UpDwRefIdeal.τ).loc Cert.UpDwRefIdeal.main_arg2)) (h2 : a2 = m ((c.tc : Thread Cert.UpDwIdeal.nD Cert.UpDwIdeal.τ).loc Cert.UpDwIdeal.main_arg2))
    : Cert.UpDwRefIdeal.Value.REF_v14 a0 a1 a2 = (Cert.UpDwIdeal.Gen.dats m 0 c).arrAt 3 (Cert.UpDwIdeal.cfgs 0).N := by
  rw [Cert.UpDwIdeal.Value.final m c]
  subst h0 h1 h2
  rfl

/-- over the extended reals the kernel's results are the reference's, whatever the arguments. -/
theorem algebraic : Cert.algebraic_UpDwIdeal_UpDwRefIdeal := by
  intro m g m' g' _ hag
  refine ⟨_, Cert.UpDwIdeal.Value.run_blocks m g, ?_⟩
  refine (θ_run Cert.UpDwRefIdeal.defs _ _).mono (fun r h c => ?_) (Cert.UpDwRefIdeal.Value.run (F := Ideal) m' g')
  exact ⟨(h c).1.trans (eq_REF_v14 m c _ (hag c).1 _ (hag c).2.1 _ (hag c).2.2),
    (h c).2⟩

end Cert.UpDwClaim

end
-- ==== Proof.UpDxRef.lean ====
/- The results of the reference of `UpDx`, each as a term over the argument arrays. -/
module

public import proofs.«01_k».proof.Proof.Gen.UpDxRefIdeal.Run
public import Idealize.ShloMosaic.Lib.Pointwise

@[expose] public section

set_option maxRecDepth 16384

noncomputable section

open Idealize.ShloMosaic Idealize.ShloMosaic.TcCoe Idealize.SL.Sem

namespace Cert.UpDxRefIdeal.Value

open Cert.UpDxRefIdeal Cert.UpDxRefIdeal.Gen Idealize.ShloMosaic.StableHlo

/-- Result 1 of the reference. -/
abbrev REF_v20 (a0 : FVec Ideal S4096x5632 .bf16) (a1 : FVec Ideal S5632x1024 .bf16) (a3 : FVec Ideal S4096x1024 .f32) (a4 : FVec Ideal S8x1024 .f32) : FVec Ideal S4096x1024 .f32 :=
  addf a3 (mulf (Host.dotGeneral dot_S4096x5632_S1024x5632_S4096x1024_1_1_0_0_n_n none (extf .f32 a0 bitsLt_bf16_f32) (transpose S1024x5632 [1, 0] (extf .f32 a1 bitsLt_bf16_f32) transposes_S5632x1024_S1024x5632_1_0)) (broadcastInDim S4096x1024 ![0, 1] bcast_S1x1024_S4096x1024_0_1 (addf (broadcastInDim S1x1024 ![] bcast_S_S1x1024 (constant S_ .f32 0x3F800000#32)) (extractStridedSlice S1x1024 ![4, 0] a4 slices_S8x1024_S1x1024_4_0))))

/-- Result 2 of the reference. -/
abbrev REF_v14 (a0 : FVec Ideal S4096x5632 .bf16) (a1 : FVec Ideal S5632x1024 .bf16) : FVec Ideal S1x1024 .f32 :=
  shapeCast _ (Host.reduceAdd (Host.dotGeneral dot_S4096x5632_S1024x5632_S4096x1024_1_1_0_0_n_n none (extf .f32 a0 bitsLt_bf16_f32) (transpose S1024x5632 [1, 0] (extf .f32 a1 bitsLt_bf16_f32) transposes_S5632x1024_S1024x5632_1_0)) (constant S_ .f32 0x00000000#32) reducesTo_S4096x1024_S1024_d0 h_S_) shapeCasts_S1024_S1x1024

/-- Result 3 of the reference. -/
abbrev REF_v17 (a0 : FVec Ideal S4096x5632 .bf16) (a1 : FVec Ideal S5632x1024 .bf16) (a2 : FVec Ideal S4096x1024 .f32) : FVec Ideal S1x1024 .f32 :=
  shapeCast _ (Host.reduceAdd (mulf a2 (Host.dotGeneral dot_S4096x5632_S1024x5632_S4096x1024_1_1_0_0_n_n none (extf .f32 a0 bitsLt_bf16_f32) (transpose S1024x5632 [1, 0] (extf .f32 a1 bitsLt_bf16_f32) transposes_S5632x1024_S1024x5632_1_0))) (constant S_ .f32 0x00000000#32) reducesTo_S4096x1024_S1024_d0 h_S_) shapeCasts_S1024_S1x1024

end Cert.UpDxRefIdeal.Value

end
-- ==== Proof.UpDxVal.lean ====
/- What the arrays of `UpDxIdeal` hold after the run, against the reference. -/
module

public import proofs.«01_k».proof.Proof.Gen.UpDxIdeal.Frame
public import proofs.«01_k».proof.Proof.UpDxRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.UpDxIdeal.Value

open Cert.UpDxIdeal Cert.UpDxIdeal.Gen Cert.UpDxRefIdeal.Value

variable (m : (ℓ : Loc nD τ sig) → Buf (Elt Ideal) ℓ)

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0]
    ∧ win0_3.index t = ![(grid0.coords t 0).val, 0]
    ∧ win0_4.index t = ![0, 0]
    ∧ win0_5.index t = ![(grid0.coords t 0).val, 0]
    ∧ win0_6.index t = ![0, 0]
    ∧ win0_7.index t = ![0, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0]
    ∧ win0_3.index t = ![t.val, 0]
    ∧ win0_4.index t = ![0, 0]
    ∧ win0_5.index t = ![t.val, 0]
    ∧ win0_6.index t = ![0, 0]
    ∧ win0_7.index t = ![0, 0] :=
  (by decide +kernel : ∀ t : Fin grid0.N, _)

/-- POINT of window 5 at a point of kit case A (`frame_out` opens the kit word). -/
theorem point_5_A (c : Dev nD) (t : Fin cfg0.N) (h0 : t.val % 8 = 0) (y) :
    (out0_A_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) ((hcond0_0 t).mpr h0) (iblk m c 0
      t) (iblk m c 1 t) (iblk m c 2 t) (iblk m c 3 t) (iblk m c 4 t)) y
      = REF_v20 (m ((c : Thread nD τ).loc main_arg0)) (m ((c : Thread nD τ).loc main_arg1)) (m ((c : Thread nD τ).loc main_arg3)) (m ((c : Thread nD τ).loc main_arg4)) (((cfg0.win 5).blk t).view.emb y) := by
  frame_out
  pointwise [k0_pay3, k0_pay4, k0_pay5, k0_pay6, REF_v20]; blk_point [iblk, V, idx_val t]

/-- POINT of window 5 at a point of kit case B (`frame_out` opens the kit word). -/
theorem point_5_B (c : Dev nD) (t : Fin cfg0.N) (h0 : ¬t.val % 8 = 0) (y) :
    (out0_B_5 c (grid0.coords t) (ms0_0 t) (hs0_0 t) (ms0_1 t) (hs0_1 t) (ms0_2 t) (hs0_2 t) (ms0_3 t) (hs0_3 t)
      (ms0_4 t) (hs0_4 t) (ms0_5 t) (hs0_5 t) (ms0_6 t) (hs0_6 t) (ms0_7 t) (hs0_7 t) (fun h => h0 ((hcond0_0 t).mp h))
      (iblk m c 0 t) (iblk m c 1 t) (iblk m c 2 t) (iblk m c 3 t) (iblk m c 4 t) (outsAt0 m c (t.val - 1)
      (Nat.lt_of_le_of_lt (Nat.sub_le _ _) t.isLt)).2.1 (outsAt0 m c (t.val - 1) (Nat.lt_of_le_of_lt (Nat.sub_le _ _)
      t.isLt)).2.2) y
      = REF_v20 (m ((c : Thread nD τ).loc main_arg0)) (m ((c : Thread nD τ).loc main_arg1)) (m ((c : Thread nD τ).loc main_arg3)) (m ((c : Thread nD τ).loc main_arg4)) (((cfg0.win 5).blk t).view.emb y) := by
  frame_out
  pointwise [k0_pay3, k0_pay4, k0_pay5, k0_pay6, REF_v20]; blk_point [iblk, V, idx_val t]

theorem final_5 (c : Dev nD) : (dats m 0 c).arrAt 5 (cfgs 0).N = REF_v20 (m ((c : Thread nD τ).loc main_arg0)) (m ((c : Thread nD τ).loc main_arg1)) (m ((c : Thread nD τ).loc main_arg3)) (m ((c : Thread nD τ).loc main_arg4)) := by
  refine (dats m 0 c).arrAt_eq_of_covers 5 _ (by decide +kernel) fun t hf y => ?_
  blk_simp; rw [after0_5]
  by_cases h : t.val % 8 = 0
  · rw [outsAt0_A m c t h]; dsimp only; exact point_5_A m c t h y
  · rw [outsAt0_B m c t h]; dsimp only; exact point_5_B m c t h y

/-- the zero fill. -/
theorem hzero_6 (j : S1x1024.Idx) : k0_pay1 (F := Ideal) j = 0 := by
  pointwise! [k0_pay1]

/-- the accumulating payload = what the buffer held + its part (the payload at a ZERO accumulator -/
theorem hpay_6 (v3 : Vec Ideal S512x5632 .bf16) (v4 : Vec Ideal S5632x1024 .bf16) (v14 : Vec Ideal S1x1024 .f32) (j : S1x1024.Idx) :
    k0_pay5 v3 v4 v14 j = v14 j + k0_pay5 v3 v4 (fun _ => 0) j := by
  pointwise [k0_pay5]

/-- BRIDGE + the accumulation as ONE `Fin`-indexed sum (no induction, no `term`, no `outs_eq`). -/
theorem final_6 (c : Dev nD) : (dats m 0 c).arrAt 6 (cfgs 0).N = REF_v14 (m ((c : Thread nD τ).loc main_arg0)) (m ((c : Thread nD τ).loc main_arg1)) := by
  refine (dats m 0 c).arrAt_eq_of_after_last 6 t0_7 (by decide +kernel) _ fun j => ?_
  blk_simp
  rw [after0_6, Pipeline.eq_sum_fin_of_reset_step_apply_last (fun n h => (outsAt0 m c n h).2.1) 8 (fun _ => 0) _
    (fun t h j => by rw [outsAt0_A m c t h]; frame_out; rw [hpay_6, hzero_6])
    (fun t h j => by rw [outsAt0_B m c t h]; frame_out; rw [hpay_6])
    (le_of_eq N_0) t0_7 rfl j, zero_add]
  pointwise [k0_pay5, k0_pay3, k0_pay4, k0_pay6, REF_v14]; refine Fin.sum_mul_add_congr fun t k hl => ?_; blk_point [iblk, V, idx_val t]

/-- the zero fill. -/
theorem hzero_7 (j : S1x1024.Idx) : k0_pay2 (F := Ideal) j = 0 := by
  pointwise! [k0_pay2]

/-- the accumulating payload = what the buffer held + its part (the payload at a ZERO accumulator -/
theorem hpay_7 (v3 : Vec Ideal S512x5632 .bf16) (v4 : Vec Ideal S5632x1024 .bf16) (v20 : Vec Ideal S1x1024 .f32) (v22 : Vec Ideal S512x1024 .f32) (j : S1x1024.Idx) :
    k0_pay6 v3 v4 v20 v22 j = v20 j + k0_pay6 v3 v4 (fun _ => 0) v22 j := by
  pointwise [k0_pay6]

/-- BRIDGE + the accumulation as ONE `Fin`-indexed sum (no induction, no `term`, no `outs_eq`). -/
theorem final_7 (c : Dev nD) : (dats m 0 c).arrAt 7 (cfgs 0).N = REF_v17 (m ((c : Thread nD τ).loc main_arg0)) (m ((c : Thread nD τ).loc main_arg1)) (m ((c : Thread nD τ).loc main_arg2)) := by
  refine (dats m 0 c).arrAt_eq_of_after_last 7 t0_7 (by decide +kernel) _ fun j => ?_
  blk_simp
  rw [after0_7, Pipeline.eq_sum_fin_of_reset_step_apply_last (fun n h => (outsAt0 m c n h).2.2) 8 (fun _ => 0) _
    (fun t h j => by rw [outsAt0_A m c t h]; frame_out; rw [hpay_7, hzero_7])
    (fun t h j => by rw [outsAt0_B m c t h]; frame_out; rw [hpay_7])
    (le_of_eq N_0) t0_7 rfl j, zero_add]
  pointwise [k0_pay6, k0_pay3, k0_pay4, k0_pay5, REF_v17]; refine Fin.sum_mul_add_congr fun t k hl => ?_; blk_point [iblk, V, idx_val t]

end Cert.UpDxIdeal.Value

end
-- ==== Proof.UpDxClaim.lean ====
/- The claims about `UpDx`: its frames, and that the kernel over the extended reals computes its reference. -/
module

public import proofs.«01_k».proof.Defs
public import proofs.«01_k».proof.Proof.Gen.UpDx.Frame
public import proofs.«01_k».proof.Proof.Gen.UpDxIdeal.Frame
public import proofs.«01_k».proof.Proof.Gen.UpDxIdeal.Value
public import proofs.«01_k».proof.Proof.Gen.UpDxRefIdeal.Run
public import proofs.«01_k».proof.Proof.UpDxVal

@[expose] public section

set_option maxRecDepth 16384

noncomputable section

namespace Cert.UpDxClaim

open Idealize.ShloMosaic Idealize.SL.Sem

/-- the program over the machine's floats runs and leaves its arguments. -/
theorem frame : Cert.quiescent_UpDx := fun m ρ _ => Cert.UpDx.Gen.frame m ρ

/-- so does the program over the extended reals. -/
theorem frame_ideal : Cert.quiescent_UpDxIdeal := fun m ρ _ => Cert.UpDxIdeal.Gen.frame m ρ

/-- so does the reference. -/
theorem frame_ref : Cert.quiescent_UpDxRefIdeal := by
  intro m g _
  exact (θ_run Cert.UpDxRefIdeal.defs _ _).mono (fun r h => ⟨fun c => (h c).2.2.2, sem_eq_zero_of_no_sems (by decide) r.2⟩)
    (Cert.UpDxRefIdeal.Value.run (F := Ideal) m g)

/-- a result of the kernel is the reference's, of equal arguments. -/
theorem eq_REF_v20 (m : (ℓ : Loc Cert.UpDxIdeal.nD Cert.UpDxIdeal.τ Cert.UpDxIdeal.sig) → Buf (Elt Ideal) ℓ) (c : Dev Cert.UpDxIdeal.nD)
    (a0 : Buf (Elt Ideal) ((c.tc : Thread Cert.UpDxRefIdeal.nD Cert.UpDxRefIdeal.τ).loc Cert.UpDxRefIdeal.main_arg0)) (h0 : a0 = m ((c.tc : Thread Cert.UpDxIdeal.nD Cert.UpDxIdeal.τ).loc Cert.UpDxIdeal.main_arg0))
    (a1 : Buf (Elt Ideal) ((c.tc : Thread Cert.UpDxRefIdeal.nD Cert.UpDxRefIdeal.τ).loc Cert.UpDxRefIdeal.main_arg1)) (h1 : a1 = m ((c.tc : Thread Cert.UpDxIdeal.nD Cert.UpDxIdeal.τ).loc Cert.UpDxIdeal.main_arg1))
    (a3 : Buf (Elt Ideal) ((c.tc : Thread Cert.UpDxRefIdeal.nD Cert.UpDxRefIdeal.τ).loc Cert.UpDxRefIdeal.main_arg3)) (h3 : a3 = m ((c.tc : Thread Cert.UpDxIdeal.nD Cert.UpDxIdeal.τ).loc Cert.UpDxIdeal.main_arg3))
    (a4 : Buf (Elt Ideal) ((c.tc : Thread Cert.UpDxRefIdeal.nD Cert.UpDxRefIdeal.τ).loc Cert.UpDxRefIdeal.main_arg4)) (h4 : a4 = m ((c.tc : Thread Cert.UpDxIdeal.nD Cert.UpDxIdeal.τ).loc Cert.UpDxIdeal.main_arg4))
    : Cert.UpDxRefIdeal.Value.REF_v20 a0 a1 a3 a4 = (Cert.UpDxIdeal.Gen.dats m 0 c).arrAt 5 (Cert.UpDxIdeal.cfgs 0).N := by
  rw [Cert.UpDxIdeal.Value.final_5 m c]
  subst h0 h1 h3 h4
  rfl

/-- a result of the kernel is the reference's, of equal arguments. -/
theorem eq_REF_v14 (m : (ℓ : Loc Cert.UpDxIdeal.nD Cert.UpDxIdeal.τ Cert.UpDxIdeal.sig) → Buf (Elt Ideal) ℓ) (c : Dev Cert.UpDxIdeal.nD)
    (a0 : Buf (Elt Ideal) ((c.tc : Thread Cert.UpDxRefIdeal.nD Cert.UpDxRefIdeal.τ).loc Cert.UpDxRefIdeal.main_arg0)) (h0 : a0 = m ((c.tc : Thread Cert.UpDxIdeal.nD Cert.UpDxIdeal.τ).loc Cert.UpDxIdeal.main_arg0))
    (a1 : Buf (Elt Ideal) ((c.tc : Thread Cert.UpDxRefIdeal.nD Cert.UpDxRefIdeal.τ).loc Cert.UpDxRefIdeal.main_arg1)) (h1 : a1 = m ((c.tc : Thread Cert.UpDxIdeal.nD Cert.UpDxIdeal.τ).loc Cert.UpDxIdeal.main_arg1))
    : Cert.UpDxRefIdeal.Value.REF_v14 a0 a1 = (Cert.UpDxIdeal.Gen.dats m 0 c).arrAt 6 (Cert.UpDxIdeal.cfgs 0).N := by
  rw [Cert.UpDxIdeal.Value.final_6 m c]
  subst h0 h1
  rfl

/-- a result of the kernel is the reference's, of equal arguments. -/
theorem eq_REF_v17 (m : (ℓ : Loc Cert.UpDxIdeal.nD Cert.UpDxIdeal.τ Cert.UpDxIdeal.sig) → Buf (Elt Ideal) ℓ) (c : Dev Cert.UpDxIdeal.nD)
    (a0 : Buf (Elt Ideal) ((c.tc : Thread Cert.UpDxRefIdeal.nD Cert.UpDxRefIdeal.τ).loc Cert.UpDxRefIdeal.main_arg0)) (h0 : a0 = m ((c.tc : Thread Cert.UpDxIdeal.nD Cert.UpDxIdeal.τ).loc Cert.UpDxIdeal.main_arg0))
    (a1 : Buf (Elt Ideal) ((c.tc : Thread Cert.UpDxRefIdeal.nD Cert.UpDxRefIdeal.τ).loc Cert.UpDxRefIdeal.main_arg1)) (h1 : a1 = m ((c.tc : Thread Cert.UpDxIdeal.nD Cert.UpDxIdeal.τ).loc Cert.UpDxIdeal.main_arg1))
    (a2 : Buf (Elt Ideal) ((c.tc : Thread Cert.UpDxRefIdeal.nD Cert.UpDxRefIdeal.τ).loc Cert.UpDxRefIdeal.main_arg2)) (h2 : a2 = m ((c.tc : Thread Cert.UpDxIdeal.nD Cert.UpDxIdeal.τ).loc Cert.UpDxIdeal.main_arg2))
    : Cert.UpDxRefIdeal.Value.REF_v17 a0 a1 a2 = (Cert.UpDxIdeal.Gen.dats m 0 c).arrAt 7 (Cert.UpDxIdeal.cfgs 0).N := by
  rw [Cert.UpDxIdeal.Value.final_7 m c]
  subst h0 h1 h2
  rfl

/-- over the extended reals the kernel's results are the reference's, whatever the arguments. -/
theorem algebraic : Cert.algebraic_UpDxIdeal_UpDxRefIdeal := by
  intro m g m' g' _ hag
  refine ⟨_, _, _, Cert.UpDxIdeal.Value.run_blocks m g, ?_⟩
  refine (θ_run Cert.UpDxRefIdeal.defs _ _).mono (fun r h c => ?_) (Cert.UpDxRefIdeal.Value.run (F := Ideal) m' g')
  exact ⟨(h c).1.trans (eq_REF_v20 m c _ (hag c).1 _ (hag c).2.1 _ (hag c).2.2.2.1 _ (hag c).2.2.2.2),
    (h c).2.1.trans (eq_REF_v14 m c _ (hag c).1 _ (hag c).2.1),
    (h c).2.2.1.trans (eq_REF_v17 m c _ (hag c).1 _ (hag c).2.1 _ (hag c).2.2.1),
    (h c).2.2.2⟩

end Cert.UpDxClaim

end
-- ==== Proof.OutDwRef.lean ====
/- The results of the reference of `OutDw`, each as a term over the argument arrays. -/
module

public import proofs.«01_k».proof.Proof.Gen.OutDwRefIdeal.Run
public import Idealize.ShloMosaic.Lib.Pointwise

@[expose] public section

set_option maxRecDepth 16384

noncomputable section

open Idealize.ShloMosaic Idealize.ShloMosaic.TcCoe Idealize.SL.Sem

namespace Cert.OutDwRefIdeal.Value

open Cert.OutDwRefIdeal Cert.OutDwRefIdeal.Gen Idealize.ShloMosaic.StableHlo

/-- Result 1 of the reference. -/
abbrev REF_v6 (a0 : FVec Ideal S4096x1024 .bf16) (a1 : FVec Ideal S4096x1024 .bf16) : FVec Ideal S1024x1024 .bf16 :=
  truncf .bf16 (transpose S1024x1024 [1, 0] (Host.dotGeneral dot_S4096x1024_S4096x1024_S1024x1024_0_0_1_1_n_n none (extf .f32 a1 bitsLt_bf16_f32) (extf .f32 a0 bitsLt_bf16_f32)) transposes_S1024x1024_S1024x1024_1_0) bitsLt_bf16_f32

end Cert.OutDwRefIdeal.Value

end
-- ==== Proof.OutDwVal.lean ====
/- What the arrays of `OutDwIdeal` hold after the run, against the reference. -/
module

public import proofs.«01_k».proof.Proof.Gen.OutDwIdeal.Frame
public import proofs.«01_k».proof.Proof.OutDwRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.OutDwIdeal.Value

open Cert.OutDwIdeal Cert.OutDwIdeal.Gen Cert.OutDwRefIdeal.Value

variable (m : (ℓ : Loc nD τ sig) → Buf (Elt Ideal) ℓ)

/-- every window's block index at every grid point, in closed form (decided). -/
theorem idx : ∀ t : Fin cfg0.N, win0_0.index t = ![(grid0.coords t 1).val, 0]
    ∧ win0_1.index t = ![(grid0.coords t 1).val, 0]
    ∧ win0_2.index t = ![0, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![t.val, 0]
    ∧ win0_2.index t = ![0, 0] :=
  (by decide +kernel : ∀ t : Fin grid0.N, _)

/-- the zero fill. -/
theorem hzero (j : S1024x1024.Idx) : k0_pay1 (F := Ideal) j = 0 := by
  pointwise! [k0_pay1]

/-- the accumulating payload = what the scratch held + its part (the payload at a ZERO accumulator). -/
theorem hpay (d : Vec Ideal S512x1024 .bf16) (acc : Vec Ideal S1024x1024 .f32) (a : Vec Ideal S512x1024 .bf16)
    (j : S1024x1024.Idx) : k0_pay2 d acc a j = acc j + k0_pay2 d (fun _ => 0) a j := by
  pointwise [k0_pay2]

/-- what the scratch holds after the last point: the sum over the points of their parts, which is the reference's product. -/
theorem scratch_last (c : Dev nD) (j : S1024x1024.Idx) :
    (outsAt0 m c t0_7.val t0_7.isLt).2 j = REF_v6 (m ((c : Thread nD τ).loc main_arg0)) (m ((c : Thread nD τ).loc main_arg1)) j := by
  rw [Pipeline.eq_sum_fin_of_reset_step_apply_last (fun n h => (outsAt0 m c n h).2) 8 (fun _ => 0) _
    (fun t h j => by rw [outsAt0_A m c t h (by omega)]; frame_out; rw [hpay, hzero])
    (fun t h j => by
      by_cases h1 : t.val % 8 = 7
      · rw [outsAt0_C m c t h h1]; frame_out; rw [hpay, (Memref.isWhole_whole _).read_unread]
      · rw [outsAt0_B m c t h h1]; frame_out; rw [hpay, (Memref.isWhole_whole _).read_unread])
    (le_of_eq N_0) t0_7 rfl j, zero_add]
  pointwise [k0_pay2, REF_v6]
  refine Fin.sum_mul_add_congr fun t k hl => ?_
  rw [mul_comm]
  blk_point [iblk, V, idx_val t]

/-- the result array: written back once, at the last point, from the scratch. -/
theorem final (c : Dev nD) : (dats m 0 c).arrAt 2 (cfgs 0).N = REF_v6 (m ((c : Thread nD τ).loc main_arg0)) (m ((c : Thread nD τ).loc main_arg1)) := by
  refine (dats m 0 c).arrAt_eq_of_after_last 2 t0_7 (by decide +kernel) _ fun j => ?_
  blk_simp
  rw [after0_2, ← scratch_last, outsAt0_C m c t0_7 (by decide) (by decide)]
  frame_out
  pointwise [k0_pay3]

end Cert.OutDwIdeal.Value

end
-- ==== Proof.OutDwClaim.lean ====
/- The claims about `OutDw`: its frames, and that the kernel over the extended reals computes its reference. -/
module

public import proofs.«01_k».proof.Defs
public import proofs.«01_k».proof.Proof.Gen.OutDw.Frame
public import proofs.«01_k».proof.Proof.Gen.OutDwIdeal.Frame
public import proofs.«01_k».proof.Proof.Gen.OutDwIdeal.Value
public import proofs.«01_k».proof.Proof.Gen.OutDwRefIdeal.Run
public import proofs.«01_k».proof.Proof.OutDwVal

@[expose] public section

set_option maxRecDepth 16384

noncomputable section

namespace Cert.OutDwClaim

open Idealize.ShloMosaic Idealize.SL.Sem

/-- the program over the machine's floats runs and leaves its arguments. -/
theorem frame : Cert.quiescent_OutDw := fun m ρ _ => Cert.OutDw.Gen.frame m ρ

/-- so does the program over the extended reals. -/
theorem frame_ideal : Cert.quiescent_OutDwIdeal := fun m ρ _ => Cert.OutDwIdeal.Gen.frame m ρ

/-- so does the reference. -/
theorem frame_ref : Cert.quiescent_OutDwRefIdeal := by
  intro m g _
  exact (θ_run Cert.OutDwRefIdeal.defs _ _).mono (fun r h => ⟨fun c => (h c).2, sem_eq_zero_of_no_sems (by decide) r.2⟩)
    (Cert.OutDwRefIdeal.Value.run (F := Ideal) m g)

/-- a result of the kernel is the reference's, of equal arguments. -/
theorem eq_REF_v6 (m : (ℓ : Loc Cert.OutDwIdeal.nD Cert.OutDwIdeal.τ Cert.OutDwIdeal.sig) → Buf (Elt Ideal) ℓ) (c : Dev Cert.OutDwIdeal.nD)
    (a0 : Buf (Elt Ideal) ((c.tc : Thread Cert.OutDwRefIdeal.nD Cert.OutDwRefIdeal.τ).loc Cert.OutDwRefIdeal.main_arg0)) (h0 : a0 = m ((c.tc : Thread Cert.OutDwIdeal.nD Cert.OutDwIdeal.τ).loc Cert.OutDwIdeal.main_arg0))
    (a1 : Buf (Elt Ideal) ((c.tc : Thread Cert.OutDwRefIdeal.nD Cert.OutDwRefIdeal.τ).loc Cert.OutDwRefIdeal.main_arg1)) (h1 : a1 = m ((c.tc : Thread Cert.OutDwIdeal.nD Cert.OutDwIdeal.τ).loc Cert.OutDwIdeal.main_arg1))
    : Cert.OutDwRefIdeal.Value.REF_v6 a0 a1 = (Cert.OutDwIdeal.Gen.dats m 0 c).arrAt 2 (Cert.OutDwIdeal.cfgs 0).N := by
  rw [Cert.OutDwIdeal.Value.final m c]
  subst h0 h1
  rfl

/-- over the extended reals the kernel's results are the reference's, whatever the arguments. -/
theorem algebraic : Cert.algebraic_OutDwIdeal_OutDwRefIdeal := by
  intro m g m' g' _ hag
  refine ⟨_, Cert.OutDwIdeal.Value.run_blocks m g, ?_⟩
  refine (θ_run Cert.OutDwRefIdeal.defs _ _).mono (fun r h c => ?_) (Cert.OutDwRefIdeal.Value.run (F := Ideal) m' g')
  exact ⟨(h c).1.trans (eq_REF_v6 m c _ (hag c).1 _ (hag c).2),
    (h c).2⟩

end Cert.OutDwClaim

end
-- ==== Proof.OutDxRef.lean ====
/- The results of the reference of `OutDx`, each as a term over the argument arrays. -/
module

public import proofs.«01_k».proof.Proof.Gen.OutDxRefIdeal.Run
public import Idealize.ShloMosaic.Lib.Pointwise

@[expose] public section

set_option maxRecDepth 16384

noncomputable section

open Idealize.ShloMosaic Idealize.ShloMosaic.TcCoe Idealize.SL.Sem

namespace Cert.OutDxRefIdeal.Value

open Cert.OutDxRefIdeal Cert.OutDxRefIdeal.Gen Idealize.ShloMosaic.StableHlo

/-- Result 1 of the reference. -/
abbrev REF_v4 (a0 : FVec Ideal S4096x1024 .bf16) (a1 : FVec Ideal S1024x1024 .bf16) : FVec Ideal S4096x1024 .f32 :=
  Host.dotGeneral dot_S4096x1024_S1024x1024_S4096x1024_1_1_0_0_n_n none (extf .f32 a0 bitsLt_bf16_f32) (extf .f32 a1 bitsLt_bf16_f32)

end Cert.OutDxRefIdeal.Value

end
-- ==== Proof.OutDxVal.lean ====
/- What the arrays of `OutDxIdeal` hold after the run, against the reference. -/
module

public import proofs.«01_k».proof.Proof.Gen.OutDxIdeal.Frame
public import proofs.«01_k».proof.Proof.OutDxRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.OutDxIdeal.Value

open Cert.OutDxIdeal Cert.OutDxIdeal.Gen Cert.OutDxRefIdeal.Value

variable (m : (ℓ : Loc nD τ sig) → Buf (Elt Ideal) ℓ)

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0] :=
  (by decide +kernel : ∀ t : Fin grid0.N, _)

/-- POINT: what the body stores at block index `y` of point `t` is the reference at the array index `y` sits at. -/
theorem point (c : Dev nD) (t : Fin cfg0.N) (y) :
    k0_pay1 (iblk m c 0 t) (iblk m c 1 t) y
      = REF_v4 (m ((c : Thread nD τ).loc main_arg0)) (m ((c : Thread nD τ).loc main_arg1)) (((cfg0.win 2).blk t).view.emb
        y) := by
  pointwise [k0_pay1, REF_v4]; blk_point [iblk, V, idx_val t]

/-- BRIDGE: the result array after the run (complete: the blocks tile the array, decided). -/
theorem final (c : Dev nD) : (dats m 0 c).arrAt 2 (cfgs 0).N = REF_v4 (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.OutDxIdeal.Value

end
-- ==== Proof.OutDxClaim.lean ====
/- The claims about `OutDx`: its frames, and that the kernel over the extended reals computes its reference. -/
module

public import proofs.«01_k».proof.Defs
public import proofs.«01_k».proof.Proof.Gen.OutDx.Frame
public import proofs.«01_k».proof.Proof.Gen.OutDxIdeal.Frame
public import proofs.«01_k».proof.Proof.Gen.OutDxIdeal.Value
public import proofs.«01_k».proof.Proof.Gen.OutDxRefIdeal.Run
public import proofs.«01_k».proof.Proof.OutDxVal

@[expose] public section

set_option maxRecDepth 16384

noncomputable section

namespace Cert.OutDxClaim

open Idealize.ShloMosaic Idealize.SL.Sem

/-- the program over the machine's floats runs and leaves its arguments. -/
theorem frame : Cert.quiescent_OutDx := fun m ρ _ => Cert.OutDx.Gen.frame m ρ

/-- so does the program over the extended reals. -/
theorem frame_ideal : Cert.quiescent_OutDxIdeal := fun m ρ _ => Cert.OutDxIdeal.Gen.frame m ρ

/-- so does the reference. -/
theorem frame_ref : Cert.quiescent_OutDxRefIdeal := by
  intro m g _
  exact (θ_run Cert.OutDxRefIdeal.defs _ _).mono (fun r h => ⟨fun c => (h c).2, sem_eq_zero_of_no_sems (by decide) r.2⟩)
    (Cert.OutDxRefIdeal.Value.run (F := Ideal) m g)

/-- a result of the kernel is the reference's, of equal arguments. -/
theorem eq_REF_v4 (m : (ℓ : Loc Cert.OutDxIdeal.nD Cert.OutDxIdeal.τ Cert.OutDxIdeal.sig) → Buf (Elt Ideal) ℓ) (c : Dev Cert.OutDxIdeal.nD)
    (a0 : Buf (Elt Ideal) ((c.tc : Thread Cert.OutDxRefIdeal.nD Cert.OutDxRefIdeal.τ).loc Cert.OutDxRefIdeal.main_arg0)) (h0 : a0 = m ((c.tc : Thread Cert.OutDxIdeal.nD Cert.OutDxIdeal.τ).loc Cert.OutDxIdeal.main_arg0))
    (a1 : Buf (Elt Ideal) ((c.tc : Thread Cert.OutDxRefIdeal.nD Cert.OutDxRefIdeal.τ).loc Cert.OutDxRefIdeal.main_arg1)) (h1 : a1 = m ((c.tc : Thread Cert.OutDxIdeal.nD Cert.OutDxIdeal.τ).loc Cert.OutDxIdeal.main_arg1))
    : Cert.OutDxRefIdeal.Value.REF_v4 a0 a1 = (Cert.OutDxIdeal.Gen.dats m 0 c).arrAt 2 (Cert.OutDxIdeal.cfgs 0).N := by
  rw [Cert.OutDxIdeal.Value.final m c]
  subst h0 h1
  rfl

/-- over the extended reals the kernel's results are the reference's, whatever the arguments. -/
theorem algebraic : Cert.algebraic_OutDxIdeal_OutDxRefIdeal := by
  intro m g m' g' _ hag
  refine ⟨_, Cert.OutDxIdeal.Value.run_blocks m g, ?_⟩
  refine (θ_run Cert.OutDxRefIdeal.defs _ _).mono (fun r h c => ?_) (Cert.OutDxRefIdeal.Value.run (F := Ideal) m' g')
  exact ⟨(h c).1.trans (eq_REF_v4 m c _ (hag c).1 _ (hag c).2),
    (h c).2⟩

end Cert.OutDxClaim

end
-- ==== Proof.DownDwRef.lean ====
/- The results of the reference of `DownDw`, each as a term over the argument arrays. -/
module

public import proofs.«01_k».proof.Proof.Gen.DownDwRefIdeal.Run
public import Idealize.ShloMosaic.Lib.Pointwise

@[expose] public section

set_option maxRecDepth 16384

noncomputable section

open Idealize.ShloMosaic Idealize.ShloMosaic.TcCoe Idealize.SL.Sem

namespace Cert.DownDwRefIdeal.Value

open Cert.DownDwRefIdeal Cert.DownDwRefIdeal.Gen Idealize.ShloMosaic.StableHlo

/-- Result 1 of the reference. -/
abbrev REF_v6 (a0 : FVec Ideal S4096x2816 .bf16) (a1 : FVec Ideal S4096x1024 .bf16) : FVec Ideal S2816x1024 .bf16 :=
  truncf .bf16 (transpose S2816x1024 [1, 0] (Host.dotGeneral dot_S4096x1024_S4096x2816_S1024x2816_0_0_1_1_n_n none (extf .f32 a1 bitsLt_bf16_f32) (extf .f32 a0 bitsLt_bf16_f32)) transposes_S1024x2816_S2816x1024_1_0) bitsLt_bf16_f32

end Cert.DownDwRefIdeal.Value

end
-- ==== Proof.DownDwVal.lean ====
/- What the arrays of `DownDwIdeal` hold after the run, against the reference. -/
module

public import proofs.«01_k».proof.Proof.Gen.DownDwIdeal.Frame
public import proofs.«01_k».proof.Proof.DownDwRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.DownDwIdeal.Value

open Cert.DownDwIdeal Cert.DownDwIdeal.Gen Cert.DownDwRefIdeal.Value

variable (m : (ℓ : Loc nD τ sig) → Buf (Elt Ideal) ℓ)

/-- every window's block index at every grid point, in closed form (decided). -/
theorem idx : ∀ t : Fin cfg0.N, win0_0.index t = ![(grid0.coords t 1).val, 0]
    ∧ win0_1.index t = ![(grid0.coords t 1).val, 0]
    ∧ win0_2.index t = ![0, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![t.val, 0]
    ∧ win0_2.index t = ![0, 0] :=
  (by decide +kernel : ∀ t : Fin grid0.N, _)

/-- the zero fill. -/
theorem hzero (j : S2816x1024.Idx) : k0_pay1 (F := Ideal) j = 0 := by
  pointwise! [k0_pay1]

/-- the accumulating payload = what the scratch held + its part (the payload at a ZERO accumulator). -/
theorem hpay (d : Vec Ideal S512x1024 .bf16) (acc : Vec Ideal S2816x1024 .f32) (a : Vec Ideal S512x2816 .bf16)
    (j : S2816x1024.Idx) : k0_pay2 d acc a j = acc j + k0_pay2 d (fun _ => 0) a j := by
  pointwise [k0_pay2]

/-- what the scratch holds after the last point: the sum over the points of their parts, which is the reference's product. -/
theorem scratch_last (c : Dev nD) (j : S2816x1024.Idx) :
    (outsAt0 m c t0_7.val t0_7.isLt).2 j = REF_v6 (m ((c : Thread nD τ).loc main_arg0)) (m ((c : Thread nD τ).loc main_arg1)) j := by
  rw [Pipeline.eq_sum_fin_of_reset_step_apply_last (fun n h => (outsAt0 m c n h).2) 8 (fun _ => 0) _
    (fun t h j => by rw [outsAt0_A m c t h (by omega)]; frame_out; rw [hpay, hzero])
    (fun t h j => by
      by_cases h1 : t.val % 8 = 7
      · rw [outsAt0_C m c t h h1]; frame_out; rw [hpay, (Memref.isWhole_whole _).read_unread]
      · rw [outsAt0_B m c t h h1]; frame_out; rw [hpay, (Memref.isWhole_whole _).read_unread])
    (le_of_eq N_0) t0_7 rfl j, zero_add]
  pointwise [k0_pay2, REF_v6]
  refine Fin.sum_mul_add_congr fun t k hl => ?_
  rw [mul_comm]
  blk_point [iblk, V, idx_val t]

/-- the result array: written back once, at the last point, from the scratch. -/
theorem final (c : Dev nD) : (dats m 0 c).arrAt 2 (cfgs 0).N = REF_v6 (m ((c : Thread nD τ).loc main_arg0)) (m ((c : Thread nD τ).loc main_arg1)) := by
  refine (dats m 0 c).arrAt_eq_of_after_last 2 t0_7 (by decide +kernel) _ fun j => ?_
  blk_simp
  rw [after0_2, ← scratch_last, outsAt0_C m c t0_7 (by decide) (by decide)]
  frame_out
  pointwise [k0_pay3]

end Cert.DownDwIdeal.Value

end
-- ==== Proof.DownDwClaim.lean ====
/- The claims about `DownDw`: its frames, and that the kernel over the extended reals computes its reference. -/
module

public import proofs.«01_k».proof.Defs
public import proofs.«01_k».proof.Proof.Gen.DownDw.Frame
public import proofs.«01_k».proof.Proof.Gen.DownDwIdeal.Frame
public import proofs.«01_k».proof.Proof.Gen.DownDwIdeal.Value
public import proofs.«01_k».proof.Proof.Gen.DownDwRefIdeal.Run
public import proofs.«01_k».proof.Proof.DownDwVal

@[expose] public section

set_option maxRecDepth 16384

noncomputable section

namespace Cert.DownDwClaim

open Idealize.ShloMosaic Idealize.SL.Sem

/-- the program over the machine's floats runs and leaves its arguments. -/
theorem frame : Cert.quiescent_DownDw := fun m ρ _ => Cert.DownDw.Gen.frame m ρ

/-- so does the program over the extended reals. -/
theorem frame_ideal : Cert.quiescent_DownDwIdeal := fun m ρ _ => Cert.DownDwIdeal.Gen.frame m ρ

/-- so does the reference. -/
theorem frame_ref : Cert.quiescent_DownDwRefIdeal := by
  intro m g _
  exact (θ_run Cert.DownDwRefIdeal.defs _ _).mono (fun r h => ⟨fun c => (h c).2, sem_eq_zero_of_no_sems (by decide) r.2⟩)
    (Cert.DownDwRefIdeal.Value.run (F := Ideal) m g)

/-- a result of the kernel is the reference's, of equal arguments. -/
theorem eq_REF_v6 (m : (ℓ : Loc Cert.DownDwIdeal.nD Cert.DownDwIdeal.τ Cert.DownDwIdeal.sig) → Buf (Elt Ideal) ℓ) (c : Dev Cert.DownDwIdeal.nD)
    (a0 : Buf (Elt Ideal) ((c.tc : Thread Cert.DownDwRefIdeal.nD Cert.DownDwRefIdeal.τ).loc Cert.DownDwRefIdeal.main_arg0)) (h0 : a0 = m ((c.tc : Thread Cert.DownDwIdeal.nD Cert.DownDwIdeal.τ).loc Cert.DownDwIdeal.main_arg0))
    (a1 : Buf (Elt Ideal) ((c.tc : Thread Cert.DownDwRefIdeal.nD Cert.DownDwRefIdeal.τ).loc Cert.DownDwRefIdeal.main_arg1)) (h1 : a1 = m ((c.tc : Thread Cert.DownDwIdeal.nD Cert.DownDwIdeal.τ).loc Cert.DownDwIdeal.main_arg1))
    : Cert.DownDwRefIdeal.Value.REF_v6 a0 a1 = (Cert.DownDwIdeal.Gen.dats m 0 c).arrAt 2 (Cert.DownDwIdeal.cfgs 0).N := by
  rw [Cert.DownDwIdeal.Value.final m c]
  subst h0 h1
  rfl

/-- over the extended reals the kernel's results are the reference's, whatever the arguments. -/
theorem algebraic : Cert.algebraic_DownDwIdeal_DownDwRefIdeal := by
  intro m g m' g' _ hag
  refine ⟨_, Cert.DownDwIdeal.Value.run_blocks m g, ?_⟩
  refine (θ_run Cert.DownDwRefIdeal.defs _ _).mono (fun r h c => ?_) (Cert.DownDwRefIdeal.Value.run (F := Ideal) m' g')
  exact ⟨(h c).1.trans (eq_REF_v6 m c _ (hag c).1 _ (hag c).2),
    (h c).2⟩

end Cert.DownDwClaim

end
-- ==== Proof.DownDxRef.lean ====
/- The results of the reference of `DownDx`, each as a term over the argument arrays. -/
module

public import proofs.«01_k».proof.Proof.Gen.DownDxRefIdeal.Run
public import Idealize.ShloMosaic.Lib.Pointwise

@[expose] public section

set_option maxRecDepth 16384

noncomputable section

open Idealize.ShloMosaic Idealize.ShloMosaic.TcCoe Idealize.SL.Sem

namespace Cert.DownDxRefIdeal.Value

open Cert.DownDxRefIdeal Cert.DownDxRefIdeal.Gen Idealize.ShloMosaic.StableHlo

/-- Result 1 of the reference. -/
abbrev REF_v4 (a0 : FVec Ideal S4096x1024 .bf16) (a1 : FVec Ideal S2816x1024 .bf16) : FVec Ideal S4096x2816 .f32 :=
  Host.dotGeneral dot_S4096x1024_S2816x1024_S4096x2816_1_1_0_0_n_n none (extf .f32 a0 bitsLt_bf16_f32) (extf .f32 a1 bitsLt_bf16_f32)

end Cert.DownDxRefIdeal.Value

end
-- ==== Proof.DownDxVal.lean ====
/- What the arrays of `DownDxIdeal` hold after the run, against the reference. -/
module

public import proofs.«01_k».proof.Proof.Gen.DownDxIdeal.Frame
public import proofs.«01_k».proof.Proof.DownDxRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.DownDxIdeal.Value

open Cert.DownDxIdeal Cert.DownDxIdeal.Gen Cert.DownDxRefIdeal.Value

variable (m : (ℓ : Loc nD τ sig) → Buf (Elt Ideal) ℓ)

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0] :=
  (by decide +kernel : ∀ t : Fin grid0.N, _)

/-- POINT: what the body stores at block index `y` of point `t` is the reference at the array index `y` sits at. -/
theorem point (c : Dev nD) (t : Fin cfg0.N) (y) :
    k0_pay1 (iblk m c 0 t) (iblk m c 1 t) y
      = REF_v4 (m ((c : Thread nD τ).loc main_arg0)) (m ((c : Thread nD τ).loc main_arg1)) (((cfg0.win 2).blk t).view.emb
        y) := by
  pointwise [k0_pay1, REF_v4]; blk_point [iblk, V, idx_val t]

/-- BRIDGE: the result array after the run (complete: the blocks tile the array, decided). -/
theorem final (c : Dev nD) : (dats m 0 c).arrAt 2 (cfgs 0).N = REF_v4 (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.DownDxIdeal.Value

end
-- ==== Proof.DownDxClaim.lean ====
/- The claims about `DownDx`: its frames, and that the kernel over the extended reals computes its reference. -/
module

public import proofs.«01_k».proof.Defs
public import proofs.«01_k».proof.Proof.Gen.DownDx.Frame
public import proofs.«01_k».proof.Proof.Gen.DownDxIdeal.Frame
public import proofs.«01_k».proof.Proof.Gen.DownDxIdeal.Value
public import proofs.«01_k».proof.Proof.Gen.DownDxRefIdeal.Run
public import proofs.«01_k».proof.Proof.DownDxVal

@[expose] public section

set_option maxRecDepth 16384

noncomputable section

namespace Cert.DownDxClaim

open Idealize.ShloMosaic Idealize.SL.Sem

/-- the program over the machine's floats runs and leaves its arguments. -/
theorem frame : Cert.quiescent_DownDx := fun m ρ _ => Cert.DownDx.Gen.frame m ρ

/-- so does the program over the extended reals. -/
theorem frame_ideal : Cert.quiescent_DownDxIdeal := fun m ρ _ => Cert.DownDxIdeal.Gen.frame m ρ

/-- so does the reference. -/
theorem frame_ref : Cert.quiescent_DownDxRefIdeal := by
  intro m g _
  exact (θ_run Cert.DownDxRefIdeal.defs _ _).mono (fun r h => ⟨fun c => (h c).2, sem_eq_zero_of_no_sems (by decide) r.2⟩)
    (Cert.DownDxRefIdeal.Value.run (F := Ideal) m g)

/-- a result of the kernel is the reference's, of equal arguments. -/
theorem eq_REF_v4 (m : (ℓ : Loc Cert.DownDxIdeal.nD Cert.DownDxIdeal.τ Cert.DownDxIdeal.sig) → Buf (Elt Ideal) ℓ) (c : Dev Cert.DownDxIdeal.nD)
    (a0 : Buf (Elt Ideal) ((c.tc : Thread Cert.DownDxRefIdeal.nD Cert.DownDxRefIdeal.τ).loc Cert.DownDxRefIdeal.main_arg0)) (h0 : a0 = m ((c.tc : Thread Cert.DownDxIdeal.nD Cert.DownDxIdeal.τ).loc Cert.DownDxIdeal.main_arg0))
    (a1 : Buf (Elt Ideal) ((c.tc : Thread Cert.DownDxRefIdeal.nD Cert.DownDxRefIdeal.τ).loc Cert.DownDxRefIdeal.main_arg1)) (h1 : a1 = m ((c.tc : Thread Cert.DownDxIdeal.nD Cert.DownDxIdeal.τ).loc Cert.DownDxIdeal.main_arg1))
    : Cert.DownDxRefIdeal.Value.REF_v4 a0 a1 = (Cert.DownDxIdeal.Gen.dats m 0 c).arrAt 2 (Cert.DownDxIdeal.cfgs 0).N := by
  rw [Cert.DownDxIdeal.Value.final m c]
  subst h0 h1
  rfl

/-- over the extended reals the kernel's results are the reference's, whatever the arguments. -/
theorem algebraic : Cert.algebraic_DownDxIdeal_DownDxRefIdeal := by
  intro m g m' g' _ hag
  refine ⟨_, Cert.DownDxIdeal.Value.run_blocks m g, ?_⟩
  refine (θ_run Cert.DownDxRefIdeal.defs _ _).mono (fun r h c => ?_) (Cert.DownDxRefIdeal.Value.run (F := Ideal) m' g')
  exact ⟨(h c).1.trans (eq_REF_v4 m c _ (hag c).1 _ (hag c).2),
    (h c).2⟩

end Cert.DownDxClaim

end
-- ==== Proof.InFwdRef.lean ====
/- The results of the reference of `InFwd`, each as a term over the argument arrays. -/
module

public import proofs.«01_k».proof.Proof.Gen.InFwdRefIdeal.Run
public import Idealize.ShloMosaic.Lib.Pointwise

@[expose] public section

set_option maxRecDepth 16384

noncomputable section

open Idealize.ShloMosaic Idealize.ShloMosaic.TcCoe Idealize.SL.Sem

namespace Cert.InFwdRefIdeal.Value

open Cert.InFwdRefIdeal Cert.InFwdRefIdeal.Gen Idealize.ShloMosaic.StableHlo

/-- Result 1 of the reference. -/
abbrev REF_v10 (a0 : FVec Ideal S4096x1024 .f32) (a1 : FVec Ideal S2432x1024 .bf16) (a2 : FVec Ideal S8x1024 .f32) : FVec Ideal S4096x2432 .f32 :=
  Host.dotGeneral dot_S4096x1024_S1024x2432_S4096x2432_1_0_0_1_n_n none (addf (mulf a0 (broadcastInDim S4096x1024 ![0, 1] bcast_S1x1024_S4096x1024_0_1 (addf (broadcastInDim S1x1024 ![] bcast_S_S1x1024 (constant S_ .f32 0x3F800000#32)) (extractStridedSlice S1x1024 ![1, 0] a2 slices_S8x1024_S1x1024_1_0)))) (broadcastInDim S4096x1024 ![0, 1] bcast_S1x1024_S4096x1024_0_1 (extractStridedSlice S1x1024 ![0, 0] a2 slices_S8x1024_S1x1024_0_0))) (transpose S1024x2432 [1, 0] (extf .f32 a1 bitsLt_bf16_f32) transposes_S2432x1024_S1024x2432_1_0)

end Cert.InFwdRefIdeal.Value

end
-- ==== Proof.InFwdVal.lean ====
/- What the arrays of `InFwdIdeal` hold after the run, against the reference. -/
module

public import proofs.«01_k».proof.Proof.Gen.InFwdIdeal.Frame
public import proofs.«01_k».proof.Proof.InFwdRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.InFwdIdeal.Value

open Cert.InFwdIdeal Cert.InFwdIdeal.Gen Cert.InFwdRefIdeal.Value

variable (m : (ℓ : Loc nD τ sig) → Buf (Elt Ideal) ℓ)

/-- every window's block index at every grid point, in closed form (decided). -/
theorem idx : ∀ t : Fin cfg0.N, win0_0.index t = ![(grid0.coords t 1).val, 0]
    ∧ win0_1.index t = ![0, 0]
    ∧ win0_2.index t = ![0, 0]
    ∧ win0_3.index t = ![(grid0.coords t 1).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![0, 0]
    ∧ win0_3.index t = ![t.val, 0] :=
  (by decide +kernel : ∀ t : Fin grid0.N, _)

/-- POINT: what the body stores at block index `y` of point `t` is the reference at the array index `y` sits at. -/
theorem point (c : Dev nD) (t : Fin cfg0.N) (y) :
    k0_pay1 (iblk m c 0 t) (View.ld (iblk m c 1 t) r0_1) (View.ld (iblk m c 1 t) r0_2) (iblk m c 2 t) y
      = REF_v10 (m ((c : Thread nD τ).loc main_arg0)) (m ((c : Thread nD τ).loc main_arg1)) (m ((c : Thread nD τ).loc main_arg2)) (((cfg0.win 3).blk t).view.emb y) := by
  pointwise [k0_pay1, REF_v10]; blk_point [iblk, V, idx_val t]

/-- BRIDGE: the result array after the run (complete: the blocks tile the array, decided). -/
theorem final (c : Dev nD) : (dats m 0 c).arrAt 3 (cfgs 0).N = REF_v10 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.InFwdIdeal.Value

end
-- ==== Proof.InFwdClaim.lean ====
/- The claims about `InFwd`: its frames, and that the kernel over the extended reals computes its reference. -/
module

public import proofs.«01_k».proof.Defs
public import proofs.«01_k».proof.Proof.Gen.InFwd.Frame
public import proofs.«01_k».proof.Proof.Gen.InFwdIdeal.Frame
public import proofs.«01_k».proof.Proof.Gen.InFwdIdeal.Value
public import proofs.«01_k».proof.Proof.Gen.InFwdRefIdeal.Run
public import proofs.«01_k».proof.Proof.InFwdVal

@[expose] public section

set_option maxRecDepth 16384

noncomputable section

namespace Cert.InFwdClaim

open Idealize.ShloMosaic Idealize.SL.Sem

/-- the program over the machine's floats runs and leaves its arguments. -/
theorem frame : Cert.quiescent_InFwd := fun m ρ _ => Cert.InFwd.Gen.frame m ρ

/-- so does the program over the extended reals. -/
theorem frame_ideal : Cert.quiescent_InFwdIdeal := fun m ρ _ => Cert.InFwdIdeal.Gen.frame m ρ

/-- so does the reference. -/
theorem frame_ref : Cert.quiescent_InFwdRefIdeal := by
  intro m g _
  exact (θ_run Cert.InFwdRefIdeal.defs _ _).mono (fun r h => ⟨fun c => (h c).2, sem_eq_zero_of_no_sems (by decide) r.2⟩)
    (Cert.InFwdRefIdeal.Value.run (F := Ideal) m g)

/-- a result of the kernel is the reference's, of equal arguments. -/
theorem eq_REF_v10 (m : (ℓ : Loc Cert.InFwdIdeal.nD Cert.InFwdIdeal.τ Cert.InFwdIdeal.sig) → Buf (Elt Ideal) ℓ) (c : Dev Cert.InFwdIdeal.nD)
    (a0 : Buf (Elt Ideal) ((c.tc : Thread Cert.InFwdRefIdeal.nD Cert.InFwdRefIdeal.τ).loc Cert.InFwdRefIdeal.main_arg0)) (h0 : a0 = m ((c.tc : Thread Cert.InFwdIdeal.nD Cert.InFwdIdeal.τ).loc Cert.InFwdIdeal.main_arg0))
    (a1 : Buf (Elt Ideal) ((c.tc : Thread Cert.InFwdRefIdeal.nD Cert.InFwdRefIdeal.τ).loc Cert.InFwdRefIdeal.main_arg1)) (h1 : a1 = m ((c.tc : Thread Cert.InFwdIdeal.nD Cert.InFwdIdeal.τ).loc Cert.InFwdIdeal.main_arg1))
    (a2 : Buf (Elt Ideal) ((c.tc : Thread Cert.InFwdRefIdeal.nD Cert.InFwdRefIdeal.τ).loc Cert.InFwdRefIdeal.main_arg2)) (h2 : a2 = m ((c.tc : Thread Cert.InFwdIdeal.nD Cert.InFwdIdeal.τ).loc Cert.InFwdIdeal.main_arg2))
    : Cert.InFwdRefIdeal.Value.REF_v10 a0 a1 a2 = (Cert.InFwdIdeal.Gen.dats m 0 c).arrAt 3 (Cert.InFwdIdeal.cfgs 0).N := by
  rw [Cert.InFwdIdeal.Value.final m c]
  subst h0 h1 h2
  rfl

/-- over the extended reals the kernel's results are the reference's, whatever the arguments. -/
theorem algebraic : Cert.algebraic_InFwdIdeal_InFwdRefIdeal := by
  intro m g m' g' _ hag
  refine ⟨_, Cert.InFwdIdeal.Value.run_blocks m g, ?_⟩
  refine (θ_run Cert.InFwdRefIdeal.defs _ _).mono (fun r h c => ?_) (Cert.InFwdRefIdeal.Value.run (F := Ideal) m' g')
  exact ⟨(h c).1.trans (eq_REF_v10 m c _ (hag c).1 _ (hag c).2.1 _ (hag c).2.2),
    (h c).2⟩

end Cert.InFwdClaim

end
-- ==== Proof.UpFwdRef.lean ====
/- The results of the reference of `UpFwd`, each as a term over the argument arrays. -/
module

public import proofs.«01_k».proof.Proof.Gen.UpFwdRefIdeal.Run
public import Idealize.ShloMosaic.Lib.Pointwise

@[expose] public section

set_option maxRecDepth 16384

noncomputable section

open Idealize.ShloMosaic Idealize.ShloMosaic.TcCoe Idealize.SL.Sem

namespace Cert.UpFwdRefIdeal.Value

open Cert.UpFwdRefIdeal Cert.UpFwdRefIdeal.Gen Idealize.ShloMosaic.StableHlo

/-- Result 1 of the reference. -/
abbrev REF_v10 (a0 : FVec Ideal S4096x1024 .f32) (a1 : FVec Ideal S5632x1024 .bf16) (a2 : FVec Ideal S8x1024 .f32) : FVec Ideal S4096x5632 .f32 :=
  Host.dotGeneral dot_S4096x1024_S1024x5632_S4096x5632_1_0_0_1_n_n none (addf (mulf a0 (broadcastInDim S4096x1024 ![0, 1] bcast_S1x1024_S4096x1024_0_1 (addf (broadcastInDim S1x1024 ![] bcast_S_S1x1024 (constant S_ .f32 0x3F800000#32)) (extractStridedSlice S1x1024 ![4, 0] a2 slices_S8x1024_S1x1024_4_0)))) (broadcastInDim S4096x1024 ![0, 1] bcast_S1x1024_S4096x1024_0_1 (extractStridedSlice S1x1024 ![3, 0] a2 slices_S8x1024_S1x1024_3_0))) (transpose S1024x5632 [1, 0] (extf .f32 a1 bitsLt_bf16_f32) transposes_S5632x1024_S1024x5632_1_0)

end Cert.UpFwdRefIdeal.Value

end
-- ==== Proof.UpFwdVal.lean ====
/- What the arrays of `UpFwdIdeal` hold after the run, against the reference. -/
module

public import proofs.«01_k».proof.Proof.Gen.UpFwdIdeal.Frame
public import proofs.«01_k».proof.Proof.UpFwdRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.UpFwdIdeal.Value

open Cert.UpFwdIdeal Cert.UpFwdIdeal.Gen Cert.UpFwdRefIdeal.Value

variable (m : (ℓ : Loc nD τ sig) → Buf (Elt Ideal) ℓ)

/-- every window's block index at every grid point, in closed form (decided). -/
theorem idx : ∀ t : Fin cfg0.N, win0_0.index t = ![(grid0.coords t 1).val, 0]
    ∧ win0_1.index t = ![0, 0]
    ∧ win0_2.index t = ![(grid0.coords t 0).val, 0]
    ∧ win0_3.index t = ![(grid0.coords t 1).val, (grid0.coords t 0).val] :=
  (by decide +kernel : ∀ t : Fin grid0.N, _)

/-- the same in `t.val` (for `omega` beside a schedule fact `t.val % J = r`). -/
theorem idx_val : ∀ t : Fin cfg0.N, win0_0.index t = ![t.val % 8, 0]
    ∧ win0_1.index t = ![0, 0]
    ∧ win0_2.index t = ![t.val / 8, 0]
    ∧ win0_3.index t = ![t.val % 8, t.val / 8] :=
  (by decide +kernel : ∀ t : Fin grid0.N, _)

/-- POINT: what the body stores at block index `y` of point `t` is the reference at the array index `y` sits at. -/
theorem point (c : Dev nD) (t : Fin cfg0.N) (y) :
    k0_pay1 (iblk m c 0 t) (View.ld (iblk m c 1 t) r0_1) (View.ld (iblk m c 1 t) r0_2) (iblk m c 2 t) y
      = REF_v10 (m ((c : Thread nD τ).loc main_arg0)) (m ((c : Thread nD τ).loc main_arg1)) (m ((c : Thread nD τ).loc main_arg2)) (((cfg0.win 3).blk t).view.emb y) := by
  pointwise [k0_pay1, REF_v10]; blk_point [iblk, V, idx_val t]

/-- BRIDGE: the result array after the run (complete: the blocks tile the array, decided). -/
theorem final (c : Dev nD) : (dats m 0 c).arrAt 3 (cfgs 0).N = REF_v10 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.UpFwdIdeal.Value

end
-- ==== Proof.UpFwdClaim.lean ====
/- The claims about `UpFwd`: its frames, and that the kernel over the extended reals computes its reference. -/
module

public import proofs.«01_k».proof.Defs
public import proofs.«01_k».proof.Proof.Gen.UpFwd.Frame
public import proofs.«01_k».proof.Proof.Gen.UpFwdIdeal.Frame
public import proofs.«01_k».proof.Proof.Gen.UpFwdIdeal.Value
public import proofs.«01_k».proof.Proof.Gen.UpFwdRefIdeal.Run
public import proofs.«01_k».proof.Proof.UpFwdVal

@[expose] public section

set_option maxRecDepth 16384

noncomputable section

namespace Cert.UpFwdClaim

open Idealize.ShloMosaic Idealize.SL.Sem

/-- the program over the machine's floats runs and leaves its arguments. -/
theorem frame : Cert.quiescent_UpFwd := fun m ρ _ => Cert.UpFwd.Gen.frame m ρ

/-- so does the program over the extended reals. -/
theorem frame_ideal : Cert.quiescent_UpFwdIdeal := fun m ρ _ => Cert.UpFwdIdeal.Gen.frame m ρ

/-- so does the reference. -/
theorem frame_ref : Cert.quiescent_UpFwdRefIdeal := by
  intro m g _
  exact (θ_run Cert.UpFwdRefIdeal.defs _ _).mono (fun r h => ⟨fun c => (h c).2, sem_eq_zero_of_no_sems (by decide) r.2⟩)
    (Cert.UpFwdRefIdeal.Value.run (F := Ideal) m g)

/-- a result of the kernel is the reference's, of equal arguments. -/
theorem eq_REF_v10 (m : (ℓ : Loc Cert.UpFwdIdeal.nD Cert.UpFwdIdeal.τ Cert.UpFwdIdeal.sig) → Buf (Elt Ideal) ℓ) (c : Dev Cert.UpFwdIdeal.nD)
    (a0 : Buf (Elt Ideal) ((c.tc : Thread Cert.UpFwdRefIdeal.nD Cert.UpFwdRefIdeal.τ).loc Cert.UpFwdRefIdeal.main_arg0)) (h0 : a0 = m ((c.tc : Thread Cert.UpFwdIdeal.nD Cert.UpFwdIdeal.τ).loc Cert.UpFwdIdeal.main_arg0))
    (a1 : Buf (Elt Ideal) ((c.tc : Thread Cert.UpFwdRefIdeal.nD Cert.UpFwdRefIdeal.τ).loc Cert.UpFwdRefIdeal.main_arg1)) (h1 : a1 = m ((c.tc : Thread Cert.UpFwdIdeal.nD Cert.UpFwdIdeal.τ).loc Cert.UpFwdIdeal.main_arg1))
    (a2 : Buf (Elt Ideal) ((c.tc : Thread Cert.UpFwdRefIdeal.nD Cert.UpFwdRefIdeal.τ).loc Cert.UpFwdRefIdeal.main_arg2)) (h2 : a2 = m ((c.tc : Thread Cert.UpFwdIdeal.nD Cert.UpFwdIdeal.τ).loc Cert.UpFwdIdeal.main_arg2))
    : Cert.UpFwdRefIdeal.Value.REF_v10 a0 a1 a2 = (Cert.UpFwdIdeal.Gen.dats m 0 c).arrAt 3 (Cert.UpFwdIdeal.cfgs 0).N := by
  rw [Cert.UpFwdIdeal.Value.final m c]
  subst h0 h1 h2
  rfl

/-- over the extended reals the kernel's results are the reference's, whatever the arguments. -/
theorem algebraic : Cert.algebraic_UpFwdIdeal_UpFwdRefIdeal := by
  intro m g m' g' _ hag
  refine ⟨_, Cert.UpFwdIdeal.Value.run_blocks m g, ?_⟩
  refine (θ_run Cert.UpFwdRefIdeal.defs _ _).mono (fun r h c => ?_) (Cert.UpFwdRefIdeal.Value.run (F := Ideal) m' g')
  exact ⟨(h c).1.trans (eq_REF_v10 m c _ (hag c).1 _ (hag c).2.1 _ (hag c).2.2),
    (h c).2⟩

end Cert.UpFwdClaim

end
-- ==== Proof.OutFwdRef.lean ====
/- The results of the reference of `OutFwd`, each as a term over the argument arrays. -/
module

public import proofs.«01_k».proof.Proof.Gen.OutFwdRefIdeal.Run
public import Idealize.ShloMosaic.Lib.Pointwise

@[expose] public section

set_option maxRecDepth 16384

noncomputable section

open Idealize.ShloMosaic Idealize.ShloMosaic.TcCoe Idealize.SL.Sem

namespace Cert.OutFwdRefIdeal.Value

open Cert.OutFwdRefIdeal Cert.OutFwdRefIdeal.Gen Idealize.ShloMosaic.StableHlo

/-- Result 1 of the reference. -/
abbrev REF_v3 (a0 : FVec Ideal S4096x1024 .bf16) (a1 : FVec Ideal S1024x1024 .bf16) : FVec Ideal S4096x1024 .f32 :=
  Host.dotGeneral dot_S4096x1024_S1024x1024_S4096x1024_1_0_0_1_n_n none (extf .f32 a0 bitsLt_bf16_f32) (extf .f32 a1 bitsLt_bf16_f32)

/-- Result 2 of the reference. -/
abbrev REF_v30 (a0 : FVec Ideal S4096x1024 .bf16) (a1 : FVec Ideal S1024x1024 .bf16) (a2 : FVec Ideal S4096x1024 .f32) (a3 : FVec Ideal S8x1024 .f32) (a4 : FVec Ideal S1x1024 .f32) (a5 : FVec Ideal S1x1024 .f32) : FVec Ideal S4096x1024 .f32 :=
  addf (mulf (mulf (subf (addf (mulf (broadcastInDim S4096x1024 ![] bcast_S_S4096x1024 (constant S_ .f32 0x3FD744FD#32)) a2) (mulf (broadcastInDim S4096x1024 ![0, 1] bcast_S1x1024_S4096x1024_0_1 (addf (broadcastInDim S1x1024 ![] bcast_S_S1x1024 (constant S_ .f32 0x3F800000#32)) (extractStridedSlice S1x1024 ![2, 0] a3 slices_S8x1024_S1x1024_2_0))) (Host.dotGeneral dot_S4096x1024_S1024x1024_S4096x1024_1_0_0_1_n_n none (extf .f32 a0 bitsLt_bf16_f32) (extf .f32 a1 bitsLt_bf16_f32)))) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) a2) (mulf (broadcastInDim S4096x1024 ![0, 1] bcast_S1x1024_S4096x1024_0_1 (addf (broadcastInDim S1x1024 ![] bcast_S_S1x1024 (constant S_ .f32 0x3F800000#32)) (extractStridedSlice S1x1024 ![2, 0] a3 slices_S8x1024_S1x1024_2_0))) (Host.dotGeneral dot_S4096x1024_S1024x1024_S4096x1024_1_0_0_1_n_n none (extf .f32 a0 bitsLt_bf16_f32) (extf .f32 a1 bitsLt_bf16_f32)))) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (addf (mulf (broadcastInDim S4096x1024 ![] bcast_S_S4096x1024 (constant S_ .f32 0x3FD744FD#32)) a2) (mulf (broadcastInDim S4096x1024 ![0, 1] bcast_S1x1024_S4096x1024_0_1 (addf (broadcastInDim S1x1024 ![] bcast_S_S1x1024 (constant S_ .f32 0x3F800000#32)) (extractStridedSlice S1x1024 ![2, 0] a3 slices_S8x1024_S1x1024_2_0))) (Host.dotGeneral dot_S4096x1024_S1024x1024_S4096x1024_1_0_0_1_n_n none (extf .f32 a0 bitsLt_bf16_f32) (extf .f32 a1 bitsLt_bf16_f32)))) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) a2) (mulf (broadcastInDim S4096x1024 ![0, 1] bcast_S1x1024_S4096x1024_0_1 (addf (broadcastInDim S1x1024 ![] bcast_S_S1x1024 (constant S_ .f32 0x3F800000#32)) (extractStridedSlice S1x1024 ![2, 0] a3 slices_S8x1024_S1x1024_2_0))) (Host.dotGeneral dot_S4096x1024_S1024x1024_S4096x1024_1_0_0_1_n_n none (extf .f32 a0 bitsLt_bf16_f32) (extf .f32 a1 bitsLt_bf16_f32)))) (constant S_ .f32 0x00000000#32) reducesTo_S4096x1024_S4096_d1 h_S_)) (broadcastInDim S4096x1 ![] bcast_S_S4096x1 (constant S_ .f32 0x44800000#32))))) (subf (addf (mulf (broadcastInDim S4096x1024 ![] bcast_S_S4096x1024 (constant S_ .f32 0x3FD744FD#32)) a2) (mulf (broadcastInDim S4096x1024 ![0, 1] bcast_S1x1024_S4096x1024_0_1 (addf (broadcastInDim S1x1024 ![] bcast_S_S1x1024 (constant S_ .f32 0x3F800000#32)) (extractStridedSlice S1x1024 ![2, 0] a3 slices_S8x1024_S1x1024_2_0))) (Host.dotGeneral dot_S4096x1024_S1024x1024_S4096x1024_1_0_0_1_n_n none (extf .f32 a0 bitsLt_bf16_f32) (extf .f32 a1 bitsLt_bf16_f32)))) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) a2) (mulf (broadcastInDim S4096x1024 ![0, 1] bcast_S1x1024_S4096x1024_0_1 (addf (broadcastInDim S1x1024 ![] bcast_S_S1x1024 (constant S_ .f32 0x3F800000#32)) (extractStridedSlice S1x1024 ![2, 0] a3 slices_S8x1024_S1x1024_2_0))) (Host.dotGeneral dot_S4096x1024_S1024x1024_S4096x1024_1_0_0_1_n_n none (extf .f32 a0 bitsLt_bf16_f32) (extf .f32 a1 bitsLt_bf16_f32)))) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 a4)) (broadcastInDim S4096x1024 ![0, 1] bcast_S1x1024_S4096x1024_0_1 a5)

end Cert.OutFwdRefIdeal.Value

end
-- ==== Proof.OutFwdVal.lean ====
/- What the arrays of `OutFwdIdeal` hold after the run, against the reference. -/
module

public import proofs.«01_k».proof.Proof.Gen.OutFwdIdeal.Frame
public import proofs.«01_k».proof.Proof.OutFwdRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.OutFwdIdeal.Value

open Cert.OutFwdIdeal Cert.OutFwdIdeal.Gen Cert.OutFwdRefIdeal.Value

variable (m : (ℓ : Loc nD τ sig) → Buf (Elt Ideal) ℓ)

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0]
    ∧ win0_3.index t = ![0, 0]
    ∧ win0_4.index t = ![0, 0]
    ∧ win0_5.index t = ![0, 0]
    ∧ win0_6.index t = ![(grid0.coords t 0).val, 0]
    ∧ win0_7.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0]
    ∧ win0_3.index t = ![0, 0]
    ∧ win0_4.index t = ![0, 0]
    ∧ win0_5.index t = ![0, 0]
    ∧ win0_6.index t = ![t.val, 0]
    ∧ win0_7.index t = ![t.val, 0] :=
  (by decide +kernel : ∀ t : Fin grid0.N, _)

/-- POINT: what the body stores at block index `y` of point `t` is the reference at the array index `y` sits at. -/
theorem point_6 (c : Dev nD) (t : Fin cfg0.N) (y) :
    k0_pay1 (iblk m c 0 t) (iblk m c 1 t) y
      = REF_v3 (m ((c : Thread nD τ).loc main_arg0)) (m ((c : Thread nD τ).loc main_arg1)) (((cfg0.win 6).blk
        t).view.emb y) := by
  pointwise [k0_pay1, REF_v3]; blk_point [iblk, V, idx_val t]

/-- BRIDGE: the result array after the run (complete: the blocks tile the array, decided). -/
theorem final_6 (c : Dev nD) : (dats m 0 c).arrAt 6 (cfgs 0).N = REF_v3 (m ((c : Thread nD τ).loc main_arg0)) (m ((c : Thread nD τ).loc main_arg1)) := by
  refine (dats m 0 c).arrAt_eq_of_covers 6 _ (by decide +kernel) fun t hf y => ?_
  blk_simp; rw [after0_6]; frame_out
  exact point_6 m c t y

/-- POINT: what the body stores at block index `y` of point `t` is the reference at the array index `y` sits at. -/
theorem point_7 (c : Dev nD) (t : Fin cfg0.N) (y) :
    k0_pay2 (iblk m c 0 t) (iblk m c 1 t) (iblk m c 2 t) (View.ld (iblk m c 3 t) r0_2) (iblk m c 4 t) (iblk m c 5 t) y
      = REF_v30 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  pointwise [k0_pay2, k0_pay1, REF_v30]; blk_point [iblk, V, idx_val t]

/-- BRIDGE: the result array after the run (complete: the blocks tile the array, decided). -/
theorem final_7 (c : Dev nD) : (dats m 0 c).arrAt 7 (cfgs 0).N = REF_v30 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp; rw [after0_7]; frame_out
  exact point_7 m c t y

end Cert.OutFwdIdeal.Value

end
-- ==== Proof.OutFwdClaim.lean ====
/- The claims about `OutFwd`: its frames, and that the kernel over the extended reals computes its reference. -/
module

public import proofs.«01_k».proof.Defs
public import proofs.«01_k».proof.Proof.Gen.OutFwd.Frame
public import proofs.«01_k».proof.Proof.Gen.OutFwdIdeal.Frame
public import proofs.«01_k».proof.Proof.Gen.OutFwdIdeal.Value
public import proofs.«01_k».proof.Proof.Gen.OutFwdRefIdeal.Run
public import proofs.«01_k».proof.Proof.OutFwdVal

@[expose] public section

set_option maxRecDepth 16384

noncomputable section

namespace Cert.OutFwdClaim

open Idealize.ShloMosaic Idealize.SL.Sem

/-- the program over the machine's floats runs and leaves its arguments. -/
theorem frame : Cert.quiescent_OutFwd := fun m ρ _ => Cert.OutFwd.Gen.frame m ρ

/-- so does the program over the extended reals. -/
theorem frame_ideal : Cert.quiescent_OutFwdIdeal := fun m ρ _ => Cert.OutFwdIdeal.Gen.frame m ρ

/-- so does the reference. -/
theorem frame_ref : Cert.quiescent_OutFwdRefIdeal := by
  intro m g _
  exact (θ_run Cert.OutFwdRefIdeal.defs _ _).mono (fun r h => ⟨fun c => (h c).2.2, sem_eq_zero_of_no_sems (by decide) r.2⟩)
    (Cert.OutFwdRefIdeal.Value.run (F := Ideal) m g)

/-- a result of the kernel is the reference's, of equal arguments. -/
theorem eq_REF_v3 (m : (ℓ : Loc Cert.OutFwdIdeal.nD Cert.OutFwdIdeal.τ Cert.OutFwdIdeal.sig) → Buf (Elt Ideal) ℓ) (c : Dev Cert.OutFwdIdeal.nD)
    (a0 : Buf (Elt Ideal) ((c.tc : Thread Cert.OutFwdRefIdeal.nD Cert.OutFwdRefIdeal.τ).loc Cert.OutFwdRefIdeal.main_arg0)) (h0 : a0 = m ((c.tc : Thread Cert.OutFwdIdeal.nD Cert.OutFwdIdeal.τ).loc Cert.OutFwdIdeal.main_arg0))
    (a1 : Buf (Elt Ideal) ((c.tc : Thread Cert.OutFwdRefIdeal.nD Cert.OutFwdRefIdeal.τ).loc Cert.OutFwdRefIdeal.main_arg1)) (h1 : a1 = m ((c.tc : Thread Cert.OutFwdIdeal.nD Cert.OutFwdIdeal.τ).loc Cert.OutFwdIdeal.main_arg1))
    : Cert.OutFwdRefIdeal.Value.REF_v3 a0 a1 = (Cert.OutFwdIdeal.Gen.dats m 0 c).arrAt 6 (Cert.OutFwdIdeal.cfgs 0).N := by
  rw [Cert.OutFwdIdeal.Value.final_6 m c]
  subst h0 h1
  rfl

/-- a result of the kernel is the reference's, of equal arguments. -/
theorem eq_REF_v30 (m : (ℓ : Loc Cert.OutFwdIdeal.nD Cert.OutFwdIdeal.τ Cert.OutFwdIdeal.sig) → Buf (Elt Ideal) ℓ) (c : Dev Cert.OutFwdIdeal.nD)
    (a0 : Buf (Elt Ideal) ((c.tc : Thread Cert.OutFwdRefIdeal.nD Cert.OutFwdRefIdeal.τ).loc Cert.OutFwdRefIdeal.main_arg0)) (h0 : a0 = m ((c.tc : Thread Cert.OutFwdIdeal.nD Cert.OutFwdIdeal.τ).loc Cert.OutFwdIdeal.main_arg0))
    (a1 : Buf (Elt Ideal) ((c.tc : Thread Cert.OutFwdRefIdeal.nD Cert.OutFwdRefIdeal.τ).loc Cert.OutFwdRefIdeal.main_arg1)) (h1 : a1 = m ((c.tc : Thread Cert.OutFwdIdeal.nD Cert.OutFwdIdeal.τ).loc Cert.OutFwdIdeal.main_arg1))
    (a2 : Buf (Elt Ideal) ((c.tc : Thread Cert.OutFwdRefIdeal.nD Cert.OutFwdRefIdeal.τ).loc Cert.OutFwdRefIdeal.main_arg2)) (h2 : a2 = m ((c.tc : Thread Cert.OutFwdIdeal.nD Cert.OutFwdIdeal.τ).loc Cert.OutFwdIdeal.main_arg2))
    (a3 : Buf (Elt Ideal) ((c.tc : Thread Cert.OutFwdRefIdeal.nD Cert.OutFwdRefIdeal.τ).loc Cert.OutFwdRefIdeal.main_arg3)) (h3 : a3 = m ((c.tc : Thread Cert.OutFwdIdeal.nD Cert.OutFwdIdeal.τ).loc Cert.OutFwdIdeal.main_arg3))
    (a4 : Buf (Elt Ideal) ((c.tc : Thread Cert.OutFwdRefIdeal.nD Cert.OutFwdRefIdeal.τ).loc Cert.OutFwdRefIdeal.main_arg4)) (h4 : a4 = m ((c.tc : Thread Cert.OutFwdIdeal.nD Cert.OutFwdIdeal.τ).loc Cert.OutFwdIdeal.main_arg4))
    (a5 : Buf (Elt Ideal) ((c.tc : Thread Cert.OutFwdRefIdeal.nD Cert.OutFwdRefIdeal.τ).loc Cert.OutFwdRefIdeal.main_arg5)) (h5 : a5 = m ((c.tc : Thread Cert.OutFwdIdeal.nD Cert.OutFwdIdeal.τ).loc Cert.OutFwdIdeal.main_arg5))
    : Cert.OutFwdRefIdeal.Value.REF_v30 a0 a1 a2 a3 a4 a5 = (Cert.OutFwdIdeal.Gen.dats m 0 c).arrAt 7 (Cert.OutFwdIdeal.cfgs 0).N := by
  rw [Cert.OutFwdIdeal.Value.final_7 m c]
  subst h0 h1 h2 h3 h4 h5
  rfl

/-- over the extended reals the kernel's results are the reference's, whatever the arguments. -/
theorem algebraic : Cert.algebraic_OutFwdIdeal_OutFwdRefIdeal := by
  intro m g m' g' _ hag
  refine ⟨_, _, Cert.OutFwdIdeal.Value.run_blocks m g, ?_⟩
  refine (θ_run Cert.OutFwdRefIdeal.defs _ _).mono (fun r h c => ?_) (Cert.OutFwdRefIdeal.Value.run (F := Ideal) m' g')
  exact ⟨(h c).1.trans (eq_REF_v3 m c _ (hag c).1 _ (hag c).2.1),
    (h c).2.1.trans (eq_REF_v30 m c _ (hag c).1 _ (hag c).2.1 _ (hag c).2.2.1 _ (hag c).2.2.2.1 _ (hag c).2.2.2.2.1 _ (hag c).2.2.2.2.2),
    (h c).2.2⟩

end Cert.OutFwdClaim

end
-- ==== Proof.DownFwdRef.lean ====
/- The results of the reference of `DownFwd`, each as a term over the argument arrays. -/
module

public import proofs.«01_k».proof.Proof.Gen.DownFwdRefIdeal.Run
public import Idealize.ShloMosaic.Lib.Pointwise

@[expose] public section

set_option maxRecDepth 16384

noncomputable section

open Idealize.ShloMosaic Idealize.ShloMosaic.TcCoe Idealize.SL.Sem

namespace Cert.DownFwdRefIdeal.Value

open Cert.DownFwdRefIdeal Cert.DownFwdRefIdeal.Gen Idealize.ShloMosaic.StableHlo

/-- Result 1 of the reference. -/
abbrev REF_v3 (a0 : FVec Ideal S4096x2816 .bf16) (a1 : FVec Ideal S2816x1024 .bf16) : FVec Ideal S4096x1024 .f32 :=
  Host.dotGeneral dot_S4096x2816_S2816x1024_S4096x1024_1_0_0_1_n_n none (extf .f32 a0 bitsLt_bf16_f32) (extf .f32 a1 bitsLt_bf16_f32)

/-- Result 2 of the reference. -/
abbrev REF_v30 (a0 : FVec Ideal S4096x2816 .bf16) (a1 : FVec Ideal S2816x1024 .bf16) (a2 : FVec Ideal S4096x1024 .f32) (a3 : FVec Ideal S8x1024 .f32) (a4 : FVec Ideal S1x1024 .f32) (a5 : FVec Ideal S1x1024 .f32) : FVec Ideal S4096x1024 .f32 :=
  addf (mulf (mulf (subf (addf (mulf (broadcastInDim S4096x1024 ![] bcast_S_S4096x1024 (constant S_ .f32 0x3FD744FD#32)) a2) (mulf (broadcastInDim S4096x1024 ![0, 1] bcast_S1x1024_S4096x1024_0_1 (addf (broadcastInDim S1x1024 ![] bcast_S_S1x1024 (constant S_ .f32 0x3F800000#32)) (extractStridedSlice S1x1024 ![5, 0] a3 slices_S8x1024_S1x1024_5_0))) (Host.dotGeneral dot_S4096x2816_S2816x1024_S4096x1024_1_0_0_1_n_n none (extf .f32 a0 bitsLt_bf16_f32) (extf .f32 a1 bitsLt_bf16_f32)))) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) a2) (mulf (broadcastInDim S4096x1024 ![0, 1] bcast_S1x1024_S4096x1024_0_1 (addf (broadcastInDim S1x1024 ![] bcast_S_S1x1024 (constant S_ .f32 0x3F800000#32)) (extractStridedSlice S1x1024 ![5, 0] a3 slices_S8x1024_S1x1024_5_0))) (Host.dotGeneral dot_S4096x2816_S2816x1024_S4096x1024_1_0_0_1_n_n none (extf .f32 a0 bitsLt_bf16_f32) (extf .f32 a1 bitsLt_bf16_f32)))) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (addf (mulf (broadcastInDim S4096x1024 ![] bcast_S_S4096x1024 (constant S_ .f32 0x3FD744FD#32)) a2) (mulf (broadcastInDim S4096x1024 ![0, 1] bcast_S1x1024_S4096x1024_0_1 (addf (broadcastInDim S1x1024 ![] bcast_S_S1x1024 (constant S_ .f32 0x3F800000#32)) (extractStridedSlice S1x1024 ![5, 0] a3 slices_S8x1024_S1x1024_5_0))) (Host.dotGeneral dot_S4096x2816_S2816x1024_S4096x1024_1_0_0_1_n_n none (extf .f32 a0 bitsLt_bf16_f32) (extf .f32 a1 bitsLt_bf16_f32)))) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) a2) (mulf (broadcastInDim S4096x1024 ![0, 1] bcast_S1x1024_S4096x1024_0_1 (addf (broadcastInDim S1x1024 ![] bcast_S_S1x1024 (constant S_ .f32 0x3F800000#32)) (extractStridedSlice S1x1024 ![5, 0] a3 slices_S8x1024_S1x1024_5_0))) (Host.dotGeneral dot_S4096x2816_S2816x1024_S4096x1024_1_0_0_1_n_n none (extf .f32 a0 bitsLt_bf16_f32) (extf .f32 a1 bitsLt_bf16_f32)))) (constant S_ .f32 0x00000000#32) reducesTo_S4096x1024_S4096_d1 h_S_)) (broadcastInDim S4096x1 ![] bcast_S_S4096x1 (constant S_ .f32 0x44800000#32))))) (subf (addf (mulf (broadcastInDim S4096x1024 ![] bcast_S_S4096x1024 (constant S_ .f32 0x3FD744FD#32)) a2) (mulf (broadcastInDim S4096x1024 ![0, 1] bcast_S1x1024_S4096x1024_0_1 (addf (broadcastInDim S1x1024 ![] bcast_S_S1x1024 (constant S_ .f32 0x3F800000#32)) (extractStridedSlice S1x1024 ![5, 0] a3 slices_S8x1024_S1x1024_5_0))) (Host.dotGeneral dot_S4096x2816_S2816x1024_S4096x1024_1_0_0_1_n_n none (extf .f32 a0 bitsLt_bf16_f32) (extf .f32 a1 bitsLt_bf16_f32)))) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) a2) (mulf (broadcastInDim S4096x1024 ![0, 1] bcast_S1x1024_S4096x1024_0_1 (addf (broadcastInDim S1x1024 ![] bcast_S_S1x1024 (constant S_ .f32 0x3F800000#32)) (extractStridedSlice S1x1024 ![5, 0] a3 slices_S8x1024_S1x1024_5_0))) (Host.dotGeneral dot_S4096x2816_S2816x1024_S4096x1024_1_0_0_1_n_n none (extf .f32 a0 bitsLt_bf16_f32) (extf .f32 a1 bitsLt_bf16_f32)))) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (broadcastInDim S4096x1024 ![0, 1] bcast_S1x1024_S4096x1024_0_1 a4)) (broadcastInDim S4096x1024 ![0, 1] bcast_S1x1024_S4096x1024_0_1 a5)

end Cert.DownFwdRefIdeal.Value

end
-- ==== Proof.DownFwdVal.lean ====
/- What the arrays of `DownFwdIdeal` hold after the run, against the reference. -/
module

public import proofs.«01_k».proof.Proof.Gen.DownFwdIdeal.Frame
public import proofs.«01_k».proof.Proof.DownFwdRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.DownFwdIdeal.Value

open Cert.DownFwdIdeal Cert.DownFwdIdeal.Gen Cert.DownFwdRefIdeal.Value

variable (m : (ℓ : Loc nD τ sig) → Buf (Elt Ideal) ℓ)

/-- every window's block index at every grid point, in closed form (decided). -/
theorem idx : ∀ t : Fin cfg0.N, win0_0.index t = ![(grid0.coords t 0).val, 0]
    ∧ win0_1.index t = ![0, 0]
    ∧ win0_2.index t = ![(grid0.coords t 0).val, 0]
    ∧ win0_3.index t = ![0, 0]
    ∧ win0_4.index t = ![0, 0]
    ∧ win0_5.index t = ![0, 0]
    ∧ win0_6.index t = ![(grid0.coords t 0).val, 0]
    ∧ win0_7.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![0, 0]
    ∧ win0_2.index t = ![t.val, 0]
    ∧ win0_3.index t = ![0, 0]
    ∧ win0_4.index t = ![0, 0]
    ∧ win0_5.index t = ![0, 0]
    ∧ win0_6.index t = ![t.val, 0]
    ∧ win0_7.index t = ![t.val, 0] :=
  (by decide +kernel : ∀ t : Fin grid0.N, _)

/-- POINT: what the body stores at block index `y` of point `t` is the reference at the array index `y` sits at. -/
theorem point_6 (c : Dev nD) (t : Fin cfg0.N) (y) :
    k0_pay1 (iblk m c 0 t) (iblk m c 1 t) y
      = REF_v3 (m ((c : Thread nD τ).loc main_arg0)) (m ((c : Thread nD τ).loc main_arg1)) (((cfg0.win 6).blk
        t).view.emb y) := by
  pointwise [k0_pay1, REF_v3]; blk_point [iblk, V, idx_val t]

/-- BRIDGE: the result array after the run (complete: the blocks tile the array, decided). -/
theorem final_6 (c : Dev nD) : (dats m 0 c).arrAt 6 (cfgs 0).N = REF_v3 (m ((c : Thread nD τ).loc main_arg0)) (m ((c : Thread nD τ).loc main_arg1)) := by
  refine (dats m 0 c).arrAt_eq_of_covers 6 _ (by decide +kernel) fun t hf y => ?_
  blk_simp; rw [after0_6]; frame_out
  exact point_6 m c t y

/-- POINT: what the body stores at block index `y` of point `t` is the reference at the array index `y` sits at. -/
theorem point_7 (c : Dev nD) (t : Fin cfg0.N) (y) :
    k0_pay2 (iblk m c 0 t) (iblk m c 1 t) (iblk m c 2 t) (View.ld (iblk m c 3 t) r0_3) (iblk m c 4 t) (iblk m c 5 t) y
      = REF_v30 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (((cfg0.win 7).blk t).view.emb y) := by
  pointwise [k0_pay2, k0_pay1, REF_v30]; blk_point [iblk, V, idx_val t]

/-- BRIDGE: the result array after the run (complete: the blocks tile the array, decided). -/
theorem final_7 (c : Dev nD) : (dats m 0 c).arrAt 7 (cfgs 0).N = REF_v30 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 7 _ (by decide +kernel) fun t hf y => ?_
  blk_simp; rw [after0_7]; frame_out
  exact point_7 m c t y

end Cert.DownFwdIdeal.Value

end
-- ==== Proof.DownFwdClaim.lean ====
/- The claims about `DownFwd`: its frames, and that the kernel over the extended reals computes its reference. -/
module

public import proofs.«01_k».proof.Defs
public import proofs.«01_k».proof.Proof.Gen.DownFwd.Frame
public import proofs.«01_k».proof.Proof.Gen.DownFwdIdeal.Frame
public import proofs.«01_k».proof.Proof.Gen.DownFwdIdeal.Value
public import proofs.«01_k».proof.Proof.Gen.DownFwdRefIdeal.Run
public import proofs.«01_k».proof.Proof.DownFwdVal

@[expose] public section

set_option maxRecDepth 16384

noncomputable section

namespace Cert.DownFwdClaim

open Idealize.ShloMosaic Idealize.SL.Sem

/-- the program over the machine's floats runs and leaves its arguments. -/
theorem frame : Cert.quiescent_DownFwd := fun m ρ _ => Cert.DownFwd.Gen.frame m ρ

/-- so does the program over the extended reals. -/
theorem frame_ideal : Cert.quiescent_DownFwdIdeal := fun m ρ _ => Cert.DownFwdIdeal.Gen.frame m ρ

/-- so does the reference. -/
theorem frame_ref : Cert.quiescent_DownFwdRefIdeal := by
  intro m g _
  exact (θ_run Cert.DownFwdRefIdeal.defs _ _).mono (fun r h => ⟨fun c => (h c).2.2, sem_eq_zero_of_no_sems (by decide) r.2⟩)
    (Cert.DownFwdRefIdeal.Value.run (F := Ideal) m g)

/-- a result of the kernel is the reference's, of equal arguments. -/
theorem eq_REF_v3 (m : (ℓ : Loc Cert.DownFwdIdeal.nD Cert.DownFwdIdeal.τ Cert.DownFwdIdeal.sig) → Buf (Elt Ideal) ℓ) (c : Dev Cert.DownFwdIdeal.nD)
    (a0 : Buf (Elt Ideal) ((c.tc : Thread Cert.DownFwdRefIdeal.nD Cert.DownFwdRefIdeal.τ).loc Cert.DownFwdRefIdeal.main_arg0)) (h0 : a0 = m ((c.tc : Thread Cert.DownFwdIdeal.nD Cert.DownFwdIdeal.τ).loc Cert.DownFwdIdeal.main_arg0))
    (a1 : Buf (Elt Ideal) ((c.tc : Thread Cert.DownFwdRefIdeal.nD Cert.DownFwdRefIdeal.τ).loc Cert.DownFwdRefIdeal.main_arg1)) (h1 : a1 = m ((c.tc : Thread Cert.DownFwdIdeal.nD Cert.DownFwdIdeal.τ).loc Cert.DownFwdIdeal.main_arg1))
    : Cert.DownFwdRefIdeal.Value.REF_v3 a0 a1 = (Cert.DownFwdIdeal.Gen.dats m 0 c).arrAt 6 (Cert.DownFwdIdeal.cfgs 0).N := by
  rw [Cert.DownFwdIdeal.Value.final_6 m c]
  subst h0 h1
  rfl

/-- a result of the kernel is the reference's, of equal arguments. -/
theorem eq_REF_v30 (m : (ℓ : Loc Cert.DownFwdIdeal.nD Cert.DownFwdIdeal.τ Cert.DownFwdIdeal.sig) → Buf (Elt Ideal) ℓ) (c : Dev Cert.DownFwdIdeal.nD)
    (a0 : Buf (Elt Ideal) ((c.tc : Thread Cert.DownFwdRefIdeal.nD Cert.DownFwdRefIdeal.τ).loc Cert.DownFwdRefIdeal.main_arg0)) (h0 : a0 = m ((c.tc : Thread Cert.DownFwdIdeal.nD Cert.DownFwdIdeal.τ).loc Cert.DownFwdIdeal.main_arg0))
    (a1 : Buf (Elt Ideal) ((c.tc : Thread Cert.DownFwdRefIdeal.nD Cert.DownFwdRefIdeal.τ).loc Cert.DownFwdRefIdeal.main_arg1)) (h1 : a1 = m ((c.tc : Thread Cert.DownFwdIdeal.nD Cert.DownFwdIdeal.τ).loc Cert.DownFwdIdeal.main_arg1))
    (a2 : Buf (Elt Ideal) ((c.tc : Thread Cert.DownFwdRefIdeal.nD Cert.DownFwdRefIdeal.τ).loc Cert.DownFwdRefIdeal.main_arg2)) (h2 : a2 = m ((c.tc : Thread Cert.DownFwdIdeal.nD Cert.DownFwdIdeal.τ).loc Cert.DownFwdIdeal.main_arg2))
    (a3 : Buf (Elt Ideal) ((c.tc : Thread Cert.DownFwdRefIdeal.nD Cert.DownFwdRefIdeal.τ).loc Cert.DownFwdRefIdeal.main_arg3)) (h3 : a3 = m ((c.tc : Thread Cert.DownFwdIdeal.nD Cert.DownFwdIdeal.τ).loc Cert.DownFwdIdeal.main_arg3))
    (a4 : Buf (Elt Ideal) ((c.tc : Thread Cert.DownFwdRefIdeal.nD Cert.DownFwdRefIdeal.τ).loc Cert.DownFwdRefIdeal.main_arg4)) (h4 : a4 = m ((c.tc : Thread Cert.DownFwdIdeal.nD Cert.DownFwdIdeal.τ).loc Cert.DownFwdIdeal.main_arg4))
    (a5 : Buf (Elt Ideal) ((c.tc : Thread Cert.DownFwdRefIdeal.nD Cert.DownFwdRefIdeal.τ).loc Cert.DownFwdRefIdeal.main_arg5)) (h5 : a5 = m ((c.tc : Thread Cert.DownFwdIdeal.nD Cert.DownFwdIdeal.τ).loc Cert.DownFwdIdeal.main_arg5))
    : Cert.DownFwdRefIdeal.Value.REF_v30 a0 a1 a2 a3 a4 a5 = (Cert.DownFwdIdeal.Gen.dats m 0 c).arrAt 7 (Cert.DownFwdIdeal.cfgs 0).N := by
  rw [Cert.DownFwdIdeal.Value.final_7 m c]
  subst h0 h1 h2 h3 h4 h5
  rfl

/-- over the extended reals the kernel's results are the reference's, whatever the arguments. -/
theorem algebraic : Cert.algebraic_DownFwdIdeal_DownFwdRefIdeal := by
  intro m g m' g' _ hag
  refine ⟨_, _, Cert.DownFwdIdeal.Value.run_blocks m g, ?_⟩
  refine (θ_run Cert.DownFwdRefIdeal.defs _ _).mono (fun r h c => ?_) (Cert.DownFwdRefIdeal.Value.run (F := Ideal) m' g')
  exact ⟨(h c).1.trans (eq_REF_v3 m c _ (hag c).1 _ (hag c).2.1),
    (h c).2.1.trans (eq_REF_v30 m c _ (hag c).1 _ (hag c).2.1 _ (hag c).2.2.1 _ (hag c).2.2.2.1 _ (hag c).2.2.2.2.1 _ (hag c).2.2.2.2.2),
    (h c).2.2⟩

end Cert.DownFwdClaim

end
-- ==== Proof.AttnClaim.lean ====
/- The claims about `Attn`: its frames, and that the mask constant is named faithfully. -/
module

public import proofs.«01_k».proof.Defs
public import proofs.«01_k».proof.Proof.Gen.AttnRefIdeal.Run
public import proofs.«01_k».proof.Proof.AttnFrame
public import proofs.«01_k».proof.Proof.AttnBitsFrame

@[expose] public section

set_option maxRecDepth 16384

noncomputable section

namespace Cert.AttnClaim

open Idealize.ShloMosaic Idealize.SL.Sem

/-- the program over the machine's floats runs and leaves its arguments. -/
theorem frame : Cert.quiescent_Attn := fun m ρ _ => Cert.Attn.Run.frame (F := Bits) m ρ

/-- so does the program over the extended reals. -/
theorem frame_ideal : Cert.quiescent_AttnIdeal := fun m ρ _ => Cert.AttnIdeal.Run.frame (F := Ideal) m ρ

/-- so does the reference. -/
theorem frame_ref : Cert.quiescent_AttnRefIdeal := by
  intro m g _
  exact (θ_run Cert.AttnRefIdeal.defs _ _).mono (fun r h => ⟨fun c => (h c).2, sem_eq_zero_of_no_sems (by decide) r.2⟩)
    (Cert.AttnRefIdeal.Value.run (F := Ideal) m g)

/-- the named constant is the one the program over the machine's floats holds. -/
theorem preserves : Cert.preserves_Attn_AttnIdeal :=
  IdealRules.named_const.statement Cert.AttnIdeal.κ "mask" .f32 0xF149F2CA#32 ⊥ rfl

end Cert.AttnClaim

end
-- ==== Proof.PostRef.lean ====
/- The results of the reference of `Post`, each as a term over the argument arrays,
the steps they share named. -/
module

public import proofs.«01_k».proof.Proof.Gen.PostRefIdeal.Run
public import Idealize.ShloMosaic.Lib.Pointwise

@[expose] public section

set_option maxRecDepth 16384

noncomputable section

open Idealize.ShloMosaic Idealize.ShloMosaic.TcCoe Idealize.SL.Sem

namespace Cert.PostRefIdeal.Value

open Cert.PostRefIdeal Cert.PostRefIdeal.Gen Idealize.ShloMosaic.StableHlo

/-- a step of the reference, of the arguments it reads. -/
def R1 (a3 : FVec Ideal S1x1024 .f32) (a5 : FVec Ideal S4096x1024 .f32) : FVec Ideal S4096x1024 .f32 :=
  mulf (shapeCast _ a5 shapeCasts_S4096x1024_S4096x1024) (broadcastInDim S4096x1024 ![0, 1] bcast_S1x1024_S4096x1024_0_1 a3)

/-- a step of the reference, of the arguments it reads. -/
def R2 (a0 : FVec Ideal S4096x1024 .f32) (a1 : FVec Ideal S4096x1024 .f32) (a2 : FVec Ideal S8x1024 .f32) : FVec Ideal S4096x1024 .f32 :=
  addf (mulf (broadcastInDim S4096x1024 ![] bcast_S_S4096x1024 (constant S_ .f32 0x3FD744FD#32)) a0) (mulf (broadcastInDim S4096x1024 ![0, 1] bcast_S1x1024_S4096x1024_0_1 (addf (broadcastInDim S1x1024 ![] bcast_S_S1x1024 (constant S_ .f32 0x3F800000#32)) (extractStridedSlice S1x1024 ![2, 0] a2 slices_S8x1024_S1x1024_2_0))) a1)

/-- a step of the reference, of the arguments it reads. -/
def R3 (a0 : FVec Ideal S4096x1024 .f32) (a1 : FVec Ideal S4096x1024 .f32) (a2 : FVec Ideal S8x1024 .f32) : FVec Ideal S4096x1024 .f32 :=
  subf (R2 a0 a1 a2) (broadcastInDim S4096x1024 ![0, 1] bcast_S4096x1_S4096x1024_0_1 (Host.divf (broadcastInDim S4096x1 ![0] bcast_S4096_S4096x1_0 (Host.reduceAdd (R2 a0 a1 a2) (constant S_ .f32 0x00000000#32) reducesTo_S4096x1024_S4096_d1 h_S_)) (broadcastInDim S4096x1 ![] bcast_S_S4096x1 (constant S_ .f32 0x44800000#32))))

/-- a step of the reference, of the arguments it reads. -/
def R4 (a0 : FVec Ideal S4096x1024 .f32) (a1 : FVec Ideal S4096x1024 .f32) (a2 : FVec Ideal S8x1024 .f32) : FVec Ideal S4096x1 .f32 :=
  addf (Host.divf (broadcastInDim S4096x1 ![0] bcast_S4096_S4096x1_0 (Host.reduceAdd (mulf (R3 a0 a1 a2) (R3 a0 a1 a2)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32))

/-- a step of the reference, of the arguments it reads. -/
def R5 (a0 : FVec Ideal S4096x1024 .f32) (a1 : FVec Ideal S4096x1024 .f32) (a2 : FVec Ideal S8x1024 .f32) : FVec Ideal S4096x1 .f32 :=
  Host.rsqrt (R4 a0 a1 a2)

/-- a step of the reference, of the arguments it reads. -/
def R6 (a0 : FVec Ideal S4096x1024 .f32) (a1 : FVec Ideal S4096x1024 .f32) (a2 : FVec Ideal S8x1024 .f32) (a3 : FVec Ideal S1x1024 .f32) (a5 : FVec Ideal S4096x1024 .f32) : FVec Ideal S4096x1024 .f32 :=
  addf (mulf (R1 a3 a5) (broadcastInDim S4096x1024 ![0, 1] bcast_S4096x1_S4096x1024_0_1 (R5 a0 a1 a2))) (mulf (broadcastInDim S4096x1024 ![0] bcast_S4096_S4096x1024_0 (Host.reduceAdd (Host.divf (mulf (shapeCast _ (Host.reduceAdd (mulf (R3 a0 a1 a2) (R1 a3 a5)) (constant S_ .f32 0x00000000#32) reducesTo_S4096x1024_S4096_d1 h_S_) shapeCasts_S4096_S4096x1) (mulf (broadcastInDim S4096x1 ![] bcast_S_S4096x1 (constant S_ .f32 0xBF000000#32)) (Host.divf (R5 a0 a1 a2) (R4 a0 a1 a2)))) (broadcastInDim S4096x1 ![] bcast_S_S4096x1 (constant S_ .f32 0x44800000#32))) (constant S_ .f32 0x00000000#32) reducesTo_S4096x1_S4096_d1 h_S_)) (mulf (broadcastInDim S4096x1024 ![] bcast_S_S4096x1024 (constant S_ .f32 0x40000000#32)) (R3 a0 a1 a2)))

/-- a step of the reference, of the arguments it reads. -/
def R7 (a0 : FVec Ideal S4096x1024 .f32) (a1 : FVec Ideal S4096x1024 .f32) (a2 : FVec Ideal S8x1024 .f32) (a3 : FVec Ideal S1x1024 .f32) (a5 : FVec Ideal S4096x1024 .f32) : FVec Ideal S4096x1024 .f32 :=
  addf (R6 a0 a1 a2 a3 a5) (broadcastInDim S4096x1024 ![0] bcast_S4096_S4096x1024_0 (Host.reduceAdd (Host.divf (shapeCast _ (Host.reduceAdd (Host.negf (R6 a0 a1 a2 a3 a5)) (constant S_ .f32 0x00000000#32) reducesTo_S4096x1024_S4096_d1 h_S_) shapeCasts_S4096_S4096x1) (broadcastInDim S4096x1 ![] bcast_S_S4096x1 (constant S_ .f32 0x44800000#32))) (constant S_ .f32 0x00000000#32) reducesTo_S4096x1_S4096_d1 h_S_))

/-- Result 1 of the reference. -/
abbrev REF_v67 (a0 : FVec Ideal S4096x1024 .f32) (a1 : FVec Ideal S4096x1024 .f32) (a2 : FVec Ideal S8x1024 .f32) (a3 : FVec Ideal S1x1024 .f32) (a5 : FVec Ideal S4096x1024 .f32) : FVec Ideal S4096x1024 .f32 :=
  mulf (broadcastInDim S4096x1024 ![] bcast_S_S4096x1024 (constant S_ .f32 0x3FD744FD#32)) (R7 a0 a1 a2 a3 a5)

/-- Result 2 of the reference. -/
abbrev REF_v68 (a0 : FVec Ideal S4096x1024 .f32) (a1 : FVec Ideal S4096x1024 .f32) (a2 : FVec Ideal S8x1024 .f32) (a3 : FVec Ideal S1x1024 .f32) (a5 : FVec Ideal S4096x1024 .f32) : FVec Ideal S4096x1024 .bf16 :=
  truncf .bf16 (mulf (broadcastInDim S4096x1024 ![0, 1] bcast_S1x1024_S4096x1024_0_1 (addf (broadcastInDim S1x1024 ![] bcast_S_S1x1024 (constant S_ .f32 0x3F800000#32)) (extractStridedSlice S1x1024 ![2, 0] a2 slices_S8x1024_S1x1024_2_0))) (R7 a0 a1 a2 a3 a5)) bitsLt_bf16_f32

/-- Result 3 of the reference. -/
abbrev REF_v65 (a0 : FVec Ideal S4096x1024 .f32) (a1 : FVec Ideal S4096x1024 .f32) (a2 : FVec Ideal S8x1024 .f32) (a3 : FVec Ideal S1x1024 .f32) (a5 : FVec Ideal S4096x1024 .f32) : FVec Ideal S1x1024 .f32 :=
  shapeCast _ (Host.reduceAdd (mulf (R7 a0 a1 a2 a3 a5) a1) (constant S_ .f32 0x00000000#32) reducesTo_S4096x1024_S1024_d0 h_S_) shapeCasts_S1024_S1x1024

/-- Result 4 of the reference. -/
abbrev REF_v38 (a0 : FVec Ideal S4096x1024 .f32) (a1 : FVec Ideal S4096x1024 .f32) (a2 : FVec Ideal S8x1024 .f32) (a5 : FVec Ideal S4096x1024 .f32) : FVec Ideal S1x1024 .f32 :=
  shapeCast _ (Host.reduceAdd (mulf (mulf (subf (addf (mulf (broadcastInDim S4096x1024 ![] bcast_S_S4096x1024 (constant S_ .f32 0x3FD744FD#32)) a0) (mulf (broadcastInDim S4096x1024 ![0, 1] bcast_S1x1024_S4096x1024_0_1 (addf (broadcastInDim S1x1024 ![] bcast_S_S1x1024 (constant S_ .f32 0x3F800000#32)) (extractStridedSlice S1x1024 ![2, 0] a2 slices_S8x1024_S1x1024_2_0))) a1)) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) a0) (mulf (broadcastInDim S4096x1024 ![0, 1] bcast_S1x1024_S4096x1024_0_1 (addf (broadcastInDim S1x1024 ![] bcast_S_S1x1024 (constant S_ .f32 0x3F800000#32)) (extractStridedSlice S1x1024 ![2, 0] a2 slices_S8x1024_S1x1024_2_0))) a1)) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (addf (mulf (broadcastInDim S4096x1024 ![] bcast_S_S4096x1024 (constant S_ .f32 0x3FD744FD#32)) a0) (mulf (broadcastInDim S4096x1024 ![0, 1] bcast_S1x1024_S4096x1024_0_1 (addf (broadcastInDim S1x1024 ![] bcast_S_S1x1024 (constant S_ .f32 0x3F800000#32)) (extractStridedSlice S1x1024 ![2, 0] a2 slices_S8x1024_S1x1024_2_0))) a1)) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) a0) (mulf (broadcastInDim S4096x1024 ![0, 1] bcast_S1x1024_S4096x1024_0_1 (addf (broadcastInDim S1x1024 ![] bcast_S_S1x1024 (constant S_ .f32 0x3F800000#32)) (extractStridedSlice S1x1024 ![2, 0] a2 slices_S8x1024_S1x1024_2_0))) a1)) (constant S_ .f32 0x00000000#32) reducesTo_S4096x1024_S4096_d1 h_S_)) (broadcastInDim S4096x1 ![] bcast_S_S4096x1 (constant S_ .f32 0x44800000#32))))) (subf (addf (mulf (broadcastInDim S4096x1024 ![] bcast_S_S4096x1024 (constant S_ .f32 0x3FD744FD#32)) a0) (mulf (broadcastInDim S4096x1024 ![0, 1] bcast_S1x1024_S4096x1024_0_1 (addf (broadcastInDim S1x1024 ![] bcast_S_S1x1024 (constant S_ .f32 0x3F800000#32)) (extractStridedSlice S1x1024 ![2, 0] a2 slices_S8x1024_S1x1024_2_0))) a1)) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) a0) (mulf (broadcastInDim S4096x1024 ![0, 1] bcast_S1x1024_S4096x1024_0_1 (addf (broadcastInDim S1x1024 ![] bcast_S_S1x1024 (constant S_ .f32 0x3F800000#32)) (extractStridedSlice S1x1024 ![2, 0] a2 slices_S8x1024_S1x1024_2_0))) a1)) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (shapeCast _ a5 shapeCasts_S4096x1024_S4096x1024)) (constant S_ .f32 0x00000000#32) reducesTo_S4096x1024_S1024_d0 h_S_) shapeCasts_S1024_S1x1024

/-- Result 5 of the reference. -/
abbrev REF_v35 (a5 : FVec Ideal S4096x1024 .f32) : FVec Ideal S1x1024 .f32 :=
  shapeCast _ (Host.reduceAdd a5 (constant S_ .f32 0x00000000#32) reducesTo_S4096x1024_S1024_d0 h_S_) shapeCasts_S1024_S1x1024

/-- the result in its steps. -/
theorem REF_v67_eq (a0 : FVec Ideal S4096x1024 .f32) (a1 : FVec Ideal S4096x1024 .f32) (a2 : FVec Ideal S8x1024 .f32) (a3 : FVec Ideal S1x1024 .f32) (a5 : FVec Ideal S4096x1024 .f32) : REF_v67 a0 a1 a2 a3 a5 =
    mulf (broadcastInDim S4096x1024 ![] bcast_S_S4096x1024 (constant S_ .f32 0x3FD744FD#32)) (R7 a0 a1 a2 a3 a5) := rfl

/-- the result in its steps. -/
theorem REF_v68_eq (a0 : FVec Ideal S4096x1024 .f32) (a1 : FVec Ideal S4096x1024 .f32) (a2 : FVec Ideal S8x1024 .f32) (a3 : FVec Ideal S1x1024 .f32) (a5 : FVec Ideal S4096x1024 .f32) : REF_v68 a0 a1 a2 a3 a5 =
    truncf .bf16 (mulf (broadcastInDim S4096x1024 ![0, 1] bcast_S1x1024_S4096x1024_0_1 (addf (broadcastInDim S1x1024 ![] bcast_S_S1x1024 (constant S_ .f32 0x3F800000#32)) (extractStridedSlice S1x1024 ![2, 0] a2 slices_S8x1024_S1x1024_2_0))) (R7 a0 a1 a2 a3 a5)) bitsLt_bf16_f32 := rfl

/-- the result in its steps. -/
theorem REF_v65_eq (a0 : FVec Ideal S4096x1024 .f32) (a1 : FVec Ideal S4096x1024 .f32) (a2 : FVec Ideal S8x1024 .f32) (a3 : FVec Ideal S1x1024 .f32) (a5 : FVec Ideal S4096x1024 .f32) : REF_v65 a0 a1 a2 a3 a5 =
    shapeCast _ (Host.reduceAdd (mulf (R7 a0 a1 a2 a3 a5) a1) (constant S_ .f32 0x00000000#32) reducesTo_S4096x1024_S1024_d0 h_S_) shapeCasts_S1024_S1x1024 := rfl

end Cert.PostRefIdeal.Value

end
-- ==== Proof.PostVal.lean ====
/- What the arrays of `PostIdeal` hold after the run, against the reference. -/
module

public import proofs.«01_k».proof.Proof.Gen.PostIdeal.Frame
public import proofs.«01_k».proof.Proof.PostRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.PostIdeal.Value

open Cert.PostIdeal Cert.PostIdeal.Gen Cert.PostRefIdeal.Value

variable (m : (ℓ : Loc nD τ sig) → Buf (Elt Ideal) ℓ)

/-- every window's block index at every grid point, in closed form (decided). -/
theorem idx : ∀ t : Fin cfg0.N, win0_0.index t = ![(grid0.coords t 0).val, 0]
    ∧ win0_1.index t = ![(grid0.coords t 0).val, 0]
    ∧ win0_2.index t = ![0, 0]
    ∧ win0_3.index t = ![0, 0]
    ∧ win0_4.index t = ![0, 0]
    ∧ win0_5.index t = ![(grid0.coords t 0).val, 0]
    ∧ win0_6.index t = ![(grid0.coords t 0).val, 0]
    ∧ win0_7.index t = ![(grid0.coords t 0).val, 0]
    ∧ win0_8.index t = ![0, 0]
    ∧ win0_9.index t = ![0, 0]
    ∧ win0_10.index t = ![0, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![0, 0]
    ∧ win0_9.index t = ![0, 0]
    ∧ win0_10.index t = ![0, 0] :=
  (by decide +kernel : ∀ t : Fin grid0.N, _)

/-- the row of the whole array at which row `r` of the block of point `t` sits. -/
def row (t : Fin cfg0.N) (r : Fin 512) : Fin 4096 := ⟨t.val * 512 + r.val, by have := t.isLt; have h : cfg0.N = 8 := N_0; omega⟩

/-- the centred entries of a row of a block are the reference's. -/
theorem d_eq (c : Dev nD) (t : Fin cfg0.N) (v5 : Vec Ideal S1x1024 .f32) (h5 : ∀ x, v5 (ix2 0 x) = (m ((c : Thread nD τ).loc main_arg2)) (ix2 2 x)) (r : Fin 512) (x : Fin 1024) :
    k0_pay8 (iblk m c 0 t) (iblk m c 1 t) v5 (ix2 r x) = R3 (m ((c : Thread nD τ).loc main_arg0)) (m ((c : Thread nD τ).loc main_arg1)) (m ((c : Thread nD τ).loc main_arg2)) (ix2 (row t r) x) := by
  pointwise [k0_pay8, k0_pay7, R3, R2, h5]; blk_point [iblk, V, idx_val t, row]

/-- so is the shifted variance of a row. -/
theorem v_eq (c : Dev nD) (t : Fin cfg0.N) (v5 : Vec Ideal S1x1024 .f32) (h5 : ∀ x, v5 (ix2 0 x) = (m ((c : Thread nD τ).loc main_arg2)) (ix2 2 x)) (r : Fin 512) :
    k0_pay9 (iblk m c 0 t) (iblk m c 1 t) v5 (ix2 r 0) = R4 (m ((c : Thread nD τ).loc main_arg0)) (m ((c : Thread nD τ).loc main_arg1)) (m ((c : Thread nD τ).loc main_arg2)) (ix2 (row t r) 0) := by
  pointwise [k0_pay9, R4, d_eq m c t v5 h5]

/-- its inverse root. -/
theorem q_eq (c : Dev nD) (t : Fin cfg0.N) (v5 : Vec Ideal S1x1024 .f32) (h5 : ∀ x, v5 (ix2 0 x) = (m ((c : Thread nD τ).loc main_arg2)) (ix2 2 x)) (r : Fin 512) :
    k0_pay10 (iblk m c 0 t) (iblk m c 1 t) v5 (ix2 r 0) = R5 (m ((c : Thread nD τ).loc main_arg0)) (m ((c : Thread nD τ).loc main_arg1)) (m ((c : Thread nD τ).loc main_arg2)) (ix2 (row t r) 0) := by
  pointwise [k0_pay10, R5, v_eq m c t v5 h5]

/-- the gradient of the normalised sum along a row, as one formula of the row. -/
def G (d : Fin 1024 → EReal) (q s : EReal) (g : Fin 1024 → EReal) (x : Fin 1024) : EReal :=
  let e := Ideal.div ((∑ k, d k * g k) * s) (Ideal.ofBits .f32 0x44800000#32)
  let A := fun k => g k * q + d k * e + e * d k
  A x + Ideal.div (∑ k, -A k) (Ideal.ofBits .f32 0x44800000#32)

/-- the kernel's gradient is that formula of the block's row. -/
theorem pay16_eq (v6 : Vec Ideal S1x1024 .f32) (v19 : FVec Ideal S512x1024 .f32) (v27 v30 : FVec Ideal S512x1 .f32)
    (v34 : FVec Ideal S512x1024 .f32) (r : Fin 512) (x : Fin 1024) :
    k0_pay16 v6 v19 v27 v30 v34 (ix2 r x) = G (fun k => v19 (ix2 r k)) (v27 (ix2 r 0)) (v30 (ix2 r 0))
      (fun k => v34 (ix2 r k) * v6 (ix2 0 k)) x := by
  pointwise [k0_pay16, G]
  simp

/-- the gradient of a square: twice the product is the sum of the two. -/
theorem two_mul_eq (a e d : EReal) : a + e * (Ideal.ofBits .f32 0x40000000#32 * d) = a + d * e + e * d := by
  have h2 : Ideal.ofBits .f32 0x40000000#32 = (1 : EReal) + 1 := by
    rw [show (1 : EReal) + 1 = ((2 : ℝ) : EReal) by rw [one_add_one_eq_two]; rfl]
    simp [Ideal.ofBits, Ideal.ieee, -EReal.coe_mul]; norm_num
  rw [h2, mul_left_comm, EReal.right_distrib_of_nonneg zero_le_one zero_le_one, one_mul, add_assoc, mul_comm d e]

/-- the reference's gradient is that formula of the array's row. -/
theorem R7_eq (a0 a1 : FVec Ideal S4096x1024 .f32) (a2 : FVec Ideal S8x1024 .f32) (a3 : FVec Ideal S1x1024 .f32) (a5 : FVec Ideal S4096x1024 .f32)
    (r : Fin 4096) (x : Fin 1024) :
    R7 a0 a1 a2 a3 a5 (ix2 r x) = G (fun k => R3 a0 a1 a2 (ix2 r k)) (R5 a0 a1 a2 (ix2 r 0))
      (Ideal.ofBits .f32 0xBF000000#32 * Ideal.div (R5 a0 a1 a2 (ix2 r 0)) (R4 a0 a1 a2 (ix2 r 0)))
      (fun k => a5 (ix2 r k) * a3 (ix2 0 k)) x := by
  pointwise [R7, R6, R1, G]
  simp only [two_mul_eq]
  simp

/-- the gradient arriving at a row, as the block holds it. -/
theorem g_eq (c : Dev nD) (t : Fin cfg0.N) (r : Fin 512) (x : Fin 1024) :
    k0_pay13 (iblk m c 5 t) (ix2 r x) = (m ((c : Thread nD τ).loc main_arg5)) (ix2 (row t r) x) := by
  pointwise [k0_pay13]; blk_point [iblk, V, idx_val t, row]

/-- the gain, as the block holds it. -/
theorem w_eq (c : Dev nD) (t : Fin cfg0.N) (x : Fin 1024) : iblk m c 3 t (ix2 0 x) = (m ((c : Thread nD τ).loc main_arg3)) (ix2 0 x) := by
  blk_point [iblk, V, idx_val t]

/-- the gradient of the normalised sum: the kernel's block is the reference's rows. -/
theorem core (c : Dev nD) (t : Fin cfg0.N) (v5 : Vec Ideal S1x1024 .f32) (h5 : ∀ x, v5 (ix2 0 x) = (m ((c : Thread nD τ).loc main_arg2)) (ix2 2 x)) (r : Fin 512) (x : Fin 1024) :
    k0_pay16 (iblk m c 3 t) (k0_pay8 (iblk m c 0 t) (iblk m c 1 t) v5) (k0_pay10 (iblk m c 0 t) (iblk m c 1 t) v5)
      (k0_pay11 (iblk m c 0 t) (iblk m c 1 t) v5) (k0_pay13 (iblk m c 5 t)) (ix2 r x)
      = R7 (m ((c : Thread nD τ).loc main_arg0)) (m ((c : Thread nD τ).loc main_arg1)) (m ((c : Thread nD τ).loc main_arg2)) (m ((c : Thread nD τ).loc main_arg3)) (m ((c : Thread nD τ).loc main_arg5)) (ix2 (row t r) x) := by
  have hs : k0_pay11 (iblk m c 0 t) (iblk m c 1 t) v5 (ix2 r 0) = Ideal.ofBits .f32 0xBF000000#32 * Ideal.div (R5 (m ((c : Thread nD τ).loc main_arg0)) (m ((c : Thread nD τ).loc main_arg1)) (m ((c : Thread nD τ).loc main_arg2)) (ix2 (row t r) 0)) (R4 (m ((c : Thread nD τ).loc main_arg0)) (m ((c : Thread nD τ).loc main_arg1)) (m ((c : Thread nD τ).loc main_arg2)) (ix2 (row t r) 0)) := by
    pointwise [k0_pay11, q_eq m c t v5 h5, v_eq m c t v5 h5]
  rw [pay16_eq, R7_eq, hs, q_eq m c t v5 h5]
  simp only [d_eq m c t v5 h5, g_eq, w_eq]

/-- the gate's row, as the body loads it. -/
abbrev v5 (c : Dev nD) (t : Fin cfg0.N) : Vec Ideal S1x1024 .f32 :=
  View.ld (iblk m c 2 t) (Rect.unit ![2, 0] ![1, 1024] inb_S8x1024_S1x1024_2_0)

theorem h5 (c : Dev nD) (t : Fin cfg0.N) (x : Fin 1024) : v5 m c t (ix2 0 x) = (m ((c : Thread nD τ).loc main_arg2)) (ix2 2 x) := by
  pointwise [v5]; blk_point [iblk, V, idx_val t]

/-- where an index of a block of window 6 sits in the whole array. -/
theorem emb_6 (f : FVec Ideal S4096x1024 .f32) (t : Fin cfg0.N) (y : S512x1024.Idx) :
    f (((cfg0.win 6).blk t).view.emb y) = f (ix2 (row t (y 0)) (y 1)) := by
  blk_point [idx_val t, row]

/-- where an index of a block of window 7 sits in the whole array. -/
theorem emb_7 (f : FVec Ideal S4096x1024 .bf16) (t : Fin cfg0.N) (y : S512x1024.Idx) :
    f (((cfg0.win 7).blk t).view.emb y) = f (ix2 (row t (y 0)) (y 1)) := by
  blk_point [idx_val t, row]

/-- POINT of the gradient of the input. -/
theorem point_6 (c : Dev nD) (t : Fin cfg0.N) (y) :
    k0_pay18 (iblk m c 3 t) (k0_pay8 (iblk m c 0 t) (iblk m c 1 t) (v5 m c t)) (k0_pay10 (iblk m c 0 t) (iblk m c 1 t) (v5 m c t)) (k0_pay11 (iblk m c 0 t) (iblk m c 1 t) (v5 m c t)) (k0_pay13 (iblk m c 5 t)) y = REF_v67 (m ((c : Thread nD τ).loc main_arg0)) (m ((c : Thread nD τ).loc main_arg1)) (m ((c : Thread nD τ).loc main_arg2)) (m ((c : Thread nD τ).loc main_arg3)) (m ((c : Thread nD τ).loc main_arg5)) (((cfg0.win 6).blk t).view.emb y) := by
  refine Eq.trans ?_ (emb_6 _ t y).symm
  rw [REF_v67_eq]
  pointwise [k0_pay18]
  exact congrArg (_ * ·) ((congrArg _ (eq_ix2 y)).trans (core m c t _ (h5 m c t) (y 0) (y 1)))

/-- POINT of the gradient of the branch. -/
theorem point_7 (c : Dev nD) (t : Fin cfg0.N) (y) :
    k0_pay19 (iblk m c 3 t) (k0_pay7 (v5 m c t)) (k0_pay8 (iblk m c 0 t) (iblk m c 1 t) (v5 m c t)) (k0_pay10 (iblk m c 0 t) (iblk m c 1 t) (v5 m c t)) (k0_pay11 (iblk m c 0 t) (iblk m c 1 t) (v5 m c t)) (k0_pay13 (iblk m c 5 t)) y
      = REF_v68 (m ((c : Thread nD τ).loc main_arg0)) (m ((c : Thread nD τ).loc main_arg1)) (m ((c : Thread nD τ).loc main_arg2)) (m ((c : Thread nD τ).loc main_arg3)) (m ((c : Thread nD τ).loc main_arg5)) (((cfg0.win 7).blk t).view.emb y) := by
  refine Eq.trans ?_ (emb_7 _ t y).symm
  rw [REF_v68_eq]
  pointwise [k0_pay19, k0_pay7, h5 m c t]
  exact congrArg (_ * ·) ((congrArg _ (eq_ix2 y)).trans (core m c t _ (h5 m c t) (y 0) (y 1)))

/-- BRIDGE: the result array after the run (the blocks tile the array). -/
theorem final_6 (c : Dev nD) : (dats m 0 c).arrAt 6 (cfgs 0).N = REF_v67 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 6 _ (by decide +kernel) fun t hf y => ?_
  blk_simp; rw [after0_6]
  by_cases h : t.val % 8 = 0
  · rw [outsAt0_A m c t h]; dsimp only; frame_out; exact point_6 m c t y
  · rw [outsAt0_B m c t h]; dsimp only; frame_out; exact point_6 m c t y

/-- BRIDGE: the result array after the run (the blocks tile the array). -/
theorem final_7 (c : Dev nD) : (dats m 0 c).arrAt 7 (cfgs 0).N = REF_v68 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 7 _ (by decide +kernel) fun t hf y => ?_
  blk_simp; rw [after0_7]
  by_cases h : t.val % 8 = 0
  · rw [outsAt0_A m c t h]; dsimp only; frame_out; exact point_7 m c t y
  · rw [outsAt0_B m c t h]; dsimp only; frame_out; exact point_7 m c t y

/-- the zero fill. -/
theorem hzero_8 (j : S1x1024.Idx) : k0_pay4 (F := Ideal) j = 0 := by
  pointwise! [k0_pay4]

/-- the accumulating payload = what the buffer held + its part. -/
theorem hpay_8 (v71 : FVec Ideal S1x1024 .f32) (v77 : Vec Ideal S1x1024 .f32) (j : S1x1024.Idx) :
    k0_pay1 v71 (k0_pay20 v77) j = v77 j + v71 j := by
  pointwise [k0_pay1, k0_pay20]

/-- BRIDGE + the accumulation as ONE `Fin`-indexed sum (no induction, no `term`, no `outs_eq`). -/
theorem final_8 (c : Dev nD) : (dats m 0 c).arrAt 8 (cfgs 0).N = REF_v65 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0) _
    (fun t h j => by rw [outsAt0_A m c t h]; frame_out; rw [hpay_8, hzero_8])
    (fun t h j => by rw [outsAt0_B m c t h]; frame_out; rw [hpay_8])
    (le_of_eq N_0) t0_7 rfl j, zero_add]
  rw [REF_v65_eq]
  pointwise [k0_pay17]
  refine Fin.sum_mul_add_congr fun t k hl => ?_
  refine congrArg₂ (· * ·) (core m c t _ (h5 m c t) k (j 1)) ?_
  blk_point [iblk, V, idx_val t, row]

/-- the zero fill. -/
theorem hzero_9 (j : S1x1024.Idx) : k0_pay5 (F := Ideal) j = 0 := by
  pointwise! [k0_pay5]

/-- the accumulating payload = what the buffer held + its part (the payload at a ZERO accumulator -/
theorem hpay_9 (v39 : FVec Ideal S1x1024 .f32) (v81 : Vec Ideal S1x1024 .f32) (j : S1x1024.Idx) :
    k0_pay2 v39 v81 j = v81 j + k0_pay2 v39 (fun _ => 0) j := by
  pointwise [k0_pay2]

/-- BRIDGE + the accumulation as ONE `Fin`-indexed sum (no induction, no `term`, no `outs_eq`). -/
theorem final_9 (c : Dev nD) : (dats m 0 c).arrAt 9 (cfgs 0).N = REF_v38 (m ((c : Thread nD τ).loc main_arg0)) (m ((c : Thread nD τ).loc main_arg1)) (m ((c : Thread nD τ).loc main_arg2)) (m ((c : Thread nD τ).loc main_arg5)) := by
  refine (dats m 0 c).arrAt_eq_of_after_last 9 t0_7 (by decide +kernel) _ fun j => ?_
  blk_simp
  rw [after0_9, Pipeline.eq_sum_fin_of_reset_step_apply_last (fun n h => (outsAt0 m c n h).2.2.2.1) 8 (fun _ => 0) _
    (fun t h j => by rw [outsAt0_A m c t h]; frame_out; rw [hpay_9, hzero_9])
    (fun t h j => by rw [outsAt0_B m c t h]; frame_out; rw [hpay_9])
    (le_of_eq N_0) t0_7 rfl j, zero_add]
  pointwise [k0_pay2, k0_pay1, k0_pay3, k0_pay7, k0_pay8, k0_pay9, k0_pay10, k0_pay11, k0_pay12, k0_pay13, k0_pay14, k0_pay15, k0_pay16, k0_pay17, k0_pay18, k0_pay19, k0_pay20, REF_v38]; refine Fin.sum_mul_add_congr fun t k hl => ?_; blk_point [iblk, V, idx_val t]

/-- the zero fill. -/
theorem hzero_10 (j : S1x1024.Idx) : k0_pay6 (F := Ideal) j = 0 := by
  pointwise! [k0_pay6]

/-- the accumulating payload = what the buffer held + its part (the payload at a ZERO accumulator -/
theorem hpay_10 (v36 : FVec Ideal S1x1024 .f32) (v85 : Vec Ideal S1x1024 .f32) (j : S1x1024.Idx) :
    k0_pay3 v36 v85 j = v85 j + k0_pay3 v36 (fun _ => 0) j := by
  pointwise [k0_pay3]

/-- BRIDGE + the accumulation as ONE `Fin`-indexed sum (no induction, no `term`, no `outs_eq`). -/
theorem final_10 (c : Dev nD) : (dats m 0 c).arrAt 10 (cfgs 0).N = REF_v35 (m ((c : Thread nD τ).loc main_arg5)) := by
  refine (dats m 0 c).arrAt_eq_of_after_last 10 t0_7 (by decide +kernel) _ fun j => ?_
  blk_simp
  rw [after0_10, Pipeline.eq_sum_fin_of_reset_step_apply_last (fun n h => (outsAt0 m c n h).2.2.2.2) 8 (fun _ => 0) _
    (fun t h j => by rw [outsAt0_A m c t h]; frame_out; rw [hpay_10, hzero_10])
    (fun t h j => by rw [outsAt0_B m c t h]; frame_out; rw [hpay_10])
    (le_of_eq N_0) t0_7 rfl j, zero_add]
  pointwise [k0_pay3, k0_pay1, k0_pay2, k0_pay7, k0_pay8, k0_pay9, k0_pay10, k0_pay11, k0_pay12, k0_pay13, k0_pay14, k0_pay15, k0_pay16, k0_pay17, k0_pay18, k0_pay19, k0_pay20, REF_v35]; refine Fin.sum_mul_add_congr fun t k hl => ?_; blk_point [iblk, V, idx_val t]

end Cert.PostIdeal.Value

end
-- ==== Proof.PostClaim.lean ====
/- The claims about `Post`: its frames, and that the kernel over the extended reals computes its reference. -/
module

public import proofs.«01_k».proof.Defs
public import proofs.«01_k».proof.Proof.Gen.Post.Frame
public import proofs.«01_k».proof.Proof.Gen.PostIdeal.Frame
public import proofs.«01_k».proof.Proof.Gen.PostIdeal.Value
public import proofs.«01_k».proof.Proof.Gen.PostRefIdeal.Run
public import proofs.«01_k».proof.Proof.PostVal

@[expose] public section

set_option maxRecDepth 16384

noncomputable section

namespace Cert.PostClaim

open Idealize.ShloMosaic Idealize.SL.Sem

/-- the program over the machine's floats runs and leaves its arguments. -/
theorem frame : Cert.quiescent_Post := fun m ρ _ => Cert.Post.Gen.frame m ρ

/-- so does the program over the extended reals. -/
theorem frame_ideal : Cert.quiescent_PostIdeal := fun m ρ _ => Cert.PostIdeal.Gen.frame m ρ

/-- so does the reference. -/
theorem frame_ref : Cert.quiescent_PostRefIdeal := by
  intro m g _
  exact (θ_run Cert.PostRefIdeal.defs _ _).mono (fun r h => ⟨fun c => (h c).2.2.2.2.2, sem_eq_zero_of_no_sems (by decide) r.2⟩)
    (Cert.PostRefIdeal.Value.run (F := Ideal) m g)

/-- a result of the kernel is the reference's, of equal arguments. -/
theorem eq_REF_v67 (m : (ℓ : Loc Cert.PostIdeal.nD Cert.PostIdeal.τ Cert.PostIdeal.sig) → Buf (Elt Ideal) ℓ) (c : Dev Cert.PostIdeal.nD)
    (a0 : Buf (Elt Ideal) ((c.tc : Thread Cert.PostRefIdeal.nD Cert.PostRefIdeal.τ).loc Cert.PostRefIdeal.main_arg0)) (h0 : a0 = m ((c.tc : Thread Cert.PostIdeal.nD Cert.PostIdeal.τ).loc Cert.PostIdeal.main_arg0))
    (a1 : Buf (Elt Ideal) ((c.tc : Thread Cert.PostRefIdeal.nD Cert.PostRefIdeal.τ).loc Cert.PostRefIdeal.main_arg1)) (h1 : a1 = m ((c.tc : Thread Cert.PostIdeal.nD Cert.PostIdeal.τ).loc Cert.PostIdeal.main_arg1))
    (a2 : Buf (Elt Ideal) ((c.tc : Thread Cert.PostRefIdeal.nD Cert.PostRefIdeal.τ).loc Cert.PostRefIdeal.main_arg2)) (h2 : a2 = m ((c.tc : Thread Cert.PostIdeal.nD Cert.PostIdeal.τ).loc Cert.PostIdeal.main_arg2))
    (a3 : Buf (Elt Ideal) ((c.tc : Thread Cert.PostRefIdeal.nD Cert.PostRefIdeal.τ).loc Cert.PostRefIdeal.main_arg3)) (h3 : a3 = m ((c.tc : Thread Cert.PostIdeal.nD Cert.PostIdeal.τ).loc Cert.PostIdeal.main_arg3))
    (a5 : Buf (Elt Ideal) ((c.tc : Thread Cert.PostRefIdeal.nD Cert.PostRefIdeal.τ).loc Cert.PostRefIdeal.main_arg5)) (h5 : a5 = m ((c.tc : Thread Cert.PostIdeal.nD Cert.PostIdeal.τ).loc Cert.PostIdeal.main_arg5))
    : Cert.PostRefIdeal.Value.REF_v67 a0 a1 a2 a3 a5 = (Cert.PostIdeal.Gen.dats m 0 c).arrAt 6 (Cert.PostIdeal.cfgs 0).N := by
  rw [Cert.PostIdeal.Value.final_6 m c]
  subst h0 h1 h2 h3 h5
  rfl

/-- a result of the kernel is the reference's, of equal arguments. -/
theorem eq_REF_v68 (m : (ℓ : Loc Cert.PostIdeal.nD Cert.PostIdeal.τ Cert.PostIdeal.sig) → Buf (Elt Ideal) ℓ) (c : Dev Cert.PostIdeal.nD)
    (a0 : Buf (Elt Ideal) ((c.tc : Thread Cert.PostRefIdeal.nD Cert.PostRefIdeal.τ).loc Cert.PostRefIdeal.main_arg0)) (h0 : a0 = m ((c.tc : Thread Cert.PostIdeal.nD Cert.PostIdeal.τ).loc Cert.PostIdeal.main_arg0))
    (a1 : Buf (Elt Ideal) ((c.tc : Thread Cert.PostRefIdeal.nD Cert.PostRefIdeal.τ).loc Cert.PostRefIdeal.main_arg1)) (h1 : a1 = m ((c.tc : Thread Cert.PostIdeal.nD Cert.PostIdeal.τ).loc Cert.PostIdeal.main_arg1))
    (a2 : Buf (Elt Ideal) ((c.tc : Thread Cert.PostRefIdeal.nD Cert.PostRefIdeal.τ).loc Cert.PostRefIdeal.main_arg2)) (h2 : a2 = m ((c.tc : Thread Cert.PostIdeal.nD Cert.PostIdeal.τ).loc Cert.PostIdeal.main_arg2))
    (a3 : Buf (Elt Ideal) ((c.tc : Thread Cert.PostRefIdeal.nD Cert.PostRefIdeal.τ).loc Cert.PostRefIdeal.main_arg3)) (h3 : a3 = m ((c.tc : Thread Cert.PostIdeal.nD Cert.PostIdeal.τ).loc Cert.PostIdeal.main_arg3))
    (a5 : Buf (Elt Ideal) ((c.tc : Thread Cert.PostRefIdeal.nD Cert.PostRefIdeal.τ).loc Cert.PostRefIdeal.main_arg5)) (h5 : a5 = m ((c.tc : Thread Cert.PostIdeal.nD Cert.PostIdeal.τ).loc Cert.PostIdeal.main_arg5))
    : Cert.PostRefIdeal.Value.REF_v68 a0 a1 a2 a3 a5 = (Cert.PostIdeal.Gen.dats m 0 c).arrAt 7 (Cert.PostIdeal.cfgs 0).N := by
  rw [Cert.PostIdeal.Value.final_7 m c]
  subst h0 h1 h2 h3 h5
  rfl

/-- a result of the kernel is the reference's, of equal arguments. -/
theorem eq_REF_v65 (m : (ℓ : Loc Cert.PostIdeal.nD Cert.PostIdeal.τ Cert.PostIdeal.sig) → Buf (Elt Ideal) ℓ) (c : Dev Cert.PostIdeal.nD)
    (a0 : Buf (Elt Ideal) ((c.tc : Thread Cert.PostRefIdeal.nD Cert.PostRefIdeal.τ).loc Cert.PostRefIdeal.main_arg0)) (h0 : a0 = m ((c.tc : Thread Cert.PostIdeal.nD Cert.PostIdeal.τ).loc Cert.PostIdeal.main_arg0))
    (a1 : Buf (Elt Ideal) ((c.tc : Thread Cert.PostRefIdeal.nD Cert.PostRefIdeal.τ).loc Cert.PostRefIdeal.main_arg1)) (h1 : a1 = m ((c.tc : Thread Cert.PostIdeal.nD Cert.PostIdeal.τ).loc Cert.PostIdeal.main_arg1))
    (a2 : Buf (Elt Ideal) ((c.tc : Thread Cert.PostRefIdeal.nD Cert.PostRefIdeal.τ).loc Cert.PostRefIdeal.main_arg2)) (h2 : a2 = m ((c.tc : Thread Cert.PostIdeal.nD Cert.PostIdeal.τ).loc Cert.PostIdeal.main_arg2))
    (a3 : Buf (Elt Ideal) ((c.tc : Thread Cert.PostRefIdeal.nD Cert.PostRefIdeal.τ).loc Cert.PostRefIdeal.main_arg3)) (h3 : a3 = m ((c.tc : Thread Cert.PostIdeal.nD Cert.PostIdeal.τ).loc Cert.PostIdeal.main_arg3))
    (a5 : Buf (Elt Ideal) ((c.tc : Thread Cert.PostRefIdeal.nD Cert.PostRefIdeal.τ).loc Cert.PostRefIdeal.main_arg5)) (h5 : a5 = m ((c.tc : Thread Cert.PostIdeal.nD Cert.PostIdeal.τ).loc Cert.PostIdeal.main_arg5))
    : Cert.PostRefIdeal.Value.REF_v65 a0 a1 a2 a3 a5 = (Cert.PostIdeal.Gen.dats m 0 c).arrAt 8 (Cert.PostIdeal.cfgs 0).N := by
  rw [Cert.PostIdeal.Value.final_8 m c]
  subst h0 h1 h2 h3 h5
  rfl

/-- a result of the kernel is the reference's, of equal arguments. -/
theorem eq_REF_v38 (m : (ℓ : Loc Cert.PostIdeal.nD Cert.PostIdeal.τ Cert.PostIdeal.sig) → Buf (Elt Ideal) ℓ) (c : Dev Cert.PostIdeal.nD)
    (a0 : Buf (Elt Ideal) ((c.tc : Thread Cert.PostRefIdeal.nD Cert.PostRefIdeal.τ).loc Cert.PostRefIdeal.main_arg0)) (h0 : a0 = m ((c.tc : Thread Cert.PostIdeal.nD Cert.PostIdeal.τ).loc Cert.PostIdeal.main_arg0))
    (a1 : Buf (Elt Ideal) ((c.tc : Thread Cert.PostRefIdeal.nD Cert.PostRefIdeal.τ).loc Cert.PostRefIdeal.main_arg1)) (h1 : a1 = m ((c.tc : Thread Cert.PostIdeal.nD Cert.PostIdeal.τ).loc Cert.PostIdeal.main_arg1))
    (a2 : Buf (Elt Ideal) ((c.tc : Thread Cert.PostRefIdeal.nD Cert.PostRefIdeal.τ).loc Cert.PostRefIdeal.main_arg2)) (h2 : a2 = m ((c.tc : Thread Cert.PostIdeal.nD Cert.PostIdeal.τ).loc Cert.PostIdeal.main_arg2))
    (a5 : Buf (Elt Ideal) ((c.tc : Thread Cert.PostRefIdeal.nD Cert.PostRefIdeal.τ).loc Cert.PostRefIdeal.main_arg5)) (h5 : a5 = m ((c.tc : Thread Cert.PostIdeal.nD Cert.PostIdeal.τ).loc Cert.PostIdeal.main_arg5))
    : Cert.PostRefIdeal.Value.REF_v38 a0 a1 a2 a5 = (Cert.PostIdeal.Gen.dats m 0 c).arrAt 9 (Cert.PostIdeal.cfgs 0).N := by
  rw [Cert.PostIdeal.Value.final_9 m c]
  subst h0 h1 h2 h5
  rfl

/-- a result of the kernel is the reference's, of equal arguments. -/
theorem eq_REF_v35 (m : (ℓ : Loc Cert.PostIdeal.nD Cert.PostIdeal.τ Cert.PostIdeal.sig) → Buf (Elt Ideal) ℓ) (c : Dev Cert.PostIdeal.nD)
    (a5 : Buf (Elt Ideal) ((c.tc : Thread Cert.PostRefIdeal.nD Cert.PostRefIdeal.τ).loc Cert.PostRefIdeal.main_arg5)) (h5 : a5 = m ((c.tc : Thread Cert.PostIdeal.nD Cert.PostIdeal.τ).loc Cert.PostIdeal.main_arg5))
    : Cert.PostRefIdeal.Value.REF_v35 a5 = (Cert.PostIdeal.Gen.dats m 0 c).arrAt 10 (Cert.PostIdeal.cfgs 0).N := by
  rw [Cert.PostIdeal.Value.final_10 m c]
  subst h5
  rfl

/-- over the extended reals the kernel's results are the reference's, whatever the arguments. -/
theorem algebraic : Cert.algebraic_PostIdeal_PostRefIdeal := by
  intro m g m' g' _ hag
  refine ⟨_, _, _, _, _, Cert.PostIdeal.Value.run_blocks m g, ?_⟩
  refine (θ_run Cert.PostRefIdeal.defs _ _).mono (fun r h c => ?_) (Cert.PostRefIdeal.Value.run (F := Ideal) m' g')
  exact ⟨(h c).1.trans (eq_REF_v67 m c _ (hag c).1 _ (hag c).2.1 _ (hag c).2.2.1 _ (hag c).2.2.2.1 _ (hag c).2.2.2.2.2),
    (h c).2.1.trans (eq_REF_v68 m c _ (hag c).1 _ (hag c).2.1 _ (hag c).2.2.1 _ (hag c).2.2.2.1 _ (hag c).2.2.2.2.2),
    (h c).2.2.1.trans (eq_REF_v65 m c _ (hag c).1 _ (hag c).2.1 _ (hag c).2.2.1 _ (hag c).2.2.2.1 _ (hag c).2.2.2.2.2),
    (h c).2.2.2.1.trans (eq_REF_v38 m c _ (hag c).1 _ (hag c).2.1 _ (hag c).2.2.1 _ (hag c).2.2.2.2.2),
    (h c).2.2.2.2.1.trans (eq_REF_v35 m c _ (hag c).2.2.2.2.2),
    (h c).2.2.2.2.2⟩

end Cert.PostClaim

end
-- ==== Proof.PostBRef.lean ====
/- The results of the reference of `PostB`, each as a term over the argument arrays,
the steps they share named. -/
module

public import proofs.«01_k».proof.Proof.Gen.PostBRefIdeal.Run
public import Idealize.ShloMosaic.Lib.Pointwise

@[expose] public section

set_option maxRecDepth 16384

noncomputable section

open Idealize.ShloMosaic Idealize.ShloMosaic.TcCoe Idealize.SL.Sem

namespace Cert.PostBRefIdeal.Value

open Cert.PostBRefIdeal Cert.PostBRefIdeal.Gen Idealize.ShloMosaic.StableHlo

/-- a step of the reference, of the arguments it reads. -/
def R1 (a3 : FVec Ideal S1x1024 .f32) (a5 : FVec Ideal S4096x1024 .f32) : FVec Ideal S4096x1024 .f32 :=
  mulf (shapeCast _ a5 shapeCasts_S4096x1024_S4096x1024) (broadcastInDim S4096x1024 ![0, 1] bcast_S1x1024_S4096x1024_0_1 a3)

/-- a step of the reference, of the arguments it reads. -/
def R2 (a0 : FVec Ideal S4096x1024 .f32) (a1 : FVec Ideal S4096x1024 .f32) (a2 : FVec Ideal S8x1024 .f32) : FVec Ideal S4096x1024 .f32 :=
  addf (mulf (broadcastInDim S4096x1024 ![] bcast_S_S4096x1024 (constant S_ .f32 0x3FD744FD#32)) a0) (mulf (broadcastInDim S4096x1024 ![0, 1] bcast_S1x1024_S4096x1024_0_1 (addf (broadcastInDim S1x1024 ![] bcast_S_S1x1024 (constant S_ .f32 0x3F800000#32)) (extractStridedSlice S1x1024 ![5, 0] a2 slices_S8x1024_S1x1024_5_0))) a1)

/-- a step of the reference, of the arguments it reads. -/
def R3 (a0 : FVec Ideal S4096x1024 .f32) (a1 : FVec Ideal S4096x1024 .f32) (a2 : FVec Ideal S8x1024 .f32) : FVec Ideal S4096x1024 .f32 :=
  subf (R2 a0 a1 a2) (broadcastInDim S4096x1024 ![0, 1] bcast_S4096x1_S4096x1024_0_1 (Host.divf (broadcastInDim S4096x1 ![0] bcast_S4096_S4096x1_0 (Host.reduceAdd (R2 a0 a1 a2) (constant S_ .f32 0x00000000#32) reducesTo_S4096x1024_S4096_d1 h_S_)) (broadcastInDim S4096x1 ![] bcast_S_S4096x1 (constant S_ .f32 0x44800000#32))))

/-- a step of the reference, of the arguments it reads. -/
def R4 (a0 : FVec Ideal S4096x1024 .f32) (a1 : FVec Ideal S4096x1024 .f32) (a2 : FVec Ideal S8x1024 .f32) : FVec Ideal S4096x1 .f32 :=
  addf (Host.divf (broadcastInDim S4096x1 ![0] bcast_S4096_S4096x1_0 (Host.reduceAdd (mulf (R3 a0 a1 a2) (R3 a0 a1 a2)) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32))

/-- a step of the reference, of the arguments it reads. -/
def R5 (a0 : FVec Ideal S4096x1024 .f32) (a1 : FVec Ideal S4096x1024 .f32) (a2 : FVec Ideal S8x1024 .f32) : FVec Ideal S4096x1 .f32 :=
  Host.rsqrt (R4 a0 a1 a2)

/-- a step of the reference, of the arguments it reads. -/
def R6 (a0 : FVec Ideal S4096x1024 .f32) (a1 : FVec Ideal S4096x1024 .f32) (a2 : FVec Ideal S8x1024 .f32) (a3 : FVec Ideal S1x1024 .f32) (a5 : FVec Ideal S4096x1024 .f32) : FVec Ideal S4096x1024 .f32 :=
  addf (mulf (R1 a3 a5) (broadcastInDim S4096x1024 ![0, 1] bcast_S4096x1_S4096x1024_0_1 (R5 a0 a1 a2))) (mulf (broadcastInDim S4096x1024 ![0] bcast_S4096_S4096x1024_0 (Host.reduceAdd (Host.divf (mulf (shapeCast _ (Host.reduceAdd (mulf (R3 a0 a1 a2) (R1 a3 a5)) (constant S_ .f32 0x00000000#32) reducesTo_S4096x1024_S4096_d1 h_S_) shapeCasts_S4096_S4096x1) (mulf (broadcastInDim S4096x1 ![] bcast_S_S4096x1 (constant S_ .f32 0xBF000000#32)) (Host.divf (R5 a0 a1 a2) (R4 a0 a1 a2)))) (broadcastInDim S4096x1 ![] bcast_S_S4096x1 (constant S_ .f32 0x44800000#32))) (constant S_ .f32 0x00000000#32) reducesTo_S4096x1_S4096_d1 h_S_)) (mulf (broadcastInDim S4096x1024 ![] bcast_S_S4096x1024 (constant S_ .f32 0x40000000#32)) (R3 a0 a1 a2)))

/-- a step of the reference, of the arguments it reads. -/
def R7 (a0 : FVec Ideal S4096x1024 .f32) (a1 : FVec Ideal S4096x1024 .f32) (a2 : FVec Ideal S8x1024 .f32) (a3 : FVec Ideal S1x1024 .f32) (a5 : FVec Ideal S4096x1024 .f32) : FVec Ideal S4096x1024 .f32 :=
  addf (R6 a0 a1 a2 a3 a5) (broadcastInDim S4096x1024 ![0] bcast_S4096_S4096x1024_0 (Host.reduceAdd (Host.divf (shapeCast _ (Host.reduceAdd (Host.negf (R6 a0 a1 a2 a3 a5)) (constant S_ .f32 0x00000000#32) reducesTo_S4096x1024_S4096_d1 h_S_) shapeCasts_S4096_S4096x1) (broadcastInDim S4096x1 ![] bcast_S_S4096x1 (constant S_ .f32 0x44800000#32))) (constant S_ .f32 0x00000000#32) reducesTo_S4096x1_S4096_d1 h_S_))

/-- Result 1 of the reference. -/
abbrev REF_v67 (a0 : FVec Ideal S4096x1024 .f32) (a1 : FVec Ideal S4096x1024 .f32) (a2 : FVec Ideal S8x1024 .f32) (a3 : FVec Ideal S1x1024 .f32) (a5 : FVec Ideal S4096x1024 .f32) : FVec Ideal S4096x1024 .f32 :=
  mulf (broadcastInDim S4096x1024 ![] bcast_S_S4096x1024 (constant S_ .f32 0x3FD744FD#32)) (R7 a0 a1 a2 a3 a5)

/-- Result 2 of the reference. -/
abbrev REF_v68 (a0 : FVec Ideal S4096x1024 .f32) (a1 : FVec Ideal S4096x1024 .f32) (a2 : FVec Ideal S8x1024 .f32) (a3 : FVec Ideal S1x1024 .f32) (a5 : FVec Ideal S4096x1024 .f32) : FVec Ideal S4096x1024 .bf16 :=
  truncf .bf16 (mulf (broadcastInDim S4096x1024 ![0, 1] bcast_S1x1024_S4096x1024_0_1 (addf (broadcastInDim S1x1024 ![] bcast_S_S1x1024 (constant S_ .f32 0x3F800000#32)) (extractStridedSlice S1x1024 ![5, 0] a2 slices_S8x1024_S1x1024_5_0))) (R7 a0 a1 a2 a3 a5)) bitsLt_bf16_f32

/-- Result 3 of the reference. -/
abbrev REF_v65 (a0 : FVec Ideal S4096x1024 .f32) (a1 : FVec Ideal S4096x1024 .f32) (a2 : FVec Ideal S8x1024 .f32) (a3 : FVec Ideal S1x1024 .f32) (a5 : FVec Ideal S4096x1024 .f32) : FVec Ideal S1x1024 .f32 :=
  shapeCast _ (Host.reduceAdd (mulf (R7 a0 a1 a2 a3 a5) a1) (constant S_ .f32 0x00000000#32) reducesTo_S4096x1024_S1024_d0 h_S_) shapeCasts_S1024_S1x1024

/-- Result 4 of the reference. -/
abbrev REF_v38 (a0 : FVec Ideal S4096x1024 .f32) (a1 : FVec Ideal S4096x1024 .f32) (a2 : FVec Ideal S8x1024 .f32) (a5 : FVec Ideal S4096x1024 .f32) : FVec Ideal S1x1024 .f32 :=
  shapeCast _ (Host.reduceAdd (mulf (mulf (subf (addf (mulf (broadcastInDim S4096x1024 ![] bcast_S_S4096x1024 (constant S_ .f32 0x3FD744FD#32)) a0) (mulf (broadcastInDim S4096x1024 ![0, 1] bcast_S1x1024_S4096x1024_0_1 (addf (broadcastInDim S1x1024 ![] bcast_S_S1x1024 (constant S_ .f32 0x3F800000#32)) (extractStridedSlice S1x1024 ![5, 0] a2 slices_S8x1024_S1x1024_5_0))) a1)) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) a0) (mulf (broadcastInDim S4096x1024 ![0, 1] bcast_S1x1024_S4096x1024_0_1 (addf (broadcastInDim S1x1024 ![] bcast_S_S1x1024 (constant S_ .f32 0x3F800000#32)) (extractStridedSlice S1x1024 ![5, 0] a2 slices_S8x1024_S1x1024_5_0))) a1)) (constant S_ .f32 0x00000000#32) reducesTo_S4096x1024_S4096_d1 h_S_)) (broadcastInDim S4096x1 ![] bcast_S_S4096x1 (constant S_ .f32 0x44800000#32))))) (broadcastInDim S4096x1024 ![0, 1] bcast_S4096x1_S4096x1024_0_1 (Host.rsqrt (addf (Host.divf (broadcastInDim S4096x1 ![0] bcast_S4096_S4096x1_0 (Host.reduceAdd (mulf (subf (addf (mulf (broadcastInDim S4096x1024 ![] bcast_S_S4096x1024 (constant S_ .f32 0x3FD744FD#32)) a0) (mulf (broadcastInDim S4096x1024 ![0, 1] bcast_S1x1024_S4096x1024_0_1 (addf (broadcastInDim S1x1024 ![] bcast_S_S1x1024 (constant S_ .f32 0x3F800000#32)) (extractStridedSlice S1x1024 ![5, 0] a2 slices_S8x1024_S1x1024_5_0))) a1)) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) a0) (mulf (broadcastInDim S4096x1024 ![0, 1] bcast_S1x1024_S4096x1024_0_1 (addf (broadcastInDim S1x1024 ![] bcast_S_S1x1024 (constant S_ .f32 0x3F800000#32)) (extractStridedSlice S1x1024 ![5, 0] a2 slices_S8x1024_S1x1024_5_0))) a1)) (constant S_ .f32 0x00000000#32) reducesTo_S4096x1024_S4096_d1 h_S_)) (broadcastInDim S4096x1 ![] bcast_S_S4096x1 (constant S_ .f32 0x44800000#32))))) (subf (addf (mulf (broadcastInDim S4096x1024 ![] bcast_S_S4096x1024 (constant S_ .f32 0x3FD744FD#32)) a0) (mulf (broadcastInDim S4096x1024 ![0, 1] bcast_S1x1024_S4096x1024_0_1 (addf (broadcastInDim S1x1024 ![] bcast_S_S1x1024 (constant S_ .f32 0x3F800000#32)) (extractStridedSlice S1x1024 ![5, 0] a2 slices_S8x1024_S1x1024_5_0))) a1)) (broadcastInDim S4096x1024 ![0, 1] bcast_S4096x1_S4096x1024_0_1 (Host.divf (broadcastInDim S4096x1 ![0] bcast_S4096_S4096x1_0 (Host.reduceAdd (addf (mulf (broadcastInDim S4096x1024 ![] bcast_S_S4096x1024 (constant S_ .f32 0x3FD744FD#32)) a0) (mulf (broadcastInDim S4096x1024 ![0, 1] bcast_S1x1024_S4096x1024_0_1 (addf (broadcastInDim S1x1024 ![] bcast_S_S1x1024 (constant S_ .f32 0x3F800000#32)) (extractStridedSlice S1x1024 ![5, 0] a2 slices_S8x1024_S1x1024_5_0))) a1)) (constant S_ .f32 0x00000000#32) reducesTo_S4096x1024_S4096_d1 h_S_)) (broadcastInDim S4096x1 ![] bcast_S_S4096x1 (constant S_ .f32 0x44800000#32)))))) (constant S_ .f32 0x00000000#32) reducesTo_S4096x1024_S4096_d1 h_S_)) (broadcastInDim S4096x1 ![] bcast_S_S4096x1 (constant S_ .f32 0x44800000#32))) (broadcastInDim S4096x1 ![] bcast_S_S4096x1 (constant S_ .f32 0x3727C5AC#32)))))) (shapeCast _ a5 shapeCasts_S4096x1024_S4096x1024)) (constant S_ .f32 0x00000000#32) reducesTo_S4096x1024_S1024_d0 h_S_) shapeCasts_S1024_S1x1024

/-- Result 5 of the reference. -/
abbrev REF_v35 (a5 : FVec Ideal S4096x1024 .f32) : FVec Ideal S1x1024 .f32 :=
  shapeCast _ (Host.reduceAdd a5 (constant S_ .f32 0x00000000#32) reducesTo_S4096x1024_S1024_d0 h_S_) shapeCasts_S1024_S1x1024

/-- the result in its steps. -/
theorem REF_v67_eq (a0 : FVec Ideal S4096x1024 .f32) (a1 : FVec Ideal S4096x1024 .f32) (a2 : FVec Ideal S8x1024 .f32) (a3 : FVec Ideal S1x1024 .f32) (a5 : FVec Ideal S4096x1024 .f32) : REF_v67 a0 a1 a2 a3 a5 =
    mulf (broadcastInDim S4096x1024 ![] bcast_S_S4096x1024 (constant S_ .f32 0x3FD744FD#32)) (R7 a0 a1 a2 a3 a5) := rfl

/-- the result in its steps. -/
theorem REF_v68_eq (a0 : FVec Ideal S4096x1024 .f32) (a1 : FVec Ideal S4096x1024 .f32) (a2 : FVec Ideal S8x1024 .f32) (a3 : FVec Ideal S1x1024 .f32) (a5 : FVec Ideal S4096x1024 .f32) : REF_v68 a0 a1 a2 a3 a5 =
    truncf .bf16 (mulf (broadcastInDim S4096x1024 ![0, 1] bcast_S1x1024_S4096x1024_0_1 (addf (broadcastInDim S1x1024 ![] bcast_S_S1x1024 (constant S_ .f32 0x3F800000#32)) (extractStridedSlice S1x1024 ![5, 0] a2 slices_S8x1024_S1x1024_5_0))) (R7 a0 a1 a2 a3 a5)) bitsLt_bf16_f32 := rfl

/-- the result in its steps. -/
theorem REF_v65_eq (a0 : FVec Ideal S4096x1024 .f32) (a1 : FVec Ideal S4096x1024 .f32) (a2 : FVec Ideal S8x1024 .f32) (a3 : FVec Ideal S1x1024 .f32) (a5 : FVec Ideal S4096x1024 .f32) : REF_v65 a0 a1 a2 a3 a5 =
    shapeCast _ (Host.reduceAdd (mulf (R7 a0 a1 a2 a3 a5) a1) (constant S_ .f32 0x00000000#32) reducesTo_S4096x1024_S1024_d0 h_S_) shapeCasts_S1024_S1x1024 := rfl

end Cert.PostBRefIdeal.Value

end
-- ==== Proof.PostBVal.lean ====
/- What the arrays of `PostBIdeal` hold after the run, against the reference. -/
module

public import proofs.«01_k».proof.Proof.Gen.PostBIdeal.Frame
public import proofs.«01_k».proof.Proof.PostBRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.PostBIdeal.Value

open Cert.PostBIdeal Cert.PostBIdeal.Gen Cert.PostBRefIdeal.Value

variable (m : (ℓ : Loc nD τ sig) → Buf (Elt Ideal) ℓ)

/-- every window's block index at every grid point, in closed form (decided). -/
theorem idx : ∀ t : Fin cfg0.N, win0_0.index t = ![(grid0.coords t 0).val, 0]
    ∧ win0_1.index t = ![(grid0.coords t 0).val, 0]
    ∧ win0_2.index t = ![0, 0]
    ∧ win0_3.index t = ![0, 0]
    ∧ win0_4.index t = ![0, 0]
    ∧ win0_5.index t = ![(grid0.coords t 0).val, 0]
    ∧ win0_6.index t = ![(grid0.coords t 0).val, 0]
    ∧ win0_7.index t = ![(grid0.coords t 0).val, 0]
    ∧ win0_8.index t = ![0, 0]
    ∧ win0_9.index t = ![0, 0]
    ∧ win0_10.index t = ![0, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![t.val, 0]
    ∧ win0_2.index t = ![0, 0]
    ∧ win0_3.index t = ![0, 0]
    ∧ win0_4.index t = ![0, 0]
    ∧ win0_5.index t = ![t.val, 0]
    ∧ win0_6.index t = ![t.val, 0]
    ∧ win0_7.index t = ![t.val, 0]
    ∧ win0_8.index t = ![0, 0]
    ∧ win0_9.index t = ![0, 0]
    ∧ win0_10.index t = ![0, 0] :=
  (by decide +kernel : ∀ t : Fin grid0.N, _)

/-- the row of the whole array at which row `r` of the block of point `t` sits. -/
def row (t : Fin cfg0.N) (r : Fin 512) : Fin 4096 := ⟨t.val * 512 + r.val, by have := t.isLt; have h : cfg0.N = 8 := N_0; omega⟩

/-- the centred entries of a row of a block are the reference's. -/
theorem d_eq (c : Dev nD) (t : Fin cfg0.N) (v5 : Vec Ideal S1x1024 .f32) (h5 : ∀ x, v5 (ix2 0 x) = (m ((c : Thread nD τ).loc main_arg2)) (ix2 5 x)) (r : Fin 512) (x : Fin 1024) :
    k0_pay8 (iblk m c 0 t) (iblk m c 1 t) v5 (ix2 r x) = R3 (m ((c : Thread nD τ).loc main_arg0)) (m ((c : Thread nD τ).loc main_arg1)) (m ((c : Thread nD τ).loc main_arg2)) (ix2 (row t r) x) := by
  pointwise [k0_pay8, k0_pay7, R3, R2, h5]; blk_point [iblk, V, idx_val t, row]

/-- so is the shifted variance of a row. -/
theorem v_eq (c : Dev nD) (t : Fin cfg0.N) (v5 : Vec Ideal S1x1024 .f32) (h5 : ∀ x, v5 (ix2 0 x) = (m ((c : Thread nD τ).loc main_arg2)) (ix2 5 x)) (r : Fin 512) :
    k0_pay9 (iblk m c 0 t) (iblk m c 1 t) v5 (ix2 r 0) = R4 (m ((c : Thread nD τ).loc main_arg0)) (m ((c : Thread nD τ).loc main_arg1)) (m ((c : Thread nD τ).loc main_arg2)) (ix2 (row t r) 0) := by
  pointwise [k0_pay9, R4, d_eq m c t v5 h5]

/-- its inverse root. -/
theorem q_eq (c : Dev nD) (t : Fin cfg0.N) (v5 : Vec Ideal S1x1024 .f32) (h5 : ∀ x, v5 (ix2 0 x) = (m ((c : Thread nD τ).loc main_arg2)) (ix2 5 x)) (r : Fin 512) :
    k0_pay10 (iblk m c 0 t) (iblk m c 1 t) v5 (ix2 r 0) = R5 (m ((c : Thread nD τ).loc main_arg0)) (m ((c : Thread nD τ).loc main_arg1)) (m ((c : Thread nD τ).loc main_arg2)) (ix2 (row t r) 0) := by
  pointwise [k0_pay10, R5, v_eq m c t v5 h5]

/-- the gradient of the normalised sum along a row, as one formula of the row. -/
def G (d : Fin 1024 → EReal) (q s : EReal) (g : Fin 1024 → EReal) (x : Fin 1024) : EReal :=
  let e := Ideal.div ((∑ k, d k * g k) * s) (Ideal.ofBits .f32 0x44800000#32)
  let A := fun k => g k * q + d k * e + e * d k
  A x + Ideal.div (∑ k, -A k) (Ideal.ofBits .f32 0x44800000#32)

/-- the kernel's gradient is that formula of the block's row. -/
theorem pay16_eq (v6 : Vec Ideal S1x1024 .f32) (v19 : FVec Ideal S512x1024 .f32) (v27 v30 : FVec Ideal S512x1 .f32)
    (v34 : FVec Ideal S512x1024 .f32) (r : Fin 512) (x : Fin 1024) :
    k0_pay16 v6 v19 v27 v30 v34 (ix2 r x) = G (fun k => v19 (ix2 r k)) (v27 (ix2 r 0)) (v30 (ix2 r 0))
      (fun k => v34 (ix2 r k) * v6 (ix2 0 k)) x := by
  pointwise [k0_pay16, G]
  simp

/-- the gradient of a square: twice the product is the sum of the two. -/
theorem two_mul_eq (a e d : EReal) : a + e * (Ideal.ofBits .f32 0x40000000#32 * d) = a + d * e + e * d := by
  have h2 : Ideal.ofBits .f32 0x40000000#32 = (1 : EReal) + 1 := by
    rw [show (1 : EReal) + 1 = ((2 : ℝ) : EReal) by rw [one_add_one_eq_two]; rfl]
    simp [Ideal.ofBits, Ideal.ieee, -EReal.coe_mul]; norm_num
  rw [h2, mul_left_comm, EReal.right_distrib_of_nonneg zero_le_one zero_le_one, one_mul, add_assoc, mul_comm d e]

/-- the reference's gradient is that formula of the array's row. -/
theorem R7_eq (a0 a1 : FVec Ideal S4096x1024 .f32) (a2 : FVec Ideal S8x1024 .f32) (a3 : FVec Ideal S1x1024 .f32) (a5 : FVec Ideal S4096x1024 .f32)
    (r : Fin 4096) (x : Fin 1024) :
    R7 a0 a1 a2 a3 a5 (ix2 r x) = G (fun k => R3 a0 a1 a2 (ix2 r k)) (R5 a0 a1 a2 (ix2 r 0))
      (Ideal.ofBits .f32 0xBF000000#32 * Ideal.div (R5 a0 a1 a2 (ix2 r 0)) (R4 a0 a1 a2 (ix2 r 0)))
      (fun k => a5 (ix2 r k) * a3 (ix2 0 k)) x := by
  pointwise [R7, R6, R1, G]
  simp only [two_mul_eq]
  simp

/-- the gradient arriving at a row, as the block holds it. -/
theorem g_eq (c : Dev nD) (t : Fin cfg0.N) (r : Fin 512) (x : Fin 1024) :
    k0_pay13 (iblk m c 5 t) (ix2 r x) = (m ((c : Thread nD τ).loc main_arg5)) (ix2 (row t r) x) := by
  pointwise [k0_pay13]; blk_point [iblk, V, idx_val t, row]

/-- the gain, as the block holds it. -/
theorem w_eq (c : Dev nD) (t : Fin cfg0.N) (x : Fin 1024) : iblk m c 3 t (ix2 0 x) = (m ((c : Thread nD τ).loc main_arg3)) (ix2 0 x) := by
  blk_point [iblk, V, idx_val t]

/-- the gradient of the normalised sum: the kernel's block is the reference's rows. -/
theorem core (c : Dev nD) (t : Fin cfg0.N) (v5 : Vec Ideal S1x1024 .f32) (h5 : ∀ x, v5 (ix2 0 x) = (m ((c : Thread nD τ).loc main_arg2)) (ix2 5 x)) (r : Fin 512) (x : Fin 1024) :
    k0_pay16 (iblk m c 3 t) (k0_pay8 (iblk m c 0 t) (iblk m c 1 t) v5) (k0_pay10 (iblk m c 0 t) (iblk m c 1 t) v5)
      (k0_pay11 (iblk m c 0 t) (iblk m c 1 t) v5) (k0_pay13 (iblk m c 5 t)) (ix2 r x)
      = R7 (m ((c : Thread nD τ).loc main_arg0)) (m ((c : Thread nD τ).loc main_arg1)) (m ((c : Thread nD τ).loc main_arg2)) (m ((c : Thread nD τ).loc main_arg3)) (m ((c : Thread nD τ).loc main_arg5)) (ix2 (row t r) x) := by
  have hs : k0_pay11 (iblk m c 0 t) (iblk m c 1 t) v5 (ix2 r 0) = Ideal.ofBits .f32 0xBF000000#32 * Ideal.div (R5 (m ((c : Thread nD τ).loc main_arg0)) (m ((c : Thread nD τ).loc main_arg1)) (m ((c : Thread nD τ).loc main_arg2)) (ix2 (row t r) 0)) (R4 (m ((c : Thread nD τ).loc main_arg0)) (m ((c : Thread nD τ).loc main_arg1)) (m ((c : Thread nD τ).loc main_arg2)) (ix2 (row t r) 0)) := by
    pointwise [k0_pay11, q_eq m c t v5 h5, v_eq m c t v5 h5]
  rw [pay16_eq, R7_eq, hs, q_eq m c t v5 h5]
  simp only [d_eq m c t v5 h5, g_eq, w_eq]

/-- the gate's row, as the body loads it. -/
abbrev v5 (c : Dev nD) (t : Fin cfg0.N) : Vec Ideal S1x1024 .f32 :=
  View.ld (iblk m c 2 t) (Rect.unit ![5, 0] ![1, 1024] inb_S8x1024_S1x1024_5_0)

theorem h5 (c : Dev nD) (t : Fin cfg0.N) (x : Fin 1024) : v5 m c t (ix2 0 x) = (m ((c : Thread nD τ).loc main_arg2)) (ix2 5 x) := by
  pointwise [v5]; blk_point [iblk, V, idx_val t]

/-- where an index of a block of window 6 sits in the whole array. -/
theorem emb_6 (f : FVec Ideal S4096x1024 .f32) (t : Fin cfg0.N) (y : S512x1024.Idx) :
    f (((cfg0.win 6).blk t).view.emb y) = f (ix2 (row t (y 0)) (y 1)) := by
  blk_point [idx_val t, row]

/-- where an index of a block of window 7 sits in the whole array. -/
theorem emb_7 (f : FVec Ideal S4096x1024 .bf16) (t : Fin cfg0.N) (y : S512x1024.Idx) :
    f (((cfg0.win 7).blk t).view.emb y) = f (ix2 (row t (y 0)) (y 1)) := by
  blk_point [idx_val t, row]

/-- POINT of the gradient of the input. -/
theorem point_6 (c : Dev nD) (t : Fin cfg0.N) (y) :
    k0_pay18 (iblk m c 3 t) (k0_pay8 (iblk m c 0 t) (iblk m c 1 t) (v5 m c t)) (k0_pay10 (iblk m c 0 t) (iblk m c 1 t) (v5 m c t)) (k0_pay11 (iblk m c 0 t) (iblk m c 1 t) (v5 m c t)) (k0_pay13 (iblk m c 5 t)) y = REF_v67 (m ((c : Thread nD τ).loc main_arg0)) (m ((c : Thread nD τ).loc main_arg1)) (m ((c : Thread nD τ).loc main_arg2)) (m ((c : Thread nD τ).loc main_arg3)) (m ((c : Thread nD τ).loc main_arg5)) (((cfg0.win 6).blk t).view.emb y) := by
  refine Eq.trans ?_ (emb_6 _ t y).symm
  rw [REF_v67_eq]
  pointwise [k0_pay18]
  exact congrArg (_ * ·) ((congrArg _ (eq_ix2 y)).trans (core m c t _ (h5 m c t) (y 0) (y 1)))

/-- POINT of the gradient of the branch. -/
theorem point_7 (c : Dev nD) (t : Fin cfg0.N) (y) :
    k0_pay19 (iblk m c 3 t) (k0_pay7 (v5 m c t)) (k0_pay8 (iblk m c 0 t) (iblk m c 1 t) (v5 m c t)) (k0_pay10 (iblk m c 0 t) (iblk m c 1 t) (v5 m c t)) (k0_pay11 (iblk m c 0 t) (iblk m c 1 t) (v5 m c t)) (k0_pay13 (iblk m c 5 t)) y
      = REF_v68 (m ((c : Thread nD τ).loc main_arg0)) (m ((c : Thread nD τ).loc main_arg1)) (m ((c : Thread nD τ).loc main_arg2)) (m ((c : Thread nD τ).loc main_arg3)) (m ((c : Thread nD τ).loc main_arg5)) (((cfg0.win 7).blk t).view.emb y) := by
  refine Eq.trans ?_ (emb_7 _ t y).symm
  rw [REF_v68_eq]
  pointwise [k0_pay19, k0_pay7, h5 m c t]
  exact congrArg (_ * ·) ((congrArg _ (eq_ix2 y)).trans (core m c t _ (h5 m c t) (y 0) (y 1)))

/-- BRIDGE: the result array after the run (the blocks tile the array). -/
theorem final_6 (c : Dev nD) : (dats m 0 c).arrAt 6 (cfgs 0).N = REF_v67 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 6 _ (by decide +kernel) fun t hf y => ?_
  blk_simp; rw [after0_6]
  by_cases h : t.val % 8 = 0
  · rw [outsAt0_A m c t h]; dsimp only; frame_out; exact point_6 m c t y
  · rw [outsAt0_B m c t h]; dsimp only; frame_out; exact point_6 m c t y

/-- BRIDGE: the result array after the run (the blocks tile the array). -/
theorem final_7 (c : Dev nD) : (dats m 0 c).arrAt 7 (cfgs 0).N = REF_v68 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_covers 7 _ (by decide +kernel) fun t hf y => ?_
  blk_simp; rw [after0_7]
  by_cases h : t.val % 8 = 0
  · rw [outsAt0_A m c t h]; dsimp only; frame_out; exact point_7 m c t y
  · rw [outsAt0_B m c t h]; dsimp only; frame_out; exact point_7 m c t y

/-- the zero fill. -/
theorem hzero_8 (j : S1x1024.Idx) : k0_pay4 (F := Ideal) j = 0 := by
  pointwise! [k0_pay4]

/-- the accumulating payload = what the buffer held + its part. -/
theorem hpay_8 (v71 : FVec Ideal S1x1024 .f32) (v77 : Vec Ideal S1x1024 .f32) (j : S1x1024.Idx) :
    k0_pay1 v71 (k0_pay20 v77) j = v77 j + v71 j := by
  pointwise [k0_pay1, k0_pay20]

/-- BRIDGE + the accumulation as ONE `Fin`-indexed sum (no induction, no `term`, no `outs_eq`). -/
theorem final_8 (c : Dev nD) : (dats m 0 c).arrAt 8 (cfgs 0).N = REF_v65 (m ((c : Thread nD τ).loc main_arg0)) (m ((c : Thread nD τ).loc main_arg1)) (m ((c : Thread nD τ).loc main_arg2)) (m ((c : Thread nD τ).loc main_arg3)) (m ((c : Thread nD τ).loc main_arg5)) := by
  refine (dats m 0 c).arrAt_eq_of_after_last 8 t0_7 (by decide +kernel) _ fun j => ?_
  blk_simp
  rw [after0_8, Pipeline.eq_sum_fin_of_reset_step_apply_last (fun n h => (outsAt0 m c n h).2.2.1) 8 (fun _ => 0) _
    (fun t h j => by rw [outsAt0_A m c t h]; frame_out; rw [hpay_8, hzero_8])
    (fun t h j => by rw [outsAt0_B m c t h]; frame_out; rw [hpay_8])
    (le_of_eq N_0) t0_7 rfl j, zero_add]
  rw [REF_v65_eq]
  pointwise [k0_pay17]
  refine Fin.sum_mul_add_congr fun t k hl => ?_
  refine congrArg₂ (· * ·) (core m c t _ (h5 m c t) k (j 1)) ?_
  blk_point [iblk, V, idx_val t, row]

/-- the zero fill. -/
theorem hzero_9 (j : S1x1024.Idx) : k0_pay5 (F := Ideal) j = 0 := by
  pointwise! [k0_pay5]

/-- the accumulating payload = what the buffer held + its part (the payload at a ZERO accumulator -/
theorem hpay_9 (v39 : FVec Ideal S1x1024 .f32) (v81 : Vec Ideal S1x1024 .f32) (j : S1x1024.Idx) :
    k0_pay2 v39 v81 j = v81 j + k0_pay2 v39 (fun _ => 0) j := by
  pointwise [k0_pay2]

/-- BRIDGE + the accumulation as ONE `Fin`-indexed sum (no induction, no `term`, no `outs_eq`). -/
theorem final_9 (c : Dev nD) : (dats m 0 c).arrAt 9 (cfgs 0).N = REF_v38 (m ((c : Thread nD τ).loc main_arg0)) (m ((c : Thread nD τ).loc main_arg1)) (m ((c : Thread nD τ).loc main_arg2)) (m ((c : Thread nD τ).loc main_arg5)) := by
  refine (dats m 0 c).arrAt_eq_of_after_last 9 t0_7 (by decide +kernel) _ fun j => ?_
  blk_simp
  rw [after0_9, Pipeline.eq_sum_fin_of_reset_step_apply_last (fun n h => (outsAt0 m c n h).2.2.2.1) 8 (fun _ => 0) _
    (fun t h j => by rw [outsAt0_A m c t h]; frame_out; rw [hpay_9, hzero_9])
    (fun t h j => by rw [outsAt0_B m c t h]; frame_out; rw [hpay_9])
    (le_of_eq N_0) t0_7 rfl j, zero_add]
  pointwise [k0_pay2, k0_pay1, k0_pay3, k0_pay7, k0_pay8, k0_pay9, k0_pay10, k0_pay11, k0_pay12, k0_pay13, k0_pay14, k0_pay15, k0_pay16, k0_pay17, k0_pay18, k0_pay19, k0_pay20, REF_v38]; refine Fin.sum_mul_add_congr fun t k hl => ?_; blk_point [iblk, V, idx_val t]

/-- the zero fill. -/
theorem hzero_10 (j : S1x1024.Idx) : k0_pay6 (F := Ideal) j = 0 := by
  pointwise! [k0_pay6]

/-- the accumulating payload = what the buffer held + its part (the payload at a ZERO accumulator -/
theorem hpay_10 (v36 : FVec Ideal S1x1024 .f32) (v85 : Vec Ideal S1x1024 .f32) (j : S1x1024.Idx) :
    k0_pay3 v36 v85 j = v85 j + k0_pay3 v36 (fun _ => 0) j := by
  pointwise [k0_pay3]

/-- BRIDGE + the accumulation as ONE `Fin`-indexed sum (no induction, no `term`, no `outs_eq`). -/
theorem final_10 (c : Dev nD) : (dats m 0 c).arrAt 10 (cfgs 0).N = REF_v35 (m ((c : Thread nD τ).loc main_arg5)) := by
  refine (dats m 0 c).arrAt_eq_of_after_last 10 t0_7 (by decide +kernel) _ fun j => ?_
  blk_simp
  rw [after0_10, Pipeline.eq_sum_fin_of_reset_step_apply_last (fun n h => (outsAt0 m c n h).2.2.2.2) 8 (fun _ => 0) _
    (fun t h j => by rw [outsAt0_A m c t h]; frame_out; rw [hpay_10, hzero_10])
    (fun t h j => by rw [outsAt0_B m c t h]; frame_out; rw [hpay_10])
    (le_of_eq N_0) t0_7 rfl j, zero_add]
  pointwise [k0_pay3, k0_pay1, k0_pay2, k0_pay7, k0_pay8, k0_pay9, k0_pay10, k0_pay11, k0_pay12, k0_pay13, k0_pay14, k0_pay15, k0_pay16, k0_pay17, k0_pay18, k0_pay19, k0_pay20, REF_v35]; refine Fin.sum_mul_add_congr fun t k hl => ?_; blk_point [iblk, V, idx_val t]

end Cert.PostBIdeal.Value

end
-- ==== Proof.PostBClaim.lean ====
/- The claims about `PostB`: its frames, and that the kernel over the extended reals computes its reference. -/
module

public import proofs.«01_k».proof.Defs
public import proofs.«01_k».proof.Proof.Gen.PostB.Frame
public import proofs.«01_k».proof.Proof.Gen.PostBIdeal.Frame
public import proofs.«01_k».proof.Proof.Gen.PostBIdeal.Value
public import proofs.«01_k».proof.Proof.Gen.PostBRefIdeal.Run
public import proofs.«01_k».proof.Proof.PostBVal

@[expose] public section

set_option maxRecDepth 16384

noncomputable section

namespace Cert.PostBClaim

open Idealize.ShloMosaic Idealize.SL.Sem

/-- the program over the machine's floats runs and leaves its arguments. -/
theorem frame : Cert.quiescent_PostB := fun m ρ _ => Cert.PostB.Gen.frame m ρ

/-- so does the program over the extended reals. -/
theorem frame_ideal : Cert.quiescent_PostBIdeal := fun m ρ _ => Cert.PostBIdeal.Gen.frame m ρ

/-- so does the reference. -/
theorem frame_ref : Cert.quiescent_PostBRefIdeal := by
  intro m g _
  exact (θ_run Cert.PostBRefIdeal.defs _ _).mono (fun r h => ⟨fun c => (h c).2.2.2.2.2, sem_eq_zero_of_no_sems (by decide) r.2⟩)
    (Cert.PostBRefIdeal.Value.run (F := Ideal) m g)

/-- a result of the kernel is the reference's, of equal arguments. -/
theorem eq_REF_v67 (m : (ℓ : Loc Cert.PostBIdeal.nD Cert.PostBIdeal.τ Cert.PostBIdeal.sig) → Buf (Elt Ideal) ℓ) (c : Dev Cert.PostBIdeal.nD)
    (a0 : Buf (Elt Ideal) ((c.tc : Thread Cert.PostBRefIdeal.nD Cert.PostBRefIdeal.τ).loc Cert.PostBRefIdeal.main_arg0)) (h0 : a0 = m ((c.tc : Thread Cert.PostBIdeal.nD Cert.PostBIdeal.τ).loc Cert.PostBIdeal.main_arg0))
    (a1 : Buf (Elt Ideal) ((c.tc : Thread Cert.PostBRefIdeal.nD Cert.PostBRefIdeal.τ).loc Cert.PostBRefIdeal.main_arg1)) (h1 : a1 = m ((c.tc : Thread Cert.PostBIdeal.nD Cert.PostBIdeal.τ).loc Cert.PostBIdeal.main_arg1))
    (a2 : Buf (Elt Ideal) ((c.tc : Thread Cert.PostBRefIdeal.nD Cert.PostBRefIdeal.τ).loc Cert.PostBRefIdeal.main_arg2)) (h2 : a2 = m ((c.tc : Thread Cert.PostBIdeal.nD Cert.PostBIdeal.τ).loc Cert.PostBIdeal.main_arg2))
    (a3 : Buf (Elt Ideal) ((c.tc : Thread Cert.PostBRefIdeal.nD Cert.PostBRefIdeal.τ).loc Cert.PostBRefIdeal.main_arg3)) (h3 : a3 = m ((c.tc : Thread Cert.PostBIdeal.nD Cert.PostBIdeal.τ).loc Cert.PostBIdeal.main_arg3))
    (a5 : Buf (Elt Ideal) ((c.tc : Thread Cert.PostBRefIdeal.nD Cert.PostBRefIdeal.τ).loc Cert.PostBRefIdeal.main_arg5)) (h5 : a5 = m ((c.tc : Thread Cert.PostBIdeal.nD Cert.PostBIdeal.τ).loc Cert.PostBIdeal.main_arg5))
    : Cert.PostBRefIdeal.Value.REF_v67 a0 a1 a2 a3 a5 = (Cert.PostBIdeal.Gen.dats m 0 c).arrAt 6 (Cert.PostBIdeal.cfgs 0).N := by
  rw [Cert.PostBIdeal.Value.final_6 m c]
  subst h0 h1 h2 h3 h5
  rfl

/-- a result of the kernel is the reference's, of equal arguments. -/
theorem eq_REF_v68 (m : (ℓ : Loc Cert.PostBIdeal.nD Cert.PostBIdeal.τ Cert.PostBIdeal.sig) → Buf (Elt Ideal) ℓ) (c : Dev Cert.PostBIdeal.nD)
    (a0 : Buf (Elt Ideal) ((c.tc : Thread Cert.PostBRefIdeal.nD Cert.PostBRefIdeal.τ).loc Cert.PostBRefIdeal.main_arg0)) (h0 : a0 = m ((c.tc : Thread Cert.PostBIdeal.nD Cert.PostBIdeal.τ).loc Cert.PostBIdeal.main_arg0))
    (a1 : Buf (Elt Ideal) ((c.tc : Thread Cert.PostBRefIdeal.nD Cert.PostBRefIdeal.τ).loc Cert.PostBRefIdeal.main_arg1)) (h1 : a1 = m ((c.tc : Thread Cert.PostBIdeal.nD Cert.PostBIdeal.τ).loc Cert.PostBIdeal.main_arg1))
    (a2 : Buf (Elt Ideal) ((c.tc : Thread Cert.PostBRefIdeal.nD Cert.PostBRefIdeal.τ).loc Cert.PostBRefIdeal.main_arg2)) (h2 : a2 = m ((c.tc : Thread Cert.PostBIdeal.nD Cert.PostBIdeal.τ).loc Cert.PostBIdeal.main_arg2))
    (a3 : Buf (Elt Ideal) ((c.tc : Thread Cert.PostBRefIdeal.nD Cert.PostBRefIdeal.τ).loc Cert.PostBRefIdeal.main_arg3)) (h3 : a3 = m ((c.tc : Thread Cert.PostBIdeal.nD Cert.PostBIdeal.τ).loc Cert.PostBIdeal.main_arg3))
    (a5 : Buf (Elt Ideal) ((c.tc : Thread Cert.PostBRefIdeal.nD Cert.PostBRefIdeal.τ).loc Cert.PostBRefIdeal.main_arg5)) (h5 : a5 = m ((c.tc : Thread Cert.PostBIdeal.nD Cert.PostBIdeal.τ).loc Cert.PostBIdeal.main_arg5))
    : Cert.PostBRefIdeal.Value.REF_v68 a0 a1 a2 a3 a5 = (Cert.PostBIdeal.Gen.dats m 0 c).arrAt 7 (Cert.PostBIdeal.cfgs 0).N := by
  rw [Cert.PostBIdeal.Value.final_7 m c]
  subst h0 h1 h2 h3 h5
  rfl

/-- a result of the kernel is the reference's, of equal arguments. -/
theorem eq_REF_v65 (m : (ℓ : Loc Cert.PostBIdeal.nD Cert.PostBIdeal.τ Cert.PostBIdeal.sig) → Buf (Elt Ideal) ℓ) (c : Dev Cert.PostBIdeal.nD)
    (a0 : Buf (Elt Ideal) ((c.tc : Thread Cert.PostBRefIdeal.nD Cert.PostBRefIdeal.τ).loc Cert.PostBRefIdeal.main_arg0)) (h0 : a0 = m ((c.tc : Thread Cert.PostBIdeal.nD Cert.PostBIdeal.τ).loc Cert.PostBIdeal.main_arg0))
    (a1 : Buf (Elt Ideal) ((c.tc : Thread Cert.PostBRefIdeal.nD Cert.PostBRefIdeal.τ).loc Cert.PostBRefIdeal.main_arg1)) (h1 : a1 = m ((c.tc : Thread Cert.PostBIdeal.nD Cert.PostBIdeal.τ).loc Cert.PostBIdeal.main_arg1))
    (a2 : Buf (Elt Ideal) ((c.tc : Thread Cert.PostBRefIdeal.nD Cert.PostBRefIdeal.τ).loc Cert.PostBRefIdeal.main_arg2)) (h2 : a2 = m ((c.tc : Thread Cert.PostBIdeal.nD Cert.PostBIdeal.τ).loc Cert.PostBIdeal.main_arg2))
    (a3 : Buf (Elt Ideal) ((c.tc : Thread Cert.PostBRefIdeal.nD Cert.PostBRefIdeal.τ).loc Cert.PostBRefIdeal.main_arg3)) (h3 : a3 = m ((c.tc : Thread Cert.PostBIdeal.nD Cert.PostBIdeal.τ).loc Cert.PostBIdeal.main_arg3))
    (a5 : Buf (Elt Ideal) ((c.tc : Thread Cert.PostBRefIdeal.nD Cert.PostBRefIdeal.τ).loc Cert.PostBRefIdeal.main_arg5)) (h5 : a5 = m ((c.tc : Thread Cert.PostBIdeal.nD Cert.PostBIdeal.τ).loc Cert.PostBIdeal.main_arg5))
    : Cert.PostBRefIdeal.Value.REF_v65 a0 a1 a2 a3 a5 = (Cert.PostBIdeal.Gen.dats m 0 c).arrAt 8 (Cert.PostBIdeal.cfgs 0).N := by
  rw [Cert.PostBIdeal.Value.final_8 m c]
  subst h0 h1 h2 h3 h5
  rfl

/-- a result of the kernel is the reference's, of equal arguments. -/
theorem eq_REF_v38 (m : (ℓ : Loc Cert.PostBIdeal.nD Cert.PostBIdeal.τ Cert.PostBIdeal.sig) → Buf (Elt Ideal) ℓ) (c : Dev Cert.PostBIdeal.nD)
    (a0 : Buf (Elt Ideal) ((c.tc : Thread Cert.PostBRefIdeal.nD Cert.PostBRefIdeal.τ).loc Cert.PostBRefIdeal.main_arg0)) (h0 : a0 = m ((c.tc : Thread Cert.PostBIdeal.nD Cert.PostBIdeal.τ).loc Cert.PostBIdeal.main_arg0))
    (a1 : Buf (Elt Ideal) ((c.tc : Thread Cert.PostBRefIdeal.nD Cert.PostBRefIdeal.τ).loc Cert.PostBRefIdeal.main_arg1)) (h1 : a1 = m ((c.tc : Thread Cert.PostBIdeal.nD Cert.PostBIdeal.τ).loc Cert.PostBIdeal.main_arg1))
    (a2 : Buf (Elt Ideal) ((c.tc : Thread Cert.PostBRefIdeal.nD Cert.PostBRefIdeal.τ).loc Cert.PostBRefIdeal.main_arg2)) (h2 : a2 = m ((c.tc : Thread Cert.PostBIdeal.nD Cert.PostBIdeal.τ).loc Cert.PostBIdeal.main_arg2))
    (a5 : Buf (Elt Ideal) ((c.tc : Thread Cert.PostBRefIdeal.nD Cert.PostBRefIdeal.τ).loc Cert.PostBRefIdeal.main_arg5)) (h5 : a5 = m ((c.tc : Thread Cert.PostBIdeal.nD Cert.PostBIdeal.τ).loc Cert.PostBIdeal.main_arg5))
    : Cert.PostBRefIdeal.Value.REF_v38 a0 a1 a2 a5 = (Cert.PostBIdeal.Gen.dats m 0 c).arrAt 9 (Cert.PostBIdeal.cfgs 0).N := by
  rw [Cert.PostBIdeal.Value.final_9 m c]
  subst h0 h1 h2 h5
  rfl

/-- a result of the kernel is the reference's, of equal arguments. -/
theorem eq_REF_v35 (m : (ℓ : Loc Cert.PostBIdeal.nD Cert.PostBIdeal.τ Cert.PostBIdeal.sig) → Buf (Elt Ideal) ℓ) (c : Dev Cert.PostBIdeal.nD)
    (a5 : Buf (Elt Ideal) ((c.tc : Thread Cert.PostBRefIdeal.nD Cert.PostBRefIdeal.τ).loc Cert.PostBRefIdeal.main_arg5)) (h5 : a5 = m ((c.tc : Thread Cert.PostBIdeal.nD Cert.PostBIdeal.τ).loc Cert.PostBIdeal.main_arg5))
    : Cert.PostBRefIdeal.Value.REF_v35 a5 = (Cert.PostBIdeal.Gen.dats m 0 c).arrAt 10 (Cert.PostBIdeal.cfgs 0).N := by
  rw [Cert.PostBIdeal.Value.final_10 m c]
  subst h5
  rfl

/-- over the extended reals the kernel's results are the reference's, whatever the arguments. -/
theorem algebraic : Cert.algebraic_PostBIdeal_PostBRefIdeal := by
  intro m g m' g' _ hag
  refine ⟨_, _, _, _, _, Cert.PostBIdeal.Value.run_blocks m g, ?_⟩
  refine (θ_run Cert.PostBRefIdeal.defs _ _).mono (fun r h c => ?_) (Cert.PostBRefIdeal.Value.run (F := Ideal) m' g')
  exact ⟨(h c).1.trans (eq_REF_v67 m c _ (hag c).1 _ (hag c).2.1 _ (hag c).2.2.1 _ (hag c).2.2.2.1 _ (hag c).2.2.2.2.2),
    (h c).2.1.trans (eq_REF_v68 m c _ (hag c).1 _ (hag c).2.1 _ (hag c).2.2.1 _ (hag c).2.2.2.1 _ (hag c).2.2.2.2.2),
    (h c).2.2.1.trans (eq_REF_v65 m c _ (hag c).1 _ (hag c).2.1 _ (hag c).2.2.1 _ (hag c).2.2.2.1 _ (hag c).2.2.2.2.2),
    (h c).2.2.2.1.trans (eq_REF_v38 m c _ (hag c).1 _ (hag c).2.1 _ (hag c).2.2.1 _ (hag c).2.2.2.2.2),
    (h c).2.2.2.2.1.trans (eq_REF_v35 m c _ (hag c).2.2.2.2.2),
    (h c).2.2.2.2.2⟩

end Cert.PostBClaim

end
-- ==== Proof.AdaModRef.lean ====
/- The results of the reference of `AdaMod`, each as a term over the argument arrays. -/
module

public import proofs.«01_k».proof.Proof.Gen.AdaModRefIdeal.Run
public import Idealize.ShloMosaic.Lib.Pointwise

@[expose] public section

set_option maxRecDepth 16384

noncomputable section

open Idealize.ShloMosaic Idealize.ShloMosaic.TcCoe Idealize.SL.Sem

namespace Cert.AdaModRefIdeal.Value

open Cert.AdaModRefIdeal Cert.AdaModRefIdeal.Gen Idealize.ShloMosaic.StableHlo

/-- Result 1 of the reference. -/
abbrev REF_v5 (a0 : FVec Ideal S8x1024 .f32) (a1 : FVec Ideal S4x1024x768 .f32) (a2 : FVec Ideal S4x768 .f32) : FVec Ideal S4x8x768 .f32 :=
  addf (transpose S4x8x768 [1, 0, 2] (Host.dotGeneral dot_S8x1024_S4x1024x768_S8x4x768_1_1_0_02_n_n none (mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0))))) a1) transposes_S8x4x768_S4x8x768_1_0_2) (broadcastInDim S4x8x768 ![0, 1, 2] bcast_S4x1x768_S4x8x768_0_1_2 (broadcastInDim S4x1x768 ![0, 2] bcast_S4x768_S4x1x768_0_2 a2))

end Cert.AdaModRefIdeal.Value

end
-- ==== Proof.AdaModVal.lean ====
/- What the arrays of `AdaModIdeal` hold after the run, against the reference. -/
module

public import proofs.«01_k».proof.Proof.Gen.AdaModIdeal.Frame
public import proofs.«01_k».proof.Proof.AdaModRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdaModIdeal.Value

open Cert.AdaModIdeal Cert.AdaModIdeal.Gen Cert.AdaModRefIdeal.Value

variable (m : (ℓ : Loc nD τ sig) → Buf (Elt Ideal) ℓ)

/-- every window's block index at every grid point, in closed form (decided). -/
theorem idx : ∀ t : Fin cfg0.N, win0_0.index t = ![0, 0]
    ∧ win0_1.index t = ![(grid0.coords t 0).val, 0, 0]
    ∧ win0_2.index t = ![(grid0.coords t 0).val, 0, 0]
    ∧ win0_3.index t = ![(grid0.coords t 0).val, 0, 0] :=
  (by decide +kernel : ∀ t : Fin grid0.N, _)

/-- the same in `t.val` (for `omega` beside a schedule fact `t.val % J = r`). -/
theorem idx_val : ∀ t : Fin cfg0.N, win0_0.index t = ![0, 0]
    ∧ win0_1.index t = ![t.val, 0, 0]
    ∧ win0_2.index t = ![t.val, 0, 0]
    ∧ win0_3.index t = ![t.val, 0, 0] :=
  (by decide +kernel : ∀ t : Fin grid0.N, _)

-- window 2's array `main_v0` is made by @main's host operations before the region (= shapeCast _ main_arg2 shapeCasts_S4x768_S4x1x768): read `V m c main_v0` with `entry_read`, never by a rewriting lemma

/-- POINT: what the body stores at block index `y` of point `t` is the reference at the array index `y` sits at. -/
theorem point (c : Dev nD) (t : Fin cfg0.N) (y) :
    k0_pay1 (iblk m c 0 t) (iblk m c 1 t) (iblk m c 2 t) y
      = REF_v5 (m ((c : Thread nD τ).loc main_arg0)) (m ((c : Thread nD τ).loc main_arg1)) (m ((c : Thread nD τ).loc main_arg2)) (((cfg0.win 3).blk t).view.emb y) := by
  pointwise [k0_pay1, REF_v5]; simp only [Ideal.logistic]; blk_point [iblk, V, idx_val t]

/-- BRIDGE: the result array after the run (complete: the blocks tile the array, decided). -/
theorem final (c : Dev nD) : (dats m 0 c).arrAt 3 (cfgs 0).N = REF_v5 (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp; rw [after0_3]; frame_out
  exact point m c t y

end Cert.AdaModIdeal.Value

end
-- ==== Proof.AdaModClaim.lean ====
/- The claims about `AdaMod`: its frames, and that the kernel over the extended reals computes its reference. -/
module

public import proofs.«01_k».proof.Defs
public import proofs.«01_k».proof.Proof.Gen.AdaMod.Frame
public import proofs.«01_k».proof.Proof.Gen.AdaModIdeal.Frame
public import proofs.«01_k».proof.Proof.Gen.AdaModIdeal.Value
public import proofs.«01_k».proof.Proof.Gen.AdaModRefIdeal.Run
public import proofs.«01_k».proof.Proof.AdaModVal

@[expose] public section

set_option maxRecDepth 16384

noncomputable section

namespace Cert.AdaModClaim

open Idealize.ShloMosaic Idealize.SL.Sem

/-- the program over the machine's floats runs and leaves its arguments. -/
theorem frame : Cert.quiescent_AdaMod := fun m ρ _ => Cert.AdaMod.Gen.frame m ρ

/-- so does the program over the extended reals. -/
theorem frame_ideal : Cert.quiescent_AdaModIdeal := fun m ρ _ => Cert.AdaModIdeal.Gen.frame m ρ

/-- so does the reference. -/
theorem frame_ref : Cert.quiescent_AdaModRefIdeal := by
  intro m g _
  exact (θ_run Cert.AdaModRefIdeal.defs _ _).mono (fun r h => ⟨fun c => (h c).2, sem_eq_zero_of_no_sems (by decide) r.2⟩)
    (Cert.AdaModRefIdeal.Value.run (F := Ideal) m g)

/-- a result of the kernel is the reference's, of equal arguments. -/
theorem eq_REF_v5 (m : (ℓ : Loc Cert.AdaModIdeal.nD Cert.AdaModIdeal.τ Cert.AdaModIdeal.sig) → Buf (Elt Ideal) ℓ) (c : Dev Cert.AdaModIdeal.nD)
    (a0 : Buf (Elt Ideal) ((c.tc : Thread Cert.AdaModRefIdeal.nD Cert.AdaModRefIdeal.τ).loc Cert.AdaModRefIdeal.main_arg0)) (h0 : a0 = m ((c.tc : Thread Cert.AdaModIdeal.nD Cert.AdaModIdeal.τ).loc Cert.AdaModIdeal.main_arg0))
    (a1 : Buf (Elt Ideal) ((c.tc : Thread Cert.AdaModRefIdeal.nD Cert.AdaModRefIdeal.τ).loc Cert.AdaModRefIdeal.main_arg1)) (h1 : a1 = m ((c.tc : Thread Cert.AdaModIdeal.nD Cert.AdaModIdeal.τ).loc Cert.AdaModIdeal.main_arg1))
    (a2 : Buf (Elt Ideal) ((c.tc : Thread Cert.AdaModRefIdeal.nD Cert.AdaModRefIdeal.τ).loc Cert.AdaModRefIdeal.main_arg2)) (h2 : a2 = m ((c.tc : Thread Cert.AdaModIdeal.nD Cert.AdaModIdeal.τ).loc Cert.AdaModIdeal.main_arg2))
    : Cert.AdaModRefIdeal.Value.REF_v5 a0 a1 a2 = (Cert.AdaModIdeal.Gen.dats m 0 c).arrAt 3 (Cert.AdaModIdeal.cfgs 0).N := by
  rw [Cert.AdaModIdeal.Value.final m c]
  subst h0 h1 h2
  rfl

/-- over the extended reals the kernel's results are the reference's, whatever the arguments. -/
theorem algebraic : Cert.algebraic_AdaModIdeal_AdaModRefIdeal := by
  intro m g m' g' _ hag
  refine ⟨_, Cert.AdaModIdeal.Value.run_blocks m g, ?_⟩
  refine (θ_run Cert.AdaModRefIdeal.defs _ _).mono (fun r h c => ?_) (Cert.AdaModRefIdeal.Value.run (F := Ideal) m' g')
  exact ⟨(h c).1.trans (eq_REF_v5 m c _ (hag c).1 _ (hag c).2.1 _ (hag c).2.2),
    (h c).2⟩

end Cert.AdaModClaim

end
-- ==== Proof.AdaDwRef.lean ====
/- The results of the reference of `AdaDw`, each as a term over the argument arrays. -/
module

public import proofs.«01_k».proof.Proof.Gen.AdaDwRefIdeal.Run
public import Idealize.ShloMosaic.Lib.Pointwise

@[expose] public section

set_option maxRecDepth 16384

noncomputable section

open Idealize.ShloMosaic Idealize.ShloMosaic.TcCoe Idealize.SL.Sem

namespace Cert.AdaDwRefIdeal.Value

open Cert.AdaDwRefIdeal Cert.AdaDwRefIdeal.Gen Idealize.ShloMosaic.StableHlo

/-- Result 1 of the reference. -/
abbrev REF_v10 (a0 : FVec Ideal S8x1024 .f32) (a1 : FVec Ideal S4x8x768 .f32) : FVec Ideal S4x1024x768 .f32 :=
  transpose S4x1024x768 [0, 2, 1] (Host.dotGeneral dot_S8x4x768_S8x1024_S4x768x1024_0_0_12_1_n_n none (transpose S8x4x768 [1, 0, 2] a1 transposes_S4x8x768_S8x4x768_1_0_2) (mulf a0 (Host.divf (broadcastInDim S8x1024 ![] bcast_S_S8x1024 (constant S_ .f32 0x3F800000#32)) (addf (broadcastInDim S8x1024 ![] bcast_S_S8x1024 (constant S_ .f32 0x3F800000#32)) (Host.exp (Host.negf a0)))))) transposes_S4x768x1024_S4x1024x768_0_2_1

end Cert.AdaDwRefIdeal.Value

end
-- ==== Proof.AdaDwVal.lean ====
/- What the arrays of `AdaDwIdeal` hold after the run, against the reference. -/
module

public import proofs.«01_k».proof.Proof.Gen.AdaDwIdeal.Frame
public import proofs.«01_k».proof.Proof.AdaDwRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdaDwIdeal.Value

open Cert.AdaDwIdeal Cert.AdaDwIdeal.Gen Cert.AdaDwRefIdeal.Value

variable (m : (ℓ : Loc nD τ sig) → Buf (Elt Ideal) ℓ)

/-- every window's block index at every grid point, in closed form (decided). -/
theorem idx : ∀ t : Fin cfg0.N, win0_0.index t = ![0, 0]
    ∧ win0_1.index t = ![(grid0.coords t 0).val, 0, 0]
    ∧ win0_2.index t = ![(grid0.coords t 0).val, 0, 0] :=
  (by decide +kernel : ∀ t : Fin grid0.N, _)

/-- the same in `t.val` (for `omega` beside a schedule fact `t.val % J = r`). -/
theorem idx_val : ∀ t : Fin cfg0.N, win0_0.index t = ![0, 0]
    ∧ win0_1.index t = ![t.val, 0, 0]
    ∧ win0_2.index t = ![t.val, 0, 0] :=
  (by decide +kernel : ∀ t : Fin grid0.N, _)

/-- POINT: what the body stores at block index `y` of point `t` is the reference at the array index `y` sits at. -/
theorem point (c : Dev nD) (t : Fin cfg0.N) (y) :
    k0_pay1 (iblk m c 0 t) (iblk m c 1 t) y
      = REF_v10 (m ((c : Thread nD τ).loc main_arg0)) (m ((c : Thread nD τ).loc main_arg1)) (((cfg0.win 2).blk t).view.emb
        y) := by
  pointwise [k0_pay1, REF_v10]; simp only [Ideal.logistic]; blk_point [iblk, V, idx_val t]

/-- BRIDGE: the result array after the run (complete: the blocks tile the array, decided). -/
theorem final (c : Dev nD) : (dats m 0 c).arrAt 2 (cfgs 0).N = REF_v10 (m ((c : Thread nD τ).loc main_arg0)) (m ((c : Thread nD τ).loc main_arg1)) := by
  refine (dats m 0 c).arrAt_eq_of_covers 2 _ (by decide +kernel) fun t hf y => ?_
  blk_simp; rw [after0_2]; frame_out
  exact point m c t y

end Cert.AdaDwIdeal.Value

end
-- ==== Proof.AdaDwClaim.lean ====
/- The claims about `AdaDw`: its frames, and that the kernel over the extended reals computes its reference. -/
module

public import proofs.«01_k».proof.Defs
public import proofs.«01_k».proof.Proof.Gen.AdaDw.Frame
public import proofs.«01_k».proof.Proof.Gen.AdaDwIdeal.Frame
public import proofs.«01_k».proof.Proof.Gen.AdaDwIdeal.Value
public import proofs.«01_k».proof.Proof.Gen.AdaDwRefIdeal.Run
public import proofs.«01_k».proof.Proof.AdaDwVal

@[expose] public section

set_option maxRecDepth 16384

noncomputable section

namespace Cert.AdaDwClaim

open Idealize.ShloMosaic Idealize.SL.Sem

/-- the program over the machine's floats runs and leaves its arguments. -/
theorem frame : Cert.quiescent_AdaDw := fun m ρ _ => Cert.AdaDw.Gen.frame m ρ

/-- so does the program over the extended reals. -/
theorem frame_ideal : Cert.quiescent_AdaDwIdeal := fun m ρ _ => Cert.AdaDwIdeal.Gen.frame m ρ

/-- so does the reference. -/
theorem frame_ref : Cert.quiescent_AdaDwRefIdeal := by
  intro m g _
  exact (θ_run Cert.AdaDwRefIdeal.defs _ _).mono (fun r h => ⟨fun c => (h c).2, sem_eq_zero_of_no_sems (by decide) r.2⟩)
    (Cert.AdaDwRefIdeal.Value.run (F := Ideal) m g)

/-- a result of the kernel is the reference's, of equal arguments. -/
theorem eq_REF_v10 (m : (ℓ : Loc Cert.AdaDwIdeal.nD Cert.AdaDwIdeal.τ Cert.AdaDwIdeal.sig) → Buf (Elt Ideal) ℓ) (c : Dev Cert.AdaDwIdeal.nD)
    (a0 : Buf (Elt Ideal) ((c.tc : Thread Cert.AdaDwRefIdeal.nD Cert.AdaDwRefIdeal.τ).loc Cert.AdaDwRefIdeal.main_arg0)) (h0 : a0 = m ((c.tc : Thread Cert.AdaDwIdeal.nD Cert.AdaDwIdeal.τ).loc Cert.AdaDwIdeal.main_arg0))
    (a1 : Buf (Elt Ideal) ((c.tc : Thread Cert.AdaDwRefIdeal.nD Cert.AdaDwRefIdeal.τ).loc Cert.AdaDwRefIdeal.main_arg1)) (h1 : a1 = m ((c.tc : Thread Cert.AdaDwIdeal.nD Cert.AdaDwIdeal.τ).loc Cert.AdaDwIdeal.main_arg1))
    : Cert.AdaDwRefIdeal.Value.REF_v10 a0 a1 = (Cert.AdaDwIdeal.Gen.dats m 0 c).arrAt 2 (Cert.AdaDwIdeal.cfgs 0).N := by
  rw [Cert.AdaDwIdeal.Value.final m c]
  subst h0 h1
  rfl

/-- over the extended reals the kernel's results are the reference's, whatever the arguments. -/
theorem algebraic : Cert.algebraic_AdaDwIdeal_AdaDwRefIdeal := by
  intro m g m' g' _ hag
  refine ⟨_, Cert.AdaDwIdeal.Value.run_blocks m g, ?_⟩
  refine (θ_run Cert.AdaDwRefIdeal.defs _ _).mono (fun r h c => ?_) (Cert.AdaDwRefIdeal.Value.run (F := Ideal) m' g')
  exact ⟨(h c).1.trans (eq_REF_v10 m c _ (hag c).1 _ (hag c).2),
    (h c).2⟩

end Cert.AdaDwClaim

end
-- ==== Proof.LossRef.lean ====
/- The results of the reference of `Loss`, each as a term over the argument arrays. -/
module

public import proofs.«01_k».proof.Proof.Gen.LossRefIdeal.Run
public import Idealize.ShloMosaic.Lib.Pointwise

@[expose] public section

set_option maxRecDepth 16384

noncomputable section

open Idealize.ShloMosaic Idealize.ShloMosaic.TcCoe Idealize.SL.Sem

namespace Cert.LossRefIdeal.Value

open Cert.LossRefIdeal Cert.LossRefIdeal.Gen Idealize.ShloMosaic.StableHlo

/-- Result 1 of the reference. -/
abbrev REF_v15 (a0 : FVec Ideal S4096x1024 .f32) (a1 : FVec Ideal S4096x1024 .f32) : FVec Ideal S8x128 .f32 :=
  broadcastInDim S8x128 ![] bcast_S_S8x128 (mulf (constant S_ .f32 0x3F000000#32) (Host.reduceAdd (Host.divf (Host.reduceAdd (mulf (subf a0 a1) (subf a0 a1)) (constant S_ .f32 0x00000000#32) reducesTo_S4096x1024_S4096_d1 h_S_) (broadcastInDim S4096 ![] bcast_S_S4096 (constant S_ .f32 0x44800000#32))) (constant S_ .f32 0x00000000#32) reducesTo_S4096_S_d0 h_S_))

/-- Result 2 of the reference. -/
abbrev REF_v14 (a0 : FVec Ideal S4096x1024 .f32) (a1 : FVec Ideal S4096x1024 .f32) : FVec Ideal S4096x1024 .f32 :=
  mulf (broadcastInDim S4096x1024 ![0] bcast_S4096_S4096x1024_0 (Host.divf (broadcastInDim S4096 ![] bcast_S_S4096 (mulf (constant S_ .f32 0x3F000000#32) (constant S_ .f32 0x3F800000#32))) (broadcastInDim S4096 ![] bcast_S_S4096 (constant S_ .f32 0x44800000#32)))) (mulf (broadcastInDim S4096x1024 ![] bcast_S_S4096x1024 (constant S_ .f32 0x40000000#32)) (subf a0 a1))

end Cert.LossRefIdeal.Value

end
-- ==== Proof.LossVal.lean ====
/- What the arrays of `LossIdeal` hold after the run, against the reference. -/
module

public import proofs.«01_k».proof.Proof.Gen.LossIdeal.Frame
public import proofs.«01_k».proof.Proof.LossRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.LossIdeal.Value

open Cert.LossIdeal Cert.LossIdeal.Gen Cert.LossRefIdeal.Value

variable (m : (ℓ : Loc nD τ sig) → Buf (Elt Ideal) ℓ)

/-- every window's block index at every grid point, in closed form (decided). -/
theorem idx : ∀ t : Fin cfg0.N, win0_0.index t = ![(grid0.coords t 0).val, 0]
    ∧ win0_1.index t = ![(grid0.coords t 0).val, 0]
    ∧ win0_2.index t = ![0, 0]
    ∧ win0_3.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![t.val, 0]
    ∧ win0_2.index t = ![0, 0]
    ∧ win0_3.index t = ![t.val, 0] :=
  (by decide +kernel : ∀ t : Fin grid0.N, _)

/-- the zero fill. -/
theorem hzero_2 (j : S8x128.Idx) : k0_pay1 (F := Ideal) j = 0 := by
  pointwise! [k0_pay1]

/-- the accumulating payload = what the buffer held + its part (the payload at a ZERO accumulator -/
theorem hpay_2 (v3 : Vec Ideal S512x1024 .f32) (v4 : Vec Ideal S512x1024 .f32) (v14 : Vec Ideal S8x128 .f32) (j : S8x128.Idx) :
    k0_pay4 v3 v4 v14 j = v14 j + k0_pay4 v3 v4 (fun _ => 0) j := by
  pointwise [k0_pay4]

/-- a sum of halves is half the sum. -/
theorem half_sum {n : ℕ} (f : Fin n → EReal) :
    ∑ x, Ideal.ofBits .f32 0x3F000000#32 * f x = Ideal.ofBits .f32 0x3F000000#32 * ∑ x, f x := by
  have h2 : Ideal.ofBits .f32 0x3F000000#32 = ((1 / 2 : ℝ) : EReal) := by
    simp [Ideal.ofBits, Ideal.ieee, -EReal.coe_mul]; norm_num
  have h0 : (0 : EReal) ≤ ((1 / 2 : ℝ) : EReal) := EReal.coe_nonneg.mpr (by norm_num)
  rw [h2]
  refine (map_sum (⟨⟨fun x => ((1 / 2 : ℝ) : EReal) * x, mul_zero _⟩, fun x y =>
    EReal.left_distrib_of_nonneg_of_ne_top h0 (EReal.coe_ne_top _) x y⟩ : EReal →+ EReal) f _).symm

/-- half of twice a 1024th. -/
theorem scale_eq (a : EReal) : a * Ideal.ofBits .f32 0x3A800000#32
    = Ideal.div (Ideal.ofBits .f32 0x3F000000#32) (Ideal.ofBits .f32 0x44800000#32) * (Ideal.ofBits .f32 0x40000000#32 * a) := by
  have h1 : Ideal.ofBits .f32 0x3A800000#32 = ((1 / 1024 : ℝ) : EReal) := by
    simp [Ideal.ofBits, Ideal.ieee, -EReal.coe_mul]; norm_num
  have h2 : Ideal.ofBits .f32 0x3F000000#32 = ((1 / 2 : ℝ) : EReal) := by
    simp [Ideal.ofBits, Ideal.ieee, -EReal.coe_mul]; norm_num
  have h3 : Ideal.ofBits .f32 0x44800000#32 = ((1024 : ℝ) : EReal) := by
    simp [Ideal.ofBits, Ideal.ieee, -EReal.coe_mul]; norm_num
  have h4 : Ideal.ofBits .f32 0x40000000#32 = ((2 : ℝ) : EReal) := by
    simp [Ideal.ofBits, Ideal.ieee, -EReal.coe_mul]; norm_num
  rw [h1, h2, h3, h4, Ideal.div_coe (by norm_num), ← mul_assoc, ← EReal.coe_mul, ← EReal.coe_mul, mul_comm a]
  norm_num

/-- BRIDGE + the accumulation as ONE `Fin`-indexed sum (no induction, no `term`, no `outs_eq`). -/
theorem final_2 (c : Dev nD) : (dats m 0 c).arrAt 2 (cfgs 0).N = REF_v15 (m ((c : Thread nD τ).loc main_arg0)) (m ((c : Thread nD τ).loc main_arg1)) := by
  refine (dats m 0 c).arrAt_eq_of_after_last 2 t0_7 (by decide +kernel) _ fun j => ?_
  blk_simp
  rw [after0_2, Pipeline.eq_sum_fin_of_reset_step_apply_last (fun n h => (outsAt0 m c n h).1) 8 (fun _ => 0) _
    (fun t h j => by rw [outsAt0_A m c t h]; frame_out; rw [hpay_2, hzero_2])
    (fun t h j => by rw [outsAt0_B m c t h]; frame_out; rw [hpay_2])
    (le_of_eq N_0) t0_7 rfl j, zero_add]
  pointwise [k0_pay4, k0_pay2, k0_pay3, REF_v15]
  rw [half_sum]; refine congrArg (_ * ·) ?_
  simp only [Fin.sum_univ_one]
  refine Fin.sum_mul_add_congr fun t k hl => ?_; blk_point [iblk, V, idx_val t]

/-- POINT of window 3 at a point of kit case A (`frame_out` opens the kit word). -/
theorem point_3_A (c : Dev nD) (t : Fin cfg0.N) (h0 : t.val % 8 = 0) (y) :
    (out0_A_3 c (grid0.coords t) (ms0_0 t) (hs0_0 t) (ms0_1 t) (hs0_1 t) (ms0_2 t) (hs0_2 t) (ms0_3 t) (hs0_3 t)
      ((hcond0_0 t).mpr h0) (iblk m c 0 t) (iblk m c 1 t)) y
      = REF_v14 (m ((c : Thread nD τ).loc main_arg0)) (m ((c : Thread nD τ).loc main_arg1)) (((cfg0.win 3).blk
        t).view.emb y) := by
  frame_out
  pointwise [k0_pay2, k0_pay3, k0_pay4, REF_v14]; rw [scale_eq]; blk_point [iblk, V, idx_val t]

/-- POINT of window 3 at a point of kit case B (`frame_out` opens the kit word). -/
theorem point_3_B (c : Dev nD) (t : Fin cfg0.N) (h0 : ¬t.val % 8 = 0) (y) :
    (out0_B_3 c (grid0.coords t) (ms0_0 t) (hs0_0 t) (ms0_1 t) (hs0_1 t) (ms0_2 t) (hs0_2 t) (ms0_3 t) (hs0_3 t) (fun
      h => h0 ((hcond0_0 t).mp h)) (iblk m c 0 t) (iblk m c 1 t) (outsAt0 m c (t.val - 1) (Nat.lt_of_le_of_lt
      (Nat.sub_le _ _) t.isLt)).1) y
      = REF_v14 (m ((c : Thread nD τ).loc main_arg0)) (m ((c : Thread nD τ).loc main_arg1)) (((cfg0.win 3).blk
        t).view.emb y) := by
  frame_out
  pointwise [k0_pay2, k0_pay3, k0_pay4, REF_v14]; rw [scale_eq]; blk_point [iblk, V, idx_val t]

theorem final_3 (c : Dev nD) : (dats m 0 c).arrAt 3 (cfgs 0).N = REF_v14 (m ((c : Thread nD τ).loc main_arg0)) (m ((c : Thread nD τ).loc main_arg1)) := by
  refine (dats m 0 c).arrAt_eq_of_covers 3 _ (by decide +kernel) fun t hf y => ?_
  blk_simp; rw [after0_3]
  by_cases h : t.val % 8 = 0
  · rw [outsAt0_A m c t h]; dsimp only; exact point_3_A m c t h y
  · rw [outsAt0_B m c t h]; dsimp only; exact point_3_B m c t h y

end Cert.LossIdeal.Value

end
-- ==== Proof.LossClaim.lean ====
/- The claims about `Loss`: its frames, and that the kernel over the extended reals computes its reference. -/
module

public import proofs.«01_k».proof.Defs
public import proofs.«01_k».proof.Proof.Gen.Loss.Frame
public import proofs.«01_k».proof.Proof.Gen.LossIdeal.Frame
public import proofs.«01_k».proof.Proof.Gen.LossIdeal.Value
public import proofs.«01_k».proof.Proof.Gen.LossRefIdeal.Run
public import proofs.«01_k».proof.Proof.LossVal

@[expose] public section

set_option maxRecDepth 16384

noncomputable section

namespace Cert.LossClaim

open Idealize.ShloMosaic Idealize.SL.Sem

/-- the program over the machine's floats runs and leaves its arguments. -/
theorem frame : Cert.quiescent_Loss := fun m ρ _ => Cert.Loss.Gen.frame m ρ

/-- so does the program over the extended reals. -/
theorem frame_ideal : Cert.quiescent_LossIdeal := fun m ρ _ => Cert.LossIdeal.Gen.frame m ρ

/-- so does the reference. -/
theorem frame_ref : Cert.quiescent_LossRefIdeal := by
  intro m g _
  exact (θ_run Cert.LossRefIdeal.defs _ _).mono (fun r h => ⟨fun c => (h c).2.2, sem_eq_zero_of_no_sems (by decide) r.2⟩)
    (Cert.LossRefIdeal.Value.run (F := Ideal) m g)

/-- a result of the kernel is the reference's, of equal arguments. -/
theorem eq_REF_v15 (m : (ℓ : Loc Cert.LossIdeal.nD Cert.LossIdeal.τ Cert.LossIdeal.sig) → Buf (Elt Ideal) ℓ) (c : Dev Cert.LossIdeal.nD)
    (a0 : Buf (Elt Ideal) ((c.tc : Thread Cert.LossRefIdeal.nD Cert.LossRefIdeal.τ).loc Cert.LossRefIdeal.main_arg0)) (h0 : a0 = m ((c.tc : Thread Cert.LossIdeal.nD Cert.LossIdeal.τ).loc Cert.LossIdeal.main_arg0))
    (a1 : Buf (Elt Ideal) ((c.tc : Thread Cert.LossRefIdeal.nD Cert.LossRefIdeal.τ).loc Cert.LossRefIdeal.main_arg1)) (h1 : a1 = m ((c.tc : Thread Cert.LossIdeal.nD Cert.LossIdeal.τ).loc Cert.LossIdeal.main_arg1))
    : Cert.LossRefIdeal.Value.REF_v15 a0 a1 = (Cert.LossIdeal.Gen.dats m 0 c).arrAt 2 (Cert.LossIdeal.cfgs 0).N := by
  rw [Cert.LossIdeal.Value.final_2 m c]
  subst h0 h1
  rfl

/-- a result of the kernel is the reference's, of equal arguments. -/
theorem eq_REF_v14 (m : (ℓ : Loc Cert.LossIdeal.nD Cert.LossIdeal.τ Cert.LossIdeal.sig) → Buf (Elt Ideal) ℓ) (c : Dev Cert.LossIdeal.nD)
    (a0 : Buf (Elt Ideal) ((c.tc : Thread Cert.LossRefIdeal.nD Cert.LossRefIdeal.τ).loc Cert.LossRefIdeal.main_arg0)) (h0 : a0 = m ((c.tc : Thread Cert.LossIdeal.nD Cert.LossIdeal.τ).loc Cert.LossIdeal.main_arg0))
    (a1 : Buf (Elt Ideal) ((c.tc : Thread Cert.LossRefIdeal.nD Cert.LossRefIdeal.τ).loc Cert.LossRefIdeal.main_arg1)) (h1 : a1 = m ((c.tc : Thread Cert.LossIdeal.nD Cert.LossIdeal.τ).loc Cert.LossIdeal.main_arg1))
    : Cert.LossRefIdeal.Value.REF_v14 a0 a1 = (Cert.LossIdeal.Gen.dats m 0 c).arrAt 3 (Cert.LossIdeal.cfgs 0).N := by
  rw [Cert.LossIdeal.Value.final_3 m c]
  subst h0 h1
  rfl

/-- over the extended reals the kernel's results are the reference's, whatever the arguments. -/
theorem algebraic : Cert.algebraic_LossIdeal_LossRefIdeal := by
  intro m g m' g' _ hag
  refine ⟨_, _, Cert.LossIdeal.Value.run_blocks m g, ?_⟩
  refine (θ_run Cert.LossRefIdeal.defs _ _).mono (fun r h c => ?_) (Cert.LossRefIdeal.Value.run (F := Ideal) m' g')
  exact ⟨(h c).1.trans (eq_REF_v15 m c _ (hag c).1 _ (hag c).2),
    (h c).2.1.trans (eq_REF_v14 m c _ (hag c).1 _ (hag c).2),
    (h c).2.2⟩

end Cert.LossClaim

end
-- ==== Proof.AdamWRef.lean ====
/- The results of the reference of `AdamW`, each as a term over the argument arrays. -/
module

public import proofs.«01_k».proof.Proof.Gen.AdamWRefIdeal.Run
public import Idealize.ShloMosaic.Lib.Pointwise

@[expose] public section

set_option maxRecDepth 16384

noncomputable section

open Idealize.ShloMosaic Idealize.ShloMosaic.TcCoe Idealize.SL.Sem

namespace Cert.AdamWRefIdeal.Value

open Cert.AdamWRefIdeal Cert.AdamWRefIdeal.Gen Idealize.ShloMosaic.StableHlo

/-- Result 1 of the reference. -/
abbrev REF_v23 (a0 : FVec Ideal S4096x768 .f32) (a1 : FVec Ideal S4096x768 .f32) (a2 : FVec Ideal S4096x768 .f32) (a3 : FVec Ideal S4096x768 .f32) : FVec Ideal S4096x768 .f32 :=
  mulf (broadcastInDim S4096x768 ![] bcast_S_S4096x768 (constant S_ .f32 0xBA83126F#32)) (addf (Host.divf (Host.divf (addf (mulf (broadcastInDim S4096x768 ![] bcast_S_S4096x768 (constant S_ .f32 0x3F666666#32)) a2) (mulf (broadcastInDim S4096x768 ![] bcast_S_S4096x768 (constant S_ .f32 0x3DCCCCCD#32)) a0)) (broadcastInDim S4096x768 ![] bcast_S_S4096x768 (constant S_ .f32 0x3F26BD02#32))) (addf (Host.sqrt (Host.divf (addf (mulf (broadcastInDim S4096x768 ![] bcast_S_S4096x768 (constant S_ .f32 0x3F7FBE77#32)) a3) (mulf (broadcastInDim S4096x768 ![] bcast_S_S4096x768 (constant S_ .f32 0x3A83126F#32)) (mulf a0 a0))) (broadcastInDim S4096x768 ![] bcast_S_S4096x768 (constant S_ .f32 0x3C231ACC#32)))) (broadcastInDim S4096x768 ![] bcast_S_S4096x768 (constant S_ .f32 0x322BCC77#32)))) (mulf (broadcastInDim S4096x768 ![] bcast_S_S4096x768 (constant S_ .f32 0x3C23D70A#32)) a1))

/-- Result 2 of the reference. -/
abbrev REF_v4 (a0 : FVec Ideal S4096x768 .f32) (a2 : FVec Ideal S4096x768 .f32) : FVec Ideal S4096x768 .f32 :=
  addf (mulf (broadcastInDim S4096x768 ![] bcast_S_S4096x768 (constant S_ .f32 0x3F666666#32)) a2) (mulf (broadcastInDim S4096x768 ![] bcast_S_S4096x768 (constant S_ .f32 0x3DCCCCCD#32)) a0)

/-- Result 3 of the reference. -/
abbrev REF_v10 (a0 : FVec Ideal S4096x768 .f32) (a3 : FVec Ideal S4096x768 .f32) : FVec Ideal S4096x768 .f32 :=
  addf (mulf (broadcastInDim S4096x768 ![] bcast_S_S4096x768 (constant S_ .f32 0x3F7FBE77#32)) a3) (mulf (broadcastInDim S4096x768 ![] bcast_S_S4096x768 (constant S_ .f32 0x3A83126F#32)) (mulf a0 a0))

end Cert.AdamWRefIdeal.Value

end
-- ==== Proof.AdamWVal.lean ====
/- What the arrays of `AdamWIdeal` hold after the run, against the reference. -/
module

public import proofs.«01_k».proof.Proof.Gen.AdamWIdeal.Frame
public import proofs.«01_k».proof.Proof.AdamWRef
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)
open scoped BigOperators

namespace Cert.AdamWIdeal.Value

open Cert.AdamWIdeal Cert.AdamWIdeal.Gen Cert.AdamWRefIdeal.Value

variable (m : (ℓ : Loc nD τ sig) → Buf (Elt Ideal) ℓ)

/-- every window's block index at every grid point, in closed form (decided). -/
theorem idx : ∀ t : Fin cfg0.N, win0_0.index t = ![(grid0.coords t 0).val, 0]
    ∧ win0_1.index t = ![(grid0.coords t 0).val, 0]
    ∧ win0_2.index t = ![(grid0.coords t 0).val, 0]
    ∧ win0_3.index t = ![(grid0.coords t 0).val, 0]
    ∧ win0_4.index t = ![(grid0.coords t 0).val, 0]
    ∧ win0_5.index t = ![(grid0.coords t 0).val, 0]
    ∧ win0_6.index t = ![(grid0.coords t 0).val, 0]
    ∧ win0_7.index t = ![(grid0.coords t 0).val, 0] :=
  (by decide +kernel : ∀ t : Fin grid0.N, _)

/-- the same in `t.val` (for `omega` beside a schedule fact `t.val % J = r`). -/
theorem idx_val : ∀ t : Fin cfg0.N, win0_0.index t = ![t.val, 0]
    ∧ win0_1.index t = ![t.val, 0]
    ∧ win0_2.index t = ![t.val, 0]
    ∧ win0_3.index t = ![t.val, 0]
    ∧ win0_4.index t = ![t.val, 0]
    ∧ win0_5.index t = ![t.val, 0]
    ∧ win0_6.index t = ![t.val, 0]
    ∧ win0_7.index t = ![t.val, 0] :=
  (by decide +kernel : ∀ t : Fin grid0.N, _)

/-- POINT: what the body stores at block index `y` of point `t` is the reference at the array index `y` sits at. -/
theorem point_5 (c : Dev nD) (t : Fin cfg0.N) (y) :
    k0_pay3 (iblk m c 0 t) (iblk m c 2 t) (iblk m c 3 t) (iblk m c 1 t) y
      = REF_v23 (m ((c : Thread nD τ).loc main_arg0)) (m ((c : Thread nD τ).loc main_arg1)) (m ((c : Thread nD τ).loc main_arg2)) (m ((c : Thread nD τ).loc main_arg3)) (((cfg0.win 5).blk t).view.emb y) := by
  pointwise [k0_pay3, k0_pay1, k0_pay2, REF_v23]; blk_point [iblk, V, idx_val t]

/-- BRIDGE: the result array after the run (complete: the blocks tile the array, decided). -/
theorem final_5 (c : Dev nD) : (dats m 0 c).arrAt 5 (cfgs 0).N = REF_v23 (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp; rw [after0_5]; frame_out
  exact point_5 m c t y

/-- POINT: what the body stores at block index `y` of point `t` is the reference at the array index `y` sits at. -/
theorem point_6 (c : Dev nD) (t : Fin cfg0.N) (y) :
    k0_pay1 (iblk m c 0 t) (iblk m c 2 t) y
      = REF_v4 (m ((c : Thread nD τ).loc main_arg0)) (m ((c : Thread nD τ).loc main_arg2)) (((cfg0.win 6).blk
        t).view.emb y) := by
  pointwise [k0_pay1, REF_v4]; blk_point [iblk, V, idx_val t]

/-- BRIDGE: the result array after the run (complete: the blocks tile the array, decided). -/
theorem final_6 (c : Dev nD) : (dats m 0 c).arrAt 6 (cfgs 0).N = REF_v4 (m ((c : Thread nD τ).loc main_arg0)) (m ((c : Thread nD τ).loc main_arg2)) := by
  refine (dats m 0 c).arrAt_eq_of_covers 6 _ (by decide +kernel) fun t hf y => ?_
  blk_simp; rw [after0_6]; frame_out
  exact point_6 m c t y

/-- POINT: what the body stores at block index `y` of point `t` is the reference at the array index `y` sits at. -/
theorem point_7 (c : Dev nD) (t : Fin cfg0.N) (y) :
    k0_pay2 (iblk m c 0 t) (iblk m c 3 t) y
      = REF_v10 (m ((c : Thread nD τ).loc main_arg0)) (m ((c : Thread nD τ).loc main_arg3)) (((cfg0.win 7).blk
        t).view.emb y) := by
  pointwise [k0_pay2, REF_v10]; blk_point [iblk, V, idx_val t]

/-- BRIDGE: the result array after the run (complete: the blocks tile the array, decided). -/
theorem final_7 (c : Dev nD) : (dats m 0 c).arrAt 7 (cfgs 0).N = REF_v10 (m ((c : Thread nD τ).loc main_arg0)) (m ((c : Thread nD τ).loc main_arg3)) := by
  refine (dats m 0 c).arrAt_eq_of_covers 7 _ (by decide +kernel) fun t hf y => ?_
  blk_simp; rw [after0_7]; frame_out
  exact point_7 m c t y

end Cert.AdamWIdeal.Value

end
-- ==== Proof.AdamWClaim.lean ====
/- The claims about `AdamW`: its frames, and that the kernel over the extended reals computes its reference. -/
module

public import proofs.«01_k».proof.Defs
public import proofs.«01_k».proof.Proof.Gen.AdamW.Frame
public import proofs.«01_k».proof.Proof.Gen.AdamWIdeal.Frame
public import proofs.«01_k».proof.Proof.Gen.AdamWIdeal.Value
public import proofs.«01_k».proof.Proof.Gen.AdamWRefIdeal.Run
public import proofs.«01_k».proof.Proof.AdamWVal

@[expose] public section

set_option maxRecDepth 16384

noncomputable section

namespace Cert.AdamWClaim

open Idealize.ShloMosaic Idealize.SL.Sem

/-- the program over the machine's floats runs and leaves its arguments. -/
theorem frame : Cert.quiescent_AdamW := fun m ρ _ => Cert.AdamW.Gen.frame m ρ

/-- so does the program over the extended reals. -/
theorem frame_ideal : Cert.quiescent_AdamWIdeal := fun m ρ _ => Cert.AdamWIdeal.Gen.frame m ρ

/-- so does the reference. -/
theorem frame_ref : Cert.quiescent_AdamWRefIdeal := by
  intro m g _
  exact (θ_run Cert.AdamWRefIdeal.defs _ _).mono (fun r h => ⟨fun c => (h c).2.2.2, sem_eq_zero_of_no_sems (by decide) r.2⟩)
    (Cert.AdamWRefIdeal.Value.run (F := Ideal) m g)

/-- a result of the kernel is the reference's, of equal arguments. -/
theorem eq_REF_v23 (m : (ℓ : Loc Cert.AdamWIdeal.nD Cert.AdamWIdeal.τ Cert.AdamWIdeal.sig) → Buf (Elt Ideal) ℓ) (c : Dev Cert.AdamWIdeal.nD)
    (a0 : Buf (Elt Ideal) ((c.tc : Thread Cert.AdamWRefIdeal.nD Cert.AdamWRefIdeal.τ).loc Cert.AdamWRefIdeal.main_arg0)) (h0 : a0 = m ((c.tc : Thread Cert.AdamWIdeal.nD Cert.AdamWIdeal.τ).loc Cert.AdamWIdeal.main_arg0))
    (a1 : Buf (Elt Ideal) ((c.tc : Thread Cert.AdamWRefIdeal.nD Cert.AdamWRefIdeal.τ).loc Cert.AdamWRefIdeal.main_arg1)) (h1 : a1 = m ((c.tc : Thread Cert.AdamWIdeal.nD Cert.AdamWIdeal.τ).loc Cert.AdamWIdeal.main_arg1))
    (a2 : Buf (Elt Ideal) ((c.tc : Thread Cert.AdamWRefIdeal.nD Cert.AdamWRefIdeal.τ).loc Cert.AdamWRefIdeal.main_arg2)) (h2 : a2 = m ((c.tc : Thread Cert.AdamWIdeal.nD Cert.AdamWIdeal.τ).loc Cert.AdamWIdeal.main_arg2))
    (a3 : Buf (Elt Ideal) ((c.tc : Thread Cert.AdamWRefIdeal.nD Cert.AdamWRefIdeal.τ).loc Cert.AdamWRefIdeal.main_arg3)) (h3 : a3 = m ((c.tc : Thread Cert.AdamWIdeal.nD Cert.AdamWIdeal.τ).loc Cert.AdamWIdeal.main_arg3))
    : Cert.AdamWRefIdeal.Value.REF_v23 a0 a1 a2 a3 = (Cert.AdamWIdeal.Gen.dats m 0 c).arrAt 5 (Cert.AdamWIdeal.cfgs 0).N := by
  rw [Cert.AdamWIdeal.Value.final_5 m c]
  subst h0 h1 h2 h3
  rfl

/-- a result of the kernel is the reference's, of equal arguments. -/
theorem eq_REF_v4 (m : (ℓ : Loc Cert.AdamWIdeal.nD Cert.AdamWIdeal.τ Cert.AdamWIdeal.sig) → Buf (Elt Ideal) ℓ) (c : Dev Cert.AdamWIdeal.nD)
    (a0 : Buf (Elt Ideal) ((c.tc : Thread Cert.AdamWRefIdeal.nD Cert.AdamWRefIdeal.τ).loc Cert.AdamWRefIdeal.main_arg0)) (h0 : a0 = m ((c.tc : Thread Cert.AdamWIdeal.nD Cert.AdamWIdeal.τ).loc Cert.AdamWIdeal.main_arg0))
    (a2 : Buf (Elt Ideal) ((c.tc : Thread Cert.AdamWRefIdeal.nD Cert.AdamWRefIdeal.τ).loc Cert.AdamWRefIdeal.main_arg2)) (h2 : a2 = m ((c.tc : Thread Cert.AdamWIdeal.nD Cert.AdamWIdeal.τ).loc Cert.AdamWIdeal.main_arg2))
    : Cert.AdamWRefIdeal.Value.REF_v4 a0 a2 = (Cert.AdamWIdeal.Gen.dats m 0 c).arrAt 6 (Cert.AdamWIdeal.cfgs 0).N := by
  rw [Cert.AdamWIdeal.Value.final_6 m c]
  subst h0 h2
  rfl

/-- a result of the kernel is the reference's, of equal arguments. -/
theorem eq_REF_v10 (m : (ℓ : Loc Cert.AdamWIdeal.nD Cert.AdamWIdeal.τ Cert.AdamWIdeal.sig) → Buf (Elt Ideal) ℓ) (c : Dev Cert.AdamWIdeal.nD)
    (a0 : Buf (Elt Ideal) ((c.tc : Thread Cert.AdamWRefIdeal.nD Cert.AdamWRefIdeal.τ).loc Cert.AdamWRefIdeal.main_arg0)) (h0 : a0 = m ((c.tc : Thread Cert.AdamWIdeal.nD Cert.AdamWIdeal.τ).loc Cert.AdamWIdeal.main_arg0))
    (a3 : Buf (Elt Ideal) ((c.tc : Thread Cert.AdamWRefIdeal.nD Cert.AdamWRefIdeal.τ).loc Cert.AdamWRefIdeal.main_arg3)) (h3 : a3 = m ((c.tc : Thread Cert.AdamWIdeal.nD Cert.AdamWIdeal.τ).loc Cert.AdamWIdeal.main_arg3))
    : Cert.AdamWRefIdeal.Value.REF_v10 a0 a3 = (Cert.AdamWIdeal.Gen.dats m 0 c).arrAt 7 (Cert.AdamWIdeal.cfgs 0).N := by
  rw [Cert.AdamWIdeal.Value.final_7 m c]
  subst h0 h3
  rfl

/-- over the extended reals the kernel's results are the reference's, whatever the arguments. -/
theorem algebraic : Cert.algebraic_AdamWIdeal_AdamWRefIdeal := by
  intro m g m' g' _ hag
  refine ⟨_, _, _, (θ_run Cert.AdamWIdeal.defs _ _).mono (fun _ h c => (h c).2) (Cert.AdamWIdeal.Value.run_blocks m g), ?_⟩
  refine (θ_run Cert.AdamWRefIdeal.defs _ _).mono (fun r h c => ?_) (Cert.AdamWRefIdeal.Value.run (F := Ideal) m' g')
  exact ⟨(h c).1.trans (eq_REF_v23 m c _ (hag c).1 _ (hag c).2.1 _ (hag c).2.2.1 _ (hag c).2.2.2),
    (h c).2.1.trans (eq_REF_v4 m c _ (hag c).1 _ (hag c).2.2.1),
    (h c).2.2.1.trans (eq_REF_v10 m c _ (hag c).1 _ (hag c).2.2.2),
    (h c).2.2.2⟩

end Cert.AdamWClaim

end
-- ==== Proof.lean ====
module

public import proofs.«01_k».proof.Defs
public import proofs.«01_k».proof.Proof.Gen.InDw
public import proofs.«01_k».proof.Proof.Gen.InDw.Skeleton
public import proofs.«01_k».proof.Proof.Gen.InDw.Launch
public import proofs.«01_k».proof.Proof.Gen.InDw.Points
public import proofs.«01_k».proof.Proof.Gen.InDw.Frame
public import proofs.«01_k».proof.Proof.Gen.InDwIdeal
public import proofs.«01_k».proof.Proof.Gen.InDwIdeal.Skeleton
public import proofs.«01_k».proof.Proof.Gen.InDwIdeal.Launch
public import proofs.«01_k».proof.Proof.Gen.InDwIdeal.Points
public import proofs.«01_k».proof.Proof.Gen.InDwIdeal.Frame
public import proofs.«01_k».proof.Proof.Gen.InDwIdeal.Value
public import proofs.«01_k».proof.Proof.Gen.InDwRefIdeal.Run
public import proofs.«01_k».proof.Proof.Gen.InDwRefIdeal
public import proofs.«01_k».proof.Proof.Gen.InDx
public import proofs.«01_k».proof.Proof.Gen.InDx.Skeleton
public import proofs.«01_k».proof.Proof.Gen.InDx.Launch
public import proofs.«01_k».proof.Proof.Gen.InDx.Points
public import proofs.«01_k».proof.Proof.Gen.InDx.Frame
public import proofs.«01_k».proof.Proof.Gen.InDxIdeal
public import proofs.«01_k».proof.Proof.Gen.InDxIdeal.Skeleton
public import proofs.«01_k».proof.Proof.Gen.InDxIdeal.Launch
public import proofs.«01_k».proof.Proof.Gen.InDxIdeal.Points
public import proofs.«01_k».proof.Proof.Gen.InDxIdeal.Frame
public import proofs.«01_k».proof.Proof.Gen.InDxIdeal.Value
public import proofs.«01_k».proof.Proof.Gen.InDxRefIdeal.Run
public import proofs.«01_k».proof.Proof.Gen.InDxRefIdeal
public import proofs.«01_k».proof.Proof.Gen.UpDw
public import proofs.«01_k».proof.Proof.Gen.UpDw.Skeleton
public import proofs.«01_k».proof.Proof.Gen.UpDw.Launch
public import proofs.«01_k».proof.Proof.Gen.UpDw.Points
public import proofs.«01_k».proof.Proof.Gen.UpDw.Frame
public import proofs.«01_k».proof.Proof.Gen.UpDwIdeal
public import proofs.«01_k».proof.Proof.Gen.UpDwIdeal.Skeleton
public import proofs.«01_k».proof.Proof.Gen.UpDwIdeal.Launch
public import proofs.«01_k».proof.Proof.Gen.UpDwIdeal.Points
public import proofs.«01_k».proof.Proof.Gen.UpDwIdeal.Frame
public import proofs.«01_k».proof.Proof.Gen.UpDwIdeal.Value
public import proofs.«01_k».proof.Proof.Gen.UpDwRefIdeal.Run
public import proofs.«01_k».proof.Proof.Gen.UpDwRefIdeal
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal.Run
public import proofs.«01_k».proof.Proof.Gen.UpDxRefIdeal
public import proofs.«01_k».proof.Proof.Gen.OutDw
public import proofs.«01_k».proof.Proof.Gen.OutDw.Skeleton
public import proofs.«01_k».proof.Proof.Gen.OutDw.Launch
public import proofs.«01_k».proof.Proof.Gen.OutDw.Points
public import proofs.«01_k».proof.Proof.Gen.OutDw.Frame
public import proofs.«01_k».proof.Proof.Gen.OutDwIdeal
public import proofs.«01_k».proof.Proof.Gen.OutDwIdeal.Skeleton
public import proofs.«01_k».proof.Proof.Gen.OutDwIdeal.Launch
public import proofs.«01_k».proof.Proof.Gen.OutDwIdeal.Points
public import proofs.«01_k».proof.Proof.Gen.OutDwIdeal.Frame
public import proofs.«01_k».proof.Proof.Gen.OutDwIdeal.Value
public import proofs.«01_k».proof.Proof.Gen.OutDwRefIdeal.Run
public import proofs.«01_k».proof.Proof.Gen.OutDwRefIdeal
public import proofs.«01_k».proof.Proof.Gen.OutDx
public import proofs.«01_k».proof.Proof.Gen.OutDx.Skeleton
public import proofs.«01_k».proof.Proof.Gen.OutDx.Launch
public import proofs.«01_k».proof.Proof.Gen.OutDx.Points
public import proofs.«01_k».proof.Proof.Gen.OutDx.Frame
public import proofs.«01_k».proof.Proof.Gen.OutDxIdeal
public import proofs.«01_k».proof.Proof.Gen.OutDxIdeal.Skeleton
public import proofs.«01_k».proof.Proof.Gen.OutDxIdeal.Launch
public import proofs.«01_k».proof.Proof.Gen.OutDxIdeal.Points
public import proofs.«01_k».proof.Proof.Gen.OutDxIdeal.Frame
public import proofs.«01_k».proof.Proof.Gen.OutDxIdeal.Value
public import proofs.«01_k».proof.Proof.Gen.OutDxRefIdeal.Run
public import proofs.«01_k».proof.Proof.Gen.OutDxRefIdeal
public import proofs.«01_k».proof.Proof.Gen.DownDw
public import proofs.«01_k».proof.Proof.Gen.DownDw.Skeleton
public import proofs.«01_k».proof.Proof.Gen.DownDw.Launch
public import proofs.«01_k».proof.Proof.Gen.DownDw.Points
public import proofs.«01_k».proof.Proof.Gen.DownDw.Frame
public import proofs.«01_k».proof.Proof.Gen.DownDwIdeal
public import proofs.«01_k».proof.Proof.Gen.DownDwIdeal.Skeleton
public import proofs.«01_k».proof.Proof.Gen.DownDwIdeal.Launch
public import proofs.«01_k».proof.Proof.Gen.DownDwIdeal.Points
public import proofs.«01_k».proof.Proof.Gen.DownDwIdeal.Frame
public import proofs.«01_k».proof.Proof.Gen.DownDwIdeal.Value
public import proofs.«01_k».proof.Proof.Gen.DownDwRefIdeal.Run
public import proofs.«01_k».proof.Proof.Gen.DownDwRefIdeal
public import proofs.«01_k».proof.Proof.Gen.DownDx
public import proofs.«01_k».proof.Proof.Gen.DownDx.Skeleton
public import proofs.«01_k».proof.Proof.Gen.DownDx.Launch
public import proofs.«01_k».proof.Proof.Gen.DownDx.Points
public import proofs.«01_k».proof.Proof.Gen.DownDx.Frame
public import proofs.«01_k».proof.Proof.Gen.DownDxIdeal
public import proofs.«01_k».proof.Proof.Gen.DownDxIdeal.Skeleton
public import proofs.«01_k».proof.Proof.Gen.DownDxIdeal.Launch
public import proofs.«01_k».proof.Proof.Gen.DownDxIdeal.Points
public import proofs.«01_k».proof.Proof.Gen.DownDxIdeal.Frame
public import proofs.«01_k».proof.Proof.Gen.DownDxIdeal.Value
public import proofs.«01_k».proof.Proof.Gen.DownDxRefIdeal.Run
public import proofs.«01_k».proof.Proof.Gen.DownDxRefIdeal
public import proofs.«01_k».proof.Proof.Gen.InFwd
public import proofs.«01_k».proof.Proof.Gen.InFwd.Skeleton
public import proofs.«01_k».proof.Proof.Gen.InFwd.Launch
public import proofs.«01_k».proof.Proof.Gen.InFwd.Points
public import proofs.«01_k».proof.Proof.Gen.InFwd.Frame
public import proofs.«01_k».proof.Proof.Gen.InFwdIdeal
public import proofs.«01_k».proof.Proof.Gen.InFwdIdeal.Skeleton
public import proofs.«01_k».proof.Proof.Gen.InFwdIdeal.Launch
public import proofs.«01_k».proof.Proof.Gen.InFwdIdeal.Points
public import proofs.«01_k».proof.Proof.Gen.InFwdIdeal.Frame
public import proofs.«01_k».proof.Proof.Gen.InFwdIdeal.Value
public import proofs.«01_k».proof.Proof.Gen.InFwdRefIdeal.Run
public import proofs.«01_k».proof.Proof.Gen.InFwdRefIdeal
public import proofs.«01_k».proof.Proof.Gen.UpFwd
public import proofs.«01_k».proof.Proof.Gen.UpFwd.Skeleton
public import proofs.«01_k».proof.Proof.Gen.UpFwd.Launch
public import proofs.«01_k».proof.Proof.Gen.UpFwd.Points
public import proofs.«01_k».proof.Proof.Gen.UpFwd.Frame
public import proofs.«01_k».proof.Proof.Gen.UpFwdIdeal
public import proofs.«01_k».proof.Proof.Gen.UpFwdIdeal.Skeleton
public import proofs.«01_k».proof.Proof.Gen.UpFwdIdeal.Launch
public import proofs.«01_k».proof.Proof.Gen.UpFwdIdeal.Points
public import proofs.«01_k».proof.Proof.Gen.UpFwdIdeal.Frame
public import proofs.«01_k».proof.Proof.Gen.UpFwdIdeal.Value
public import proofs.«01_k».proof.Proof.Gen.UpFwdRefIdeal.Run
public import proofs.«01_k».proof.Proof.Gen.UpFwdRefIdeal
public import proofs.«01_k».proof.Proof.Gen.OutFwd
public import proofs.«01_k».proof.Proof.Gen.OutFwd.Skeleton
public import proofs.«01_k».proof.Proof.Gen.OutFwd.Launch
public import proofs.«01_k».proof.Proof.Gen.OutFwd.Points
public import proofs.«01_k».proof.Proof.Gen.OutFwd.Frame
public import proofs.«01_k».proof.Proof.Gen.OutFwdIdeal
public import proofs.«01_k».proof.Proof.Gen.OutFwdIdeal.Skeleton
public import proofs.«01_k».proof.Proof.Gen.OutFwdIdeal.Launch
public import proofs.«01_k».proof.Proof.Gen.OutFwdIdeal.Points
public import proofs.«01_k».proof.Proof.Gen.OutFwdIdeal.Frame
public import proofs.«01_k».proof.Proof.Gen.OutFwdIdeal.Value
public import proofs.«01_k».proof.Proof.Gen.OutFwdRefIdeal.Run
public import proofs.«01_k».proof.Proof.Gen.OutFwdRefIdeal
public import proofs.«01_k».proof.Proof.Gen.DownFwd
public import proofs.«01_k».proof.Proof.Gen.DownFwd.Skeleton
public import proofs.«01_k».proof.Proof.Gen.DownFwd.Launch
public import proofs.«01_k».proof.Proof.Gen.DownFwd.Points
public import proofs.«01_k».proof.Proof.Gen.DownFwd.Frame
public import proofs.«01_k».proof.Proof.Gen.DownFwdIdeal
public import proofs.«01_k».proof.Proof.Gen.DownFwdIdeal.Skeleton
public import proofs.«01_k».proof.Proof.Gen.DownFwdIdeal.Launch
public import proofs.«01_k».proof.Proof.Gen.DownFwdIdeal.Points
public import proofs.«01_k».proof.Proof.Gen.DownFwdIdeal.Frame
public import proofs.«01_k».proof.Proof.Gen.DownFwdIdeal.Value
public import proofs.«01_k».proof.Proof.Gen.DownFwdRefIdeal.Run
public import proofs.«01_k».proof.Proof.Gen.DownFwdRefIdeal
public import proofs.«01_k».proof.Proof.Gen.Attn
public import proofs.«01_k».proof.Proof.Gen.Attn.Skeleton
public import proofs.«01_k».proof.Proof.Gen.Attn.Loops
public import proofs.«01_k».proof.Proof.Gen.Attn.Launch
public import proofs.«01_k».proof.Proof.Gen.Attn.Points
public import proofs.«01_k».proof.Proof.Gen.Attn.Frame
public import proofs.«01_k».proof.Proof.Gen.AttnIdeal
public import proofs.«01_k».proof.Proof.Gen.AttnIdeal.Skeleton
public import proofs.«01_k».proof.Proof.Gen.AttnIdeal.Loops
public import proofs.«01_k».proof.Proof.Gen.AttnIdeal.Launch
public import proofs.«01_k».proof.Proof.Gen.AttnIdeal.Points
public import proofs.«01_k».proof.Proof.Gen.AttnIdeal.Frame
public import proofs.«01_k».proof.Proof.Gen.AttnRefIdeal.Run
public import proofs.«01_k».proof.Proof.Gen.AttnRefIdeal
public import proofs.«01_k».proof.Proof.AttnFrame
public import proofs.«01_k».proof.Proof.AttnBitsFrame
public import proofs.«01_k».proof.Proof.InDwClaim
public import proofs.«01_k».proof.Proof.InDxClaim
public import proofs.«01_k».proof.Proof.UpDwClaim
public import proofs.«01_k».proof.Proof.UpDxClaim
public import proofs.«01_k».proof.Proof.OutDwClaim
public import proofs.«01_k».proof.Proof.OutDxClaim
public import proofs.«01_k».proof.Proof.DownDwClaim
public import proofs.«01_k».proof.Proof.DownDxClaim
public import proofs.«01_k».proof.Proof.InFwdClaim
public import proofs.«01_k».proof.Proof.UpFwdClaim
public import proofs.«01_k».proof.Proof.OutFwdClaim
public import proofs.«01_k».proof.Proof.DownFwdClaim
public import proofs.«01_k».proof.Proof.AttnClaim
public import proofs.«01_k».proof.Proof.Gen.PostIdeal.Value
public import proofs.«01_k».proof.Proof.Gen.PostRefIdeal.Run
public import proofs.«01_k».proof.Proof.Gen.PostBIdeal.Value
public import proofs.«01_k».proof.Proof.Gen.PostBRefIdeal.Run
public import proofs.«01_k».proof.Proof.Gen.Post.Frame
public import proofs.«01_k».proof.Proof.Gen.PostIdeal.Frame
public import proofs.«01_k».proof.Proof.Gen.PostB.Frame
public import proofs.«01_k».proof.Proof.Gen.PostBIdeal.Frame
public import proofs.«01_k».proof.Proof.Gen.PostB
public import proofs.«01_k».proof.Proof.Gen.PostBIdeal
public import proofs.«01_k».proof.Proof.Gen.Post
public import proofs.«01_k».proof.Proof.Gen.PostIdeal
public import proofs.«01_k».proof.Proof.PostClaim
public import proofs.«01_k».proof.Proof.PostBClaim
public import proofs.«01_k».proof.Proof.Gen.AdaModIdeal.Value
public import proofs.«01_k».proof.Proof.Gen.AdaModRefIdeal.Run
public import proofs.«01_k».proof.Proof.Gen.AdaMod.Frame
public import proofs.«01_k».proof.Proof.Gen.AdaModIdeal.Frame
public import proofs.«01_k».proof.Proof.Gen.AdaDwIdeal.Value
public import proofs.«01_k».proof.Proof.Gen.AdaDwRefIdeal.Run
public import proofs.«01_k».proof.Proof.Gen.AdaDw.Frame
public import proofs.«01_k».proof.Proof.Gen.AdaDwIdeal.Frame
public import proofs.«01_k».proof.Proof.Gen.LossIdeal.Value
public import proofs.«01_k».proof.Proof.Gen.LossRefIdeal.Run
public import proofs.«01_k».proof.Proof.Gen.Loss.Frame
public import proofs.«01_k».proof.Proof.Gen.LossIdeal.Frame
public import proofs.«01_k».proof.Proof.AdaModClaim
public import proofs.«01_k».proof.Proof.AdaDwClaim
public import proofs.«01_k».proof.Proof.LossClaim
public import proofs.«01_k».proof.Proof.Gen.AdamWIdeal.Value
public import proofs.«01_k».proof.Proof.Gen.AdamWRefIdeal.Run
public import proofs.«01_k».proof.Proof.Gen.AdamW.Frame
public import proofs.«01_k».proof.Proof.Gen.AdamWIdeal.Frame
public import proofs.«01_k».proof.Proof.AdamWClaim
public import Idealize.ShloMosaic.Adequacy
public import Idealize.ShloMosaic.Init

@[expose] public section

noncomputable section

namespace Cert.Proof

open Idealize.ShloMosaic Idealize.SL.Sem Cert.InDw

theorem claim : Cert.Claim := ⟨Cert.InDw.Gen.facts, Cert.InDwIdeal.Gen.facts, Cert.InDwRefIdeal.Gen.facts, Cert.InDx.Gen.facts, Cert.InDxIdeal.Gen.facts, Cert.InDxRefIdeal.Gen.facts, Cert.UpDw.Gen.facts, Cert.UpDwIdeal.Gen.facts, Cert.UpDwRefIdeal.Gen.facts, Cert.UpDx.Gen.facts, Cert.UpDxIdeal.Gen.facts, Cert.UpDxRefIdeal.Gen.facts, Cert.OutDw.Gen.facts, Cert.OutDwIdeal.Gen.facts, Cert.OutDwRefIdeal.Gen.facts, Cert.OutDx.Gen.facts, Cert.OutDxIdeal.Gen.facts, Cert.OutDxRefIdeal.Gen.facts, Cert.DownDw.Gen.facts, Cert.DownDwIdeal.Gen.facts, Cert.DownDwRefIdeal.Gen.facts, Cert.DownDx.Gen.facts, Cert.DownDxIdeal.Gen.facts, Cert.DownDxRefIdeal.Gen.facts, Cert.InFwd.Gen.facts, Cert.InFwdIdeal.Gen.facts, Cert.InFwdRefIdeal.Gen.facts, Cert.UpFwd.Gen.facts, Cert.UpFwdIdeal.Gen.facts, Cert.UpFwdRefIdeal.Gen.facts, Cert.OutFwd.Gen.facts, Cert.OutFwdIdeal.Gen.facts, Cert.OutFwdRefIdeal.Gen.facts, Cert.DownFwd.Gen.facts, Cert.DownFwdIdeal.Gen.facts, Cert.DownFwdRefIdeal.Gen.facts, Cert.Post.Gen.facts, Cert.PostIdeal.Gen.facts, Cert.PostRefIdeal.Gen.facts, Cert.PostB.Gen.facts, Cert.PostBIdeal.Gen.facts, Cert.PostBRefIdeal.Gen.facts, Cert.AdaMod.Gen.facts, Cert.AdaModIdeal.Gen.facts, Cert.AdaModRefIdeal.Gen.facts, Cert.AdaDw.Gen.facts, Cert.AdaDwIdeal.Gen.facts, Cert.AdaDwRefIdeal.Gen.facts, Cert.Loss.Gen.facts, Cert.LossIdeal.Gen.facts, Cert.LossRefIdeal.Gen.facts, Cert.Attn.Gen.facts, Cert.AttnIdeal.Gen.facts, Cert.AttnRefIdeal.Gen.facts, Cert.AdamW.Gen.facts, Cert.AdamWIdeal.Gen.facts, Cert.AdamWRefIdeal.Gen.facts,
  Cert.InDwClaim.frame, Cert.InDwClaim.frame_ideal, Cert.InDwClaim.frame_ref, Cert.InDxClaim.frame, Cert.InDxClaim.frame_ideal, Cert.InDxClaim.frame_ref, Cert.UpDwClaim.frame, Cert.UpDwClaim.frame_ideal, Cert.UpDwClaim.frame_ref, Cert.UpDxClaim.frame, Cert.UpDxClaim.frame_ideal, Cert.UpDxClaim.frame_ref, Cert.OutDwClaim.frame, Cert.OutDwClaim.frame_ideal, Cert.OutDwClaim.frame_ref, Cert.OutDxClaim.frame, Cert.OutDxClaim.frame_ideal, Cert.OutDxClaim.frame_ref, Cert.DownDwClaim.frame, Cert.DownDwClaim.frame_ideal, Cert.DownDwClaim.frame_ref, Cert.DownDxClaim.frame, Cert.DownDxClaim.frame_ideal, Cert.DownDxClaim.frame_ref, Cert.InFwdClaim.frame, Cert.InFwdClaim.frame_ideal, Cert.InFwdClaim.frame_ref, Cert.UpFwdClaim.frame, Cert.UpFwdClaim.frame_ideal, Cert.UpFwdClaim.frame_ref, Cert.OutFwdClaim.frame, Cert.OutFwdClaim.frame_ideal, Cert.OutFwdClaim.frame_ref, Cert.DownFwdClaim.frame, Cert.DownFwdClaim.frame_ideal, Cert.DownFwdClaim.frame_ref, Cert.PostClaim.frame, Cert.PostClaim.frame_ideal, Cert.PostClaim.frame_ref, Cert.PostBClaim.frame, Cert.PostBClaim.frame_ideal, Cert.PostBClaim.frame_ref, Cert.AdaModClaim.frame, Cert.AdaModClaim.frame_ideal, Cert.AdaModClaim.frame_ref, Cert.AdaDwClaim.frame, Cert.AdaDwClaim.frame_ideal, Cert.AdaDwClaim.frame_ref, Cert.LossClaim.frame, Cert.LossClaim.frame_ideal, Cert.LossClaim.frame_ref, Cert.AttnClaim.frame, Cert.AttnClaim.frame_ideal, Cert.AttnClaim.frame_ref, Cert.AdamWClaim.frame, Cert.AdamWClaim.frame_ideal, Cert.AdamWClaim.frame_ref,
  trivial, Cert.InDwClaim.algebraic, trivial, Cert.InDxClaim.algebraic, trivial, Cert.UpDwClaim.algebraic, trivial, Cert.UpDxClaim.algebraic, trivial, Cert.OutDwClaim.algebraic, trivial, Cert.OutDxClaim.algebraic, trivial, Cert.DownDwClaim.algebraic, trivial, Cert.DownDxClaim.algebraic, trivial, Cert.InFwdClaim.algebraic, trivial, Cert.UpFwdClaim.algebraic, trivial, Cert.OutFwdClaim.algebraic, trivial, Cert.DownFwdClaim.algebraic, trivial, Cert.PostClaim.algebraic, trivial, Cert.PostBClaim.algebraic, trivial, Cert.AdaModClaim.algebraic, trivial, Cert.AdaDwClaim.algebraic, trivial, Cert.LossClaim.algebraic, Cert.AttnClaim.preserves, trivial, Cert.AdamWClaim.algebraic⟩

end Cert.Proof

end
